-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_planned : Cert.Pre_planned.Facts] (m : (ℓ : Loc Cert.Kernel4.nD Cert.Kernel4.τ Cert.Kernel4.sig) → Buf (Elt Bits) ℓ) : Prop :=
  ∀ c : Dev Cert.Kernel4.nD,
    (Cert.Pre_planned.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))).1 = (fun _ => 1#1)
    ∧ (Cert.Pre_planned.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))).2.1 = (fun _ => 1#1)
    ∧ (Cert.Pre_planned.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))).2.2.1 = (fun _ => 1#1)
    ∧ (Cert.Pre_planned.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))).2.2.2 = (fun _ => 1#1)

def Pre_Kernel4Ideal [hPre_planned : Cert.Pre_planned.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_planned.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_planned.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_planned.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_planned.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_planned [hPre_planned : Cert.Pre_planned.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_planned.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_planned.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_planned.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_planned.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] [hPre_planned : Cert.Pre_planned.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] [hPre_planned : Cert.Pre_planned.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_planned [hReference4Ideal : Cert.Reference4Ideal.Facts] [hPre_planned : Cert.Pre_planned.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_planned m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v109) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v132) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] [hPre_planned : Cert.Pre_planned.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_v72) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_planned : Cert.Pre_planned.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_planned := hPre_planned)
    ∧ quiescent_Kernel4Ideal (hKernel4Ideal := hKernel4Ideal) (hPre_planned := hPre_planned)
    ∧ quiescent_Reference4Ideal (hReference4Ideal := hReference4Ideal)
    ∧ quiescent_Reference4Ideal_pre_planned (hReference4Ideal := hReference4Ideal) (hPre_planned := hPre_planned)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_planned := hPre_planned)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x3072 : Shape := ⟨2, ![8192, 3072]⟩
abbrev S64 : Shape := ⟨1, ![64]⟩
abbrev S_ : Shape := ⟨0, ![]⟩

class Facts : Prop where
  bcast_S_S8192x3072 : S_.BroadcastsInDim S8192x3072 (![] : Fin 0 → Fin S8192x3072.rank)
  bcast_S_S64 : S_.BroadcastsInDim S64 (![] : Fin 0 → Fin S64.rank)

variable [Facts]

def fn {F : FTy → Type} [FloatOps F] (main_arg0 : FVec F S8192x3072 .bf16) (main_arg1 : FVec F S64 .f32) (main_arg2 : FVec F S64 .f32) : IVec S8192x3072 1 × IVec S64 1 × IVec S64 1 :=
  let main_v0 : FVec F S8192x3072 .bf16 := Host.absf main_arg0
  let main_cst : FVec F S_ .bf16 := constant S_ .bf16 0x7F80#16
  let main_v1 : FVec F S8192x3072 .bf16 := broadcastInDim S8192x3072 ![] bcast_S_S8192x3072 main_cst
  let main_v2 : IVec S8192x3072 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  (main_v2, main_v5, main_v8)
-- ==== Pre_planned.lean ====
abbrev S72 : Shape := ⟨1, ![72]⟩
abbrev S4x72 : Shape := ⟨2, ![4, 72]⟩
abbrev S8192x1024 : Shape := ⟨2, ![8192, 1024]⟩
abbrev S8x8192 : Shape := ⟨2, ![8, 8192]⟩
abbrev S2x8x1024x2816 : Shape := ⟨4, ![2, 8, 1024, 2816]⟩
abbrev S2x8x1408x1024 : Shape := ⟨4, ![2, 8, 1408, 1024]⟩
abbrev S1x72 : Shape := ⟨2, ![1, 72]⟩
abbrev S_ : Shape := ⟨0, ![]⟩
abbrev S8 : Shape := ⟨1, ![8]⟩
abbrev S1x8x1 : Shape := ⟨3, ![1, 8, 1]⟩
abbrev S8192 : Shape := ⟨1, ![8192]⟩
abbrev S1x1x8192 : Shape := ⟨3, ![1, 1, 8192]⟩
abbrev S72x1x1 : Shape := ⟨3, ![72, 1, 1]⟩
abbrev S72x8x1 : Shape := ⟨3, ![72, 8, 1]⟩
abbrev S1x8x8192 : Shape := ⟨3, ![1, 8, 8192]⟩
abbrev S72x8x8192 : Shape := ⟨3, ![72, 8, 8192]⟩
abbrev S72x1x8192 : Shape := ⟨3, ![72, 1, 8192]⟩

class Facts : Prop where
  slices_S4x72_S1x72_0_0 : S4x72.Slices ![0, 0] S1x72
  shapeCasts_S1x72_S72 : S1x72.ShapeCasts S72
  slices_S4x72_S1x72_1_0 : S4x72.Slices ![1, 0] S1x72
  slices_S4x72_S1x72_2_0 : S4x72.Slices ![2, 0] S1x72
  slices_S4x72_S1x72_3_0 : S4x72.Slices ![3, 0] S1x72
  bcast_S_S72 : S_.BroadcastsInDim S72 (![] : Fin 0 → Fin S72.rank)
  bcast_S8_S1x8x1_1 : S8.BroadcastsInDim S1x8x1 (![1] : Fin 1 → Fin S1x8x1.rank)
  bcast_S_S8192 : S_.BroadcastsInDim S8192 (![] : Fin 0 → Fin S8192.rank)
  bcast_S8192_S1x1x8192_2 : S8192.BroadcastsInDim S1x1x8192 (![2] : Fin 1 → Fin S1x1x8192.rank)
  bcast_S72_S72x1x1_0 : S72.BroadcastsInDim S72x1x1 (![0] : Fin 1 → Fin S72x1x1.rank)
  bcast_S72x1x1_S72x8x1_0_1_2 : S72x1x1.BroadcastsInDim S72x8x1 (![0, 1, 2] : Fin 3 → Fin S72x8x1.rank)
  bcast_S1x8x1_S72x8x1_0_1_2 : S1x8x1.BroadcastsInDim S72x8x1 (![0, 1, 2] : Fin 3 → Fin S72x8x1.rank)
  bcast_S_S72x1x1 : S_.BroadcastsInDim S72x1x1 (![] : Fin 0 → Fin S72x1x1.rank)
  bcast_S_S8x8192 : S_.BroadcastsInDim S8x8192 (![] : Fin 0 → Fin S8x8192.rank)
  bcast_S8x8192_S1x8x8192_1_2 : S8x8192.BroadcastsInDim S1x8x8192 (![1, 2] : Fin 2 → Fin S1x8x8192.rank)
  bcast_S72x8x1_S72x8x8192_0_1_2 : S72x8x1.BroadcastsInDim S72x8x8192 (![0, 1, 2] : Fin 3 → Fin S72x8x8192.rank)
  bcast_S1x8x8192_S72x8x8192_0_1_2 : S1x8x8192.BroadcastsInDim S72x8x8192 (![0, 1, 2] : Fin 3 → Fin S72x8x8192.rank)
  bcast_S72x1x1_S72x8x8192_0_1_2 : S72x1x1.BroadcastsInDim S72x8x8192 (![0, 1, 2] : Fin 3 → Fin S72x8x8192.rank)
  bcast_S72x1x1_S72x1x8192_0_1_2 : S72x1x1.BroadcastsInDim S72x1x8192 (![0, 1, 2] : Fin 3 → Fin S72x1x8192.rank)
  bcast_S1x1x8192_S72x1x8192_0_1_2 : S1x1x8192.BroadcastsInDim S72x1x8192 (![0, 1, 2] : Fin 3 → Fin S72x1x8192.rank)
  bcast_S72x1x8192_S72x8x8192_0_1_2 : S72x1x8192.BroadcastsInDim S72x8x8192 (![0, 1, 2] : Fin 3 → Fin S72x8x8192.rank)

variable [Facts]

def fn_part3 {F : FTy → Type} [FloatOps F] (main_v7 : IVec S72 32) (main_v18 : IVec S72 1) (main_v24 : IVec S1x1x8192 32) (main_v55 : IVec S72 1) (main_v57 : IVec S72 1) (main_v58 : IVec S72x8x8192 1) (main_v60 : IVec S72x1x8192 32) (main_v61 : IVec S72x1x8192 32) : IVec S72 1 × IVec S72 1 × IVec S72 1 × IVec S72x8x8192 1 :=
  let main_v62 : IVec S72x1x8192 1 := cmpi .sle main_v60 main_v61
  let main_v63 : IVec S72x1x1 32 := broadcastInDim S72x1x1 ![0] bcast_S72_S72x1x1_0 main_v7
  let main_v64 : IVec S72x1x8192 32 := broadcastInDim S72x1x8192 ![0, 1, 2] bcast_S1x1x8192_S72x1x8192_0_1_2 main_v24
  let main_v65 : IVec S72x1x8192 32 := broadcastInDim S72x1x8192 ![0, 1, 2] bcast_S72x1x1_S72x1x8192_0_1_2 main_v63
  let main_v66 : IVec S72x1x8192 1 := cmpi .sle main_v64 main_v65
  let main_v67 : IVec S72x1x8192 1 := andi main_v62 main_v66
  let main_v68 : IVec S72x8x8192 1 := broadcastInDim S72x8x8192 ![0, 1, 2] bcast_S72x1x8192_S72x8x8192_0_1_2 main_v67
  let main_v69 : IVec S72x8x8192 1 := ori main_v58 main_v68
  (main_v55, main_v57, main_v18, main_v69)

def fn_part2 {F : FTy → Type} [FloatOps F] (main_arg0 : IVec S72 32) (main_arg3 : FVec F S8x8192 .f32) (main_v5 : IVec S72 32) (main_v7 : IVec S72 32) (main_v18 : IVec S72 1) (main_v24 : IVec S1x1x8192 32) (main_v26 : FVec F S72x1x1 .f32) (main_v39 : IVec S72x8x8192 1) (main_v40 : IVec S72x8x8192 1) : IVec S72 1 × IVec S72 1 × IVec S72 1 × IVec S72x8x8192 1 :=
  let main_v41 : IVec S72x8x8192 1 := andi main_v39 main_v40
  let main_v42 : FVec F S1x8x8192 .f32 := broadcastInDim S1x8x8192 ![1, 2] bcast_S8x8192_S1x8x8192_1_2 main_arg3
  let main_v43 : FVec F S72x8x8192 .f32 := broadcastInDim S72x8x8192 ![0, 1, 2] bcast_S1x8x8192_S72x8x8192_0_1_2 main_v42
  let main_v44 : FVec F S72x8x8192 .f32 := broadcastInDim S72x8x8192 ![0, 1, 2] bcast_S72x1x1_S72x8x8192_0_1_2 main_v26
  let main_v45 : IVec S72x8x8192 1 := cmpf .oge main_v43 main_v44
  let main_v46 : IVec S72x8x8192 1 := andi main_v41 main_v45
  let main_cst_5 : FVec F S_ .f32 := constant S_ .f32 0x43800000#32
  let main_v47 : FVec F S72x1x1 .f32 := broadcastInDim S72x1x1 ![] bcast_S_S72x1x1 main_cst_5
  let main_v48 : FVec F S72x1x1 .f32 := addf main_v26 main_v47
  let main_v49 : FVec F S1x8x8192 .f32 := broadcastInDim S1x8x8192 ![1, 2] bcast_S8x8192_S1x8x8192_1_2 main_arg3
  let main_v50 : FVec F S72x8x8192 .f32 := broadcastInDim S72x8x8192 ![0, 1, 2] bcast_S1x8x8192_S72x8x8192_0_1_2 main_v49
  let main_v51 : FVec F S72x8x8192 .f32 := broadcastInDim S72x8x8192 ![0, 1, 2] bcast_S72x1x1_S72x8x8192_0_1_2 main_v48
  let main_v52 : IVec S72x8x8192 1 := cmpf .olt main_v50 main_v51
  let main_v53 : IVec S72x8x8192 1 := andi main_v46 main_v52
  let main_c_6 : IVec S_ 32 := constantI S_ 32 0#32
  let main_v54 : IVec S72 32 := broadcastInDim S72 ![] bcast_S_S72 main_c_6
  let main_v55 : IVec S72 1 := cmpi .sge main_arg0 main_v54
  let main_c_7 : IVec S_ 32 := constantI S_ 32 8#32
  let main_v56 : IVec S72 32 := broadcastInDim S72 ![] bcast_S_S72 main_c_7
  let main_v57 : IVec S72 1 := cmpi .slt main_arg0 main_v56
  let main_v58 : IVec S72x8x8192 1 := noti main_v53
  let main_v59 : IVec S72x1x1 32 := broadcastInDim S72x1x1 ![0] bcast_S72_S72x1x1_0 main_v5
  let main_v60 : IVec S72x1x8192 32 := broadcastInDim S72x1x8192 ![0, 1, 2] bcast_S72x1x1_S72x1x8192_0_1_2 main_v59
  let main_v61 : IVec S72x1x8192 32 := broadcastInDim S72x1x8192 ![0, 1, 2] bcast_S1x1x8192_S72x1x8192_0_1_2 main_v24
  fn_part3 (F := F) main_v7 main_v18 main_v24 main_v55 main_v57 main_v58 main_v60 main_v61

def fn_part1 {F : FTy → Type} [FloatOps F] (main_arg0 : IVec S72 32) (main_arg3 : FVec F S8x8192 .f32) (main_arg4 : FVec F S8x8192 .f32) (main_v1 : IVec S72 32) (main_v3 : IVec S72 32) (main_v5 : IVec S72 32) (main_v7 : IVec S72 32) (main_v18 : IVec S72 1) (main_v19 : IVec S8 32) : IVec S72 1 × IVec S72 1 × IVec S72 1 × IVec S72x8x8192 1 :=
  let main_v20 : IVec S1x8x1 32 := broadcastInDim S1x8x1 ![1] bcast_S8_S1x8x1_1 main_v19
  let main_v21 : IVec S8192 32 := iotaInDim S8192 32 0
  let main_c_3 : IVec S_ 32 := constantI S_ 32 8#32
  let main_v22 : IVec S8192 32 := broadcastInDim S8192 ![] bcast_S_S8192 main_c_3
  let main_v23 : IVec S8192 32 := Host.shrsi main_v21 main_v22
  let main_v24 : IVec S1x1x8192 32 := broadcastInDim S1x1x8192 ![2] bcast_S8192_S1x1x8192_2 main_v23
  let main_v25 : FVec F S72 .f32 := sitofp .f32 main_v3
  let main_v26 : FVec F S72x1x1 .f32 := broadcastInDim S72x1x1 ![0] bcast_S72_S72x1x1_0 main_v25
  let main_v27 : IVec S72x1x1 32 := broadcastInDim S72x1x1 ![0] bcast_S72_S72x1x1_0 main_arg0
  let main_v28 : IVec S72x8x1 32 := broadcastInDim S72x8x1 ![0, 1, 2] bcast_S72x1x1_S72x8x1_0_1_2 main_v27
  let main_v29 : IVec S72x8x1 32 := broadcastInDim S72x8x1 ![0, 1, 2] bcast_S1x8x1_S72x8x1_0_1_2 main_v20
  let main_v30 : IVec S72x8x1 1 := cmpi .eq main_v28 main_v29
  let main_v31 : IVec S72x1x1 32 := broadcastInDim S72x1x1 ![0] bcast_S72_S72x1x1_0 main_v1
  let main_c_4 : IVec S_ 32 := constantI S_ 32 0#32
  let main_v32 : IVec S72x1x1 32 := broadcastInDim S72x1x1 ![] bcast_S_S72x1x1 main_c_4
  let main_v33 : IVec S72x1x1 1 := cmpi .ne main_v31 main_v32
  let main_v34 : IVec S72x8x1 1 := broadcastInDim S72x8x1 ![0, 1, 2] bcast_S72x1x1_S72x8x1_0_1_2 main_v33
  let main_v35 : IVec S72x8x1 1 := andi main_v30 main_v34
  let main_cst : FVec F S_ .f32 := constant S_ .f32 0x00000000#32
  let main_v36 : FVec F S8x8192 .f32 := broadcastInDim S8x8192 ![] bcast_S_S8x8192 main_cst
  let main_v37 : IVec S8x8192 1 := cmpf .ogt main_arg4 main_v36
  let main_v38 : IVec S1x8x8192 1 := broadcastInDim S1x8x8192 ![1, 2] bcast_S8x8192_S1x8x8192_1_2 main_v37
  let main_v39 : IVec S72x8x8192 1 := broadcastInDim S72x8x8192 ![0, 1, 2] bcast_S72x8x1_S72x8x8192_0_1_2 main_v35
  let main_v40 : IVec S72x8x8192 1 := broadcastInDim S72x8x8192 ![0, 1, 2] bcast_S1x8x8192_S72x8x8192_0_1_2 main_v38
  fn_part2 (F := F) main_arg0 main_arg3 main_v5 main_v7 main_v18 main_v24 main_v26 main_v39 main_v40

def fn {F : FTy → Type} [FloatOps F] (main_arg0 : IVec S72 32) (main_arg1 : IVec S4x72 32) (main_arg2 : FVec F S8192x1024 .bf16) (main_arg3 : FVec F S8x8192 .f32) (main_arg4 : FVec F S8x8192 .f32) (main_arg5 : FVec F S8x8192 .f32) (main_arg6 : FVec F S2x8x1024x2816 .f32) (main_arg7 : FVec F S2x8x1408x1024 .f32) : IVec S72 1 × IVec S72 1 × IVec S72 1 × IVec S72x8x8192 1 :=
  let main_v0 : IVec S1x72 32 := (extractStridedSlice S1x72 ![0, 0] · slices_S4x72_S1x72_0_0) main_arg1
  let main_v1 : IVec S72 32 := shapeCast S72 main_v0 shapeCasts_S1x72_S72
  let main_v2 : IVec S1x72 32 := (extractStridedSlice S1x72 ![1, 0] · slices_S4x72_S1x72_1_0) main_arg1
  let main_v3 : IVec S72 32 := shapeCast S72 main_v2 shapeCasts_S1x72_S72
  let main_v4 : IVec S1x72 32 := (extractStridedSlice S1x72 ![2, 0] · slices_S4x72_S1x72_2_0) main_arg1
  let main_v5 : IVec S72 32 := shapeCast S72 main_v4 shapeCasts_S1x72_S72
  let main_v6 : IVec S1x72 32 := (extractStridedSlice S1x72 ![3, 0] · slices_S4x72_S1x72_3_0) main_arg1
  let main_v7 : IVec S72 32 := shapeCast S72 main_v6 shapeCasts_S1x72_S72
  let main_c : IVec S_ 32 := constantI S_ 32 0#32
  let main_v8 : IVec S72 32 := broadcastInDim S72 ![] bcast_S_S72 main_c
  let main_v9 : IVec S72 1 := cmpi .eq main_v1 main_v8
  let main_c_0 : IVec S_ 32 := constantI S_ 32 0#32
  let main_v10 : IVec S72 32 := broadcastInDim S72 ![] bcast_S_S72 main_c_0
  let main_v11 : IVec S72 1 := cmpi .sge main_v5 main_v10
  let main_c_1 : IVec S_ 32 := constantI S_ 32 32#32
  let main_v12 : IVec S72 32 := broadcastInDim S72 ![] bcast_S_S72 main_c_1
  let main_v13 : IVec S72 1 := cmpi .slt main_v5 main_v12
  let main_v14 : IVec S72 1 := andi main_v11 main_v13
  let main_c_2 : IVec S_ 32 := constantI S_ 32 32#32
  let main_v15 : IVec S72 32 := broadcastInDim S72 ![] bcast_S_S72 main_c_2
  let main_v16 : IVec S72 1 := cmpi .slt main_v7 main_v15
  let main_v17 : IVec S72 1 := andi main_v14 main_v16
  let main_v18 : IVec S72 1 := ori main_v9 main_v17
  let main_v19 : IVec S8 32 := iotaInDim S8 32 0
  fn_part1 (F := F) main_arg0 main_arg3 main_arg4 main_v1 main_v3 main_v5 main_v7 main_v18 main_v19
-- ==== Kernel.lean ====
abbrev S8192x3072 : Shape := ⟨2, ![8192, 3072]⟩
abbrev S64 : Shape := ⟨1, ![64]⟩
abbrev S1x64 : Shape := ⟨2, ![1, 64]⟩
abbrev S4096x1024 : Shape := ⟨2, ![4096, 1024]⟩
abbrev S16x1x16x256x64 : Shape := ⟨5, ![16, 1, 16, 256, 64]⟩
abbrev S256x1024 : Shape := ⟨2, ![256, 1024]⟩
abbrev S1x1x16x256x64 : Shape := ⟨5, ![1, 1, 16, 256, 64]⟩
abbrev S256x128 : Shape := ⟨2, ![256, 128]⟩
abbrev S128x128 : Shape := ⟨2, ![128, 128]⟩
abbrev S1x128 : Shape := ⟨2, ![1, 128]⟩
abbrev S256x64 : Shape := ⟨2, ![256, 64]⟩
abbrev S1x1x1x256x64 : Shape := ⟨5, ![1, 1, 1, 256, 64]⟩
abbrev S256x256 : Shape := ⟨2, ![256, 256]⟩
abbrev S256 : Shape := ⟨1, ![256]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x3072, .bf16⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S1x64, .f32⟩
  | .hbm, ⟨5, _⟩ => ⟨S4096x1024, .bf16⟩
  | .hbm, ⟨6, _⟩ => ⟨S16x1x16x256x64, .f32⟩
  | .hbm, ⟨7, _⟩ => ⟨S16x1x16x256x64, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x64, .f32⟩
  | .local _ .vmem, ⟨7, _⟩ => ⟨S1x64, .f32⟩
  | .local _ .vmem, ⟨8, _⟩ => ⟨S256x1024, .bf16⟩
  | .local _ .vmem, ⟨9, _⟩ => ⟨S256x1024, .bf16⟩
  | .local _ .vmem, ⟨10, _⟩ => ⟨S1x1x16x256x64, .f32⟩
  | .local _ .vmem, ⟨11, _⟩ => ⟨S1x1x16x256x64, .f32⟩
  | .local _ .vmem, ⟨12, _⟩ => ⟨S1x1x16x256x64, .f32⟩
  | .local _ .vmem, ⟨13, _⟩ => ⟨S1x1x16x256x64, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x16x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x16x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8192x3072 : Shape := ⟨2, ![8192, 3072]⟩
abbrev S64 : Shape := ⟨1, ![64]⟩
abbrev S4096x3072 : Shape := ⟨2, ![4096, 3072]⟩
abbrev S16x256x3072 : Shape := ⟨3, ![16, 256, 3072]⟩
abbrev S16x256x1024 : Shape := ⟨3, ![16, 256, 1024]⟩
abbrev S16x256x16x64 : Shape := ⟨4, ![16, 256, 16, 64]⟩
abbrev S16x16x256x64 : Shape := ⟨4, ![16, 16, 256, 64]⟩
abbrev S_ : Shape := ⟨0, ![]⟩
abbrev S16x16x256 : Shape := ⟨3, ![16, 16, 256]⟩
abbrev S16x16x256x1 : Shape := ⟨4, ![16, 16, 256, 1]⟩
abbrev S1x1x1x64 : Shape := ⟨4, ![1, 1, 1, 64]⟩
abbrev S16x16x256x256 : Shape := ⟨4, ![16, 16, 256, 256]⟩
abbrev S4096x1024 : Shape := ⟨2, ![4096, 1024]⟩
abbrev S16x1x16x256x64 : Shape := ⟨5, ![16, 1, 16, 256, 64]⟩

abbrev nBuf : Space → Nat
  | .hbm => 71
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S64, .f32⟩
  | .hbm, ⟨2, _⟩ => ⟨S64, .f32⟩
  | .hbm, ⟨3, _⟩ => ⟨S8192x3072, .f32⟩
  | .hbm, ⟨4, _⟩ => ⟨S4096x3072, .f32⟩
  | .hbm, ⟨5, _⟩ => ⟨S16x256x3072, .f32⟩
  | .hbm, ⟨6, _⟩ => ⟨S16x256x1024, .f32⟩
  | .hbm, ⟨7, _⟩ => ⟨S16x256x1024, .f32⟩
  | .hbm, ⟨8, _⟩ => ⟨S16x256x1024, .f32⟩
  | .hbm, ⟨9, _⟩ => ⟨S16x256x16x64, .f32⟩
  | .hbm, ⟨10, _⟩ => ⟨S16x16x256x64, .f32⟩
  | .hbm, ⟨11, _⟩ => ⟨S16x16x256x64, .f32⟩
  | .hbm, ⟨12, _⟩ => ⟨S_, .f32⟩
  | .hbm, ⟨13, _⟩ => ⟨S16x16x256, .f32⟩
  | .hbm, ⟨14, _⟩ => ⟨S16x16x256x1, .f32⟩
  | .hbm, ⟨15, _⟩ => ⟨S_, .f32⟩
  | .hbm, ⟨16, _⟩ => ⟨S16x16x256x1, .f32⟩
  | .hbm, ⟨17, _⟩ => ⟨S16x16x256x1, .f32⟩
  | .hbm, ⟨18, _⟩ => ⟨S_, .f32⟩
  | .hbm, ⟨19, _⟩ => ⟨S16x16x256x1, .f32⟩
  | .hbm, ⟨20, _⟩ => ⟨S16x16x256x1, .f32⟩
  | .hbm, ⟨21, _⟩ => ⟨S16x16x256x1, .f32⟩
  | .hbm, ⟨22, _⟩ => ⟨S16x16x256x64, .f32⟩
  | .hbm, ⟨23, _⟩ => ⟨S16x16x256x64, .f32⟩
  | .hbm, ⟨24, _⟩ => ⟨S1x1x1x64, .f32⟩
  | .hbm, ⟨25, _⟩ => ⟨S16x16x256x64, .f32⟩
  | .hbm, ⟨26, _⟩ => ⟨S16x16x256x64, .f32⟩
  | .hbm, ⟨27, _⟩ => ⟨S16x256x16x64, .f32⟩
  | .hbm, ⟨28, _⟩ => ⟨S16x16x256x64, .f32⟩
  | .hbm, ⟨29, _⟩ => ⟨S16x16x256x64, .f32⟩
  | .hbm, ⟨30, _⟩ => ⟨S_, .f32⟩
  | .hbm, ⟨31, _⟩ => ⟨S16x16x256, .f32⟩
  | .hbm, ⟨32, _⟩ => ⟨S16x16x256x1, .f32⟩
  | .hbm, ⟨33, _⟩ => ⟨S_, .f32⟩
  | .hbm, ⟨34, _⟩ => ⟨S16x16x256x1, .f32⟩
  | .hbm, ⟨35, _⟩ => ⟨S16x16x256x1, .f32⟩
  | .hbm, ⟨36, _⟩ => ⟨S_, .f32⟩
  | .hbm, ⟨37, _⟩ => ⟨S16x16x256x1, .f32⟩
  | .hbm, ⟨38, _⟩ => ⟨S16x16x256x1, .f32⟩
  | .hbm, ⟨39, _⟩ => ⟨S16x16x256x1, .f32⟩
  | .hbm, ⟨40, _⟩ => ⟨S16x16x256x64, .f32⟩
  | .hbm, ⟨41, _⟩ => ⟨S16x16x256x64, .f32⟩
  | .hbm, ⟨42, _⟩ => ⟨S1x1x1x64, .f32⟩
  | .hbm, ⟨43, _⟩ => ⟨S16x16x256x64, .f32⟩
  | .hbm, ⟨44, _⟩ => ⟨S16x16x256x64, .f32⟩
  | .hbm, ⟨45, _⟩ => ⟨S16x256x16x64, .f32⟩
  | .hbm, ⟨46, _⟩ => ⟨S16x16x256x64, .f32⟩
  | .hbm, ⟨47, _⟩ => ⟨S16x16x256x256, .f32⟩
  | .hbm, ⟨48, _⟩ => ⟨S_, .f32⟩
  | .hbm, ⟨49, _⟩ => ⟨S16x16x256x256, .f32⟩
  | .hbm, ⟨50, _⟩ => ⟨S16x16x256x256, .f32⟩
  | .hbm, ⟨51, _⟩ => ⟨S_, .f32⟩
  | .hbm, ⟨52, _⟩ => ⟨S16x16x256, .f32⟩
  | .hbm, ⟨53, _⟩ => ⟨S_, .f32⟩
  | .hbm, ⟨54, _⟩ => ⟨S16x16x256, .f32⟩
  | .hbm, ⟨55, _⟩ => ⟨S16x16x256, .f32⟩
  | .hbm, ⟨56, _⟩ => ⟨S16x16x256x1, .f32⟩
  | .hbm, ⟨57, _⟩ => ⟨S16x16x256x256, .f32⟩
  | .hbm, ⟨58, _⟩ => ⟨S16x16x256x256, .f32⟩
  | .hbm, ⟨59, _⟩ => ⟨S16x16x256x256, .f32⟩
  | .hbm, ⟨60, _⟩ => ⟨S_, .f32⟩
  | .hbm, ⟨61, _⟩ => ⟨S16x16x256, .f32⟩
  | .hbm, ⟨62, _⟩ => ⟨S16x16x256x1, .f32⟩
  | .hbm, ⟨63, _⟩ => ⟨S16x16x256x256, .f32⟩
  | .hbm, ⟨64, _⟩ => ⟨S16x16x256x256, .f32⟩
  | .hbm, ⟨65, _⟩ => ⟨S16x16x256x64, .f32⟩
  | .hbm, ⟨66, _⟩ => ⟨S16x256x16x64, .f32⟩
  | .hbm, ⟨67, _⟩ => ⟨S4096x1024, .f32⟩
  | .hbm, ⟨68, _⟩ => ⟨S4096x1024, .bf16⟩
  | .hbm, ⟨69, _⟩ => ⟨S16x1x16x256x64, .f32⟩
  | .hbm, ⟨70, _⟩ => ⟨S16x1x16x256x64, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Kernel2.lean ====
abbrev S8192x1024 : Shape := ⟨2, ![8192, 1024]⟩
abbrev S4096x1024 : Shape := ⟨2, ![4096, 1024]⟩
abbrev S1x1024x1024 : Shape := ⟨3, ![1, 1024, 1024]⟩
abbrev S4x8x6x1024 : Shape := ⟨4, ![4, 8, 6, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S512x1024 : Shape := ⟨2, ![512, 1024]⟩
abbrev S1x1x6x1024 : Shape := ⟨4, ![1, 1, 6, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1x1x1x1024 : Shape := ⟨4, ![1, 1, 1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S4096x1024, .bf16⟩
  | .hbm, ⟨3, _⟩ => ⟨S1x1024x1024, .f32⟩
  | .hbm, ⟨4, _⟩ => ⟨S4x8x6x1024, .f32⟩
  | .hbm, ⟨5, _⟩ => ⟨S1024, .f32⟩
  | .hbm, ⟨6, _⟩ => ⟨S2x1024x5632, .f32⟩
  | .hbm, ⟨7, _⟩ => ⟨S2x2816x1024, .f32⟩
  | .hbm, ⟨8, _⟩ => ⟨S2x1024x5632, .bf16⟩
  | .hbm, ⟨9, _⟩ => ⟨S2x2816x1024, .bf16⟩
  | .hbm, ⟨10, _⟩ => ⟨S1x1024, .f32⟩
  | .hbm, ⟨11, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x1024, .f32⟩
  | .local _ .vmem, ⟨7, _⟩ => ⟨S1x1x6x1024, .f32⟩
  | .local _ .vmem, ⟨8, _⟩ => ⟨S1x1x6x1024, .f32⟩
  | .local _ .vmem, ⟨9, _⟩ => ⟨S1x1024, .f32⟩
  | .local _ .vmem, ⟨10, _⟩ => ⟨S1x1024x2816, .bf16⟩
  | .local _ .vmem, ⟨11, _⟩ => ⟨S1x1024x2816, .bf16⟩
  | .local _ .vmem, ⟨12, _⟩ => ⟨S1x2816x1024, .bf16⟩
  | .local _ .vmem, ⟨13, _⟩ => ⟨S512x1024, .f32⟩
  | .local _ .vmem, ⟨14, _⟩ => ⟨S512x1024, .f32⟩
  | .local _ .vmem, ⟨15, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let v0 : BitVec 32 := Scalar.addi arg0 c0_i32
  let c512_i32 : BitVec 32 := 512#32
  let v1 : BitVec 32 := Scalar.muli v0 c512_i32
  let c4096_i32 : BitVec 32 := 4096#32
  let v2 : BitVec 32 := Scalar.subi v1 c4096_i32
  let c1024_i32 : BitVec 32 := 1024#32
  let v3 : BitVec 32 := Scalar.divsi v2 c1024_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_6 : BitVec 32 := 0#32
  let v21 : BitVec 32 := Scalar.maxsi v20 c0_i32_6
  let c2_i32 : BitVec 32 := 2#32
  let c0_i32_7 : BitVec 32 := 0#32
  let c0_i32_8 : BitVec 32 := 0#32
  let c0_i32_9 : BitVec 32 := 0#32
  ![c2_i32.toNat, v21.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8192x1024 : Shape := ⟨2, ![8192, 1024]⟩
abbrev S4096x1024 : Shape := ⟨2, ![4096, 1024]⟩
abbrev S1x1024x1024 : Shape := ⟨3, ![1, 1024, 1024]⟩
abbrev S4x8x6x1024 : Shape := ⟨4, ![4, 8, 6, 1024]⟩
abbrev S1024 : Shape := ⟨1, ![1024]⟩
abbrev S2x1024x5632 : Shape := ⟨3, ![2, 1024, 5632]⟩
abbrev S2x2816x1024 : Shape := ⟨3, ![2, 2816, 1024]⟩
abbrev S16x256x1024 : Shape := ⟨3, ![16, 256, 1024]⟩
abbrev S4x1024x1024 : Shape := ⟨3, ![4, 1024, 1024]⟩
abbrev S1x1x6x1024 : Shape := ⟨4, ![1, 1, 6, 1024]⟩
abbrev S6x1024 : Shape := ⟨2, ![6, 1024]⟩
abbrev S1x4x6x1024 : Shape := ⟨4, ![1, 4, 6, 1024]⟩
abbrev S4x6x1024 : Shape := ⟨3, ![4, 6, 1024]⟩
abbrev S4x6x1x1024 : Shape := ⟨4, ![4, 6, 1, 1024]⟩
abbrev S1024x1024 : Shape := ⟨2, ![1024, 1024]⟩
abbrev S1x1024 : Shape := ⟨2, ![1, 1024]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S_ : Shape := ⟨0, ![]⟩
abbrev S16x256 : Shape := ⟨2, ![16, 256]⟩
abbrev S16x256x1 : Shape := ⟨3, ![16, 256, 1]⟩
abbrev S4x1024 : Shape := ⟨2, ![4, 1024]⟩
abbrev S4x1024x1 : Shape := ⟨3, ![4, 1024, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x256x5632 : Shape := ⟨3, ![16, 256, 5632]⟩
abbrev S16x256x2816 : Shape := ⟨3, ![16, 256, 2816]⟩
abbrev S4x1024x5632 : Shape := ⟨3, ![4, 1024, 5632]⟩
abbrev S4x1024x2816 : Shape := ⟨3, ![4, 1024, 2816]⟩

abbrev nBuf : Space → Nat
  | .hbm => 142
  | .vmem => 0
  | .smem => 0
  | _ => 0

abbrev hbmTy0_0 (i : Nat) : BufTy := match i % 128 with
  | 0 => ⟨S8192x1024, .f32⟩
  | 1 => ⟨S4096x1024, .bf16⟩
  | 2 => ⟨S4096x1024, .bf16⟩
  | 3 => ⟨S1x1024x1024, .f32⟩
  | 4 => ⟨S4x8x6x1024, .f32⟩
  | 5 => ⟨S1024, .f32⟩
  | 6 => ⟨S2x1024x5632, .f32⟩
  | 7 => ⟨S2x2816x1024, .f32⟩
  | 8 => ⟨S4096x1024, .f32⟩
  | 9 => ⟨S16x256x1024, .f32⟩
  | 10 => ⟨S4096x1024, .f32⟩
  | 11 => ⟨S4x1024x1024, .f32⟩
  | 12 => ⟨S1x1x6x1024, .f32⟩
  | 13 => ⟨S6x1024, .f32⟩
  | 14 => ⟨S1x4x6x1024, .f32⟩
  | 15 => ⟨S4x6x1024, .f32⟩
  | 16 => ⟨S4x6x1x1024, .f32⟩
  | 17 => ⟨S4096x1024, .f32⟩
  | 18 => ⟨S16x256x1024, .f32⟩
  | 19 => ⟨S1024x1024, .f32⟩
  | 20 => ⟨S16x256x1024, .f32⟩
  | 21 => ⟨S4096x1024, .f32⟩
  | 22 => ⟨S4x1024x1024, .f32⟩
  | 23 => ⟨S1024x1024, .f32⟩
  | 24 => ⟨S4x1024x1024, .f32⟩
  | 25 => ⟨S1x1024, .f32⟩
  | 26 => ⟨S1024, .f32⟩
  | 27 => ⟨S1x1x1024, .f32⟩
  | 28 => ⟨S16x256x1024, .f32⟩
  | 29 => ⟨S16x256x1024, .f32⟩
  | 30 => ⟨S16x256x1024, .f32⟩
  | 31 => ⟨S4x1x1x1024, .f32⟩
  | 32 => ⟨S4x1x1024, .f32⟩
  | 33 => ⟨S4x1024x1024, .f32⟩
  | 34 => ⟨S4x1024x1024, .f32⟩
  | 35 => ⟨S4x1024x1024, .f32⟩
  | 36 => ⟨S1x1024, .f32⟩
  | 37 => ⟨S1024, .f32⟩
  | 38 => ⟨S1x1024, .f32⟩
  | 39 => ⟨S1024, .f32⟩
  | 40 => ⟨S16x256x1024, .f32⟩
  | 41 => ⟨S_, .f32⟩
  | 42 => ⟨S16x256, .f32⟩
  | 43 => ⟨S16x256x1, .f32⟩
  | 44 => ⟨S_, .f32⟩
  | 45 => ⟨S16x256x1, .f32⟩
  | 46 => ⟨S16x256x1, .f32⟩
  | 47 => ⟨S_, .f32⟩
  | 48 => ⟨S16x256x1, .f32⟩
  | 49 => ⟨S16x256x1, .f32⟩
  | 50 => ⟨S16x256x1, .f32⟩
  | 51 => ⟨S16x256x1024, .f32⟩
  | 52 => ⟨S16x256x1024, .f32⟩
  | 53 => ⟨S1x1x1024, .f32⟩
  | 54 => ⟨S16x256x1024, .f32⟩
  | 55 => ⟨S16x256x1024, .f32⟩
  | 56 => ⟨S_, .f32⟩
  | 57 => ⟨S1024, .f32⟩
  | 58 => ⟨S1024, .f32⟩
  | 59 => ⟨S1x1x1024, .f32⟩
  | 60 => ⟨S16x256x1024, .f32⟩
  | 61 => ⟨S16x256x1024, .f32⟩
  | 62 => ⟨S1x1x1024, .f32⟩
  | 63 => ⟨S16x256x1024, .f32⟩
  | 64 => ⟨S16x256x1024, .f32⟩
  | 65 => ⟨S4x1x1x1024, .f32⟩
  | 66 => ⟨S4x1x1024, .f32⟩
  | 67 => ⟨S4x1x1x1024, .f32⟩
  | 68 => ⟨S4x1x1024, .f32⟩
  | 69 => ⟨S4x1024x1024, .f32⟩
  | 70 => ⟨S_, .f32⟩
  | 71 => ⟨S4x1024, .f32⟩
  | 72 => ⟨S4x1024x1, .f32⟩
  | 73 => ⟨S_, .f32⟩
  | 74 => ⟨S4x1024x1, .f32⟩
  | 75 => ⟨S4x1024x1, .f32⟩
  | 76 => ⟨S_, .f32⟩
  | 77 => ⟨S4x1024x1, .f32⟩
  | 78 => ⟨S4x1024x1, .f32⟩
  | 79 => ⟨S4x1024x1, .f32⟩
  | 80 => ⟨S4x1024x1024, .f32⟩
  | 81 => ⟨S4x1024x1024, .f32⟩
  | 82 => ⟨S1x1x1024, .f32⟩
  | 83 => ⟨S4x1024x1024, .f32⟩
  | 84 => ⟨S4x1024x1024, .f32⟩
  | 85 => ⟨S_, .f32⟩
  | 86 => ⟨S4x1x1024, .f32⟩
  | 87 => ⟨S4x1x1024, .f32⟩
  | 88 => ⟨S4x1024x1024, .f32⟩
  | 89 => ⟨S4x1024x1024, .f32⟩
  | 90 => ⟨S4x1024x1024, .f32⟩
  | 91 => ⟨S4x1024x1024, .f32⟩
  | 92 => ⟨S1x1024, .f32⟩
  | 93 => ⟨S1024, .f32⟩
  | 94 => ⟨S1x1024x5632, .f32⟩
  | 95 => ⟨S1024x5632, .f32⟩
  | 96 => ⟨S1x2816x1024, .f32⟩
  | 97 => ⟨S2816x1024, .f32⟩
  | 98 => ⟨S16x256x5632, .f32⟩
  | 99 => ⟨S16x256x2816, .f32⟩
  | 100 => ⟨S16x256x2816, .f32⟩
  | 101 => ⟨S16x256x2816, .f32⟩
  | 102 => ⟨S16x256x2816, .f32⟩
  | 103 => ⟨S_, .f32⟩
  | 104 => ⟨S16x256x2816, .f32⟩
  | 105 => ⟨S16x256x2816, .f32⟩
  | 106 => ⟨S_, .f32⟩
  | 107 => ⟨S16x256x2816, .f32⟩
  | 108 => ⟨S16x256x2816, .f32⟩
  | 109 => ⟨S16x256x2816, .f32⟩
  | 110 => ⟨S16x256x2816, .f32⟩
  | 111 => ⟨S16x256x1024, .f32⟩
  | 112 => ⟨S1x1x1024, .f32⟩
  | 113 => ⟨S16x256x1024, .f32⟩
  | 114 => ⟨S16x256x1024, .f32⟩
  | 115 => ⟨S16x256x1024, .f32⟩
  | 116 => ⟨S4x1x1x1024, .f32⟩
  | 117 => ⟨S4x1x1024, .f32⟩
  | 118 => ⟨S1x1024x5632, .f32⟩
  | 119 => ⟨S1024x5632, .f32⟩
  | 120 => ⟨S1x2816x1024, .f32⟩
  | 121 => ⟨S2816x1024, .f32⟩
  | 122 => ⟨S4x1024x5632, .f32⟩
  | 123 => ⟨S4x1024x2816, .f32⟩
  | 124 => ⟨S4x1024x2816, .f32⟩
  | 125 => ⟨S4x1024x2816, .f32⟩
  | 126 => ⟨S4x1024x2816, .f32⟩
  | 127 => ⟨S_, .f32⟩
  | _ => ⟨S8192x1024, .f32⟩

abbrev hbmTy0_1 (i : Nat) : BufTy := match i % 128 with
  | 0 => ⟨S4x1024x2816, .f32⟩
  | 1 => ⟨S4x1024x2816, .f32⟩
  | 2 => ⟨S_, .f32⟩
  | 3 => ⟨S4x1024x2816, .f32⟩
  | 4 => ⟨S4x1024x2816, .f32⟩
  | 5 => ⟨S4x1024x2816, .f32⟩
  | 6 => ⟨S4x1024x2816, .f32⟩
  | 7 => ⟨S4x1024x1024, .f32⟩
  | 8 => ⟨S4x1024x1024, .f32⟩
  | 9 => ⟨S4x1024x1024, .f32⟩
  | 10 => ⟨S4x1024x1024, .f32⟩
  | 11 => ⟨S4096x1024, .f32⟩
  | 12 => ⟨S4096x1024, .f32⟩
  | 13 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst : Ref sig .tc := ⟨.hbm, 41, rfl⟩
abbrev main_v33 : Ref sig .tc := ⟨.hbm, 42, rfl⟩
abbrev main_v34 : Ref sig .tc := ⟨.hbm, 43, rfl⟩
abbrev main_cst_0 : Ref sig .tc := ⟨.hbm, 44, rfl⟩
abbrev main_v35 : Ref sig .tc := ⟨.hbm, 45, rfl⟩
abbrev main_v36 : Ref sig .tc := ⟨.hbm, 46, rfl⟩
abbrev main_cst_1 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_3 : Ref sig .tc := ⟨.hbm, 70, rfl⟩
abbrev main_v58 : Ref sig .tc := ⟨.hbm, 71, rfl⟩
abbrev main_v59 : Ref sig .tc := ⟨.hbm, 72, rfl⟩
abbrev main_cst_4 : Ref sig .tc := ⟨.hbm, 73, rfl⟩
abbrev main_v60 : Ref sig .tc := ⟨.hbm, 74, rfl⟩
abbrev main_v61 : Ref sig .tc := ⟨.hbm, 75, rfl⟩
abbrev main_cst_5 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_6 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_call0_v0 : Ref sig .tc := ⟨.hbm, 101, rfl⟩
abbrev main_call0_v1 : Ref sig .tc := ⟨.hbm, 102, rfl⟩
abbrev main_call0_cst : Ref sig .tc := ⟨.hbm, 103, rfl⟩
abbrev main_call0_v2 : Ref sig .tc := ⟨.hbm, 104, rfl⟩
abbrev main_call0_v3 : Ref sig .tc := ⟨.hbm, 105, rfl⟩
abbrev main_call0_cst_0 : Ref sig .tc := ⟨.hbm, 106, rfl⟩
abbrev main_call0_v4 : Ref sig .tc := ⟨.hbm, 107, rfl⟩
abbrev main_call0_v5 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_call1_v0 : Ref sig .tc := ⟨.hbm, 125, rfl⟩
abbrev main_call1_v1 : Ref sig .tc := ⟨.hbm, 126, rfl⟩
abbrev main_call1_cst : Ref sig .tc := ⟨.hbm, 127, rfl⟩
abbrev main_call1_v2 : Ref sig .tc := ⟨.hbm, 128, rfl⟩
abbrev main_call1_v3 : Ref sig .tc := ⟨.hbm, 129, rfl⟩
abbrev main_call1_cst_0 : Ref sig .tc := ⟨.hbm, 130, rfl⟩
abbrev main_call1_v4 : Ref sig .tc := ⟨.hbm, 131, rfl⟩
abbrev main_call1_v5 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩

abbrev nD : Nat := 1
abbrev τ : Topo := Topo.v7x

variable {F : FTy → Type} [FloatOps F]
-- ==== Kernel3.lean ====
abbrev S8192x1024 : Shape := ⟨2, ![8192, 1024]⟩
abbrev S4x8x6x1024 : Shape := ⟨4, ![4, 8, 6, 1024]⟩
abbrev S1024 : Shape := ⟨1, ![1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S1x1024 : Shape := ⟨2, ![1, 1024]⟩
abbrev S1024x1024 : Shape := ⟨2, ![1024, 1024]⟩
abbrev S1x1x6x1024 : Shape := ⟨4, ![1, 1, 6, 1024]⟩
abbrev S1x1x1x1024 : Shape := ⟨4, ![1, 1, 1, 1024]⟩
abbrev S1024x1 : Shape := ⟨2, ![1024, 1]⟩
abbrev S1x1024x256 : Shape := ⟨3, ![1, 1024, 256]⟩
abbrev S1024x256 : Shape := ⟨2, ![1024, 256]⟩
abbrev S1x3x256 : Shape := ⟨3, ![1, 3, 256]⟩
abbrev S3x256 : Shape := ⟨2, ![3, 256]⟩
abbrev S1x256 : Shape := ⟨2, ![1, 256]⟩
abbrev S1x256x1024 : Shape := ⟨3, ![1, 256, 1024]⟩
abbrev S256x1024 : Shape := ⟨2, ![256, 1024]⟩

abbrev nBuf : Space → Nat
  | .hbm => 10
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S4x8x6x1024, .f32⟩
  | .hbm, ⟨2, _⟩ => ⟨S1024, .f32⟩
  | .hbm, ⟨3, _⟩ => ⟨S1x1024x3072, .f32⟩
  | .hbm, ⟨4, _⟩ => ⟨S1x3x1024, .f32⟩
  | .hbm, ⟨5, _⟩ => ⟨S1x1024x1024, .f32⟩
  | .hbm, ⟨6, _⟩ => ⟨S1x1024x3072, .bf16⟩
  | .hbm, ⟨7, _⟩ => ⟨S1x1024x1024, .bf16⟩
  | .hbm, ⟨8, _⟩ => ⟨S1x1024, .f32⟩
  | .hbm, ⟨9, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1x1024x3072, .bf16⟩
  | .local _ .vmem, ⟨6, _⟩ => ⟨S1x3x1024, .f32⟩
  | .local _ .vmem, ⟨7, _⟩ => ⟨S1x1024x1024, .bf16⟩
  | .local _ .vmem, ⟨8, _⟩ => ⟨S1024x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let v0 : BitVec 32 := Scalar.addi arg0 c0_i32
  let c1024_i32 : BitVec 32 := 1024#32
  let v1 : BitVec 32 := Scalar.muli v0 c1024_i32
  let c4096_i32 : BitVec 32 := 4096#32
  let v2 : BitVec 32 := Scalar.subi v1 c4096_i32
  let c1024_i32_0 : BitVec 32 := 1024#32
  let v3 : BitVec 32 := Scalar.divsi v2 c1024_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1024_i32_0 c0_i32_3
  let v10 : BitVec 32 := Scalar.extui v9
  let c0_i32_4 : BitVec 32 := 0#32
  let v11 : BitVec 1 := Scalar.cmpi .slt c1024_i32_0 c0_i32_4
  let v12 : BitVec 32 := Scalar.extui v11
  let v13 : BitVec 32 := Scalar.subi v10 v12
  let v14 : BitVec 1 := Scalar.cmpi .ne v8 v13
  let v15 : BitVec 32 := Scalar.remsi v2 c1024_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi v19 c1_i32_6
  let c0_i32_7 : BitVec 32 := 0#32
  let v21 : BitVec 32 := Scalar.maxsi v20 c0_i32_7
  let c1_i32_8 : BitVec 32 := 1#32
  let c0_i32_9 : BitVec 32 := 0#32
  let c0_i32_10 : BitVec 32 := 0#32
  let c0_i32_11 : BitVec 32 := 0#32
  ![c1_i32_8.toNat, v21.toNat, c0_i32_9.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8192x1024 : Shape := ⟨2, ![8192, 1024]⟩
abbrev S4x8x6x1024 : Shape := ⟨4, ![4, 8, 6, 1024]⟩
abbrev S1024 : Shape := ⟨1, ![1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S4096x1024 : Shape := ⟨2, ![4096, 1024]⟩
abbrev S16x256x1024 : Shape := ⟨3, ![16, 256, 1024]⟩
abbrev S4x1024x1024 : Shape := ⟨3, ![4, 1024, 1024]⟩
abbrev S1x1x6x1024 : Shape := ⟨4, ![1, 1, 6, 1024]⟩
abbrev S6x1024 : Shape := ⟨2, ![6, 1024]⟩
abbrev S1x4x6x1024 : Shape := ⟨4, ![1, 4, 6, 1024]⟩
abbrev S4x6x1024 : Shape := ⟨3, ![4, 6, 1024]⟩
abbrev S4x6x1x1024 : Shape := ⟨4, ![4, 6, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S4x1024 : Shape := ⟨2, ![4, 1024]⟩
abbrev S4x1024x1 : Shape := ⟨3, ![4, 1024, 1]⟩
abbrev S1024x3072 : Shape := ⟨2, ![1024, 3072]⟩
abbrev S3x1024 : Shape := ⟨2, ![3, 1024]⟩
abbrev S1024x1024 : Shape := ⟨2, ![1024, 1024]⟩
abbrev S16x256x3072 : Shape := ⟨3, ![16, 256, 3072]⟩
abbrev S16x258x1024 : Shape := ⟨3, ![16, 258, 1024]⟩
abbrev S4x1024x3072 : Shape := ⟨3, ![4, 1024, 3072]⟩
abbrev S4x1026x1024 : Shape := ⟨3, ![4, 1026, 1024]⟩

abbrev nBuf : Space → Nat
  | .hbm => 151
  | .vmem => 0
  | .smem => 0
  | _ => 0

abbrev hbmTy0_0 (i : Nat) : BufTy := match i % 128 with
  | 0 => ⟨S8192x1024, .f32⟩
  | 1 => ⟨S4x8x6x1024, .f32⟩
  | 2 => ⟨S1024, .f32⟩
  | 3 => ⟨S1x1024x3072, .f32⟩
  | 4 => ⟨S1x3x1024, .f32⟩
  | 5 => ⟨S1x1024x1024, .f32⟩
  | 6 => ⟨S4096x1024, .f32⟩
  | 7 => ⟨S16x256x1024, .f32⟩
  | 8 => ⟨S4096x1024, .f32⟩
  | 9 => ⟨S4x1024x1024, .f32⟩
  | 10 => ⟨S1x1x6x1024, .f32⟩
  | 11 => ⟨S6x1024, .f32⟩
  | 12 => ⟨S1x4x6x1024, .f32⟩
  | 13 => ⟨S4x6x1024, .f32⟩
  | 14 => ⟨S4x6x1x1024, .f32⟩
  | 15 => ⟨S1x1024, .f32⟩
  | 16 => ⟨S1024, .f32⟩
  | 17 => ⟨S1x1024, .f32⟩
  | 18 => ⟨S1024, .f32⟩
  | 19 => ⟨S16x256x1024, .f32⟩
  | 20 => ⟨S_, .f32⟩
  | 21 => ⟨S16x256, .f32⟩
  | 22 => ⟨S16x256x1, .f32⟩
  | 23 => ⟨S_, .f32⟩
  | 24 => ⟨S16x256x1, .f32⟩
  | 25 => ⟨S16x256x1, .f32⟩
  | 26 => ⟨S_, .f32⟩
  | 27 => ⟨S16x256x1, .f32⟩
  | 28 => ⟨S16x256x1, .f32⟩
  | 29 => ⟨S16x256x1, .f32⟩
  | 30 => ⟨S16x256x1024, .f32⟩
  | 31 => ⟨S16x256x1024, .f32⟩
  | 32 => ⟨S1x1x1024, .f32⟩
  | 33 => ⟨S16x256x1024, .f32⟩
  | 34 => ⟨S16x256x1024, .f32⟩
  | 35 => ⟨S_, .f32⟩
  | 36 => ⟨S1024, .f32⟩
  | 37 => ⟨S1024, .f32⟩
  | 38 => ⟨S1x1x1024, .f32⟩
  | 39 => ⟨S16x256x1024, .f32⟩
  | 40 => ⟨S16x256x1024, .f32⟩
  | 41 => ⟨S1x1x1024, .f32⟩
  | 42 => ⟨S16x256x1024, .f32⟩
  | 43 => ⟨S16x256x1024, .f32⟩
  | 44 => ⟨S4x1x1x1024, .f32⟩
  | 45 => ⟨S4x1x1024, .f32⟩
  | 46 => ⟨S4x1x1x1024, .f32⟩
  | 47 => ⟨S4x1x1024, .f32⟩
  | 48 => ⟨S4x1024x1024, .f32⟩
  | 49 => ⟨S_, .f32⟩
  | 50 => ⟨S4x1024, .f32⟩
  | 51 => ⟨S4x1024x1, .f32⟩
  | 52 => ⟨S_, .f32⟩
  | 53 => ⟨S4x1024x1, .f32⟩
  | 54 => ⟨S4x1024x1, .f32⟩
  | 55 => ⟨S_, .f32⟩
  | 56 => ⟨S4x1024x1, .f32⟩
  | 57 => ⟨S4x1024x1, .f32⟩
  | 58 => ⟨S4x1024x1, .f32⟩
  | 59 => ⟨S4x1024x1024, .f32⟩
  | 60 => ⟨S4x1024x1024, .f32⟩
  | 61 => ⟨S1x1x1024, .f32⟩
  | 62 => ⟨S4x1024x1024, .f32⟩
  | 63 => ⟨S4x1024x1024, .f32⟩
  | 64 => ⟨S_, .f32⟩
  | 65 => ⟨S4x1x1024, .f32⟩
  | 66 => ⟨S4x1x1024, .f32⟩
  | 67 => ⟨S4x1024x1024, .f32⟩
  | 68 => ⟨S4x1024x1024, .f32⟩
  | 69 => ⟨S4x1024x1024, .f32⟩
  | 70 => ⟨S4x1024x1024, .f32⟩
  | 71 => ⟨S1x1024, .f32⟩
  | 72 => ⟨S1024, .f32⟩
  | 73 => ⟨S1024x3072, .f32⟩
  | 74 => ⟨S3x1024, .f32⟩
  | 75 => ⟨S1024x1024, .f32⟩
  | 76 => ⟨S16x256x3072, .f32⟩
  | 77 => ⟨S16x256x1024, .f32⟩
  | 78 => ⟨S16x256x1024, .f32⟩
  | 79 => ⟨S16x256x1024, .f32⟩
  | 80 => ⟨S16x256x1024, .f32⟩
  | 81 => ⟨S_, .i32⟩
  | 82 => ⟨S_, .f32⟩
  | 83 => ⟨S16x258x1024, .f32⟩
  | 84 => ⟨S16x256x1024, .f32⟩
  | 85 => ⟨S1x1024, .f32⟩
  | 86 => ⟨S1024, .f32⟩
  | 87 => ⟨S1x1x1024, .f32⟩
  | 88 => ⟨S16x256x1024, .f32⟩
  | 89 => ⟨S16x256x1024, .f32⟩
  | 90 => ⟨S16x256x1024, .f32⟩
  | 91 => ⟨S1x1024, .f32⟩
  | 92 => ⟨S1024, .f32⟩
  | 93 => ⟨S1x1x1024, .f32⟩
  | 94 => ⟨S16x256x1024, .f32⟩
  | 95 => ⟨S16x256x1024, .f32⟩
  | 96 => ⟨S16x256x1024, .f32⟩
  | 97 => ⟨S16x256x1024, .f32⟩
  | 98 => ⟨S1x1024, .f32⟩
  | 99 => ⟨S1024, .f32⟩
  | 100 => ⟨S1x1x1024, .f32⟩
  | 101 => ⟨S16x256x1024, .f32⟩
  | 102 => ⟨S16x256x1024, .f32⟩
  | 103 => ⟨S16x256x1024, .f32⟩
  | 104 => ⟨S16x256x1024, .f32⟩
  | 105 => ⟨S16x256x1024, .f32⟩
  | 106 => ⟨S1x1x1024, .f32⟩
  | 107 => ⟨S16x256x1024, .f32⟩
  | 108 => ⟨S16x256x1024, .f32⟩
  | 109 => ⟨S16x256x1024, .f32⟩
  | 110 => ⟨S4x1x1x1024, .f32⟩
  | 111 => ⟨S4x1x1024, .f32⟩
  | 112 => ⟨S1024x3072, .f32⟩
  | 113 => ⟨S3x1024, .f32⟩
  | 114 => ⟨S1024x1024, .f32⟩
  | 115 => ⟨S4x1024x3072, .f32⟩
  | 116 => ⟨S4x1024x1024, .f32⟩
  | 117 => ⟨S4x1024x1024, .f32⟩
  | 118 => ⟨S4x1024x1024, .f32⟩
  | 119 => ⟨S4x1024x1024, .f32⟩
  | 120 => ⟨S_, .i32⟩
  | 121 => ⟨S_, .f32⟩
  | 122 => ⟨S4x1026x1024, .f32⟩
  | 123 => ⟨S4x1024x1024, .f32⟩
  | 124 => ⟨S1x1024, .f32⟩
  | 125 => ⟨S1024, .f32⟩
  | 126 => ⟨S1x1x1024, .f32⟩
  | 127 => ⟨S4x1024x1024, .f32⟩
  | _ => ⟨S8192x1024, .f32⟩

abbrev hbmTy0_1 (i : Nat) : BufTy := match i % 128 with
  | 0 => ⟨S4x1024x1024, .f32⟩
  | 1 => ⟨S4x1024x1024, .f32⟩
  | 2 => ⟨S1x1024, .f32⟩
  | 3 => ⟨S1024, .f32⟩
  | 4 => ⟨S1x1x1024, .f32⟩
  | 5 => ⟨S4x1024x1024, .f32⟩
  | 6 => ⟨S4x1024x1024, .f32⟩
  | 7 => ⟨S4x1024x1024, .f32⟩
  | 8 => ⟨S4x1024x1024, .f32⟩
  | 9 => ⟨S1x1024, .f32⟩
  | 10 => ⟨S1024, .f32⟩
  | 11 => ⟨S1x1x1024, .f32⟩
  | 12 => ⟨S4x1024x1024, .f32⟩
  | 13 => ⟨S4x1024x1024, .f32⟩
  | 14 => ⟨S4x1024x1024, .f32⟩
  | 15 => ⟨S4x1024x1024, .f32⟩
  | 16 => ⟨S4x1024x1024, .f32⟩
  | 17 => ⟨S4x1024x1024, .f32⟩
  | 18 => ⟨S4x1024x1024, .f32⟩
  | 19 => ⟨S4x1024x1024, .f32⟩
  | 20 => ⟨S4096x1024, .f32⟩
  | 21 => ⟨S4096x1024, .f32⟩
  | 22 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_c : Ref sig .tc := ⟨.hbm, 81, rfl⟩
abbrev main_call0_v0 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_c_7 : Ref sig .tc := ⟨.hbm, 120, rfl⟩
abbrev main_call1_v0 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩

abbrev nD : Nat := 1
abbrev τ : Topo := Topo.v7x

variable {F : FTy → Type} [FloatOps F]
-- ==== Kernel4.lean ====
abbrev S72 : Shape := ⟨1, ![72]⟩
abbrev S4x72 : Shape := ⟨2, ![4, 72]⟩
abbrev S8192x1024 : Shape := ⟨2, ![8192, 1024]⟩
abbrev S8x8192 : Shape := ⟨2, ![8, 8192]⟩
abbrev S2x8x1024x2816 : Shape := ⟨4, ![2, 8, 1024, 2816]⟩
abbrev S2x8x1408x1024 : Shape := ⟨4, ![2, 8, 1408, 1024]⟩
abbrev S18432x1024 : Shape := ⟨2, ![18432, 1024]⟩
abbrev S1x1x1024x2816 : Shape := ⟨4, ![1, 1, 1024, 2816]⟩
abbrev S1 : Shape := ⟨1, ![1]⟩
abbrev S1x1x1408x1024 : Shape := ⟨4, ![1, 1, 1408, 1024]⟩
abbrev S256x1024 : Shape := ⟨2, ![256, 1024]⟩
abbrev S256x1 : Shape := ⟨2, ![256, 1]⟩
abbrev S1x1 : Shape := ⟨2, ![1, 1]⟩
abbrev S1x1024 : Shape := ⟨2, ![1, 1024]⟩
abbrev S1024x1024 : Shape := ⟨2, ![1024, 1024]⟩
abbrev S256 : Shape := ⟨1, ![256]⟩
abbrev S256x1280 : Shape := ⟨2, ![256, 1280]⟩
abbrev S1x1280 : Shape := ⟨2, ![1, 1280]⟩
abbrev S1280x1024 : Shape := ⟨2, ![1280, 1024]⟩
abbrev S256x1536 : Shape := ⟨2, ![256, 1536]⟩
abbrev S1x1536 : Shape := ⟨2, ![1, 1536]⟩
abbrev S1536x1024 : Shape := ⟨2, ![1536, 1024]⟩
abbrev S256x1792 : Shape := ⟨2, ![256, 1792]⟩
abbrev S1x1792 : Shape := ⟨2, ![1, 1792]⟩
abbrev S1792x1024 : Shape := ⟨2, ![1792, 1024]⟩
abbrev S256x2048 : Shape := ⟨2, ![256, 2048]⟩
abbrev S1x2048 : Shape := ⟨2, ![1, 2048]⟩
abbrev S2048x1024 : Shape := ⟨2, ![2048, 1024]⟩
abbrev S256x2560 : Shape := ⟨2, ![256, 2560]⟩
abbrev S1x2560 : Shape := ⟨2, ![1, 2560]⟩
abbrev S2560x1024 : Shape := ⟨2, ![2560, 1024]⟩
abbrev S256x3072 : Shape := ⟨2, ![256, 3072]⟩
abbrev S1x3072 : Shape := ⟨2, ![1, 3072]⟩
abbrev S3072x1024 : Shape := ⟨2, ![3072, 1024]⟩
abbrev S256x256 : Shape := ⟨2, ![256, 256]⟩
abbrev S1x256 : Shape := ⟨2, ![1, 256]⟩
abbrev S1024x2816 : Shape := ⟨2, ![1024, 2816]⟩
abbrev S256x2816 : Shape := ⟨2, ![256, 2816]⟩
abbrev S256x1408 : Shape := ⟨2, ![256, 1408]⟩
abbrev S1408x1024 : Shape := ⟨2, ![1408, 1024]⟩

abbrev nBuf : Space → Nat
  | .hbm => 9
  | .vmem => 12
  | .smem => 2
  | _ => 0

abbrev bufTy : (tb : Table) → Fin (tcTables nBuf tb) → BufTy
  | .hbm, ⟨0, _⟩ => ⟨S8192x1024, .bf16⟩
  | .hbm, ⟨1, _⟩ => ⟨S8x8192, .f32⟩
  | .hbm, ⟨2, _⟩ => ⟨S8x8192, .f32⟩
  | .hbm, ⟨3, _⟩ => ⟨S8x8192, .f32⟩
  | .hbm, ⟨4, _⟩ => ⟨S2x8x1024x2816, .f32⟩
  | .hbm, ⟨5, _⟩ => ⟨S2x8x1408x1024, .f32⟩
  | .hbm, ⟨6, _⟩ => ⟨S2x8x1024x2816, .bf16⟩
  | .hbm, ⟨7, _⟩ => ⟨S2x8x1408x1024, .bf16⟩
  | .hbm, ⟨8, _⟩ => ⟨S18432x1024, .bf16⟩
  | .local _ .vmem, ⟨0, _⟩ => ⟨S8192x1024, .bf16⟩
  | .local _ .vmem, ⟨1, _⟩ => ⟨S8x8192, .f32⟩
  | .local _ .vmem, ⟨2, _⟩ => ⟨S8x8192, .f32⟩
  | .local _ .vmem, ⟨3, _⟩ => ⟨S8x8192, .f32⟩
  | .local _ .vmem, ⟨4, _⟩ => ⟨S1x1x1024x2816, .bf16⟩
  | .local _ .vmem, ⟨5, _⟩ => ⟨S1x1x1024x2816, .bf16⟩
  | .local _ .vmem, ⟨6, _⟩ => ⟨S1x1x1408x1024, .bf16⟩
  | .local _ .vmem, ⟨7, _⟩ => ⟨S1x1x1408x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1, .f32⟩
  | .local _ .smem, ⟨0, _⟩ => ⟨S72, .i32⟩
  | .local _ .smem, ⟨1, _⟩ => ⟨S4x72, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![72], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let c0_1 : Index := 0#32
  let arg0 : BitVec 32 := BitVec.ofNat 32 (i 0).val
  let v2 : Index := Scalar.indexCast arg0
  ![0, v2.toNat]
def k0_off3 (i : grid0.Coords) : Fin 1 → Nat :=
  let arg0 : BitVec 32 := BitVec.ofNat 32 (i 0).val
  let v7 : Index := Scalar.indexCast arg0
  ![v7.toNat]
def k0_off4 (i : grid0.Coords) : Fin 2 → Nat :=
  let c2 : Index := 2#32
  let arg0 : BitVec 32 := BitVec.ofNat 32 (i 0).val
  let v9 : Index := Scalar.indexCast arg0
  ![2, v9.toNat]
def k0_off5 (i : grid0.Coords) : Fin 2 → Nat :=
  let c3 : Index := 3#32
  let arg0 : BitVec 32 := BitVec.ofNat 32 (i 0).val
  let v11 : Index := Scalar.indexCast arg0
  ![3, v11.toNat]
def k0_off6 (i : grid0.Coords) : Fin 2 → Nat :=
  let c1 : Index := 1#32
  let arg0 : BitVec 32 := BitVec.ofNat 32 (i 0).val
  let v13 : Index := Scalar.indexCast arg0
  ![1, v13.toNat]
def k0_mult1 (v10 : BitVec 32) : BitVec 32 :=
  let c256_i32 : BitVec 32 := 256#32
  let v46 : BitVec 32 := Scalar.muli v10 c256_i32
  let c7168_i32 : BitVec 32 := 7168#32
  let v47 : BitVec 32 := Scalar.minsi v46 c7168_i32
  v47
def k0_cond1 (v3 : BitVec 32) : BitVec 1 :=
  let c0_i32 : BitVec 32 := 0#32
  let v4 : BitVec 1 := Scalar.cmpi .ne v3 c0_i32
  let v5 : BitVec 32 := Scalar.extui v4
  let c0_i32_2 : BitVec 32 := 0#32
  let v6 : BitVec 1 := Scalar.cmpi .ne v5 c0_i32_2
  v6

def k0_cond2 (v10 : BitVec 32) (v12 : BitVec 32) : BitVec 1 :=
  let v16 : BitVec 32 := Scalar.subi v12 v10
  let c1_i32 : BitVec 32 := 1#32
  let v17 : BitVec 32 := Scalar.addi v16 c1_i32
  let c4_i32 : BitVec 32 := 4#32
  let v18 : BitVec 1 := Scalar.cmpi .sle v17 c4_i32
  let v19 : BitVec 32 := Scalar.extui v18
  let c0_i32_3 : BitVec 32 := 0#32
  let v20 : BitVec 1 := Scalar.cmpi .ne v19 c0_i32_3
  v20

def k0_off7 (v8 : BitVec 32) (v10 : BitVec 32) : Fin 2 → Nat :=
  let v53 : Index := Scalar.indexCast v8
  let c256_i32 : BitVec 32 := 256#32
  let v46 : BitVec 32 := Scalar.muli v10 c256_i32
  let c7168_i32 : BitVec 32 := 7168#32
  let v47 : BitVec 32 := Scalar.minsi v46 c7168_i32
  let v48 : BitVec 32 := v47
  let v54 : Index := Scalar.indexCast v48
  ![v53.toNat, v54.toNat]
def k0_off8 (v10 : BitVec 32) : Fin 2 → Nat :=
  let c256_i32 : BitVec 32 := 256#32
  let v46 : BitVec 32 := Scalar.muli v10 c256_i32
  let c7168_i32 : BitVec 32 := 7168#32
  let v47 : BitVec 32 := Scalar.minsi v46 c7168_i32
  let v48 : BitVec 32 := v47
  let v72 : Index := Scalar.indexCast v48
  let c0_26 : Index := 0#32
  ![v72.toNat, 0]
def k0_mult2 (v10 : BitVec 32) : BitVec 32 :=
  let c256_i32 : BitVec 32 := 256#32
  let v49 : BitVec 32 := Scalar.muli v10 c256_i32
  let c6912_i32 : BitVec 32 := 6912#32
  let v50 : BitVec 32 := Scalar.minsi v49 c6912_i32
  v50
def k0_cond3 (v10 : BitVec 32) (v12 : BitVec 32) : BitVec 1 :=
  let v16 : BitVec 32 := Scalar.subi v12 v10
  let c1_i32 : BitVec 32 := 1#32
  let v17 : BitVec 32 := Scalar.addi v16 c1_i32
  let c5_i32 : BitVec 32 := 5#32
  let v46 : BitVec 1 := Scalar.cmpi .sle v17 c5_i32
  let v47 : BitVec 32 := Scalar.extui v46
  let c0_i32_23 : BitVec 32 := 0#32
  let v48 : BitVec 1 := Scalar.cmpi .ne v47 c0_i32_23
  v48

def k0_off9 (v8 : BitVec 32) (v10 : BitVec 32) : Fin 2 → Nat :=
  let v56 : Index := Scalar.indexCast v8
  let c256_i32 : BitVec 32 := 256#32
  let v49 : BitVec 32 := Scalar.muli v10 c256_i32
  let c6912_i32 : BitVec 32 := 6912#32
  let v50 : BitVec 32 := Scalar.minsi v49 c6912_i32
  let v51 : BitVec 32 := v50
  let v57 : Index := Scalar.indexCast v51
  ![v56.toNat, v57.toNat]
def k0_off10 (v10 : BitVec 32) : Fin 2 → Nat :=
  let c256_i32 : BitVec 32 := 256#32
  let v49 : BitVec 32 := Scalar.muli v10 c256_i32
  let c6912_i32 : BitVec 32 := 6912#32
  let v50 : BitVec 32 := Scalar.minsi v49 c6912_i32
  let v51 : BitVec 32 := v50
  let v75 : Index := Scalar.indexCast v51
  let c0_27 : Index := 0#32
  ![v75.toNat, 0]
def k0_mult3 (v10 : BitVec 32) : BitVec 32 :=
  let c256_i32 : BitVec 32 := 256#32
  let v52 : BitVec 32 := Scalar.muli v10 c256_i32
  let c6656_i32 : BitVec 32 := 6656#32
  let v53 : BitVec 32 := Scalar.minsi v52 c6656_i32
  v53
def k0_cond4 (v10 : BitVec 32) (v12 : BitVec 32) : BitVec 1 :=
  let v16 : BitVec 32 := Scalar.subi v12 v10
  let c1_i32 : BitVec 32 := 1#32
  let v17 : BitVec 32 := Scalar.addi v16 c1_i32
  let c6_i32 : BitVec 32 := 6#32
  let v49 : BitVec 1 := Scalar.cmpi .sle v17 c6_i32
  let v50 : BitVec 32 := Scalar.extui v49
  let c0_i32_24 : BitVec 32 := 0#32
  let v51 : BitVec 1 := Scalar.cmpi .ne v50 c0_i32_24
  v51

def k0_off11 (v8 : BitVec 32) (v10 : BitVec 32) : Fin 2 → Nat :=
  let v59 : Index := Scalar.indexCast v8
  let c256_i32 : BitVec 32 := 256#32
  let v52 : BitVec 32 := Scalar.muli v10 c256_i32
  let c6656_i32 : BitVec 32 := 6656#32
  let v53 : BitVec 32 := Scalar.minsi v52 c6656_i32
  let v54 : BitVec 32 := v53
  let v60 : Index := Scalar.indexCast v54
  ![v59.toNat, v60.toNat]
def k0_off12 (v10 : BitVec 32) : Fin 2 → Nat :=
  let c256_i32 : BitVec 32 := 256#32
  let v52 : BitVec 32 := Scalar.muli v10 c256_i32
  let c6656_i32 : BitVec 32 := 6656#32
  let v53 : BitVec 32 := Scalar.minsi v52 c6656_i32
  let v54 : BitVec 32 := v53
  let v78 : Index := Scalar.indexCast v54
  let c0_28 : Index := 0#32
  ![v78.toNat, 0]
def k0_mult4 (v10 : BitVec 32) : BitVec 32 :=
  let c256_i32 : BitVec 32 := 256#32
  let v55 : BitVec 32 := Scalar.muli v10 c256_i32
  let c6400_i32 : BitVec 32 := 6400#32
  let v56 : BitVec 32 := Scalar.minsi v55 c6400_i32
  v56
def k0_cond5 (v10 : BitVec 32) (v12 : BitVec 32) : BitVec 1 :=
  let v16 : BitVec 32 := Scalar.subi v12 v10
  let c1_i32 : BitVec 32 := 1#32
  let v17 : BitVec 32 := Scalar.addi v16 c1_i32
  let c7_i32 : BitVec 32 := 7#32
  let v52 : BitVec 1 := Scalar.cmpi .sle v17 c7_i32
  let v53 : BitVec 32 := Scalar.extui v52
  let c0_i32_25 : BitVec 32 := 0#32
  let v54 : BitVec 1 := Scalar.cmpi .ne v53 c0_i32_25
  v54

def k0_off13 (v8 : BitVec 32) (v10 : BitVec 32) : Fin 2 → Nat :=
  let v62 : Index := Scalar.indexCast v8
  let c256_i32 : BitVec 32 := 256#32
  let v55 : BitVec 32 := Scalar.muli v10 c256_i32
  let c6400_i32 : BitVec 32 := 6400#32
  let v56 : BitVec 32 := Scalar.minsi v55 c6400_i32
  let v57 : BitVec 32 := v56
  let v63 : Index := Scalar.indexCast v57
  ![v62.toNat, v63.toNat]
def k0_off14 (v10 : BitVec 32) : Fin 2 → Nat :=
  let c256_i32 : BitVec 32 := 256#32
  let v55 : BitVec 32 := Scalar.muli v10 c256_i32
  let c6400_i32 : BitVec 32 := 6400#32
  let v56 : BitVec 32 := Scalar.minsi v55 c6400_i32
  let v57 : BitVec 32 := v56
  let v81 : Index := Scalar.indexCast v57
  let c0_29 : Index := 0#32
  ![v81.toNat, 0]
def k0_mult5 (v10 : BitVec 32) : BitVec 32 :=
  let c256_i32 : BitVec 32 := 256#32
  let v58 : BitVec 32 := Scalar.muli v10 c256_i32
  let c6144_i32 : BitVec 32 := 6144#32
  let v59 : BitVec 32 := Scalar.minsi v58 c6144_i32
  v59
def k0_cond6 (v10 : BitVec 32) (v12 : BitVec 32) : BitVec 1 :=
  let v16 : BitVec 32 := Scalar.subi v12 v10
  let c1_i32 : BitVec 32 := 1#32
  let v17 : BitVec 32 := Scalar.addi v16 c1_i32
  let c8_i32 : BitVec 32 := 8#32
  let v55 : BitVec 1 := Scalar.cmpi .sle v17 c8_i32
  let v56 : BitVec 32 := Scalar.extui v55
  let c0_i32_26 : BitVec 32 := 0#32
  let v57 : BitVec 1 := Scalar.cmpi .ne v56 c0_i32_26
  v57

def k0_off15 (v8 : BitVec 32) (v10 : BitVec 32) : Fin 2 → Nat :=
  let v65 : Index := Scalar.indexCast v8
  let c256_i32 : BitVec 32 := 256#32
  let v58 : BitVec 32 := Scalar.muli v10 c256_i32
  let c6144_i32 : BitVec 32 := 6144#32
  let v59 : BitVec 32 := Scalar.minsi v58 c6144_i32
  let v60 : BitVec 32 := v59
  let v66 : Index := Scalar.indexCast v60
  ![v65.toNat, v66.toNat]
def k0_off16 (v10 : BitVec 32) : Fin 2 → Nat :=
  let c256_i32 : BitVec 32 := 256#32
  let v58 : BitVec 32 := Scalar.muli v10 c256_i32
  let c6144_i32 : BitVec 32 := 6144#32
  let v59 : BitVec 32 := Scalar.minsi v58 c6144_i32
  let v60 : BitVec 32 := v59
  let v84 : Index := Scalar.indexCast v60
  let c0_30 : Index := 0#32
  ![v84.toNat, 0]
def k0_mult6 (v10 : BitVec 32) : BitVec 32 :=
  let c256_i32 : BitVec 32 := 256#32
  let v61 : BitVec 32 := Scalar.muli v10 c256_i32
  let c5632_i32 : BitVec 32 := 5632#32
  let v62 : BitVec 32 := Scalar.minsi v61 c5632_i32
  v62
def k0_cond7 (v10 : BitVec 32) (v12 : BitVec 32) : BitVec 1 :=
  let v16 : BitVec 32 := Scalar.subi v12 v10
  let c1_i32 : BitVec 32 := 1#32
  let v17 : BitVec 32 := Scalar.addi v16 c1_i32
  let c10_i32 : BitVec 32 := 10#32
  let v58 : BitVec 1 := Scalar.cmpi .sle v17 c10_i32
  let v59 : BitVec 32 := Scalar.extui v58
  let c0_i32_27 : BitVec 32 := 0#32
  let v60 : BitVec 1 := Scalar.cmpi .ne v59 c0_i32_27
  v60

def k0_off17 (v8 : BitVec 32) (v10 : BitVec 32) : Fin 2 → Nat :=
  let v68 : Index := Scalar.indexCast v8
  let c256_i32 : BitVec 32 := 256#32
  let v61 : BitVec 32 := Scalar.muli v10 c256_i32
  let c5632_i32 : BitVec 32 := 5632#32
  let v62 : BitVec 32 := Scalar.minsi v61 c5632_i32
  let v63 : BitVec 32 := v62
  let v69 : Index := Scalar.indexCast v63
  ![v68.toNat, v69.toNat]
def k0_off18 (v10 : BitVec 32) : Fin 2 → Nat :=
  let c256_i32 : BitVec 32 := 256#32
  let v61 : BitVec 32 := Scalar.muli v10 c256_i32
  let c5632_i32 : BitVec 32 := 5632#32
  let v62 : BitVec 32 := Scalar.minsi v61 c5632_i32
  let v63 : BitVec 32 := v62
  let v87 : Index := Scalar.indexCast v63
  let c0_31 : Index := 0#32
  ![v87.toNat, 0]
def k0_mult7 (v10 : BitVec 32) : BitVec 32 :=
  let c256_i32 : BitVec 32 := 256#32
  let v64 : BitVec 32 := Scalar.muli v10 c256_i32
  let c5120_i32 : BitVec 32 := 5120#32
  let v65 : BitVec 32 := Scalar.minsi v64 c5120_i32
  v65
def k0_cond8 (v10 : BitVec 32) (v12 : BitVec 32) : BitVec 1 :=
  let v16 : BitVec 32 := Scalar.subi v12 v10
  let c1_i32 : BitVec 32 := 1#32
  let v17 : BitVec 32 := Scalar.addi v16 c1_i32
  let c12_i32 : BitVec 32 := 12#32
  let v61 : BitVec 1 := Scalar.cmpi .sle v17 c12_i32
  let v62 : BitVec 32 := Scalar.extui v61
  let c0_i32_28 : BitVec 32 := 0#32
  let v63 : BitVec 1 := Scalar.cmpi .ne v62 c0_i32_28
  v63

def k0_off19 (v8 : BitVec 32) (v10 : BitVec 32) : Fin 2 → Nat :=
  let v71 : Index := Scalar.indexCast v8
  let c256_i32 : BitVec 32 := 256#32
  let v64 : BitVec 32 := Scalar.muli v10 c256_i32
  let c5120_i32 : BitVec 32 := 5120#32
  let v65 : BitVec 32 := Scalar.minsi v64 c5120_i32
  let v66 : BitVec 32 := v65
  let v72 : Index := Scalar.indexCast v66
  ![v71.toNat, v72.toNat]
def k0_off20 (v10 : BitVec 32) : Fin 2 → Nat :=
  let c256_i32 : BitVec 32 := 256#32
  let v64 : BitVec 32 := Scalar.muli v10 c256_i32
  let c5120_i32 : BitVec 32 := 5120#32
  let v65 : BitVec 32 := Scalar.minsi v64 c5120_i32
  let v66 : BitVec 32 := v65
  let v90 : Index := Scalar.indexCast v66
  let c0_32 : Index := 0#32
  ![v90.toNat, 0]
@[reducible] def k0_t1_loop (v10 : BitVec 32) (v12 : BitVec 32) : Scf.Loop 32 :=
  let c1_i32_35 : BitVec 32 := 1#32
  let v72 : BitVec 32 := Scalar.addi v12 c1_i32_35
  let v73 : BitVec 32 := Scalar.subi v72 v10
  let c1_i32_37 : BitVec 32 := 1#32
  let v75 : BitVec 32 := Scalar.divsi v73 c1_i32_37
  let v76 : BitVec 32 := Scalar.muli v75 c1_i32_37
  let v77 : BitVec 32 := Scalar.addi v10 v76
  let c1_i32_38 : BitVec 32 := 1#32
  ⟨v10, v77, c1_i32_38⟩
def k0_mult8 (v10 : BitVec 32) (v12 : BitVec 32) (k0_t1 : Fin (k0_t1_loop v10 v12).trips) : BitVec 32 :=
  let c1_i32_38 : BitVec 32 := 1#32
  let arg12 : BitVec 32 := Scf.iv v10 c1_i32_38 k0_t1
  let c256_i32 : BitVec 32 := 256#32
  let v78 : BitVec 32 := Scalar.muli arg12 c256_i32
  v78
def k0_off21 (v8 : BitVec 32) (v10 : BitVec 32) (v12 : BitVec 32) (k0_t1 : Fin (k0_t1_loop v10 v12).trips) : Fin 2 → Nat :=
  let v84 : Index := Scalar.indexCast v8
  let c1_i32_38 : BitVec 32 := 1#32
  let arg12 : BitVec 32 := Scf.iv v10 c1_i32_38 k0_t1
  let c256_i32 : BitVec 32 := 256#32
  let v78 : BitVec 32 := Scalar.muli arg12 c256_i32
  let v79 : BitVec 32 := v78
  let v85 : Index := Scalar.indexCast v79
  ![v84.toNat, v85.toNat]
def k0_off22 (v10 : BitVec 32) (v12 : BitVec 32) (k0_t1 : Fin (k0_t1_loop v10 v12).trips) : Fin 2 → Nat :=
  let c1_i32_38 : BitVec 32 := 1#32
  let arg12 : BitVec 32 := Scf.iv v10 c1_i32_38 k0_t1
  let c256_i32 : BitVec 32 := 256#32
  let v78 : BitVec 32 := Scalar.muli arg12 c256_i32
  let v79 : BitVec 32 := v78
  let v103 : Index := Scalar.indexCast v79
  let c0_43 : Index := 0#32
  ![v103.toNat, 0]
@[reducible] def k0_t2_loop (v10 : BitVec 32) (v12 : BitVec 32) : Scf.Loop 32 :=
  let c1_i32_35 : BitVec 32 := 1#32
  let v72 : BitVec 32 := Scalar.addi v12 c1_i32_35
  let v73 : BitVec 32 := Scalar.subi v72 v10
  let c1_i32_37 : BitVec 32 := 1#32
  let v75 : BitVec 32 := Scalar.divsi v73 c1_i32_37
  let v76 : BitVec 32 := Scalar.muli v75 c1_i32_37
  let v77 : BitVec 32 := Scalar.addi v10 v76
  let v74 : BitVec 32 := Scalar.addi v10 v73
  let c1_i32_39 : BitVec 32 := 1#32
  ⟨v77, v74, c1_i32_39⟩
def k0_mult9 (v10 : BitVec 32) (v12 : BitVec 32) (k0_t2 : Fin (k0_t2_loop v10 v12).trips) : BitVec 32 :=
  let c1_i32_35 : BitVec 32 := 1#32
  let v72 : BitVec 32 := Scalar.addi v12 c1_i32_35
  let v73 : BitVec 32 := Scalar.subi v72 v10
  let c1_i32_37 : BitVec 32 := 1#32
  let v75 : BitVec 32 := Scalar.divsi v73 c1_i32_37
  let v76 : BitVec 32 := Scalar.muli v75 c1_i32_37
  let v77 : BitVec 32 := Scalar.addi v10 v76
  let c1_i32_39 : BitVec 32 := 1#32
  let arg12 : BitVec 32 := Scf.iv v77 c1_i32_39 k0_t2
  let c256_i32 : BitVec 32 := 256#32
  let v78 : BitVec 32 := Scalar.muli arg12 c256_i32
  v78
def k0_off23 (v8 : BitVec 32) (v10 : BitVec 32) (v12 : BitVec 32) (k0_t2 : Fin (k0_t2_loop v10 v12).trips) : Fin 2 → Nat :=
  let v84 : Index := Scalar.indexCast v8
  let c1_i32_35 : BitVec 32 := 1#32
  let v72 : BitVec 32 := Scalar.addi v12 c1_i32_35
  let v73 : BitVec 32 := Scalar.subi v72 v10
  let c1_i32_37 : BitVec 32 := 1#32
  let v75 : BitVec 32 := Scalar.divsi v73 c1_i32_37
  let v76 : BitVec 32 := Scalar.muli v75 c1_i32_37
  let v77 : BitVec 32 := Scalar.addi v10 v76
  let c1_i32_39 : BitVec 32 := 1#32
  let arg12 : BitVec 32 := Scf.iv v77 c1_i32_39 k0_t2
  let c256_i32 : BitVec 32 := 256#32
  let v78 : BitVec 32 := Scalar.muli arg12 c256_i32
  let v79 : BitVec 32 := v78
  let v85 : Index := Scalar.indexCast v79
  ![v84.toNat, v85.toNat]
def k0_off24 (v10 : BitVec 32) (v12 : BitVec 32) (k0_t2 : Fin (k0_t2_loop v10 v12).trips) : Fin 2 → Nat :=
  let c1_i32_35 : BitVec 32 := 1#32
  let v72 : BitVec 32 := Scalar.addi v12 c1_i32_35
  let v73 : BitVec 32 := Scalar.subi v72 v10
  let c1_i32_37 : BitVec 32 := 1#32
  let v75 : BitVec 32 := Scalar.divsi v73 c1_i32_37
  let v76 : BitVec 32 := Scalar.muli v75 c1_i32_37
  let v77 : BitVec 32 := Scalar.addi v10 v76
  let c1_i32_39 : BitVec 32 := 1#32
  let arg12 : BitVec 32 := Scf.iv v77 c1_i32_39 k0_t2
  let c256_i32 : BitVec 32 := 256#32
  let v78 : BitVec 32 := Scalar.muli arg12 c256_i32
  let v79 : BitVec 32 := v78
  let v103 : Index := Scalar.indexCast v79
  let c0_43 : Index := 0#32
  ![v103.toNat, 0]

def k0_chk1 (v3 : BitVec 32) (v8 : BitVec 32) (v10 : BitVec 32) (v12 : BitVec 32) : Prop :=
  (∀ (k0_h1 : k0_cond1 v3 = 1#1), ∀ (k0_h2 : k0_cond2 v10 v12 = 1#1), 256 ∣ (k0_mult1 v10).toNat) ∧
  (∀ (k0_h1 : k0_cond1 v3 = 1#1), ∀ (k0_h2 : k0_cond2 v10 v12 = 1#1), ∀ a, (k0_off7 v8 v10) a + S1x1024.size a ≤ S8x8192.size a) ∧
  (∀ (k0_h1 : k0_cond1 v3 = 1#1), ∀ (k0_h2 : k0_cond2 v10 v12 = 1#1), ∀ a, (k0_off8 v10) a + S1024x1024.size a ≤ S8192x1024.size a) ∧
  (∀ (k0_h1 : k0_cond1 v3 = 1#1), ∀ (k0_h2 : ¬(k0_cond2 v10 v12 = 1#1)), ∀ (k0_h3 : k0_cond3 v10 v12 = 1#1), 256 ∣ (k0_mult2 v10).toNat) ∧
  (∀ (k0_h1 : k0_cond1 v3 = 1#1), ∀ (k0_h2 : ¬(k0_cond2 v10 v12 = 1#1)), ∀ (k0_h3 : k0_cond3 v10 v12 = 1#1), ∀ a, (k0_off9 v8 v10) a + S1x1280.size a ≤ S8x8192.size a) ∧
  (∀ (k0_h1 : k0_cond1 v3 = 1#1), ∀ (k0_h2 : ¬(k0_cond2 v10 v12 = 1#1)), ∀ (k0_h3 : k0_cond3 v10 v12 = 1#1), ∀ a, (k0_off10 v10) a + S1280x1024.size a ≤ S8192x1024.size a) ∧
  (∀ (k0_h1 : k0_cond1 v3 = 1#1), ∀ (k0_h2 : ¬(k0_cond2 v10 v12 = 1#1)), ∀ (k0_h3 : ¬(k0_cond3 v10 v12 = 1#1)), ∀ (k0_h4 : k0_cond4 v10 v12 = 1#1), 256 ∣ (k0_mult3 v10).toNat) ∧
  (∀ (k0_h1 : k0_cond1 v3 = 1#1), ∀ (k0_h2 : ¬(k0_cond2 v10 v12 = 1#1)), ∀ (k0_h3 : ¬(k0_cond3 v10 v12 = 1#1)), ∀ (k0_h4 : k0_cond4 v10 v12 = 1#1), ∀ a, (k0_off11 v8 v10) a + S1x1536.size a ≤ S8x8192.size a) ∧
  (∀ (k0_h1 : k0_cond1 v3 = 1#1), ∀ (k0_h2 : ¬(k0_cond2 v10 v12 = 1#1)), ∀ (k0_h3 : ¬(k0_cond3 v10 v12 = 1#1)), ∀ (k0_h4 : k0_cond4 v10 v12 = 1#1), ∀ a, (k0_off12 v10) a + S1536x1024.size a ≤ S8192x1024.size a) ∧
  (∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : k0_cond5 v10 v12 = 1#1), 256 ∣ (k0_mult4 v10).toNat) ∧
  (∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : k0_cond5 v10 v12 = 1#1), ∀ a, (k0_off13 v8 v10) a + S1x1792.size a ≤ S8x8192.size a) ∧
  (∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : k0_cond5 v10 v12 = 1#1), ∀ a, (k0_off14 v10) a + S1792x1024.size a ≤ S8192x1024.size a) ∧
  (∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : k0_cond6 v10 v12 = 1#1), 256 ∣ (k0_mult5 v10).toNat) ∧
  (∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : k0_cond6 v10 v12 = 1#1), ∀ a, (k0_off15 v8 v10) a + S1x2048.size a ≤ S8x8192.size a) ∧
  (∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : k0_cond6 v10 v12 = 1#1), ∀ a, (k0_off16 v10) a + S2048x1024.size a ≤ S8192x1024.size a) ∧
  (∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : k0_cond7 v10 v12 = 1#1), 256 ∣ (k0_mult6 v10).toNat) ∧
  (∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : k0_cond7 v10 v12 = 1#1), ∀ a, (k0_off17 v8 v10) a + S1x2560.size a ≤ S8x8192.size a) ∧
  (∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : k0_cond7 v10 v12 = 1#1), ∀ a, (k0_off18 v10) a + S2560x1024.size a ≤ S8192x1024.size a) ∧
  (∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : k0_cond8 v10 v12 = 1#1), 256 ∣ (k0_mult7 v10).toNat) ∧
  (∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : k0_cond8 v10 v12 = 1#1), ∀ a, (k0_off19 v8 v10) a + S1x3072.size a ≤ S8x8192.size a) ∧
  (∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : k0_cond8 v10 v12 = 1#1), ∀ a, (k0_off20 v10) a + S3072x1024.size a ≤ S8192x1024.size a) ∧
  (∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), (k0_t1_loop v10 v12).OK) ∧
  (∀ k0_t1 : Fin (k0_t1_loop v10 v12).trips, ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), 256 ∣ (k0_mult8 v10 v12 k0_t1).toNat) ∧
  (∀ k0_t1 : Fin (k0_t1_loop v10 v12).trips, ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), ∀ a, (k0_off21 v8 v10 v12 k0_t1) a + S1x256.size a ≤ S8x8192.size a) ∧
  (∀ k0_t1 : Fin (k0_t1_loop v10 v12).trips, ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), ∀ a, (k0_off22 v10 v12 k0_t1) a + S256x1024.size a ≤ S8192x1024.size a) ∧
  (∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), (k0_t2_loop v10 v12).OK) ∧
  (∀ k0_t2 : Fin (k0_t2_loop v10 v12).trips, ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), 256 ∣ (k0_mult9 v10 v12 k0_t2).toNat) ∧
  (∀ k0_t2 : Fin (k0_t2_loop v10 v12).trips, ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), ∀ a, (k0_off23 v8 v10 v12 k0_t2) a + S1x256.size a ≤ S8x8192.size a) ∧
  (∀ k0_t2 : Fin (k0_t2_loop v10 v12).trips, ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), ∀ a, (k0_off24 v10 v12 k0_t2) a + S256x1024.size a ≤ S8192x1024.size a)
theorem k0_mult1_dvd : ∀ (v3 : BitVec 32) (v8 : BitVec 32) (v10 : BitVec 32) (v12 : BitVec 32) (k0_hw1 : k0_chk1 v3 v8 v10 v12), ∀ (k0_h1 : k0_cond1 v3 = 1#1), ∀ (k0_h2 : k0_cond2 v10 v12 = 1#1), 256 ∣ (k0_mult1 v10).toNat := fun v3 v8 v10 v12 k0_hw1 k0_h1 k0_h2 => k0_hw1.1 k0_h1 k0_h2
theorem k0_off7_inb : ∀ (v3 : BitVec 32) (v8 : BitVec 32) (v10 : BitVec 32) (v12 : BitVec 32) (k0_hw1 : k0_chk1 v3 v8 v10 v12), ∀ (k0_h1 : k0_cond1 v3 = 1#1), ∀ (k0_h2 : k0_cond2 v10 v12 = 1#1), ∀ a, (k0_off7 v8 v10) a + S1x1024.size a ≤ S8x8192.size a := fun v3 v8 v10 v12 k0_hw1 k0_h1 k0_h2 => k0_hw1.2.1 k0_h1 k0_h2
theorem k0_off8_inb : ∀ (v3 : BitVec 32) (v8 : BitVec 32) (v10 : BitVec 32) (v12 : BitVec 32) (k0_hw1 : k0_chk1 v3 v8 v10 v12), ∀ (k0_h1 : k0_cond1 v3 = 1#1), ∀ (k0_h2 : k0_cond2 v10 v12 = 1#1), ∀ a, (k0_off8 v10) a + S1024x1024.size a ≤ S8192x1024.size a := fun v3 v8 v10 v12 k0_hw1 k0_h1 k0_h2 => k0_hw1.2.2.1 k0_h1 k0_h2
theorem k0_mult2_dvd : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : k0_cond3 v10 v12 = 1#1), 256 ∣ (k0_mult2 v10).toNat := fun v3 v8 v10 v12 k0_hw1 k0_h1 k0_h2 k0_h3 => k0_hw1.2.2.2.1 k0_h1 k0_h2 k0_h3
theorem k0_off9_inb : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : k0_cond3 v10 v12 = 1#1), ∀ a, (k0_off9 v8 v10) a + S1x1280.size a ≤ S8x8192.size a := fun v3 v8 v10 v12 k0_hw1 k0_h1 k0_h2 k0_h3 => k0_hw1.2.2.2.2.1 k0_h1 k0_h2 k0_h3
theorem k0_off10_inb : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : k0_cond3 v10 v12 = 1#1), ∀ a, (k0_off10 v10) a + S1280x1024.size a ≤ S8192x1024.size a := fun v3 v8 v10 v12 k0_hw1 k0_h1 k0_h2 k0_h3 => k0_hw1.2.2.2.2.2.1 k0_h1 k0_h2 k0_h3
theorem k0_mult3_dvd : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : k0_cond4 v10 v12 = 1#1), 256 ∣ (k0_mult3 v10).toNat := fun v3 v8 v10 v12 k0_hw1 k0_h1 k0_h2 k0_h3 k0_h4 => k0_hw1.2.2.2.2.2.2.1 k0_h1 k0_h2 k0_h3 k0_h4
theorem k0_off11_inb : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : k0_cond4 v10 v12 = 1#1), ∀ a, (k0_off11 v8 v10) a + S1x1536.size a ≤ S8x8192.size a := fun v3 v8 v10 v12 k0_hw1 k0_h1 k0_h2 k0_h3 k0_h4 => k0_hw1.2.2.2.2.2.2.2.1 k0_h1 k0_h2 k0_h3 k0_h4
theorem k0_off12_inb : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : k0_cond4 v10 v12 = 1#1), ∀ a, (k0_off12 v10) a + S1536x1024.size a ≤ S8192x1024.size a := fun v3 v8 v10 v12 k0_hw1 k0_h1 k0_h2 k0_h3 k0_h4 => k0_hw1.2.2.2.2.2.2.2.2.1 k0_h1 k0_h2 k0_h3 k0_h4
theorem k0_mult4_dvd : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : k0_cond5 v10 v12 = 1#1), 256 ∣ (k0_mult4 v10).toNat := fun v3 v8 v10 v12 k0_hw1 k0_h1 k0_h2 k0_h3 k0_h4 k0_h5 => k0_hw1.2.2.2.2.2.2.2.2.2.1 k0_h1 k0_h2 k0_h3 k0_h4 k0_h5
theorem k0_off13_inb : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : k0_cond5 v10 v12 = 1#1), ∀ a, (k0_off13 v8 v10) a + S1x1792.size a ≤ S8x8192.size a := fun v3 v8 v10 v12 k0_hw1 k0_h1 k0_h2 k0_h3 k0_h4 k0_h5 => k0_hw1.2.2.2.2.2.2.2.2.2.2.1 k0_h1 k0_h2 k0_h3 k0_h4 k0_h5
theorem k0_off14_inb : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : k0_cond5 v10 v12 = 1#1), ∀ a, (k0_off14 v10) a + S1792x1024.size a ≤ S8192x1024.size a := fun v3 v8 v10 v12 k0_hw1 k0_h1 k0_h2 k0_h3 k0_h4 k0_h5 => k0_hw1.2.2.2.2.2.2.2.2.2.2.2.1 k0_h1 k0_h2 k0_h3 k0_h4 k0_h5
theorem k0_mult5_dvd : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : k0_cond6 v10 v12 = 1#1), 256 ∣ (k0_mult5 v10).toNat := fun v3 v8 v10 v12 k0_hw1 k0_h1 k0_h2 k0_h3 k0_h4 k0_h5 k0_h6 => k0_hw1.2.2.2.2.2.2.2.2.2.2.2.2.1 k0_h1 k0_h2 k0_h3 k0_h4 k0_h5 k0_h6
theorem k0_off15_inb : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : k0_cond6 v10 v12 = 1#1), ∀ a, (k0_off15 v8 v10) a + S1x2048.size a ≤ S8x8192.size a := fun v3 v8 v10 v12 k0_hw1 k0_h1 k0_h2 k0_h3 k0_h4 k0_h5 k0_h6 => k0_hw1.2.2.2.2.2.2.2.2.2.2.2.2.2.1 k0_h1 k0_h2 k0_h3 k0_h4 k0_h5 k0_h6
theorem k0_off16_inb : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : k0_cond6 v10 v12 = 1#1), ∀ a, (k0_off16 v10) a + S2048x1024.size a ≤ S8192x1024.size a := fun v3 v8 v10 v12 k0_hw1 k0_h1 k0_h2 k0_h3 k0_h4 k0_h5 k0_h6 => k0_hw1.2.2.2.2.2.2.2.2.2.2.2.2.2.2.1 k0_h1 k0_h2 k0_h3 k0_h4 k0_h5 k0_h6
theorem k0_mult6_dvd : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : k0_cond7 v10 v12 = 1#1), 256 ∣ (k0_mult6 v10).toNat := fun v3 v8 v10 v12 k0_hw1 k0_h1 k0_h2 k0_h3 k0_h4 k0_h5 k0_h6 k0_h7 => k0_hw1.2.2.2.2.2.2.2.2.2.2.2.2.2.2.2.1 k0_h1 k0_h2 k0_h3 k0_h4 k0_h5 k0_h6 k0_h7
theorem k0_off17_inb : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : k0_cond7 v10 v12 = 1#1), ∀ a, (k0_off17 v8 v10) a + S1x2560.size a ≤ S8x8192.size a := fun v3 v8 v10 v12 k0_hw1 k0_h1 k0_h2 k0_h3 k0_h4 k0_h5 k0_h6 k0_h7 => k0_hw1.2.2.2.2.2.2.2.2.2.2.2.2.2.2.2.2.1 k0_h1 k0_h2 k0_h3 k0_h4 k0_h5 k0_h6 k0_h7
theorem k0_off18_inb : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : k0_cond7 v10 v12 = 1#1), ∀ a, (k0_off18 v10) a + S2560x1024.size a ≤ S8192x1024.size a := fun v3 v8 v10 v12 k0_hw1 k0_h1 k0_h2 k0_h3 k0_h4 k0_h5 k0_h6 k0_h7 => k0_hw1.2.2.2.2.2.2.2.2.2.2.2.2.2.2.2.2.2.1 k0_h1 k0_h2 k0_h3 k0_h4 k0_h5 k0_h6 k0_h7
theorem k0_mult7_dvd : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : k0_cond8 v10 v12 = 1#1), 256 ∣ (k0_mult7 v10).toNat := fun v3 v8 v10 v12 k0_hw1 k0_h1 k0_h2 k0_h3 k0_h4 k0_h5 k0_h6 k0_h7 k0_h8 => k0_hw1.2.2.2.2.2.2.2.2.2.2.2.2.2.2.2.2.2.2.1 k0_h1 k0_h2 k0_h3 k0_h4 k0_h5 k0_h6 k0_h7 k0_h8
theorem k0_off19_inb : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : k0_cond8 v10 v12 = 1#1), ∀ a, (k0_off19 v8 v10) a + S1x3072.size a ≤ S8x8192.size a := fun v3 v8 v10 v12 k0_hw1 k0_h1 k0_h2 k0_h3 k0_h4 k0_h5 k0_h6 k0_h7 k0_h8 => k0_hw1.2.2.2.2.2.2.2.2.2.2.2.2.2.2.2.2.2.2.2.1 k0_h1 k0_h2 k0_h3 k0_h4 k0_h5 k0_h6 k0_h7 k0_h8
theorem k0_off20_inb : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : k0_cond8 v10 v12 = 1#1), ∀ a, (k0_off20 v10) a + S3072x1024.size a ≤ S8192x1024.size a := fun v3 v8 v10 v12 k0_hw1 k0_h1 k0_h2 k0_h3 k0_h4 k0_h5 k0_h6 k0_h7 k0_h8 => k0_hw1.2.2.2.2.2.2.2.2.2.2.2.2.2.2.2.2.2.2.2.2.1 k0_h1 k0_h2 k0_h3 k0_h4 k0_h5 k0_h6 k0_h7 k0_h8
theorem k0_t1_ok : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), (k0_t1_loop v10 v12).OK := fun v3 v8 v10 v12 k0_hw1 k0_h1 k0_h2 k0_h3 k0_h4 k0_h5 k0_h6 k0_h7 k0_h8 => k0_hw1.2.2.2.2.2.2.2.2.2.2.2.2.2.2.2.2.2.2.2.2.2.1 k0_h1 k0_h2 k0_h3 k0_h4 k0_h5 k0_h6 k0_h7 k0_h8
theorem k0_mult8_dvd : ∀ (v3 : BitVec 32) (v8 : BitVec 32) (v10 : BitVec 32) (v12 : BitVec 32) (k0_hw1 : k0_chk1 v3 v8 v10 v12) (k0_t1 : Fin (k0_t1_loop v10 v12).trips), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), 256 ∣ (k0_mult8 v10 v12 k0_t1).toNat := fun v3 v8 v10 v12 k0_hw1 k0_t1 k0_h1 k0_h2 k0_h3 k0_h4 k0_h5 k0_h6 k0_h7 k0_h8 => k0_hw1.2.2.2.2.2.2.2.2.2.2.2.2.2.2.2.2.2.2.2.2.2.2.1 k0_t1 k0_h1 k0_h2 k0_h3 k0_h4 k0_h5 k0_h6 k0_h7 k0_h8
theorem k0_off21_inb : ∀ (v3 : BitVec 32) (v8 : BitVec 32) (v10 : BitVec 32) (v12 : BitVec 32) (k0_hw1 : k0_chk1 v3 v8 v10 v12) (k0_t1 : Fin (k0_t1_loop v10 v12).trips), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), ∀ a, (k0_off21 v8 v10 v12 k0_t1) a + S1x256.size a ≤ S8x8192.size a := fun v3 v8 v10 v12 k0_hw1 k0_t1 k0_h1 k0_h2 k0_h3 k0_h4 k0_h5 k0_h6 k0_h7 k0_h8 => k0_hw1.2.2.2.2.2.2.2.2.2.2.2.2.2.2.2.2.2.2.2.2.2.2.2.1 k0_t1 k0_h1 k0_h2 k0_h3 k0_h4 k0_h5 k0_h6 k0_h7 k0_h8
theorem k0_off22_inb : ∀ (v3 : BitVec 32) (v8 : BitVec 32) (v10 : BitVec 32) (v12 : BitVec 32) (k0_hw1 : k0_chk1 v3 v8 v10 v12) (k0_t1 : Fin (k0_t1_loop v10 v12).trips), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), ∀ a, (k0_off22 v10 v12 k0_t1) a + S256x1024.size a ≤ S8192x1024.size a := fun v3 v8 v10 v12 k0_hw1 k0_t1 k0_h1 k0_h2 k0_h3 k0_h4 k0_h5 k0_h6 k0_h7 k0_h8 => k0_hw1.2.2.2.2.2.2.2.2.2.2.2.2.2.2.2.2.2.2.2.2.2.2.2.2.1 k0_t1 k0_h1 k0_h2 k0_h3 k0_h4 k0_h5 k0_h6 k0_h7 k0_h8
theorem k0_t2_ok : ∀ (v3 : BitVec 32) (v8 : BitVec 32) (v10 : BitVec 32) (v12 : BitVec 32) (k0_hw1 : k0_chk1 v3 v8 v10 v12), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), (k0_t2_loop v10 v12).OK := fun v3 v8 v10 v12 k0_hw1 k0_h1 k0_h2 k0_h3 k0_h4 k0_h5 k0_h6 k0_h7 k0_h8 => k0_hw1.2.2.2.2.2.2.2.2.2.2.2.2.2.2.2.2.2.2.2.2.2.2.2.2.2.1 k0_h1 k0_h2 k0_h3 k0_h4 k0_h5 k0_h6 k0_h7 k0_h8
theorem k0_mult9_dvd : ∀ (v3 : BitVec 32) (v8 : BitVec 32) (v10 : BitVec 32) (v12 : BitVec 32) (k0_hw1 : k0_chk1 v3 v8 v10 v12) (k0_t2 : Fin (k0_t2_loop v10 v12).trips), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), 256 ∣ (k0_mult9 v10 v12 k0_t2).toNat := fun v3 v8 v10 v12 k0_hw1 k0_t2 k0_h1 k0_h2 k0_h3 k0_h4 k0_h5 k0_h6 k0_h7 k0_h8 => k0_hw1.2.2.2.2.2.2.2.2.2.2.2.2.2.2.2.2.2.2.2.2.2.2.2.2.2.2.1 k0_t2 k0_h1 k0_h2 k0_h3 k0_h4 k0_h5 k0_h6 k0_h7 k0_h8
theorem k0_off23_inb : ∀ (v3 : BitVec 32) (v8 : BitVec 32) (v10 : BitVec 32) (v12 : BitVec 32) (k0_hw1 : k0_chk1 v3 v8 v10 v12) (k0_t2 : Fin (k0_t2_loop v10 v12).trips), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), ∀ a, (k0_off23 v8 v10 v12 k0_t2) a + S1x256.size a ≤ S8x8192.size a := fun v3 v8 v10 v12 k0_hw1 k0_t2 k0_h1 k0_h2 k0_h3 k0_h4 k0_h5 k0_h6 k0_h7 k0_h8 => k0_hw1.2.2.2.2.2.2.2.2.2.2.2.2.2.2.2.2.2.2.2.2.2.2.2.2.2.2.2.1 k0_t2 k0_h1 k0_h2 k0_h3 k0_h4 k0_h5 k0_h6 k0_h7 k0_h8
theorem k0_off24_inb : ∀ (v3 : BitVec 32) (v8 : BitVec 32) (v10 : BitVec 32) (v12 : BitVec 32) (k0_hw1 : k0_chk1 v3 v8 v10 v12) (k0_t2 : Fin (k0_t2_loop v10 v12).trips), ∀ (k0_h1 : k0_cond1 v3 = 1#1), ∀ (k0_h2 : ¬(k0_cond2 v10 v12 = 1#1)), ∀ (k0_h3 : ¬(k0_cond3 v10 v12 = 1#1)), ∀ (k0_h4 : ¬(k0_cond4 v10 v12 = 1#1)), ∀ (k0_h5 : ¬(k0_cond5 v10 v12 = 1#1)), ∀ (k0_h6 : ¬(k0_cond6 v10 v12 = 1#1)), ∀ (k0_h7 : ¬(k0_cond7 v10 v12 = 1#1)), ∀ (k0_h8 : ¬(k0_cond8 v10 v12 = 1#1)), ∀ a, (k0_off24 v10 v12 k0_t2) a + S256x1024.size a ≤ S8192x1024.size a := fun v3 v8 v10 v12 k0_hw1 k0_t2 k0_h1 k0_h2 k0_h3 k0_h4 k0_h5 k0_h6 k0_h7 k0_h8 => k0_hw1.2.2.2.2.2.2.2.2.2.2.2.2.2.2.2.2.2.2.2.2.2.2.2.2.2.2.2.2 k0_t2 k0_h1 k0_h2 k0_h3 k0_h4 k0_h5 k0_h6 k0_h7 k0_h8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S72 : Shape := ⟨1, ![72]⟩
abbrev S4x72 : Shape := ⟨2, ![4, 72]⟩
abbrev S8192x1024 : Shape := ⟨2, ![8192, 1024]⟩
abbrev S8x8192 : Shape := ⟨2, ![8, 8192]⟩
abbrev S2x8x1024x2816 : Shape := ⟨4, ![2, 8, 1024, 2816]⟩
abbrev S2x8x1408x1024 : Shape := ⟨4, ![2, 8, 1408, 1024]⟩
abbrev S1x72 : Shape := ⟨2, ![1, 72]⟩
abbrev S72x1 : Shape := ⟨2, ![72, 1]⟩
abbrev S256 : Shape := ⟨1, ![256]⟩
abbrev S1x256 : Shape := ⟨2, ![1, 256]⟩
abbrev S72x256 : Shape := ⟨2, ![72, 256]⟩
abbrev S8x1x1x8192 : Shape := ⟨4, ![8, 1, 1, 8192]⟩
abbrev S1x72x256x1 : Shape := ⟨4, ![1, 72, 256, 1]⟩
abbrev S8x72x256x8192 : Shape := ⟨4, ![8, 72, 256, 8192]⟩
abbrev S_ : Shape := ⟨0, ![]⟩
abbrev S8x72x256x1024 : Shape := ⟨4, ![8, 72, 256, 1024]⟩
abbrev S8x72x256 : Shape := ⟨3, ![8, 72, 256]⟩
abbrev S1x8x1024x2816 : Shape := ⟨4, ![1, 8, 1024, 2816]⟩
abbrev S8x1024x2816 : Shape := ⟨3, ![8, 1024, 2816]⟩
abbrev S8x72x256x2816 : Shape := ⟨4, ![8, 72, 256, 2816]⟩
abbrev S8x72x256x1408 : Shape := ⟨4, ![8, 72, 256, 1408]⟩
abbrev S8x72x256x1 : Shape := ⟨4, ![8, 72, 256, 1]⟩
abbrev S1x8x1408x1024 : Shape := ⟨4, ![1, 8, 1408, 1024]⟩
abbrev S8x1408x1024 : Shape := ⟨3, ![8, 1408, 1024]⟩
abbrev S8 : Shape := ⟨1, ![8]⟩
abbrev S8x1 : Shape := ⟨2, ![8, 1]⟩
abbrev S8x72 : Shape := ⟨2, ![8, 72]⟩
abbrev S8x72x1x1 : Shape := ⟨4, ![8, 72, 1, 1]⟩
abbrev S72x256x1024 : Shape := ⟨3, ![72, 256, 1024]⟩
abbrev S18432x1024 : Shape := ⟨2, ![18432, 1024]⟩

abbrev nBuf : Space → Nat
  | .hbm => 85
  | .vmem => 0
  | .smem => 0
  | _ => 0

abbrev bufTy : (tb : Table) → Fin (tcTables nBuf tb) → BufTy
  | .hbm, ⟨0, _⟩ => ⟨S72, .i32⟩
  | .hbm, ⟨1, _⟩ => ⟨S4x72, .i32⟩
  | .hbm, ⟨2, _⟩ => ⟨S8192x1024, .bf16⟩
  | .hbm, ⟨3, _⟩ => ⟨S8x8192, .f32⟩
  | .hbm, ⟨4, _⟩ => ⟨S8x8192, .f32⟩
  | .hbm, ⟨5, _⟩ => ⟨S8x8192, .f32⟩
  | .hbm, ⟨6, _⟩ => ⟨S2x8x1024x2816, .f32⟩
  | .hbm, ⟨7, _⟩ => ⟨S2x8x1408x1024, .f32⟩
  | .hbm, ⟨8, _⟩ => ⟨S1x72, .i32⟩
  | .hbm, ⟨9, _⟩ => ⟨S72, .i32⟩
  | .hbm, ⟨10, _⟩ => ⟨S1x72, .i32⟩
  | .hbm, ⟨11, _⟩ => ⟨S72, .i32⟩
  | .hbm, ⟨12, _⟩ => ⟨S72, .f32⟩
  | .hbm, ⟨13, _⟩ => ⟨S72x1, .f32⟩
  | .hbm, ⟨14, _⟩ => ⟨S256, .i32⟩
  | .hbm, ⟨15, _⟩ => ⟨S256, .f32⟩
  | .hbm, ⟨16, _⟩ => ⟨S1x256, .f32⟩
  | .hbm, ⟨17, _⟩ => ⟨S72x256, .f32⟩
  | .hbm, ⟨18, _⟩ => ⟨S72x256, .f32⟩
  | .hbm, ⟨19, _⟩ => ⟨S72x256, .f32⟩
  | .hbm, ⟨20, _⟩ => ⟨S8x1x1x8192, .f32⟩
  | .hbm, ⟨21, _⟩ => ⟨S1x72x256x1, .f32⟩
  | .hbm, ⟨22, _⟩ => ⟨S8x72x256x8192, .f32⟩
  | .hbm, ⟨23, _⟩ => ⟨S8x72x256x8192, .f32⟩
  | .hbm, ⟨24, _⟩ => ⟨S8x72x256x8192, .i1⟩
  | .hbm, ⟨25, _⟩ => ⟨S8x1x1x8192, .f32⟩
  | .hbm, ⟨26, _⟩ => ⟨S_, .f32⟩
  | .hbm, ⟨27, _⟩ => ⟨S8x1x1x8192, .f32⟩
  | .hbm, ⟨28, _⟩ => ⟨S8x1x1x8192, .i1⟩
  | .hbm, ⟨29, _⟩ => ⟨S8x72x256x8192, .i1⟩
  | .hbm, ⟨30, _⟩ => ⟨S8x72x256x8192, .i1⟩
  | .hbm, ⟨31, _⟩ => ⟨S8x72x256x8192, .f32⟩
  | .hbm, ⟨32, _⟩ => ⟨S8192x1024, .f32⟩
  | .hbm, ⟨33, _⟩ => ⟨S8x72x256x1024, .f32⟩
  | .hbm, ⟨34, _⟩ => ⟨S8x1x1x8192, .f32⟩
  | .hbm, ⟨35, _⟩ => ⟨S_, .f32⟩
  | .hbm, ⟨36, _⟩ => ⟨S_, .f32⟩
  | .hbm, ⟨37, _⟩ => ⟨S8x72x256x8192, .f32⟩
  | .hbm, ⟨38, _⟩ => ⟨S8x72x256x8192, .f32⟩
  | .hbm, ⟨39, _⟩ => ⟨S8x72x256x8192, .f32⟩
  | .hbm, ⟨40, _⟩ => ⟨S_, .f32⟩
  | .hbm, ⟨41, _⟩ => ⟨S8x72x256, .f32⟩
  | .hbm, ⟨42, _⟩ => ⟨S1x8x1024x2816, .f32⟩
  | .hbm, ⟨43, _⟩ => ⟨S8x1024x2816, .f32⟩
  | .hbm, ⟨44, _⟩ => ⟨S8x72x256x2816, .f32⟩
  | .hbm, ⟨45, _⟩ => ⟨S8x72x256x1408, .f32⟩
  | .hbm, ⟨46, _⟩ => ⟨S8x72x256x1408, .f32⟩
  | .hbm, ⟨47, _⟩ => ⟨S8x72x256x1408, .f32⟩
  | .hbm, ⟨48, _⟩ => ⟨S8x72x256x1408, .f32⟩
  | .hbm, ⟨49, _⟩ => ⟨S_, .f32⟩
  | .hbm, ⟨50, _⟩ => ⟨S8x72x256x1408, .f32⟩
  | .hbm, ⟨51, _⟩ => ⟨S8x72x256x1408, .f32⟩
  | .hbm, ⟨52, _⟩ => ⟨S_, .f32⟩
  | .hbm, ⟨53, _⟩ => ⟨S8x72x256x1408, .f32⟩
  | .hbm, ⟨54, _⟩ => ⟨S8x72x256x1408, .f32⟩
  | .hbm, ⟨55, _⟩ => ⟨S8x72x256x1408, .f32⟩
  | .hbm, ⟨56, _⟩ => ⟨S8x72x256x1408, .f32⟩
  | .hbm, ⟨57, _⟩ => ⟨S8x72x256x1, .f32⟩
  | .hbm, ⟨58, _⟩ => ⟨S8x72x256x1408, .f32⟩
  | .hbm, ⟨59, _⟩ => ⟨S8x72x256x1408, .f32⟩
  | .hbm, ⟨60, _⟩ => ⟨S1x8x1408x1024, .f32⟩
  | .hbm, ⟨61, _⟩ => ⟨S8x1408x1024, .f32⟩
  | .hbm, ⟨62, _⟩ => ⟨S8x72x256x1024, .f32⟩
  | .hbm, ⟨63, _⟩ => ⟨S1x72, .i32⟩
  | .hbm, ⟨64, _⟩ => ⟨S8, .i32⟩
  | .hbm, ⟨65, _⟩ => ⟨S8x1, .i32⟩
  | .hbm, ⟨66, _⟩ => ⟨S8x72, .i32⟩
  | .hbm, ⟨67, _⟩ => ⟨S8x72, .i32⟩
  | .hbm, ⟨68, _⟩ => ⟨S8x72, .i1⟩
  | .hbm, ⟨69, _⟩ => ⟨S1x72, .i32⟩
  | .hbm, ⟨70, _⟩ => ⟨S_, .i32⟩
  | .hbm, ⟨71, _⟩ => ⟨S1x72, .i32⟩
  | .hbm, ⟨72, _⟩ => ⟨S1x72, .i1⟩
  | .hbm, ⟨73, _⟩ => ⟨S8x72, .i1⟩
  | .hbm, ⟨74, _⟩ => ⟨S8x72, .i1⟩
  | .hbm, ⟨75, _⟩ => ⟨S8x72x1x1, .i1⟩
  | .hbm, ⟨76, _⟩ => ⟨S_, .f32⟩
  | .hbm, ⟨77, _⟩ => ⟨S_, .f32⟩
  | .hbm, ⟨78, _⟩ => ⟨S8x72x256x1024, .i1⟩
  | .hbm, ⟨79, _⟩ => ⟨S8x72x256x1024, .f32⟩
  | .hbm, ⟨80, _⟩ => ⟨S8x72x256x1024, .f32⟩
  | .hbm, ⟨81, _⟩ => ⟨S_, .f32⟩
  | .hbm, ⟨82, _⟩ => ⟨S72x256x1024, .f32⟩
  | .hbm, ⟨83, _⟩ => ⟨S18432x1024, .f32⟩
  | .hbm, ⟨84, _⟩ => ⟨S18432x1024, .bf16⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_2 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v53 : Ref sig .tc := ⟨.hbm, 80, rfl⟩
abbrev main_cst_3 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]
-- ==== Kernel5.lean ====
abbrev S8192x1024 : Shape := ⟨2, ![8192, 1024]⟩
abbrev S4x8x6x1024 : Shape := ⟨4, ![4, 8, 6, 1024]⟩
abbrev S1024 : Shape := ⟨1, ![1024]⟩
abbrev S1x1024x3072 : Shape := ⟨3, ![1, 1024, 3072]⟩
abbrev S1x1024 : Shape := ⟨2, ![1, 1024]⟩
abbrev S8192x3072 : Shape := ⟨2, ![8192, 3072]⟩
abbrev S1024x1024 : Shape := ⟨2, ![1024, 1024]⟩
abbrev S1x8x6x1024 : Shape := ⟨4, ![1, 8, 6, 1024]⟩
abbrev S1x1024x1024 : Shape := ⟨3, ![1, 1024, 1024]⟩
abbrev S1x1x6x1024 : Shape := ⟨4, ![1, 1, 6, 1024]⟩
abbrev S6x1024 : Shape := ⟨2, ![6, 1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S4x8x6x1024, .f32⟩
  | .hbm, ⟨2, _⟩ => ⟨S1024, .f32⟩
  | .hbm, ⟨3, _⟩ => ⟨S1x1024x3072, .f32⟩
  | .hbm, ⟨4, _⟩ => ⟨S1x1024, .f32⟩
  | .hbm, ⟨5, _⟩ => ⟨S8192x3072, .bf16⟩
  | .local _ .vmem, ⟨0, _⟩ => ⟨S1024x1024, .f32⟩
  | .local _ .vmem, ⟨1, _⟩ => ⟨S1024x1024, .f32⟩
  | .local _ .vmem, ⟨2, _⟩ => ⟨S1x8x6x1024, .f32⟩
  | .local _ .vmem, ⟨3, _⟩ => ⟨S1x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8192x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 4 → Nat :=
  let c0_18 : Index := 0#32
  let arg1 : BitVec 32 := BitVec.ofNat 32 (i 1).val
  let c1024_i32_9 : BitVec 32 := 1024#32
  let v15 : BitVec 32 := Scalar.muli arg1 c1024_i32_9
  let c4096_i32 : BitVec 32 := 4096#32
  let v16 : BitVec 32 := Scalar.subi v15 c4096_i32
  let c0_i32_11 : BitVec 32 := 0#32
  let v18 : BitVec 1 := Scalar.cmpi .sgt v16 c0_i32_11
  let v19 : BitVec 32 := Scalar.extui v18
  let c0_i32_12 : BitVec 32 := 0#32
  let v20 : BitVec 1 := Scalar.cmpi .slt v16 c0_i32_12
  let v21 : BitVec 32 := Scalar.extui v20
  let v22 : BitVec 32 := Scalar.subi v19 v21
  let c1024_i32_10 : BitVec 32 := 1024#32
  let c0_i32_13 : BitVec 32 := 0#32
  let v23 : BitVec 1 := Scalar.cmpi .sgt c1024_i32_10 c0_i32_13
  let v24 : BitVec 32 := Scalar.extui v23
  let c0_i32_14 : BitVec 32 := 0#32
  let v25 : BitVec 1 := Scalar.cmpi .slt c1024_i32_10 c0_i32_14
  let v26 : BitVec 32 := Scalar.extui v25
  let v27 : BitVec 32 := Scalar.subi v24 v26
  let v28 : BitVec 1 := Scalar.cmpi .ne v22 v27
  let v29 : BitVec 32 := Scalar.remsi v16 c1024_i32_10
  let c0_i32_15 : BitVec 32 := 0#32
  let v30 : BitVec 1 := Scalar.cmpi .ne v29 c0_i32_15
  let v31 : BitVec 1 := Scalar.andi v28 v30
  let v17 : BitVec 32 := Scalar.divsi v16 c1024_i32_10
  let c1_i32 : BitVec 32 := 1#32
  let v32 : BitVec 32 := Scalar.subi v17 c1_i32
  let v33 : BitVec 32 := Scalar.select v31 v32 v17
  let c1_i32_16 : BitVec 32 := 1#32
  let v34 : BitVec 32 := Scalar.addi v33 c1_i32_16
  let c0_i32_17 : BitVec 32 := 0#32
  let v35 : BitVec 32 := Scalar.maxsi v34 c0_i32_17
  let v36 : Index := Scalar.indexCast v35
  let c0_19 : Index := 0#32
  let c0_20 : Index := 0#32
  ![0, v36.toNat, 0, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v62 : Index := Scalar.indexCast v1
  let c0_27 : Index := 0#32
  ![v62.toNat, 0]
def k0_off3 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v8 : Index := Scalar.indexCast v1
  let c0 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x1024 : Shape := ⟨2, ![8192, 1024]⟩
abbrev S4x8x6x1024 : Shape := ⟨4, ![4, 8, 6, 1024]⟩
abbrev S1024 : Shape := ⟨1, ![1024]⟩
abbrev S1x1024x3072 : Shape := ⟨3, ![1, 1024, 3072]⟩
abbrev S4096x1024 : Shape := ⟨2, ![4096, 1024]⟩
abbrev S16x256x1024 : Shape := ⟨3, ![16, 256, 1024]⟩
abbrev S4x1024x1024 : Shape := ⟨3, ![4, 1024, 1024]⟩
abbrev S1x1x6x1024 : Shape := ⟨4, ![1, 1, 6, 1024]⟩
abbrev S6x1024 : Shape := ⟨2, ![6, 1024]⟩
abbrev S1x4x6x1024 : Shape := ⟨4, ![1, 4, 6, 1024]⟩
abbrev S4x6x1024 : Shape := ⟨3, ![4, 6, 1024]⟩
abbrev S4x6x1x1024 : Shape := ⟨4, ![4, 6, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S4x1024 : Shape := ⟨2, ![4, 1024]⟩
abbrev S4x1024x1 : Shape := ⟨3, ![4, 1024, 1]⟩
abbrev S1024x3072 : Shape := ⟨2, ![1024, 3072]⟩
abbrev S8192x3072 : Shape := ⟨2, ![8192, 3072]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x8x6x1024, .f32⟩
  | .hbm, ⟨2, _⟩ => ⟨S1024, .f32⟩
  | .hbm, ⟨3, _⟩ => ⟨S1x1024x3072, .f32⟩
  | .hbm, ⟨4, _⟩ => ⟨S4096x1024, .f32⟩
  | .hbm, ⟨5, _⟩ => ⟨S16x256x1024, .f32⟩
  | .hbm, ⟨6, _⟩ => ⟨S4096x1024, .f32⟩
  | .hbm, ⟨7, _⟩ => ⟨S4x1024x1024, .f32⟩
  | .hbm, ⟨8, _⟩ => ⟨S1x1x6x1024, .f32⟩
  | .hbm, ⟨9, _⟩ => ⟨S6x1024, .f32⟩
  | .hbm, ⟨10, _⟩ => ⟨S1x4x6x1024, .f32⟩
  | .hbm, ⟨11, _⟩ => ⟨S4x6x1024, .f32⟩
  | .hbm, ⟨12, _⟩ => ⟨S4x6x1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S16x256x1024, .f32⟩
  | .hbm, ⟨18, _⟩ => ⟨S_, .f32⟩
  | .hbm, ⟨19, _⟩ => ⟨S16x256, .f32⟩
  | .hbm, ⟨20, _⟩ => ⟨S16x256x1, .f32⟩
  | .hbm, ⟨21, _⟩ => ⟨S_, .f32⟩
  | .hbm, ⟨22, _⟩ => ⟨S16x256x1, .f32⟩
  | .hbm, ⟨23, _⟩ => ⟨S16x256x1, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x1, .f32⟩
  | .hbm, ⟨28, _⟩ => ⟨S16x256x1024, .f32⟩
  | .hbm, ⟨29, _⟩ => ⟨S16x256x1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1x1024, .f32⟩
  | .hbm, ⟨37, _⟩ => ⟨S16x256x1024, .f32⟩
  | .hbm, ⟨38, _⟩ => ⟨S16x256x1024, .f32⟩
  | .hbm, ⟨39, _⟩ => ⟨S1x1x1024, .f32⟩
  | .hbm, ⟨40, _⟩ => ⟨S16x256x1024, .f32⟩
  | .hbm, ⟨41, _⟩ => ⟨S16x256x1024, .f32⟩
  | .hbm, ⟨42, _⟩ => ⟨S4x1x1x1024, .f32⟩
  | .hbm, ⟨43, _⟩ => ⟨S4x1x1024, .f32⟩
  | .hbm, ⟨44, _⟩ => ⟨S4x1x1x1024, .f32⟩
  | .hbm, ⟨45, _⟩ => ⟨S4x1x1024, .f32⟩
  | .hbm, ⟨46, _⟩ => ⟨S4x1024x1024, .f32⟩
  | .hbm, ⟨47, _⟩ => ⟨S_, .f32⟩
  | .hbm, ⟨48, _⟩ => ⟨S4x1024, .f32⟩
  | .hbm, ⟨49, _⟩ => ⟨S4x1024x1, .f32⟩
  | .hbm, ⟨50, _⟩ => ⟨S_, .f32⟩
  | .hbm, ⟨51, _⟩ => ⟨S4x1024x1, .f32⟩
  | .hbm, ⟨52, _⟩ => ⟨S4x1024x1, .f32⟩
  | .hbm, ⟨53, _⟩ => ⟨S_, .f32⟩
  | .hbm, ⟨54, _⟩ => ⟨S4x1024x1, .f32⟩
  | .hbm, ⟨55, _⟩ => ⟨S4x1024x1, .f32⟩
  | .hbm, ⟨56, _⟩ => ⟨S4x1024x1, .f32⟩
  | .hbm, ⟨57, _⟩ => ⟨S4x1024x1024, .f32⟩
  | .hbm, ⟨58, _⟩ => ⟨S4x1024x1024, .f32⟩
  | .hbm, ⟨59, _⟩ => ⟨S1x1x1024, .f32⟩
  | .hbm, ⟨60, _⟩ => ⟨S4x1024x1024, .f32⟩
  | .hbm, ⟨61, _⟩ => ⟨S4x1024x1024, .f32⟩
  | .hbm, ⟨62, _⟩ => ⟨S_, .f32⟩
  | .hbm, ⟨63, _⟩ => ⟨S4x1x1024, .f32⟩
  | .hbm, ⟨64, _⟩ => ⟨S4x1x1024, .f32⟩
  | .hbm, ⟨65, _⟩ => ⟨S4x1024x1024, .f32⟩
  | .hbm, ⟨66, _⟩ => ⟨S4x1024x1024, .f32⟩
  | .hbm, ⟨67, _⟩ => ⟨S4x1024x1024, .f32⟩
  | .hbm, ⟨68, _⟩ => ⟨S4x1024x1024, .f32⟩
  | .hbm, ⟨69, _⟩ => ⟨S4096x1024, .f32⟩
  | .hbm, ⟨70, _⟩ => ⟨S4096x1024, .f32⟩
  | .hbm, ⟨71, _⟩ => ⟨S8192x1024, .f32⟩
  | .hbm, ⟨72, _⟩ => ⟨S1024x3072, .f32⟩
  | .hbm, ⟨73, _⟩ => ⟨S8192x3072, .f32⟩
  | .hbm, ⟨74, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩

abbrev nD : Nat := 1
abbrev τ : Topo := Topo.v7x

variable {F : FTy → Type} [FloatOps F]
-- ==== Kernel6.lean ====
abbrev S8192x1024 : Shape := ⟨2, ![8192, 1024]⟩
abbrev S4x8x6x1024 : Shape := ⟨4, ![4, 8, 6, 1024]⟩
abbrev S1024 : Shape := ⟨1, ![1024]⟩
abbrev S2x1024x4096 : Shape := ⟨3, ![2, 1024, 4096]⟩
abbrev S2x1024x32 : Shape := ⟨3, ![2, 1024, 32]⟩
abbrev S1x1024x32 : Shape := ⟨3, ![1, 1024, 32]⟩
abbrev S1024x32 : Shape := ⟨2, ![1024, 32]⟩
abbrev S32x1024 : Shape := ⟨2, ![32, 1024]⟩
abbrev S2x2x8x1024 : Shape := ⟨4, ![2, 2, 8, 1024]⟩
abbrev S8x2x2x1024 : Shape := ⟨4, ![8, 2, 2, 1024]⟩
abbrev S8x4x1024 : Shape := ⟨3, ![8, 4, 1024]⟩
abbrev S_ : Shape := ⟨0, ![]⟩
abbrev S8x8x1024 : Shape := ⟨3, ![8, 8, 1024]⟩
abbrev S64x1024 : Shape := ⟨2, ![64, 1024]⟩
abbrev S1x1024 : Shape := ⟨2, ![1, 1024]⟩
abbrev S8192x4096 : Shape := ⟨2, ![8192, 4096]⟩
abbrev S64x8192 : Shape := ⟨2, ![64, 8192]⟩
abbrev S1024x1024 : Shape := ⟨2, ![1024, 1024]⟩
abbrev S1x8x6x1024 : Shape := ⟨4, ![1, 8, 6, 1024]⟩
abbrev S1x1024x1024 : Shape := ⟨3, ![1, 1024, 1024]⟩
abbrev S1x1x6x1024 : Shape := ⟨4, ![1, 1, 6, 1024]⟩
abbrev S6x1024 : Shape := ⟨2, ![6, 1024]⟩
abbrev S1024x1 : Shape := ⟨2, ![1024, 1]⟩

abbrev nBuf : Space → Nat
  | .hbm => 19
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S4x8x6x1024, .f32⟩
  | .hbm, ⟨2, _⟩ => ⟨S1024, .f32⟩
  | .hbm, ⟨3, _⟩ => ⟨S2x1024x4096, .f32⟩
  | .hbm, ⟨4, _⟩ => ⟨S2x1024x32, .f32⟩
  | .hbm, ⟨5, _⟩ => ⟨S1x1024x32, .f32⟩
  | .hbm, ⟨6, _⟩ => ⟨S1024x32, .f32⟩
  | .hbm, ⟨7, _⟩ => ⟨S32x1024, .f32⟩
  | .hbm, ⟨8, _⟩ => ⟨S2x2x8x1024, .f32⟩
  | .hbm, ⟨9, _⟩ => ⟨S8x2x2x1024, .f32⟩
  | .hbm, ⟨10, _⟩ => ⟨S8x4x1024, .f32⟩
  | .hbm, ⟨11, _⟩ => ⟨S_, .i32⟩
  | .hbm, ⟨12, _⟩ => ⟨S_, .f32⟩
  | .hbm, ⟨13, _⟩ => ⟨S8x8x1024, .f32⟩
  | .hbm, ⟨14, _⟩ => ⟨S64x1024, .f32⟩
  | .hbm, ⟨15, _⟩ => ⟨S64x1024, .bf16⟩
  | .hbm, ⟨16, _⟩ => ⟨S1x1024, .f32⟩
  | .hbm, ⟨17, _⟩ => ⟨S8192x4096, .bf16⟩
  | .hbm, ⟨18, _⟩ => ⟨S64x8192, .f32⟩
  | .local _ .vmem, ⟨0, _⟩ => ⟨S1024x1024, .f32⟩
  | .local _ .vmem, ⟨1, _⟩ => ⟨S1024x1024, .f32⟩
  | .local _ .vmem, ⟨2, _⟩ => ⟨S1x8x6x1024, .f32⟩
  | .local _ .vmem, ⟨3, _⟩ => ⟨S1x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S64x1024, .bf16⟩
  | .local _ .vmem, ⟨7, _⟩ => ⟨S1024x1024, .bf16⟩
  | .local _ .vmem, ⟨8, _⟩ => ⟨S1024x1024, .bf16⟩
  | .local _ .vmem, ⟨9, _⟩ => ⟨S64x1024, .f32⟩
  | .local _ .vmem, ⟨10, _⟩ => ⟨S64x1024, .f32⟩
  | .local _ .vmem, ⟨11, _⟩ => ⟨S8192x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 4 → Nat :=
  let c0_18 : Index := 0#32
  let arg1 : BitVec 32 := BitVec.ofNat 32 (i 1).val
  let c1024_i32_9 : BitVec 32 := 1024#32
  let v15 : BitVec 32 := Scalar.muli arg1 c1024_i32_9
  let c4096_i32 : BitVec 32 := 4096#32
  let v16 : BitVec 32 := Scalar.subi v15 c4096_i32
  let c0_i32_11 : BitVec 32 := 0#32
  let v18 : BitVec 1 := Scalar.cmpi .sgt v16 c0_i32_11
  let v19 : BitVec 32 := Scalar.extui v18
  let c0_i32_12 : BitVec 32 := 0#32
  let v20 : BitVec 1 := Scalar.cmpi .slt v16 c0_i32_12
  let v21 : BitVec 32 := Scalar.extui v20
  let v22 : BitVec 32 := Scalar.subi v19 v21
  let c1024_i32_10 : BitVec 32 := 1024#32
  let c0_i32_13 : BitVec 32 := 0#32
  let v23 : BitVec 1 := Scalar.cmpi .sgt c1024_i32_10 c0_i32_13
  let v24 : BitVec 32 := Scalar.extui v23
  let c0_i32_14 : BitVec 32 := 0#32
  let v25 : BitVec 1 := Scalar.cmpi .slt c1024_i32_10 c0_i32_14
  let v26 : BitVec 32 := Scalar.extui v25
  let v27 : BitVec 32 := Scalar.subi v24 v26
  let v28 : BitVec 1 := Scalar.cmpi .ne v22 v27
  let v29 : BitVec 32 := Scalar.remsi v16 c1024_i32_10
  let c0_i32_15 : BitVec 32 := 0#32
  let v30 : BitVec 1 := Scalar.cmpi .ne v29 c0_i32_15
  let v31 : BitVec 1 := Scalar.andi v28 v30
  let v17 : BitVec 32 := Scalar.divsi v16 c1024_i32_10
  let c1_i32 : BitVec 32 := 1#32
  let v32 : BitVec 32 := Scalar.subi v17 c1_i32
  let v33 : BitVec 32 := Scalar.select v31 v32 v17
  let c1_i32_16 : BitVec 32 := 1#32
  let v34 : BitVec 32 := Scalar.addi v33 c1_i32_16
  let c0_i32_17 : BitVec 32 := 0#32
  let v35 : BitVec 32 := Scalar.maxsi v34 c0_i32_17
  let v36 : Index := Scalar.indexCast v35
  let c0_19 : Index := 0#32
  let c0_20 : Index := 0#32
  ![0, v36.toNat, 0, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v62 : Index := Scalar.indexCast v1
  let c0_27 : Index := 0#32
  ![v62.toNat, 0]
def k0_off3 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v8 : Index := Scalar.indexCast v1
  let c0 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8192x1024 : Shape := ⟨2, ![8192, 1024]⟩
abbrev S4x8x6x1024 : Shape := ⟨4, ![4, 8, 6, 1024]⟩
abbrev S1024 : Shape := ⟨1, ![1024]⟩
abbrev S2x1024x4096 : Shape := ⟨3, ![2, 1024, 4096]⟩
abbrev S2x1024x32 : Shape := ⟨3, ![2, 1024, 32]⟩
abbrev S4096x1024 : Shape := ⟨2, ![4096, 1024]⟩
abbrev S16x256x1024 : Shape := ⟨3, ![16, 256, 1024]⟩
abbrev S4x1024x1024 : Shape := ⟨3, ![4, 1024, 1024]⟩
abbrev S1x1x6x1024 : Shape := ⟨4, ![1, 1, 6, 1024]⟩
abbrev S6x1024 : Shape := ⟨2, ![6, 1024]⟩
abbrev S1x4x6x1024 : Shape := ⟨4, ![1, 4, 6, 1024]⟩
abbrev S4x6x1024 : Shape := ⟨3, ![4, 6, 1024]⟩
abbrev S4x6x1x1024 : Shape := ⟨4, ![4, 6, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S4x1024 : Shape := ⟨2, ![4, 1024]⟩
abbrev S4x1024x1 : Shape := ⟨3, ![4, 1024, 1]⟩
abbrev S1x1024x32 : Shape := ⟨3, ![1, 1024, 32]⟩
abbrev S1024x32 : Shape := ⟨2, ![1024, 32]⟩
abbrev S8192x32 : Shape := ⟨2, ![8192, 32]⟩
abbrev S32x8192 : Shape := ⟨2, ![32, 8192]⟩
abbrev S2x2x8x8192 : Shape := ⟨4, ![2, 2, 8, 8192]⟩
abbrev S8x2x2x8192 : Shape := ⟨4, ![8, 2, 2, 8192]⟩
abbrev S8x4x8192 : Shape := ⟨3, ![8, 4, 8192]⟩
abbrev S8x8x8192 : Shape := ⟨3, ![8, 8, 8192]⟩
abbrev S1x1024x4096 : Shape := ⟨3, ![1, 1024, 4096]⟩
abbrev S1024x4096 : Shape := ⟨2, ![1024, 4096]⟩
abbrev S8192x4096 : Shape := ⟨2, ![8192, 4096]⟩
abbrev S64x8192 : Shape := ⟨2, ![64, 8192]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x8x6x1024, .f32⟩
  | .hbm, ⟨2, _⟩ => ⟨S1024, .f32⟩
  | .hbm, ⟨3, _⟩ => ⟨S2x1024x4096, .f32⟩
  | .hbm, ⟨4, _⟩ => ⟨S2x1024x32, .f32⟩
  | .hbm, ⟨5, _⟩ => ⟨S4096x1024, .f32⟩
  | .hbm, ⟨6, _⟩ => ⟨S16x256x1024, .f32⟩
  | .hbm, ⟨7, _⟩ => ⟨S4096x1024, .f32⟩
  | .hbm, ⟨8, _⟩ => ⟨S4x1024x1024, .f32⟩
  | .hbm, ⟨9, _⟩ => ⟨S1x1x6x1024, .f32⟩
  | .hbm, ⟨10, _⟩ => ⟨S6x1024, .f32⟩
  | .hbm, ⟨11, _⟩ => ⟨S1x4x6x1024, .f32⟩
  | .hbm, ⟨12, _⟩ => ⟨S4x6x1024, .f32⟩
  | .hbm, ⟨13, _⟩ => ⟨S4x6x1x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S16x256x1024, .f32⟩
  | .hbm, ⟨19, _⟩ => ⟨S_, .f32⟩
  | .hbm, ⟨20, _⟩ => ⟨S16x256, .f32⟩
  | .hbm, ⟨21, _⟩ => ⟨S16x256x1, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S_, .f32⟩
  | .hbm, ⟨26, _⟩ => ⟨S16x256x1, .f32⟩
  | .hbm, ⟨27, _⟩ => ⟨S16x256x1, .f32⟩
  | .hbm, ⟨28, _⟩ => ⟨S16x256x1, .f32⟩
  | .hbm, ⟨29, _⟩ => ⟨S16x256x1024, .f32⟩
  | .hbm, ⟨30, _⟩ => ⟨S16x256x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1x1024, .f32⟩
  | .hbm, ⟨38, _⟩ => ⟨S16x256x1024, .f32⟩
  | .hbm, ⟨39, _⟩ => ⟨S16x256x1024, .f32⟩
  | .hbm, ⟨40, _⟩ => ⟨S1x1x1024, .f32⟩
  | .hbm, ⟨41, _⟩ => ⟨S16x256x1024, .f32⟩
  | .hbm, ⟨42, _⟩ => ⟨S16x256x1024, .f32⟩
  | .hbm, ⟨43, _⟩ => ⟨S4x1x1x1024, .f32⟩
  | .hbm, ⟨44, _⟩ => ⟨S4x1x1024, .f32⟩
  | .hbm, ⟨45, _⟩ => ⟨S4x1x1x1024, .f32⟩
  | .hbm, ⟨46, _⟩ => ⟨S4x1x1024, .f32⟩
  | .hbm, ⟨47, _⟩ => ⟨S4x1024x1024, .f32⟩
  | .hbm, ⟨48, _⟩ => ⟨S_, .f32⟩
  | .hbm, ⟨49, _⟩ => ⟨S4x1024, .f32⟩
  | .hbm, ⟨50, _⟩ => ⟨S4x1024x1, .f32⟩
  | .hbm, ⟨51, _⟩ => ⟨S_, .f32⟩
  | .hbm, ⟨52, _⟩ => ⟨S4x1024x1, .f32⟩
  | .hbm, ⟨53, _⟩ => ⟨S4x1024x1, .f32⟩
  | .hbm, ⟨54, _⟩ => ⟨S_, .f32⟩
  | .hbm, ⟨55, _⟩ => ⟨S4x1024x1, .f32⟩
  | .hbm, ⟨56, _⟩ => ⟨S4x1024x1, .f32⟩
  | .hbm, ⟨57, _⟩ => ⟨S4x1024x1, .f32⟩
  | .hbm, ⟨58, _⟩ => ⟨S4x1024x1024, .f32⟩
  | .hbm, ⟨59, _⟩ => ⟨S4x1024x1024, .f32⟩
  | .hbm, ⟨60, _⟩ => ⟨S1x1x1024, .f32⟩
  | .hbm, ⟨61, _⟩ => ⟨S4x1024x1024, .f32⟩
  | .hbm, ⟨62, _⟩ => ⟨S4x1024x1024, .f32⟩
  | .hbm, ⟨63, _⟩ => ⟨S_, .f32⟩
  | .hbm, ⟨64, _⟩ => ⟨S4x1x1024, .f32⟩
  | .hbm, ⟨65, _⟩ => ⟨S4x1x1024, .f32⟩
  | .hbm, ⟨66, _⟩ => ⟨S4x1024x1024, .f32⟩
  | .hbm, ⟨67, _⟩ => ⟨S4x1024x1024, .f32⟩
  | .hbm, ⟨68, _⟩ => ⟨S4x1024x1024, .f32⟩
  | .hbm, ⟨69, _⟩ => ⟨S4x1024x1024, .f32⟩
  | .hbm, ⟨70, _⟩ => ⟨S4096x1024, .f32⟩
  | .hbm, ⟨71, _⟩ => ⟨S4096x1024, .f32⟩
  | .hbm, ⟨72, _⟩ => ⟨S8192x1024, .f32⟩
  | .hbm, ⟨73, _⟩ => ⟨S1x1024x32, .f32⟩
  | .hbm, ⟨74, _⟩ => ⟨S1024x32, .f32⟩
  | .hbm, ⟨75, _⟩ => ⟨S8192x32, .f32⟩
  | .hbm, ⟨76, _⟩ => ⟨S32x8192, .f32⟩
  | .hbm, ⟨77, _⟩ => ⟨S2x2x8x8192, .f32⟩
  | .hbm, ⟨78, _⟩ => ⟨S8x2x2x8192, .f32⟩
  | .hbm, ⟨79, _⟩ => ⟨S8x4x8192, .f32⟩
  | .hbm, ⟨80, _⟩ => ⟨S_, .i32⟩
  | .hbm, ⟨81, _⟩ => ⟨S_, .f32⟩
  | .hbm, ⟨82, _⟩ => ⟨S8x8x8192, .f32⟩
  | .hbm, ⟨83, _⟩ => ⟨S1x1024x4096, .f32⟩
  | .hbm, ⟨84, _⟩ => ⟨S1024x4096, .f32⟩
  | .hbm, ⟨85, _⟩ => ⟨S8192x4096, .f32⟩
  | .hbm, ⟨86, _⟩ => ⟨S8192x4096, .bf16⟩
  | .hbm, ⟨87, _⟩ => ⟨S64x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_c : Ref sig .tc := ⟨.hbm, 80, rfl⟩
abbrev main_call0_v0 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩

abbrev nD : Nat := 1
abbrev τ : Topo := Topo.v7x

variable {F : FTy → Type} [FloatOps F]
-- ==== Proof.RealAttn.lean ====
/- Attention over the real numbers, and the extended reals' operations on real values. -/
module

public import Idealize.ShloMosaic.PureOps.Ideal
public import Idealize.ShloMosaic.Lib.IdealHost
public import Idealize.ShloMosaic.Lib.Pointwise

@[expose] public section

set_option maxRecDepth 16384

noncomputable section

namespace Cert.RealAttn

open Idealize.ShloMosaic

/-- The norms' epsilon: the number the single-precision literal 1e-6 stands for. -/
def eps : ℝ := (Ideal.ofBits .f32 0x358637BD#32).toReal

theorem eps_word : Ideal.ofBits .f32 0x358637BD#32 = ((8796093 / 8796093022208 : ℝ) : EReal) := by
  simp [Ideal.ofBits, Ideal.ieee, -EReal.coe_mul]; norm_num

theorem word_eps : Ideal.ofBits .f32 0x358637BD#32 = (eps : EReal) := by
  rw [eps, eps_word, EReal.toReal_coe]

theorem eps_pos : 0 < eps := by
  rw [eps, eps_word, EReal.toReal_coe]; norm_num

theorem word_sixtyfourth : Ideal.ofBits .f32 0x3C800000#32 = ((1 / 64 : ℝ) : EReal) := by
  simp [Ideal.ofBits, Ideal.ieee, -EReal.coe_mul]; norm_num

theorem word_sixtyfour : Ideal.ofBits .f32 0x42800000#32 = ((64 : ℝ) : EReal) := by
  simp [Ideal.ofBits, Ideal.ieee, -EReal.coe_mul]; norm_num

theorem word_eighth : Ideal.ofBits .f32 0x3E000000#32 = ((1 / 8 : ℝ) : EReal) := by
  simp [Ideal.ofBits, Ideal.ieee, -EReal.coe_mul]; norm_num

theorem word_bottom : Ideal.ofBits .f32 0xFF800000#32 = (⊥ : EReal) := by
  simp [Ideal.ofBits, Ideal.ieee]

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The greatest of a row of real numbers. -/
def top {n : ℕ} (f : Fin n → ℝ) : ℝ := (Finset.fold max (⊥ : EReal) (fun j => (f j : EReal)) Finset.univ).toReal

theorem fold_top {n : ℕ} [NeZero n] (f : Fin n → ℝ) : Finset.fold max (⊥ : EReal) (fun j => (f j : EReal)) Finset.univ = (top f : EReal) := by
  have h : ∀ s : Finset (Fin n), s.Nonempty → ∃ r : ℝ, Finset.fold max (⊥ : EReal) (fun j => (f j : EReal)) s = (r : EReal) := by
    intro s hs
    induction hs using Finset.Nonempty.cons_induction with
    | singleton a => exact ⟨f a, by simp⟩
    | cons a s ha hs ih =>
      obtain ⟨r, hr⟩ := ih
      exact ⟨max (f a) r, by rw [Finset.fold_cons, hr]; exact (EReal.coe_strictMono.monotone.map_max).symm⟩
  obtain ⟨r, hr⟩ := h Finset.univ ⟨0, Finset.mem_univ _⟩
  rw [top, hr, EReal.toReal_coe]

/-- One head's row divided by the root of its mean square (plus epsilon) and scaled. -/
def nrm (x g : Fin 64 → ℝ) (d : Fin 64) : ℝ := x d * (Real.sqrt ((∑ e, x e * x e) * (1 / 64) + eps))⁻¹ * g d

theorem rsqrt_mean (x : Fin 64 → ℝ) :
    Ideal.rsqrt (((∑ e, x e * x e : ℝ) : EReal) * ((1 / 64 : ℝ) : EReal) + (eps : EReal)) = (((Real.sqrt ((∑ e, x e * x e) * (1 / 64) + eps))⁻¹ : ℝ) : EReal) := by
  have h : 0 < (∑ e, x e * x e) * (1 / 64) + eps :=
    add_pos_of_nonneg_of_pos (mul_nonneg (Finset.sum_nonneg fun e _ => mul_self_nonneg _) (by norm_num)) eps_pos
  rw [← EReal.coe_mul, ← EReal.coe_add, Ideal.rsqrt_coe, if_neg (not_lt.mpr h.le), if_neg h.ne']

/-- The scores of one query against the keys, and their weights before they are divided by their sum. -/
def score {n : ℕ} (q : Fin 64 → ℝ) (k : Fin n → Fin 64 → ℝ) (j : Fin n) : ℝ := (∑ d, q d * k j d) * (1 / 8)
def wgt {n : ℕ} (s : Fin n → ℝ) (j : Fin n) : ℝ := Real.exp (s j - top s)

/-- The weighted mean of the values. -/
def mean {n : ℕ} (w v : Fin n → ℝ) : ℝ := (∑ j, w j * v j) / ∑ j, w j

theorem wgt_sum_pos {n : ℕ} [NeZero n] (s : Fin n → ℝ) : 0 < ∑ j, wgt s j :=
  Finset.sum_pos (fun j _ => Real.exp_pos _) ⟨0, Finset.mem_univ _⟩

theorem exp_sub_top {n : ℕ} [NeZero n] (s : Fin n → ℝ) (j : Fin n) :
    Ideal.exp ((s j : EReal) - Finset.fold max (⊥ : EReal) (fun j => (s j : EReal)) Finset.univ) = (wgt s j : EReal) := by
  rw [fold_top, ← EReal.coe_sub, Ideal.exp_coe]; rfl

/-- The sums divided once. -/
theorem quot_sums {n : ℕ} (w v : Fin n → ℝ) (h : 0 < ∑ j, w j) :
    Ideal.div (∑ j, (w j : EReal) * (v j : EReal)) (∑ j, (w j : EReal) * 1) = (mean w v : EReal) := by
  simp only [mul_one, ← EReal.coe_mul]
  rw [coe_sum, coe_sum, Ideal.div_coe h.ne', ← EReal.coe_mul, mean, ← div_eq_mul_one_div]

/-- Every weight divided first. -/
theorem sum_quots {n : ℕ} (w v : Fin n → ℝ) (h : 0 < ∑ j, w j) :
    (∑ j, Ideal.div (w j : EReal) (∑ i, (w i : EReal)) * (v j : EReal)) = (mean w v : EReal) := by
  rw [coe_sum]
  simp only [Ideal.div_coe h.ne', ← EReal.coe_mul]
  rw [coe_sum, mean, Finset.sum_div]
  congr 1
  exact Finset.sum_congr rfl fun j _ => by ring

/-- The score scale taken into the query. -/
theorem score_scaled {n : ℕ} (q : Fin 64 → ℝ) (k : Fin n → Fin 64 → ℝ) (j : Fin n) :
    (∑ d, ((q d * (1 / 8) : ℝ) : EReal) * (k j d : EReal)) = (score q k j : EReal) := by
  simp only [← EReal.coe_mul]
  rw [coe_sum, score, Finset.sum_mul]
  congr 1
  exact Finset.sum_congr rfl fun d _ => by ring

theorem score_after {n : ℕ} (q : Fin 64 → ℝ) (k : Fin n → Fin 64 → ℝ) (j : Fin n) :
    (∑ d, (q d : EReal) * (k j d : EReal)) * ((1 / 8 : ℝ) : EReal) = (score q k j : EReal) := by
  simp only [← EReal.coe_mul]
  rw [coe_sum, score, ← EReal.coe_mul]

/-- Of 128 lanes the 64 of one half. -/
def lane (c : ℕ) (hc : c < 128) (d : Fin 64) : Fin 128 := ⟨c / 64 * 64 + d, by omega⟩

theorem sum_half (f : Fin 128 → ℝ) (c : Fin 128) :
    (∑ k : Fin 128, (f k : EReal) * (if (k : ℕ) / 64 = (c : ℕ) / 64 then 1 else 0)) = ((∑ d, f (lane c c.isLt d) : ℝ) : EReal) := by
  have e : ∀ k : Fin 128, (f k : EReal) * (if (k : ℕ) / 64 = (c : ℕ) / 64 then 1 else 0) = ((if (k : ℕ) / 64 = (c : ℕ) / 64 then f k else 0 : ℝ) : EReal) := by
    intro k; split <;> simp
  rw [Finset.sum_congr rfl fun k _ => e k, coe_sum]
  congr 1
  refine (Fin.sum_univ_add (a := 64) (b := 64) fun k : Fin 128 => if (k : ℕ) / 64 = (c : ℕ) / 64 then f k else 0).trans ?_
  by_cases h : (c : ℕ) < 64
  · have e0 : ∀ d : Fin 64, (if ((Fin.castAdd 64 d : Fin 128) : ℕ) / 64 = (c : ℕ) / 64 then f (Fin.castAdd 64 d) else 0) = f (lane c c.isLt d) := fun d => by
      rw [if_pos (by rw [Fin.val_castAdd]; omega)]
      congr 1; ext; rw [Fin.val_castAdd]; simp only [lane]; omega
    have e1 : ∀ d : Fin 64, (if ((Fin.natAdd 64 d : Fin 128) : ℕ) / 64 = (c : ℕ) / 64 then f (Fin.natAdd 64 d) else 0) = 0 := fun d => by
      rw [if_neg (by rw [Fin.val_natAdd]; omega)]
    rw [Finset.sum_congr rfl fun d _ => e0 d, Finset.sum_congr rfl fun d _ => e1 d, Finset.sum_const_zero, add_zero]
  · have e0 : ∀ d : Fin 64, (if ((Fin.castAdd 64 d : Fin 128) : ℕ) / 64 = (c : ℕ) / 64 then f (Fin.castAdd 64 d) else 0) = 0 := fun d => by
      rw [if_neg (by rw [Fin.val_castAdd]; omega)]
    have e1 : ∀ d : Fin 64, (if ((Fin.natAdd 64 d : Fin 128) : ℕ) / 64 = (c : ℕ) / 64 then f (Fin.natAdd 64 d) else 0) = f (lane c c.isLt d) := fun d => by
      rw [if_pos (by rw [Fin.val_natAdd]; omega)]
      congr 1; ext; rw [Fin.val_natAdd]; simp only [lane]; omega
    rw [Finset.sum_congr rfl fun d _ => e0 d, Finset.sum_congr rfl fun d _ => e1 d, Finset.sum_const_zero, zero_add]

end Cert.RealAttn

end
-- ==== Proof.CtxWords.lean ====
/- The context attention's values over any float type: one pair of heads (128 lanes), whole. -/
module

public import proofs.«01_k».proof.Proof.Gen.KernelIdeal.Frame

@[expose] public section

set_option maxRecDepth 16384

noncomputable section

namespace Cert.KernelIdeal.Ctx

open Cert.KernelIdeal Cert.KernelIdeal.Gen Idealize.ShloMosaic Idealize.ShloMosaic.TcCoe Idealize.SL.Sem

variable {F : FTy → Type} [FloatOps F]

/-- The half (0 or 1) of a lane number below 128, as the printed floor division by 64 spells it. -/
def halfOf (v4 : IVec S128x128 32) : IVec S128x128 32 :=
  have v6 : IVec S128x128 32 := divsi v4 (broadcast S128x128 64#32)
  have v13 : IVec S128x128 32 := subi (extui 32 (cmpi .sgt v4 (broadcast S128x128 0#32)) natLt_1_32) (extui 32 (cmpi .slt v4 (broadcast S128x128 0#32)) natLt_1_32)
  have v18 : BitVec 32 := Scalar.subi (Scalar.extui (Scalar.cmpi .sgt 64#32 0#32)) (Scalar.extui (Scalar.cmpi .slt 64#32 0#32))
  have v20 : IVec S128x128 1 := cmpi .ne v13 (broadcast S128x128 v18)
  have v24 : IVec S128x128 1 := cmpi .ne (remsi v4 (broadcast S128x128 64#32)) (broadcast S128x128 0#32)
  select (andi v20 v24) (subi v6 (broadcast S128x128 1#32)) v6

/-- One where row and column lie in the same half, zero elsewhere. -/
def sameHead : FVec F S128x128 .bf16 :=
  truncf .bf16 (select (cmpi .eq (halfOf (iota .tc S128x128 32 [0] iota_S128x128_d0_w32)) (halfOf (iota .tc S128x128 32 [1] iota_S128x128_d1_w32)))
    (broadcast S128x128 (Scalar.ofBits .f32 0x3F800000#32 : F .f32)) (broadcast S128x128 (Scalar.ofBits .f32 0x00000000#32 : F .f32))) bitsLt_bf16_f32

/-- The sum of squares over the lane's own half, from the squares' high and low parts. -/
def sumSq (v1 : FVec F S256x128 .f32) : FVec F S256x128 .f32 :=
  have v59 : FVec F S256x128 .f32 := mulf v1 v1
  have v60 : FVec F S256x128 .bf16 := truncf .bf16 v59 bitsLt_bf16_f32
  have v63 : FVec F S256x128 .bf16 := truncf .bf16 (subf v59 (extf .f32 v60 bitsLt_bf16_f32)) bitsLt_bf16_f32
  addf (matmul dot_S256x128_S128x128_S256x128_1_0_0_1_n_n none v60 sameHead (constant S256x128 .f32 0x00000000#32))
    (matmul dot_S256x128_S128x128_S256x128_1_0_0_1_n_n none v63 sameHead (constant S256x128 .f32 0x00000000#32))

/-- A pair of heads normed by its own mean square, scaled by the norm's scale repeated for both heads. -/
def rmsPair (x : Vec F S256x128 .bf16) (g : Vec F S1x64 .f32) : FVec F S256x128 .f32 :=
  have v1 : FVec F S256x128 .f32 := extf .f32 x bitsLt_bf16_f32
  have v3 : FVec F S1x64 .f32 := shapeCast S1x64 g shapeCasts_S1x64_S1x64
  have v68 : FVec F S256x128 .f32 := mulf (sumSq v1) (broadcast S256x128 (Scalar.ofBits .f32 0x3C800000#32 : F .f32))
  have v70 : FVec F S256x128 .f32 := addf v68 (broadcast S256x128 (Scalar.ofBits .f32 0x358637BD#32 : F .f32))
  have v72 : FVec F S256x128 .f32 := mulf v1 (rsqrt v70)
  have v73 : FVec F S1x128 .f32 := concatenate S1x128 1 [⟨S1x64, v3⟩, ⟨S1x64, v3⟩] concatenates_S1x64_S1x64_S1x128_d1
  mulf v72 (broadcastTo S256x128 v73 broadcasts_S1x128_S256x128)

/-- The normed queries times the score scale. -/
def qPair (x : Vec F S256x128 .bf16) (g : Vec F S1x64 .f32) : FVec F S256x128 .bf16 :=
  truncf .bf16 (mulf (rmsPair x g) (broadcast S256x128 (Scalar.ofBits .f32 0x3E000000#32 : F .f32))) bitsLt_bf16_f32

/-- The first, the second head of a pair. -/
def left {φ : FTy} (x : FVec F S256x128 φ) : FVec F S256x64 φ := extractStridedSlice S256x64 ![0, 0] x slices_S256x128_o0_0_S256x64
def right {φ : FTy} (x : FVec F S256x128 φ) : FVec F S256x64 φ := extractStridedSlice S256x64 ![0, 64] x slices_S256x128_o0_64_S256x64

/-- The weights of one head before they are divided by their sum. -/
def weights (q : FVec F S256x64 .bf16) (k : FVec F S256x64 .f32) : FVec F S256x256 .bf16 :=
  have s : FVec F S256x256 .f32 := matmul dot_S256x64_S256x64_S256x256_1_1_0_0_n_n none q (truncf .bf16 k bitsLt_bf16_f32) (constant S256x256 .f32 0x00000000#32)
  have v1545 : FVec F S256 .f32 := multiReduction .maximumf [1] S256 s 0xFF800000#32 reduces_S256x256_S256 (.inl rfl) rfl
  have v1547 : FVec F S256x256 .f32 := broadcastTo S256x256 (shapeCast S256x1 v1545 shapeCasts_S256_S256x1) broadcasts_S256x1_S256x256
  exp (truncf .bf16 (subf s v1547) bitsLt_bf16_f32)

/-- The lanes of the first head, of the second head. -/
def lane0 : IVec S1x128 1 := cmpi .slt (iota .tc S1x128 32 [1] iota_S1x128_d1_w32) (broadcast S1x128 64#32)
def lane1 : IVec S1x128 1 := cmpi .sge (iota .tc S1x128 32 [1] iota_S1x128_d1_w32) (broadcast S1x128 64#32)

/-- The values in the chosen lanes, ones in the others. -/
def onesElse (l : IVec S1x128 1) (v : Vec F S256x128 .bf16) : Vec F S256x128 .bf16 :=
  select (broadcastTo S256x128 (shapeCast S1x128 l shapeCasts_S1x128_S1x128) broadcasts_S1x128_S256x128) v
    (broadcast S256x128 (Scalar.ofBits .bf16 0x3F80#16 : F .bf16))

/-- Weighted sums over weights' sums: the two lie 64 lanes apart in one product. -/
def quot (p : FVec F S256x256 .bf16) (v : Vec F S256x128 .bf16) : FVec F S256x128 .f32 :=
  have o : FVec F S256x128 .f32 := matmul dot_S256x256_S256x128_S256x128_1_0_0_1_n_n none p v (constant S256x128 .f32 0x00000000#32)
  divf o (dynamicRotate 1 64#32 none o rotates_S256x128_d1)

/-- One pair of heads of the attention. -/
def pairOut (xq xk xv : Vec F S256x128 .bf16) (gq gk : Vec F S1x64 .f32) : FVec F S256x128 .bf16 :=
  have a : FVec F S256x128 .f32 := quot (weights (left (qPair xq gq)) (left (rmsPair xk gk))) (onesElse lane0 xv)
  have b : FVec F S256x128 .f32 := quot (weights (right (qPair xq gq)) (right (rmsPair xk gk))) (onesElse lane1 xv)
  truncf .bf16 (select (broadcastTo S256x128 (shapeCast S1x128 lane0 shapeCasts_S1x128_S1x128) broadcasts_S1x128_S256x128) a b) bitsLt_bf16_f32

/-- A head's normed keys, a head's values, in the result's shape. -/
def lift5 (x : FVec F S256x64 .f32) : FVec F S1x1x1x256x64 .f32 := shapeCast S1x1x1x256x64 x shapeCasts_S256x64_S1x1x1x256x64
def vHead (x : Vec F S256x64 .bf16) : FVec F S1x1x1x256x64 .f32 := lift5 (extf .f32 x bitsLt_bf16_f32)

/-- The attention's block is its eight pairs. -/
theorem out5_eq (x0 : Vec F S256x1024 .bf16) (x1 : Vec F S256x1024 .bf16) (x2 : Vec F S256x1024 .bf16) (x3 : Vec F S1x64 .f32) (x4 : Vec F S1x64 .f32) :
    out0_5 x0 x1 x2 x3 x4 = View.canon [⟨r0_8, pairOut (View.ld x0 r0_8) (View.ld x1 r0_8) (View.ld x2 r0_8) (View.ld x3 r0_1) (View.ld x4 r0_1)⟩,
    ⟨r0_7, pairOut (View.ld x0 r0_7) (View.ld x1 r0_7) (View.ld x2 r0_7) (View.ld x3 r0_1) (View.ld x4 r0_1)⟩,
    ⟨r0_6, pairOut (View.ld x0 r0_6) (View.ld x1 r0_6) (View.ld x2 r0_6) (View.ld x3 r0_1) (View.ld x4 r0_1)⟩,
    ⟨r0_5, pairOut (View.ld x0 r0_5) (View.ld x1 r0_5) (View.ld x2 r0_5) (View.ld x3 r0_1) (View.ld x4 r0_1)⟩,
    ⟨r0_4, pairOut (View.ld x0 r0_4) (View.ld x1 r0_4) (View.ld x2 r0_4) (View.ld x3 r0_1) (View.ld x4 r0_1)⟩,
    ⟨r0_3, pairOut (View.ld x0 r0_3) (View.ld x1 r0_3) (View.ld x2 r0_3) (View.ld x3 r0_1) (View.ld x4 r0_1)⟩,
    ⟨r0_2, pairOut (View.ld x0 r0_2) (View.ld x1 r0_2) (View.ld x2 r0_2) (View.ld x3 r0_1) (View.ld x4 r0_1)⟩,
    ⟨r0_0, pairOut (View.ld x0 r0_0) (View.ld x1 r0_0) (View.ld x2 r0_0) (View.ld x3 r0_1) (View.ld x4 r0_1)⟩] := by
  rfl

/-- The keys' block is its sixteen heads. -/
theorem out6_eq (x0 : Vec F S256x1024 .bf16) (x1 : Vec F S256x1024 .bf16) (x2 : Vec F S256x1024 .bf16) (x3 : Vec F S1x64 .f32) (x4 : Vec F S1x64 .f32) :
    out0_6 x0 x1 x2 x3 x4 = View.canon [⟨r0_39, lift5 (right (rmsPair (View.ld x1 r0_8) (View.ld x4 r0_1)))⟩,
    ⟨r0_37, lift5 (left (rmsPair (View.ld x1 r0_8) (View.ld x4 r0_1)))⟩,
    ⟨r0_35, lift5 (right (rmsPair (View.ld x1 r0_7) (View.ld x4 r0_1)))⟩,
    ⟨r0_33, lift5 (left (rmsPair (View.ld x1 r0_7) (View.ld x4 r0_1)))⟩,
    ⟨r0_31, lift5 (right (rmsPair (View.ld x1 r0_6) (View.ld x4 r0_1)))⟩,
    ⟨r0_29, lift5 (left (rmsPair (View.ld x1 r0_6) (View.ld x4 r0_1)))⟩,
    ⟨r0_27, lift5 (right (rmsPair (View.ld x1 r0_5) (View.ld x4 r0_1)))⟩,
    ⟨r0_25, lift5 (left (rmsPair (View.ld x1 r0_5) (View.ld x4 r0_1)))⟩,
    ⟨r0_23, lift5 (right (rmsPair (View.ld x1 r0_4) (View.ld x4 r0_1)))⟩,
    ⟨r0_21, lift5 (left (rmsPair (View.ld x1 r0_4) (View.ld x4 r0_1)))⟩,
    ⟨r0_19, lift5 (right (rmsPair (View.ld x1 r0_3) (View.ld x4 r0_1)))⟩,
    ⟨r0_17, lift5 (left (rmsPair (View.ld x1 r0_3) (View.ld x4 r0_1)))⟩,
    ⟨r0_15, lift5 (right (rmsPair (View.ld x1 r0_2) (View.ld x4 r0_1)))⟩,
    ⟨r0_13, lift5 (left (rmsPair (View.ld x1 r0_2) (View.ld x4 r0_1)))⟩,
    ⟨r0_11, lift5 (right (rmsPair (View.ld x1 r0_0) (View.ld x4 r0_1)))⟩,
    ⟨r0_9, lift5 (left (rmsPair (View.ld x1 r0_0) (View.ld x4 r0_1)))⟩] := by
  rfl

/-- The values' block is its sixteen heads. -/
theorem out7_eq (x0 : Vec F S256x1024 .bf16) (x1 : Vec F S256x1024 .bf16) (x2 : Vec F S256x1024 .bf16) (x3 : Vec F S1x64 .f32) (x4 : Vec F S1x64 .f32) :
    out0_7 x0 x1 x2 x3 x4 = View.canon [⟨r0_39, vHead (View.ld x2 r0_40)⟩,
    ⟨r0_37, vHead (View.ld x2 r0_38)⟩,
    ⟨r0_35, vHead (View.ld x2 r0_36)⟩,
    ⟨r0_33, vHead (View.ld x2 r0_34)⟩,
    ⟨r0_31, vHead (View.ld x2 r0_32)⟩,
    ⟨r0_29, vHead (View.ld x2 r0_30)⟩,
    ⟨r0_27, vHead (View.ld x2 r0_28)⟩,
    ⟨r0_25, vHead (View.ld x2 r0_26)⟩,
    ⟨r0_23, vHead (View.ld x2 r0_24)⟩,
    ⟨r0_21, vHead (View.ld x2 r0_22)⟩,
    ⟨r0_19, vHead (View.ld x2 r0_20)⟩,
    ⟨r0_17, vHead (View.ld x2 r0_18)⟩,
    ⟨r0_15, vHead (View.ld x2 r0_16)⟩,
    ⟨r0_13, vHead (View.ld x2 r0_14)⟩,
    ⟨r0_11, vHead (View.ld x2 r0_12)⟩,
    ⟨r0_9, vHead (View.ld x2 r0_10)⟩] := by
  rfl

end Cert.KernelIdeal.Ctx

end
-- ==== Proof.CtxKer.lean ====
/- One pair of heads of the context attention, read at an index over real arguments. -/
module

public import proofs.«01_k».proof.Proof.RealAttn
public import proofs.«01_k».proof.Proof.CtxWords

@[expose] public section

set_option maxRecDepth 16384

noncomputable section

namespace Cert.KernelIdeal.Ctx

open Cert.KernelIdeal Cert.KernelIdeal.Gen Idealize.ShloMosaic Idealize.ShloMosaic.TcCoe Idealize.SL.Sem
open Cert.RealAttn

/-- The printed floor division by 64 of a lane number. -/
theorem half_word : ∀ k : Fin 128,
    Scalar.select
      (IntOp.andi
        (IntOp.cmpi CmpIPredicate.ne
          (IntOp.subi (BitVec.setWidth 32 (IntOp.cmpi CmpIPredicate.sgt (BitVec.ofNat 32 k) 0#32))
            (BitVec.setWidth 32 (IntOp.cmpi CmpIPredicate.slt (BitVec.ofNat 32 k) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 k) 64#32) 0#32))
      (IntOp.subi (IntOp.divsi ArithUnit.vector (BitVec.ofNat 32 k) 64#32) 1#32)
      (IntOp.divsi ArithUnit.vector (BitVec.ofNat 32 k) 64#32) = BitVec.ofNat 32 (k / 64) := by
  decide +kernel

theorem half_eq : ∀ a b : Fin 2, IntOp.cmpi CmpIPredicate.eq (BitVec.ofNat 32 a) (BitVec.ofNat 32 b) = if (a : ℕ) = b then 1#1 else 0#1 := by
  decide +kernel

theorem sameHead_at (k c : Fin 128) : sameHead (F := Ideal) (ix2 k c) = if (k : ℕ) / 64 = (c : ℕ) / 64 then (1 : EReal) else 0 := by
  pointwise [sameHead, halfOf]
  rw [half_word k, half_word c, half_eq ⟨k / 64, by omega⟩ ⟨c / 64, by omega⟩]
  by_cases h : (k : ℕ) / 64 = (c : ℕ) / 64
  · rw [if_pos h, if_pos h]; rfl
  · rw [if_neg h, if_neg h]; rfl

theorem lane0_word : ∀ k : Fin 128, IntOp.cmpi CmpIPredicate.slt (BitVec.ofNat 32 k) 64#32 = if (k : ℕ) < 64 then 1#1 else 0#1 := by
  decide +kernel

theorem lane1_word : ∀ k : Fin 128, IntOp.cmpi CmpIPredicate.sge (BitVec.ofNat 32 k) 64#32 = if (k : ℕ) < 64 then 0#1 else 1#1 := by
  decide +kernel

variable {X : S256x128.Idx → ℝ} {G : S1x64.Idx → ℝ} (x : FVec Ideal S256x128 .bf16) (g : FVec Ideal S1x64 .f32)
  (hx : ∀ i, x i = (X i : EReal)) (hg : ∀ i, g i = (G i : EReal))

theorem sumSq_at (y : FVec Ideal S256x128 .f32) (hy : ∀ i, y i = (X i : EReal)) (r : Fin 256) (c : Fin 128) :
    sumSq (F := Ideal) y (ix2 r c) = ((∑ d, X (ix2 r (lane c c.isLt d)) * X (ix2 r (lane c c.isLt d)) : ℝ) : EReal) := by
  have e : sumSq (F := Ideal) y (ix2 r c) = (∑ k : Fin 128, y (ix2 r k) * y (ix2 r k) * sameHead (F := Ideal) (ix2 k c))
      + ∑ k : Fin 128, (y (ix2 r k) * y (ix2 r k) - y (ix2 r k) * y (ix2 r k)) * sameHead (F := Ideal) (ix2 k c) := by
    pointwise [sumSq]
  rw [e]
  simp only [hy, sameHead_at, ← EReal.coe_mul, ← EReal.coe_sub, sub_self, EReal.coe_zero, zero_mul, Finset.sum_const_zero, add_zero]
  exact sum_half (fun k => X (ix2 r k) * X (ix2 r k)) c

/-- The half-row a lane belongs to, and the scale's own lane. -/
abbrev row (X : S256x128.Idx → ℝ) (r : Fin 256) (h : Fin 2) (d : Fin 64) : ℝ := X (ix2 r ⟨h * 64 + d, by omega⟩)
abbrev gain (G : S1x64.Idx → ℝ) (d : Fin 64) : ℝ := G (ix2 0 d)

include hx hg in
theorem rmsPair_at (r : Fin 256) (c : Fin 128) (h : Fin 2) (d : Fin 64) (hc : (c : ℕ) = h * 64 + d) :
    rmsPair (F := Ideal) x g (ix2 r c) = (nrm (row X r h) (gain G) d : EReal) := by
  have e : rmsPair (F := Ideal) x g (ix2 r c) = x (ix2 r c) * Ideal.rsqrt (sumSq (F := Ideal) (extf .f32 x bitsLt_bf16_f32) (ix2 r c) * Ideal.ofBits .f32 0x3C800000#32
      + Ideal.ofBits .f32 0x358637BD#32) * (if h : (c : ℕ) < 64 then g (ix2 0 ⟨c, h⟩) else g (ix2 0 ⟨c - 64, by omega⟩)) := by
    pointwise [rmsPair]
  have hgc : (if h : (c : ℕ) < 64 then g (ix2 0 ⟨c, h⟩) else g (ix2 0 ⟨c - 64, by omega⟩)) = g (ix2 0 d) := by
    split
    · congr 2; ext; simp only; omega
    · congr 2; ext; simp only; omega
  have hl : ∀ e : Fin 64, lane c c.isLt e = ⟨h * 64 + e, by omega⟩ := fun e => by
    ext; simp only [lane]; omega
  have hcc : X (ix2 r c) = X (ix2 r ⟨h * 64 + d, by omega⟩) := congrArg (fun k => X (ix2 r k)) (Fin.ext hc)
  rw [e, hgc, sumSq_at (X := X) _ (fun i => by exact hx i), word_sixtyfourth, word_eps]
  simp only [hl, hx, hg]
  rw [rsqrt_mean (fun e => X (ix2 r ⟨h * 64 + e, by omega⟩)), ← EReal.coe_mul, ← EReal.coe_mul]
  rw [hcc]; rfl

include hx hg in
theorem qPair_at (r : Fin 256) (c : Fin 128) (h : Fin 2) (d : Fin 64) (hc : (c : ℕ) = h * 64 + d) :
    qPair (F := Ideal) x g (ix2 r c) = ((nrm (row X r h) (gain G) d * (1 / 8) : ℝ) : EReal) := by
  have e : qPair (F := Ideal) x g (ix2 r c) = rmsPair (F := Ideal) x g (ix2 r c) * Ideal.ofBits .f32 0x3E000000#32 := by
    pointwise [qPair]
  rw [e, rmsPair_at x g hx hg r c h d hc, word_eighth, ← EReal.coe_mul]

theorem left_at {φ : FTy} (y : FVec Ideal S256x128 φ) (r : Fin 256) (d : Fin 64) : left y (ix2 r d) = y (ix2 r ⟨(0 : Fin 2) * 64 + d, by omega⟩) := by
  pointwise [left]
  all_goals (congr 2; ext; simp)

theorem right_at {φ : FTy} (y : FVec Ideal S256x128 φ) (r : Fin 256) (d : Fin 64) : right y (ix2 r d) = y (ix2 r ⟨(1 : Fin 2) * 64 + d, by omega⟩) := by
  pointwise [right]
  all_goals (congr 2; ext; simp)

/-- A head's weights. -/
theorem weights_at {q : Fin 256 → Fin 64 → ℝ} {k : Fin 256 → Fin 64 → ℝ} (a : FVec Ideal S256x64 .bf16) (b : FVec Ideal S256x64 .f32)
    (ha : ∀ r d, a (ix2 r d) = ((q r d * (1 / 8) : ℝ) : EReal)) (hb : ∀ r d, b (ix2 r d) = (k r d : EReal)) (r j : Fin 256) :
    weights (F := Ideal) a b (ix2 r j) = (wgt (score (q r) k) j : EReal) := by
  have e : weights (F := Ideal) a b (ix2 r j) = Ideal.exp ((∑ d : Fin 64, a (ix2 r d) * b (ix2 j d))
      - Finset.fold max (Ideal.ofBits .f32 0xFF800000#32) (fun u : Fin 256 => ∑ d : Fin 64, a (ix2 r d) * b (ix2 u d)) Finset.univ) := by
    pointwise [weights]
  rw [e]
  simp only [ha, hb, word_bottom, score_scaled]
  exact exp_sub_top _ _

/-- A head's result: its own lanes hold the values, the other head's lanes ones. -/
theorem quot_at {w : Fin 256 → Fin 256 → ℝ} {V : S256x128.Idx → ℝ} (p : FVec Ideal S256x256 .bf16) (v : FVec Ideal S256x128 .bf16)
    (hp : ∀ r j, p (ix2 r j) = (w r j : EReal)) (hv : ∀ i, v i = (V i : EReal)) (r : Fin 256) (hw : 0 < ∑ j, w r j) (c : Fin 128) :
    ((c : ℕ) < 64 → quot (F := Ideal) p (onesElse lane0 v) (ix2 r c) = (mean (w r) (fun j => V (ix2 j c)) : EReal))
    ∧ (¬ (c : ℕ) < 64 → quot (F := Ideal) p (onesElse lane1 v) (ix2 r c) = (mean (w r) (fun j => V (ix2 j c)) : EReal)) := by
  have e0 : ∀ j (c : Fin 128), onesElse (F := Ideal) lane0 v (ix2 j c) = if (c : ℕ) < 64 then v (ix2 j c) else (1 : EReal) := fun j c => by
    have : onesElse (F := Ideal) lane0 v (ix2 j c) = Scalar.select (IntOp.cmpi CmpIPredicate.slt (BitVec.ofNat 32 c) 64#32) (v (ix2 j c)) (1 : EReal) := by
      pointwise [onesElse, lane0]
    rw [this, lane0_word]; split <;> rfl
  have e1 : ∀ j (c : Fin 128), onesElse (F := Ideal) lane1 v (ix2 j c) = if (c : ℕ) < 64 then (1 : EReal) else v (ix2 j c) := fun j c => by
    have : onesElse (F := Ideal) lane1 v (ix2 j c) = Scalar.select (IntOp.cmpi CmpIPredicate.sge (BitVec.ofNat 32 c) 64#32) (v (ix2 j c)) (1 : EReal) := by
      pointwise [onesElse, lane1]
    rw [this, lane1_word]; split <;> rfl
  have e : ∀ u : FVec Ideal S256x128 .bf16, quot (F := Ideal) p u (ix2 r c) = Ideal.div (∑ j : Fin 256, p (ix2 r j) * u (ix2 j c))
      (∑ j : Fin 256, p (ix2 r j) * u (ix2 j ⟨(c + 128 - 64) % 128, by omega⟩)) := fun u => by
    pointwise [quot]
  refine ⟨fun h => ?_, fun h => ?_⟩
  · rw [e]
    simp only [e0, hp, hv, if_pos h, if_neg (show ¬ (c + 128 - 64 : ℕ) % 128 < 64 by omega)]
    exact quot_sums _ _ hw
  · rw [e]
    simp only [e1, hp, hv, if_neg h, if_pos (show (c + 128 - 64 : ℕ) % 128 < 64 by omega)]
    exact quot_sums _ _ hw

end Cert.KernelIdeal.Ctx

end
-- ==== Proof.CtxBlocks.lean ====
/- The blocks the context attention writes, over real blocks. -/
module

public import proofs.«01_k».proof.Proof.CtxKer
public import Idealize.ShloMosaic.Lib.Pipeline.ValueKit

@[expose] public section

set_option maxRecDepth 16384

noncomputable section

namespace Cert.KernelIdeal.Ctx

open Cert.KernelIdeal Cert.KernelIdeal.Gen Idealize.ShloMosaic Idealize.ShloMosaic.TcCoe Idealize.SL.Sem
open Idealize.ShloMosaic.Pipeline (Dat)
open Cert.RealAttn

/-- One pair of heads at a row and a lane. -/
theorem pairOut_at {X Y V : S256x128.Idx → ℝ} {G H : S1x64.Idx → ℝ} (xq xk xv : FVec Ideal S256x128 .bf16) (gq gk : FVec Ideal S1x64 .f32)
    (hq : ∀ i, xq i = (X i : EReal)) (hk : ∀ i, xk i = (Y i : EReal)) (hv : ∀ i, xv i = (V i : EReal))
    (hgq : ∀ i, gq i = (G i : EReal)) (hgk : ∀ i, gk i = (H i : EReal)) (r : Fin 256) (c : Fin 128) (h : Fin 2) (d : Fin 64) (hc : (c : ℕ) = h * 64 + d) :
    pairOut (F := Ideal) xq xk xv gq gk (ix2 r c)
      = (mean (wgt (score (nrm (row X r h) (gain G)) (fun j => nrm (row Y j h) (gain H)))) (fun j => V (ix2 j c)) : EReal) := by
  have e : pairOut (F := Ideal) xq xk xv gq gk (ix2 r c) = Scalar.select (IntOp.cmpi CmpIPredicate.slt (BitVec.ofNat 32 c) 64#32)
      (quot (F := Ideal) (weights (left (qPair xq gq)) (left (rmsPair xk gk))) (onesElse lane0 xv) (ix2 r c))
      (quot (F := Ideal) (weights (right (qPair xq gq)) (right (rmsPair xk gk))) (onesElse lane1 xv) (ix2 r c)) := by
    unfold pairOut
    generalize quot (F := Ideal) (weights (left (qPair xq gq)) (left (rmsPair xk gk))) (onesElse lane0 xv) = a
    generalize quot (F := Ideal) (weights (right (qPair xq gq)) (right (rmsPair xk gk))) (onesElse lane1 xv) = b
    pointwise [lane0]
  rw [e, lane0_word]
  by_cases hlt : (c : ℕ) < 64
  · obtain rfl : h = 0 := Fin.ext (by show (h : ℕ) = 0; omega)
    rw [if_pos hlt]
    refine Eq.trans (by rfl) ((quot_at (w := fun r => wgt (score (nrm (row X r 0) (gain G)) (fun j => nrm (row Y j 0) (gain H)))) _ xv (fun r j => ?_) hv r (wgt_sum_pos _) c).1 hlt)
    exact weights_at (q := fun r => nrm (row X r 0) (gain G)) (k := fun j => nrm (row Y j 0) (gain H)) (left (qPair xq gq)) (left (rmsPair xk gk))
      (fun r d => (left_at _ r d).trans (qPair_at xq gq hq hgq r _ 0 d rfl)) (fun r d => (left_at _ r d).trans (rmsPair_at xk gk hk hgk r _ 0 d rfl)) r j
  · obtain rfl : h = 1 := Fin.ext (by show (h : ℕ) = 1; omega)
    rw [if_neg hlt]
    refine Eq.trans (by rfl) ((quot_at (w := fun r => wgt (score (nrm (row X r 1) (gain G)) (fun j => nrm (row Y j 1) (gain H)))) _ xv (fun r j => ?_) hv r (wgt_sum_pos _) c).2 hlt)
    exact weights_at (q := fun r => nrm (row X r 1) (gain G)) (k := fun j => nrm (row Y j 1) (gain H)) (right (qPair xq gq)) (right (rmsPair xk gk))
      (fun r d => (right_at _ r d).trans (qPair_at xq gq hq hgq r _ 1 d rfl)) (fun r d => (right_at _ r d).trans (rmsPair_at xk gk hk hgk r _ 1 d rfl)) r j

variable {X0 X1 X2 : S256x1024.Idx → ℝ} {G H : S1x64.Idx → ℝ} (x0 x1 x2 : FVec Ideal S256x1024 .bf16) (x3 x4 : FVec Ideal S1x64 .f32)
  (hx0 : ∀ i, x0 i = (X0 i : EReal)) (hx1 : ∀ i, x1 i = (X1 i : EReal)) (hx2 : ∀ i, x2 i = (X2 i : EReal))
  (hx3 : ∀ i, x3 i = (G i : EReal)) (hx4 : ∀ i, x4 i = (H i : EReal))

/-- Head `n`'s 64 columns of a row of the block. -/
abbrev headRow (X : S256x1024.Idx → ℝ) (r : Fin 256) (n : Fin 16) (d : Fin 64) : ℝ := X (ix2 r ⟨n * 64 + d, by omega⟩)

include hx0 hx1 hx2 hx3 hx4 in
theorem piece5 (o : ℕ) (ho : ∀ a, (![0, o] : Fin 2 → ℕ) a + S256x128.size a ≤ S256x1024.size a) (r : Fin 256) (c : Fin 128) (C : Fin 1024)
    (hC : (C : ℕ) = o + c) (n : Fin 16) (d : Fin 64) (hn : (C : ℕ) = n * 64 + d) (h : Fin 2) (hh : (n : ℕ) * 64 = o + h * 64) :
    pairOut (F := Ideal) (View.ld x0 (Rect.unit (s := S256x1024) ![0, o] S256x128.size ho)) (View.ld x1 (Rect.unit (s := S256x1024) ![0, o] S256x128.size ho))
        (View.ld x2 (Rect.unit (s := S256x1024) ![0, o] S256x128.size ho)) (View.ld x3 r0_1) (View.ld x4 r0_1) (ix2 r c)
      = (mean (wgt (score (nrm (headRow X0 r n) (gain G)) (fun j => nrm (headRow X1 j n) (gain H)))) (fun j => X2 (ix2 j C)) : EReal) := by
  have hi : ∀ (r : Fin 256) (k : Fin 128) (K : Fin 1024), (K : ℕ) = o + k → (Rect.unit (s := S256x1024) ![0, o] S256x128.size ho).idx (ix2 r k) = ix2 r K := fun r k K hK => by
    funext a; match a with
    | ⟨0, _⟩ => exact Fin.ext ((Rect.idx_unit_val _ _ _ _ _).trans (Nat.zero_add _))
    | ⟨1, _⟩ => exact Fin.ext ((Rect.idx_unit_val _ _ _ _ _).trans hK.symm)
  have hg : ∀ d : Fin 64, r0_1.idx (ix2 0 d) = ix2 0 d := fun d => by
    funext a; match a with
    | ⟨0, _⟩ => exact Fin.ext ((Rect.idx_unit_val _ _ _ _ _).trans (Nat.zero_add _))
    | ⟨1, _⟩ => exact Fin.ext ((Rect.idx_unit_val _ _ _ _ _).trans (Nat.zero_add _))
  refine (pairOut_at (X := fun i => X0 ((Rect.unit (s := S256x1024) ![0, o] S256x128.size ho).idx i)) (Y := fun i => X1 ((Rect.unit (s := S256x1024) ![0, o] S256x128.size ho).idx i))
    (V := fun i => X2 ((Rect.unit (s := S256x1024) ![0, o] S256x128.size ho).idx i)) (G := fun i => G (r0_1.idx i)) (H := fun i => H (r0_1.idx i)) _ _ _ _ _
    (fun i => hx0 _) (fun i => hx1 _) (fun i => hx2 _) (fun i => hx3 _) (fun i => hx4 _) r c h d (by omega)).trans ?_
  have e0 : ∀ (X : S256x1024.Idx → ℝ) (r : Fin 256), row (fun i => X ((Rect.unit (s := S256x1024) ![0, o] S256x128.size ho).idx i)) r h = headRow X r n := fun X r => by
    funext e; exact congrArg X (hi _ _ _ (by show (n : ℕ) * 64 + e = o + (h * 64 + e); omega))
  have e1 : ∀ G : S1x64.Idx → ℝ, gain (fun i => G (r0_1.idx i)) = gain G := fun G => by
    funext e; exact congrArg G (hg e)
  have e2 : (fun j : Fin 256 => X2 ((Rect.unit (s := S256x1024) ![0, o] S256x128.size ho).idx (ix2 j c))) = fun j => X2 (ix2 j C) := by
    funext j; exact congrArg X2 (hi _ _ _ hC)
  simp only [e0, e1, e2]

include hx0 hx1 hx2 hx3 hx4 in
theorem piece5x (k : ℕ) (o : ℕ) (ho : ∀ a, (![0, o] : Fin 2 → ℕ) a + S256x128.size a ≤ S256x1024.size a) (ok : o = 128 * k) (x : S256x128.Idx) (r : Fin 256) (C : Fin 1024)
    (hr : (r : ℕ) = x 0) (hC : (C : ℕ) = o + x 1) (n : Fin 16) (d : Fin 64) (hn : (C : ℕ) = n * 64 + d) :
    pairOut (F := Ideal) (View.ld x0 (Rect.unit (s := S256x1024) ![0, o] S256x128.size ho)) (View.ld x1 (Rect.unit (s := S256x1024) ![0, o] S256x128.size ho))
        (View.ld x2 (Rect.unit (s := S256x1024) ![0, o] S256x128.size ho)) (View.ld x3 r0_1) (View.ld x4 r0_1) x
      = (mean (wgt (score (nrm (headRow X0 r n) (gain G)) (fun j => nrm (headRow X1 j n) (gain H)))) (fun j => X2 (ix2 j C)) : EReal) := by
  obtain ⟨a, c, rfl⟩ : ∃ (a : Fin 256) (c : Fin 128), x = ix2 a c := ⟨x 0, x 1, by funext i; match i with | ⟨0, _⟩ => rfl | ⟨1, _⟩ => rfl⟩
  obtain rfl : r = a := Fin.ext hr
  have hC' : (C : ℕ) = o + (c : ℕ) := hC
  exact piece5 x0 x1 x2 x3 x4 hx0 hx1 hx2 hx3 hx4 o ho r c C hC' n d hn ⟨n % 2, by omega⟩ (by show (n : ℕ) * 64 = o + (n % 2) * 64; omega)

include hx0 hx1 hx2 hx3 hx4 in
/-- The attention's block. -/
theorem out5_at (r : Fin 256) (C : Fin 1024) (n : Fin 16) (d : Fin 64) (hn : (C : ℕ) = n * 64 + d) :
    out0_5 (F := Ideal) x0 x1 x2 x3 x4 (ix2 r C)
      = (mean (wgt (score (nrm (headRow X0 r n) (gain G)) (fun j => nrm (headRow X1 j n) (gain H)))) (fun j => X2 (ix2 j C)) : EReal) := by
  rw [out5_eq]
  canon_tiles x h
  · exact piece5x x0 x1 x2 x3 x4 hx0 hx1 hx2 hx3 hx4 7 896 _ rfl x r C h0 h1 n d hn
  · exact piece5x x0 x1 x2 x3 x4 hx0 hx1 hx2 hx3 hx4 6 768 _ rfl x r C h0 h1 n d hn
  · exact piece5x x0 x1 x2 x3 x4 hx0 hx1 hx2 hx3 hx4 5 640 _ rfl x r C h0 h1 n d hn
  · exact piece5x x0 x1 x2 x3 x4 hx0 hx1 hx2 hx3 hx4 4 512 _ rfl x r C h0 h1 n d hn
  · exact piece5x x0 x1 x2 x3 x4 hx0 hx1 hx2 hx3 hx4 3 384 _ rfl x r C h0 h1 n d hn
  · exact piece5x x0 x1 x2 x3 x4 hx0 hx1 hx2 hx3 hx4 2 256 _ rfl x r C h0 h1 n d hn
  · exact piece5x x0 x1 x2 x3 x4 hx0 hx1 hx2 hx3 hx4 1 128 _ rfl x r C h0 h1 n d hn
  · exact piece5x x0 x1 x2 x3 x4 hx0 hx1 hx2 hx3 hx4 0 0 _ rfl x r C h0 (h1.trans (Nat.zero_add _).symm) n d hn

theorem lift5_at (y : FVec Ideal S256x64 .f32) (x : S1x1x1x256x64.Idx) (r : Fin 256) (d : Fin 64) (hr : (r : ℕ) = x 3) (hd : (d : ℕ) = x 4) :
    lift5 (F := Ideal) y x = y (ix2 r d) := by
  obtain rfl : r = x 3 := Fin.ext hr
  obtain rfl : d = x 4 := Fin.ext hd
  obtain ⟨r, d, rfl⟩ : ∃ (a : Fin 256) (c : Fin 64), x = ix5 0 0 0 a c := ⟨x 3, x 4, by
    funext i; match i with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl⟩
  pointwise [lift5]

include hx1 hx4 in
/-- A pair's normalised keys at a row of the block. -/
theorem keys_at (o : ℕ) (ho : ∀ a, (![0, o] : Fin 2 → ℕ) a + S256x128.size a ≤ S256x1024.size a) (r : Fin 256) (c : Fin 128) (n : Fin 16) (d : Fin 64)
    (hn : o + c = (n : ℕ) * 64 + d) (h : Fin 2) (hh : (n : ℕ) * 64 = o + h * 64) :
    rmsPair (F := Ideal) (View.ld x1 (Rect.unit (s := S256x1024) ![0, o] S256x128.size ho)) (View.ld x4 r0_1) (ix2 r c)
      = (nrm (headRow X1 r n) (gain H) d : EReal) := by
  have hi : ∀ (r : Fin 256) (k : Fin 128) (K : Fin 1024), (K : ℕ) = o + k → (Rect.unit (s := S256x1024) ![0, o] S256x128.size ho).idx (ix2 r k) = ix2 r K := fun r k K hK => by
    funext a; match a with
    | ⟨0, _⟩ => exact Fin.ext ((Rect.idx_unit_val _ _ _ _ _).trans (Nat.zero_add _))
    | ⟨1, _⟩ => exact Fin.ext ((Rect.idx_unit_val _ _ _ _ _).trans hK.symm)
  have hg : ∀ d : Fin 64, r0_1.idx (ix2 0 d) = ix2 0 d := fun d => by
    funext a; match a with
    | ⟨0, _⟩ => exact Fin.ext ((Rect.idx_unit_val _ _ _ _ _).trans (Nat.zero_add _))
    | ⟨1, _⟩ => exact Fin.ext ((Rect.idx_unit_val _ _ _ _ _).trans (Nat.zero_add _))
  refine (rmsPair_at (X := fun i => X1 ((Rect.unit (s := S256x1024) ![0, o] S256x128.size ho).idx i)) (G := fun i => H (r0_1.idx i)) _ _
    (fun i => hx1 _) (fun i => hx4 _) r c h d (by omega)).trans ?_
  have e0 : row (fun i => X1 ((Rect.unit (s := S256x1024) ![0, o] S256x128.size ho).idx i)) r h = headRow X1 r n := by
    funext e; exact congrArg X1 (hi _ _ _ (by show (n : ℕ) * 64 + e = o + (h * 64 + e); omega))
  have e1 : gain (fun i => H (r0_1.idx i)) = gain H := by
    funext e; exact congrArg H (hg e)
  simp only [e0, e1]

include hx1 hx4 in
theorem piece6l (o : ℕ) (ho : ∀ a, (![0, o] : Fin 2 → ℕ) a + S256x128.size a ≤ S256x1024.size a) (x : S1x1x1x256x64.Idx) (r : Fin 256) (d : Fin 64) (n : Fin 16)
    (hr : (r : ℕ) = x 3) (hd : (d : ℕ) = x 4) (hn : (n : ℕ) * 64 = o) :
    lift5 (left (rmsPair (F := Ideal) (View.ld x1 (Rect.unit (s := S256x1024) ![0, o] S256x128.size ho)) (View.ld x4 r0_1))) x
      = (nrm (headRow X1 r n) (gain H) d : EReal) := by
  rw [lift5_at _ x r d hr hd, left_at]
  exact keys_at x1 x4 hx1 hx4 o ho r _ n d (by show o + (0 * 64 + (d : ℕ)) = _; omega) 0 (by show _ = o + 0 * 64; omega)

include hx1 hx4 in
theorem piece6r (o : ℕ) (ho : ∀ a, (![0, o] : Fin 2 → ℕ) a + S256x128.size a ≤ S256x1024.size a) (x : S1x1x1x256x64.Idx) (r : Fin 256) (d : Fin 64) (n : Fin 16)
    (hr : (r : ℕ) = x 3) (hd : (d : ℕ) = x 4) (hn : (n : ℕ) * 64 = o + 64) :
    lift5 (right (rmsPair (F := Ideal) (View.ld x1 (Rect.unit (s := S256x1024) ![0, o] S256x128.size ho)) (View.ld x4 r0_1))) x
      = (nrm (headRow X1 r n) (gain H) d : EReal) := by
  rw [lift5_at _ x r d hr hd, right_at]
  exact keys_at x1 x4 hx1 hx4 o ho r _ n d (by show o + (1 * 64 + (d : ℕ)) = _; omega) 1 (by show _ = o + 1 * 64; omega)

include hx1 hx4 in
/-- The keys' block. -/
theorem out6_at (n : Fin 16) (r : Fin 256) (d : Fin 64) :
    out0_6 (F := Ideal) x0 x1 x2 x3 x4 (ix5 0 0 n r d) = (nrm (headRow X1 r n) (gain H) d : EReal) := by
  rw [out6_eq]
  canon_tiles x h
  · exact piece6r x1 x4 hx1 hx4 896 _ x r d n (by simpa using h3) (by simpa using h4) (by have e : (n : ℕ) = 15 + x 2 := h2; have : (x 2 : ℕ) < 1 := (x 2).2; omega)
  · exact piece6l x1 x4 hx1 hx4 896 _ x r d n (by simpa using h3) (by simpa using h4) (by have e : (n : ℕ) = 14 + x 2 := h2; have : (x 2 : ℕ) < 1 := (x 2).2; omega)
  · exact piece6r x1 x4 hx1 hx4 768 _ x r d n (by simpa using h3) (by simpa using h4) (by have e : (n : ℕ) = 13 + x 2 := h2; have : (x 2 : ℕ) < 1 := (x 2).2; omega)
  · exact piece6l x1 x4 hx1 hx4 768 _ x r d n (by simpa using h3) (by simpa using h4) (by have e : (n : ℕ) = 12 + x 2 := h2; have : (x 2 : ℕ) < 1 := (x 2).2; omega)
  · exact piece6r x1 x4 hx1 hx4 640 _ x r d n (by simpa using h3) (by simpa using h4) (by have e : (n : ℕ) = 11 + x 2 := h2; have : (x 2 : ℕ) < 1 := (x 2).2; omega)
  · exact piece6l x1 x4 hx1 hx4 640 _ x r d n (by simpa using h3) (by simpa using h4) (by have e : (n : ℕ) = 10 + x 2 := h2; have : (x 2 : ℕ) < 1 := (x 2).2; omega)
  · exact piece6r x1 x4 hx1 hx4 512 _ x r d n (by simpa using h3) (by simpa using h4) (by have e : (n : ℕ) = 9 + x 2 := h2; have : (x 2 : ℕ) < 1 := (x 2).2; omega)
  · exact piece6l x1 x4 hx1 hx4 512 _ x r d n (by simpa using h3) (by simpa using h4) (by have e : (n : ℕ) = 8 + x 2 := h2; have : (x 2 : ℕ) < 1 := (x 2).2; omega)
  · exact piece6r x1 x4 hx1 hx4 384 _ x r d n (by simpa using h3) (by simpa using h4) (by have e : (n : ℕ) = 7 + x 2 := h2; have : (x 2 : ℕ) < 1 := (x 2).2; omega)
  · exact piece6l x1 x4 hx1 hx4 384 _ x r d n (by simpa using h3) (by simpa using h4) (by have e : (n : ℕ) = 6 + x 2 := h2; have : (x 2 : ℕ) < 1 := (x 2).2; omega)
  · exact piece6r x1 x4 hx1 hx4 256 _ x r d n (by simpa using h3) (by simpa using h4) (by have e : (n : ℕ) = 5 + x 2 := h2; have : (x 2 : ℕ) < 1 := (x 2).2; omega)
  · exact piece6l x1 x4 hx1 hx4 256 _ x r d n (by simpa using h3) (by simpa using h4) (by have e : (n : ℕ) = 4 + x 2 := h2; have : (x 2 : ℕ) < 1 := (x 2).2; omega)
  · exact piece6r x1 x4 hx1 hx4 128 _ x r d n (by simpa using h3) (by simpa using h4) (by have e : (n : ℕ) = 3 + x 2 := h2; have : (x 2 : ℕ) < 1 := (x 2).2; omega)
  · exact piece6l x1 x4 hx1 hx4 128 _ x r d n (by simpa using h3) (by simpa using h4) (by have e : (n : ℕ) = 2 + x 2 := h2; have : (x 2 : ℕ) < 1 := (x 2).2; omega)
  · exact piece6r x1 x4 hx1 hx4 0 _ x r d n (by simpa using h3) (by simpa using h4) (by have e : (n : ℕ) = 1 + x 2 := h2; have : (x 2 : ℕ) < 1 := (x 2).2; omega)
  · exact piece6l x1 x4 hx1 hx4 0 _ x r d n (by simpa using h3) (by simpa using h4) (by have e : (n : ℕ) = x 2 := h2; have : (x 2 : ℕ) < 1 := (x 2).2; omega)

include hx2 in
theorem piece7 (o : ℕ) (ho : ∀ a, (![0, o] : Fin 2 → ℕ) a + S256x64.size a ≤ S256x1024.size a) (x : S1x1x1x256x64.Idx) (r : Fin 256) (d : Fin 64) (n : Fin 16)
    (hr : (r : ℕ) = x 3) (hd : (d : ℕ) = x 4) (hn : (n : ℕ) * 64 = o) :
    vHead (F := Ideal) (View.ld x2 (Rect.unit (s := S256x1024) ![0, o] S256x64.size ho)) x = (headRow X2 r n d : EReal) := by
  unfold vHead
  rw [lift5_at _ x r d hr hd]
  have hi : (Rect.unit (s := S256x1024) ![0, o] S256x64.size ho).idx (ix2 r d) = ix2 r ⟨n * 64 + d, by omega⟩ := by
    funext a; match a with
    | ⟨0, _⟩ => exact Fin.ext ((Rect.idx_unit_val _ _ _ _ _).trans (Nat.zero_add _))
    | ⟨1, _⟩ => exact Fin.ext ((Rect.idx_unit_val _ _ _ _ _).trans (by show o + (d : ℕ) = n * 64 + d; omega))
  exact (congrArg x2 hi).trans (hx2 _)

include hx2 in
/-- The values' block. -/
theorem out7_at (n : Fin 16) (r : Fin 256) (d : Fin 64) :
    out0_7 (F := Ideal) x0 x1 x2 x3 x4 (ix5 0 0 n r d) = (headRow X2 r n d : EReal) := by
  rw [out7_eq]
  canon_tiles x h
  · exact piece7 x2 hx2 960 _ x r d n (by simpa using h3) (by simpa using h4) (by have e : (n : ℕ) = 15 + x 2 := h2; have : (x 2 : ℕ) < 1 := (x 2).2; omega)
  · exact piece7 x2 hx2 896 _ x r d n (by simpa using h3) (by simpa using h4) (by have e : (n : ℕ) = 14 + x 2 := h2; have : (x 2 : ℕ) < 1 := (x 2).2; omega)
  · exact piece7 x2 hx2 832 _ x r d n (by simpa using h3) (by simpa using h4) (by have e : (n : ℕ) = 13 + x 2 := h2; have : (x 2 : ℕ) < 1 := (x 2).2; omega)
  · exact piece7 x2 hx2 768 _ x r d n (by simpa using h3) (by simpa using h4) (by have e : (n : ℕ) = 12 + x 2 := h2; have : (x 2 : ℕ) < 1 := (x 2).2; omega)
  · exact piece7 x2 hx2 704 _ x r d n (by simpa using h3) (by simpa using h4) (by have e : (n : ℕ) = 11 + x 2 := h2; have : (x 2 : ℕ) < 1 := (x 2).2; omega)
  · exact piece7 x2 hx2 640 _ x r d n (by simpa using h3) (by simpa using h4) (by have e : (n : ℕ) = 10 + x 2 := h2; have : (x 2 : ℕ) < 1 := (x 2).2; omega)
  · exact piece7 x2 hx2 576 _ x r d n (by simpa using h3) (by simpa using h4) (by have e : (n : ℕ) = 9 + x 2 := h2; have : (x 2 : ℕ) < 1 := (x 2).2; omega)
  · exact piece7 x2 hx2 512 _ x r d n (by simpa using h3) (by simpa using h4) (by have e : (n : ℕ) = 8 + x 2 := h2; have : (x 2 : ℕ) < 1 := (x 2).2; omega)
  · exact piece7 x2 hx2 448 _ x r d n (by simpa using h3) (by simpa using h4) (by have e : (n : ℕ) = 7 + x 2 := h2; have : (x 2 : ℕ) < 1 := (x 2).2; omega)
  · exact piece7 x2 hx2 384 _ x r d n (by simpa using h3) (by simpa using h4) (by have e : (n : ℕ) = 6 + x 2 := h2; have : (x 2 : ℕ) < 1 := (x 2).2; omega)
  · exact piece7 x2 hx2 320 _ x r d n (by simpa using h3) (by simpa using h4) (by have e : (n : ℕ) = 5 + x 2 := h2; have : (x 2 : ℕ) < 1 := (x 2).2; omega)
  · exact piece7 x2 hx2 256 _ x r d n (by simpa using h3) (by simpa using h4) (by have e : (n : ℕ) = 4 + x 2 := h2; have : (x 2 : ℕ) < 1 := (x 2).2; omega)
  · exact piece7 x2 hx2 192 _ x r d n (by simpa using h3) (by simpa using h4) (by have e : (n : ℕ) = 3 + x 2 := h2; have : (x 2 : ℕ) < 1 := (x 2).2; omega)
  · exact piece7 x2 hx2 128 _ x r d n (by simpa using h3) (by simpa using h4) (by have e : (n : ℕ) = 2 + x 2 := h2; have : (x 2 : ℕ) < 1 := (x 2).2; omega)
  · exact piece7 x2 hx2 64 _ x r d n (by simpa using h3) (by simpa using h4) (by have e : (n : ℕ) = 1 + x 2 := h2; have : (x 2 : ℕ) < 1 := (x 2).2; omega)
  · exact piece7 x2 hx2 0 _ x r d n (by simpa using h3) (by simpa using h4) (by have e : (n : ℕ) = x 2 := h2; have : (x 2 : ℕ) < 1 := (x 2).2; omega)

end Cert.KernelIdeal.Ctx

end
-- ==== Proof.CtxRef.lean ====
/- The context attention's plain program, read at an index over real arguments. -/
module

public import proofs.«01_k».proof.Proof.RealAttn
public import proofs.«01_k».proof.Proof.Gen.ReferenceIdeal.Read

@[expose] public section

set_option maxRecDepth 16384

noncomputable section

namespace Cert.ReferenceIdeal.Ctx

open Cert.ReferenceIdeal Cert.ReferenceIdeal.Gen Idealize.ShloMosaic Idealize.ShloMosaic.TcCoe Idealize.SL.Sem
open Cert.ReferenceIdeal.Read Cert.RealAttn

variable (X : S8192x3072.Idx → ℝ) (Q K : S64.Idx → ℝ)

/-- Row `t` of sequence `b`, column `h * 64 + d` of the third that starts at `o`. -/
abbrev at3 (o : ℕ) (ho : o ≤ 2048) (b h : Fin 16) (t : Fin 256) (d : Fin 64) : ℝ :=
  X (ix2 ⟨b * 256 + t, by omega⟩ ⟨o + (h * 64 + d), by omega⟩)

abbrev gain (G : S64.Idx → ℝ) (d : Fin 64) : ℝ := G (ix1 d)

/-- A row's normed query or key. -/
abbrev qN (b h : Fin 16) (t : Fin 256) : Fin 64 → ℝ := nrm (at3 X 0 (by omega) b h t) (gain Q)
abbrev kN (b h : Fin 16) (t : Fin 256) : Fin 64 → ℝ := nrm (at3 X 1024 (by omega) b h t) (gain K)

variable {X Q K} (x : FVec Ideal S8192x3072 .bf16) (g g' : FVec Ideal S64 .f32)
  (hx : ∀ i, x i = (X i : EReal)) (hg : ∀ i, g i = (Q i : EReal)) (hg' : ∀ i, g' i = (K i : EReal))

include hx hg in
theorem v20_at (b h : Fin 16) (t : Fin 256) (d : Fin 64) : val_main_v20 (F := Ideal) x g (ix4 b h t d) = (qN X Q b h t d : EReal) := by
  have e : val_main_v20 (F := Ideal) x g (ix4 b h t d) = x (ix2 ⟨b * 256 + t, by omega⟩ ⟨h * 64 + d, by omega⟩)
      * Ideal.rsqrt (Ideal.div (∑ e : Fin 64, x (ix2 ⟨b * 256 + t, by omega⟩ ⟨h * 64 + e, by omega⟩) * x (ix2 ⟨b * 256 + t, by omega⟩ ⟨h * 64 + e, by omega⟩))
          (Ideal.ofBits .f32 0x42800000#32) + Ideal.ofBits .f32 0x358637BD#32) * g (ix1 d) := by
    pointwise [val_main_v20, val_main_v19, val_main_v18, val_main_v17, val_main_v16, val_main_v15, val_main_v14, val_main_v13, val_main_v12, val_main_v11, val_main_v10, val_main_v9, val_main_v8, val_main_v7, val_main_v6, val_main_v3, val_main_v2, val_main_v1, val_main_v0, val_main_cst, val_main_cst_0, val_main_cst_1]
  rw [e]
  simp only [hx, hg, word_sixtyfour, word_eps, Ideal.div_coe (show (64 : ℝ) ≠ 0 by norm_num), ← EReal.coe_mul]
  rw [coe_sum, rsqrt_mean, ← EReal.coe_mul, ← EReal.coe_mul]
  simp only [qN, nrm, at3, gain, Nat.zero_add]

include hx hg' in
theorem v35_at (b h : Fin 16) (t : Fin 256) (d : Fin 64) : val_main_v35 (F := Ideal) x g' (ix4 b h t d) = (kN X K b h t d : EReal) := by
  have e : val_main_v35 (F := Ideal) x g' (ix4 b h t d) = x (ix2 ⟨b * 256 + t, by omega⟩ ⟨1024 + (h * 64 + d), by omega⟩)
      * Ideal.rsqrt (Ideal.div (∑ e : Fin 64, x (ix2 ⟨b * 256 + t, by omega⟩ ⟨1024 + (h * 64 + e), by omega⟩) * x (ix2 ⟨b * 256 + t, by omega⟩ ⟨1024 + (h * 64 + e), by omega⟩))
          (Ideal.ofBits .f32 0x42800000#32) + Ideal.ofBits .f32 0x358637BD#32) * g' (ix1 d) := by
    pointwise [val_main_v35, val_main_v34, val_main_v33, val_main_v32, val_main_v31, val_main_v30, val_main_v29, val_main_v28, val_main_v27, val_main_v26, val_main_v25, val_main_v24, val_main_v23, val_main_v22, val_main_v21, val_main_v4, val_main_v2, val_main_v1, val_main_v0, val_main_cst_2, val_main_cst_3, val_main_cst_4]
  rw [e]
  simp only [hx, hg', word_sixtyfour, word_eps, Ideal.div_coe (show (64 : ℝ) ≠ 0 by norm_num), ← EReal.coe_mul]
  rw [coe_sum, rsqrt_mean, ← EReal.coe_mul, ← EReal.coe_mul]
  rfl

include hx in
theorem v37_at (b h : Fin 16) (t : Fin 256) (d : Fin 64) : val_main_v37 (F := Ideal) x (ix4 b h t d) = (at3 X 2048 (by omega) b h t d : EReal) := by
  have e : val_main_v37 (F := Ideal) x (ix4 b h t d) = x (ix2 ⟨b * 256 + t, by omega⟩ ⟨2048 + (h * 64 + d), by omega⟩) := by
    pointwise [val_main_v37, val_main_v36, val_main_v5, val_main_v2, val_main_v1, val_main_v0]
  rw [e, hx]

include hx hg hg' in
theorem v40_at (b h : Fin 16) (t u : Fin 256) : val_main_v40 (F := Ideal) x g g' (ix4 b h t u) = (score (qN X Q b h t) (kN X K b h) u : EReal) := by
  have e : val_main_v40 (F := Ideal) x g g' (ix4 b h t u) = (∑ d : Fin 64, val_main_v20 (F := Ideal) x g (ix4 b h t d) * val_main_v35 (F := Ideal) x g' (ix4 b h u d))
      * Ideal.ofBits .f32 0x3E000000#32 := by
    pointwise [val_main_v40, val_main_v39, val_main_v38, val_main_cst_5]
  rw [e]
  simp only [v20_at x g hx hg, v35_at x g' hx hg', word_eighth]
  exact score_after _ _ _

theorem v41_at (b h : Fin 16) (t : Fin 256) : val_main_v41 (F := Ideal) x g g' (ix3 b h t)
    = Finset.fold max (Ideal.ofBits .f32 0xFF800000#32) (fun j : Fin 256 => val_main_v40 (F := Ideal) x g g' (ix4 b h t j)) Finset.univ := by
  unfold val_main_v41
  generalize val_main_v40 (F := Ideal) x g g' = y
  pointwise [val_main_cst_6]

theorem v47_exp (b h : Fin 16) (t u : Fin 256) : val_main_v47 (F := Ideal) x g g' (ix4 b h t u)
    = Ideal.exp (val_main_v40 (F := Ideal) x g g' (ix4 b h t u) - max (Ideal.ofBits .f32 0xFF800000#32) (val_main_v41 (F := Ideal) x g g' (ix3 b h t))) := by
  rw [val_main_v47_apply, val_main_v46_apply, val_main_v45_apply, val_main_v44_apply, val_main_v43_apply, val_main_v42_apply, val_main_cst_7_apply]
  simp only [Ideal.hostUnary_exp_def, Ideal.subf_def, Ideal.maximumf_def, Ideal.ofBits_def]
  have e : idx_main_v44 (idx_main_v45 (ix4 b h t u)) = ix3 b h t := by
    funext a; match a with
    | ⟨0, _⟩ => rfl
    | ⟨1, _⟩ => rfl
    | ⟨2, _⟩ => rfl
  rw [e]

include hx hg hg' in
theorem v47_at (b h : Fin 16) (t u : Fin 256) : val_main_v47 (F := Ideal) x g g' (ix4 b h t u) = (wgt (score (qN X Q b h t) (kN X K b h)) u : EReal) := by
  rw [v47_exp, v41_at]
  simp only [v40_at x g g' hx hg hg', word_bottom]
  rw [max_eq_right bot_le]
  exact exp_sub_top _ _

theorem v55_sum (i : Fin 4096) (c : Fin 1024) :
    val_main_v55 (F := Ideal) x g g' (ix2 i c) = ∑ j : Fin 256, Ideal.div (val_main_v47 (F := Ideal) x g g' (ix4 ⟨i / 256, by omega⟩ ⟨c / 64, by omega⟩ ⟨i % 256, by omega⟩ j))
      (∑ k : Fin 256, val_main_v47 (F := Ideal) x g g' (ix4 ⟨i / 256, by omega⟩ ⟨c / 64, by omega⟩ ⟨i % 256, by omega⟩ k))
      * val_main_v37 (F := Ideal) x (ix4 ⟨i / 256, by omega⟩ ⟨c / 64, by omega⟩ j ⟨c % 64, by omega⟩) := by
  pointwise [val_main_v55, val_main_v54, val_main_v53, val_main_v52, val_main_v51, val_main_v50, val_main_v49, val_main_v48, val_main_cst_8]

include hx hg hg' in
/-- The attention's result. -/
theorem v55_at (i : Fin 4096) (c : Fin 1024) (b h : Fin 16) (t : Fin 256) (d : Fin 64)
    (hi : (i : ℕ) = b * 256 + t) (hc : (c : ℕ) = h * 64 + d) :
    val_main_v55 (F := Ideal) x g g' (ix2 i c) = (mean (wgt (score (qN X Q b h t) (kN X K b h))) (fun j => at3 X 2048 (by omega) b h j d) : EReal) := by
  have e := v55_sum x g g' i c
  rw [show (⟨i / 256, by omega⟩ : Fin 16) = b from Fin.ext (by show (i : ℕ) / 256 = b; omega),
    show (⟨i % 256, by omega⟩ : Fin 256) = t from Fin.ext (by show (i : ℕ) % 256 = t; omega),
    show (⟨c / 64, by omega⟩ : Fin 16) = h from Fin.ext (by show (c : ℕ) / 64 = h; omega),
    show (⟨c % 64, by omega⟩ : Fin 64) = d from Fin.ext (by show (c : ℕ) % 64 = d; omega)] at e
  rw [e]
  simp only [v47_at x g g' hx hg hg', v37_at x hx]
  exact sum_quots _ _ (wgt_sum_pos _)

include hx hg' in
theorem v56_at (b h : Fin 16) (o : Fin 1) (t : Fin 256) (d : Fin 64) :
    val_main_v56 (F := Ideal) x g' (ix5 b o h t d) = (kN X K b h t d : EReal) := by
  have e : val_main_v56 (F := Ideal) x g' (ix5 b o h t d) = val_main_v35 (F := Ideal) x g' (ix4 b h t d) := by
    pointwise [val_main_v56]
  rw [e, v35_at x g' hx hg']

include hx in
theorem v57_at (b h : Fin 16) (o : Fin 1) (t : Fin 256) (d : Fin 64) :
    val_main_v57 (F := Ideal) x (ix5 b o h t d) = (at3 X 2048 (by omega) b h t d : EReal) := by
  have e : val_main_v57 (F := Ideal) x (ix5 b o h t d) = val_main_v37 (F := Ideal) x (ix4 b h t d) := by
    pointwise [val_main_v57]
  rw [e, v37_at x hx]

end Cert.ReferenceIdeal.Ctx

end
-- ==== Proof.CtxValue.lean ====
/- The context attention's three arrays after the run are the reference's. -/
module

public import proofs.«01_k».proof.Proof.CtxBlocks
public import proofs.«01_k».proof.Proof.CtxRef
public import Idealize.ShloMosaic.Lib.Pipeline.ValueKit
public import proofs.«01_k».proof.Proof.Gen.KernelIdeal.Value

@[expose] public section

set_option maxRecDepth 16384

noncomputable section

namespace Cert.KernelIdeal.Ctx

open Cert.KernelIdeal Cert.KernelIdeal.Gen Idealize.ShloMosaic Idealize.ShloMosaic.TcCoe Idealize.SL.Sem
open Cert.RealAttn

theorem idx : ∀ t : Fin cfg0.N, win0_0.index t = ![t.val, 0] ∧ win0_1.index t = ![t.val, 1] ∧ win0_2.index t = ![t.val, 2]
    ∧ win0_3.index t = ![0, 0] ∧ win0_4.index t = ![0, 0]
    ∧ win0_5.index t = ![t.val, 0] ∧ win0_6.index t = ![t.val, 0, 0, 0, 0] ∧ win0_7.index t = ![t.val, 0, 0, 0, 0] :=
  (by decide +kernel : ∀ t : Fin grid0.N, _)

variable (m : (ℓ : Loc nD τ sig) → Buf (Elt Ideal) ℓ)

/-- The grid's point as a batch number. -/
abbrev bt (t : Fin cfg0.N) : Fin 16 := ⟨t, t.2⟩

theorem blk0_at (c : Dev nD) (t : Fin cfg0.N) (r : Fin 256) (C : Fin 1024) :
    iblk m c 0 t (ix2 r C) = m ((c : Thread nD τ).loc main_arg0) (ix2 ⟨bt t * 256 + r, by omega⟩ ⟨C, by omega⟩) := by
  blk_ext [iblk, V, idx t]

theorem blk1_at (c : Dev nD) (t : Fin cfg0.N) (r : Fin 256) (C : Fin 1024) :
    iblk m c 1 t (ix2 r C) = m ((c : Thread nD τ).loc main_arg0) (ix2 ⟨bt t * 256 + r, by omega⟩ ⟨1024 + C, by omega⟩) := by
  blk_ext [iblk, V, idx t]

theorem blk2_at (c : Dev nD) (t : Fin cfg0.N) (r : Fin 256) (C : Fin 1024) :
    iblk m c 2 t (ix2 r C) = m ((c : Thread nD τ).loc main_arg0) (ix2 ⟨bt t * 256 + r, by omega⟩ ⟨2048 + C, by omega⟩) := by
  blk_ext [iblk, V, idx t]

theorem blk3_at (c : Dev nD) (t : Fin cfg0.N) (d : Fin 64) :
    iblk m c 3 t (ix2 0 d) = m ((c : Thread nD τ).loc main_arg1) (ix1 d) := by
  blk_simp [iblk, idx t]
  entry_read
  pointwise
  blk_ext [idx t]

theorem blk4_at (c : Dev nD) (t : Fin cfg0.N) (d : Fin 64) :
    iblk m c 4 t (ix2 0 d) = m ((c : Thread nD τ).loc main_arg2) (ix1 d) := by
  blk_simp [iblk, idx t]
  entry_read
  pointwise
  blk_ext [idx t]

variable {X : S8192x3072.Idx → ℝ} {Q K : S64.Idx → ℝ} (c : Dev nD)
  (hx : ∀ i, m ((c : Thread nD τ).loc main_arg0) i = (X i : EReal)) (hq : ∀ i, m ((c : Thread nD τ).loc main_arg1) i = (Q i : EReal))
  (hk : ∀ i, m ((c : Thread nD τ).loc main_arg2) i = (K i : EReal))

/-- The part of the projection a block holds, from its columns on. -/
abbrev partAt (X : S8192x3072.Idx → ℝ) (o : ℕ) (ho : o ≤ 2048) (b : Fin 16) (r : Fin 256) (C : Fin 1024) : ℝ :=
  X (ix2 ⟨b * 256 + r, by omega⟩ ⟨o + C, by omega⟩)

abbrev part (X : S8192x3072.Idx → ℝ) (o : ℕ) (ho : o ≤ 2048) (b : Fin 16) (i : S256x1024.Idx) : ℝ := partAt X o ho b (i 0) (i 1)

abbrev gainRow (Q : S64.Idx → ℝ) (i : S1x64.Idx) : ℝ := Q (ix1 (i 1 : Fin 64))

include hx in
theorem real0 (t : Fin cfg0.N) (i : S256x1024.Idx) : iblk m c 0 t i = (part X 0 (by omega) (bt t) i : EReal) := by
  obtain ⟨r, C, rfl⟩ : ∃ (r : Fin 256) (C : Fin 1024), i = ix2 r C := ⟨i 0, i 1, by funext a; match a with | ⟨0, _⟩ => rfl | ⟨1, _⟩ => rfl⟩
  rw [blk0_at, hx]
  exact congrArg (fun k => ((X (ix2 _ k) : ℝ) : EReal)) (Fin.ext (Nat.zero_add (C : ℕ)).symm)

include hx in
theorem real1 (t : Fin cfg0.N) (i : S256x1024.Idx) : iblk m c 1 t i = (part X 1024 (by omega) (bt t) i : EReal) := by
  obtain ⟨r, C, rfl⟩ : ∃ (r : Fin 256) (C : Fin 1024), i = ix2 r C := ⟨i 0, i 1, by funext a; match a with | ⟨0, _⟩ => rfl | ⟨1, _⟩ => rfl⟩
  exact (blk1_at m c t r C).trans (hx _)

include hx in
theorem real2 (t : Fin cfg0.N) (i : S256x1024.Idx) : iblk m c 2 t i = (part X 2048 (by omega) (bt t) i : EReal) := by
  obtain ⟨r, C, rfl⟩ : ∃ (r : Fin 256) (C : Fin 1024), i = ix2 r C := ⟨i 0, i 1, by funext a; match a with | ⟨0, _⟩ => rfl | ⟨1, _⟩ => rfl⟩
  exact (blk2_at m c t r C).trans (hx _)

include hq in
theorem real3 (t : Fin cfg0.N) (i : S1x64.Idx) : iblk m c 3 t i = (gainRow Q i : EReal) := by
  obtain ⟨d, rfl⟩ : ∃ d : Fin 64, i = ix2 0 d := ⟨i 1, by funext a; match a with | ⟨0, _⟩ => exact Subsingleton.elim (α := Fin 1) _ _ | ⟨1, _⟩ => rfl⟩
  exact (blk3_at m c t d).trans (hq _)

include hk in
theorem real4 (t : Fin cfg0.N) (i : S1x64.Idx) : iblk m c 4 t i = (gainRow K i : EReal) := by
  obtain ⟨d, rfl⟩ : ∃ d : Fin 64, i = ix2 0 d := ⟨i 1, by funext a; match a with | ⟨0, _⟩ => exact Subsingleton.elim (α := Fin 1) _ _ | ⟨1, _⟩ => rfl⟩
  exact (blk4_at m c t d).trans (hk _)

/-- The blocks' heads are the reference's. -/
theorem headRow_part (o : ℕ) (ho : o ≤ 2048) (b n : Fin 16) (r : Fin 256) :
    headRow (part X o ho b) r n = Cert.ReferenceIdeal.Ctx.at3 X o ho b n r := rfl

include hx hq hk in
/-- The attention's array. -/
theorem final5 : (dats m 0 c).arrAt 5 cfg0.N
    = Cert.ReferenceIdeal.Read.val_main_v55 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  obtain ⟨r, C, rfl⟩ : ∃ (r : Fin 256) (C : Fin 1024), y = ix2 r C := ⟨y 0, y 1, by funext a; match a with | ⟨0, _⟩ => rfl | ⟨1, _⟩ => rfl⟩
  refine (out5_at _ _ _ _ _ (real0 m c hx t) (real1 m c hx t) (real2 m c hx t) (real3 m c hq t) (real4 m c hk t) r C ⟨C / 64, by omega⟩ ⟨C % 64, by omega⟩
    (by show (C : ℕ) = C / 64 * 64 + C % 64; omega)).trans ?_
  have e : ((cfg0.win 5).blk t).view.emb (ix2 r C) = ix2 (⟨bt t * 256 + r, by omega⟩ : Fin 4096) C := by
    blk_ext [idx t]
  refine Eq.trans ?_ (congrArg (Cert.ReferenceIdeal.Read.val_main_v55 (F := Ideal) (m ((c : Thread nD τ).loc main_arg0)) (m ((c : Thread nD τ).loc main_arg1)) (m ((c : Thread nD τ).loc main_arg2))) e).symm
  refine Eq.trans ?_ (Cert.ReferenceIdeal.Ctx.v55_at _ _ _ hx hq hk ⟨bt t * 256 + r, by omega⟩ C (bt t) ⟨C / 64, by omega⟩ r ⟨C % 64, by omega⟩ rfl
    (by show (C : ℕ) = C / 64 * 64 + C % 64; omega)).symm
  refine congrArg (fun w => ((mean (wgt (score (Cert.ReferenceIdeal.Ctx.qN X Q (bt t) ⟨C / 64, by omega⟩ r) (Cert.ReferenceIdeal.Ctx.kN X K (bt t) ⟨C / 64, by omega⟩))) w : ℝ) : EReal)) (funext fun j => ?_)
  exact congrArg (fun k => X (ix2 _ k)) (Fin.ext (by show 2048 + (C : ℕ) = 2048 + (C / 64 * 64 + C % 64); omega))

include hx hk in
/-- The keys' array. -/
theorem final6 : (dats m 0 c).arrAt 6 cfg0.N
    = Cert.ReferenceIdeal.Read.val_main_v56 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  obtain ⟨n, r, d, rfl⟩ : ∃ (n : Fin 16) (r : Fin 256) (d : Fin 64), y = ix5 0 0 n r d := ⟨y 2, y 3, y 4, by
    funext a; match a with
    | ⟨0, _⟩ => exact Subsingleton.elim (α := Fin 1) _ _
    | ⟨1, _⟩ => exact Subsingleton.elim (α := Fin 1) _ _
    | ⟨2, _⟩ => rfl
    | ⟨3, _⟩ => rfl
    | ⟨4, _⟩ => rfl⟩
  refine (out6_at _ _ _ _ _ (real1 m c hx t) (real4 m c hk t) n r d).trans ?_
  have e : ((cfg0.win 6).blk t).view.emb (ix5 0 0 n r d) = ix5 (bt t) 0 n r d := by
    blk_ext [idx t]
  refine Eq.trans ?_ (congrArg (Cert.ReferenceIdeal.Read.val_main_v56 (F := Ideal) (m ((c : Thread nD τ).loc main_arg0)) (m ((c : Thread nD τ).loc main_arg2))) e).symm
  exact (Cert.ReferenceIdeal.Ctx.v56_at _ _ hx hk (bt t) n 0 r d).symm

include hx in
/-- The values' array. -/
theorem final7 : (dats m 0 c).arrAt 7 cfg0.N
    = Cert.ReferenceIdeal.Read.val_main_v57 (F := Ideal) (m ((c : Thread nD τ).loc main_arg0)) := by
  refine (dats m 0 c).arrAt_eq_of_covers 7 _ (by decide +kernel) fun t hf y => ?_
  blk_simp
  rw [after0_7]
  obtain ⟨n, r, d, rfl⟩ : ∃ (n : Fin 16) (r : Fin 256) (d : Fin 64), y = ix5 0 0 n r d := ⟨y 2, y 3, y 4, by
    funext a; match a with
    | ⟨0, _⟩ => exact Subsingleton.elim (α := Fin 1) _ _
    | ⟨1, _⟩ => exact Subsingleton.elim (α := Fin 1) _ _
    | ⟨2, _⟩ => rfl
    | ⟨3, _⟩ => rfl
    | ⟨4, _⟩ => rfl⟩
  refine (out7_at _ _ _ _ _ (real2 m c hx t) n r d).trans ?_
  have e : ((cfg0.win 7).blk t).view.emb (ix5 0 0 n r d) = ix5 (bt t) 0 n r d := by
    blk_ext [idx t]
  refine Eq.trans ?_ (congrArg (Cert.ReferenceIdeal.Read.val_main_v57 (F := Ideal) (m ((c : Thread nD τ).loc main_arg0))) e).symm
  exact (Cert.ReferenceIdeal.Ctx.v57_at _ hx (bt t) n 0 r d).symm

end Cert.KernelIdeal.Ctx

end
-- ==== Proof.LayerMath.lean ====
/- A layer's normed and modulated row, and what the layers add to the stream. -/
module

public import Idealize.ShloMosaic.Lib.Pipeline.ValueKit

@[expose] public section

noncomputable section

namespace Cert.LayerMath

open Idealize.ShloMosaic

/-- A row divided by its root mean square, times a gain, scaled and shifted. -/
def hrow (x g sh sc : Fin 1024 → EReal) (k : Fin 1024) : EReal :=
  x k * Ideal.rsqrt (Ideal.div (∑ e : Fin 1024, x e * x e) (Ideal.ofBits .f32 0x44800000#32) + Ideal.ofBits .f32 0x358637BD#32) * g k * (1 + sc k) + sh k

/-- The modulation group of a row: 0 for the context's rows, the latent's sequence after that. -/
def grp (R : Fin 8192) : Fin 8 := ⟨if (R : ℕ) < 4096 then 0 else (R - 4096) / 1024 + 1, by split <;> omega⟩

theorem grp_ctx (n : ℕ) (h : n < 8192) (h' : n < 4096) : grp ⟨n, h⟩ = 0 := Fin.ext (if_pos h')
theorem grp_lat (n : ℕ) (h : n < 8192) (h' : ¬ n < 4096) : grp ⟨n, h⟩ = ⟨(n - 4096) / 1024 + 1, by omega⟩ := Fin.ext (if_neg h')

/-- Whether a row is its sequence's first, or its last. -/
def fst (R : ℕ) : Bool := if R < 4096 then R % 256 == 0 else R % 1024 == 0
def lst (R : ℕ) : Bool := if R < 4096 then R % 256 == 255 else R % 1024 == 1023

theorem fst_of_mod (R : ℕ) (h : R % 1024 = 0) : fst R = true := by
  unfold fst
  split <;> rw [beq_iff_eq] <;> omega

theorem lst_of_mod (R : ℕ) (h : R % 1024 = 1023) : lst R = true := by
  unfold lst
  split <;> rw [beq_iff_eq] <;> omega

/-- A sum cut into `n` runs of `b`. -/
theorem sum_runs (n b : ℕ) (f : Fin (n * b) → EReal) :
    ∑ e, f e = ∑ j : Fin n, ∑ e : Fin b, f ⟨j * b + e, by nlinarith [j.2, e.2, Nat.mul_le_mul_right b (Nat.succ_le_of_lt j.2)]⟩ := by
  have lt (p : Fin n × Fin b) : (p.1 : ℕ) * b + p.2 < n * b := by nlinarith [p.1.2, p.2.2, Nat.mul_le_mul_right b (Nat.succ_le_of_lt p.1.2)]
  have e : ∑ p : Fin n × Fin b, f ⟨p.1 * b + p.2, lt p⟩ = ∑ e, f e := Fintype.sum_equiv finProdFinEquiv _ _ fun p =>
    congrArg f (Fin.ext (by show (p.1 : ℕ) * b + p.2 = p.2 + b * p.1; rw [Nat.mul_comm, Nat.add_comm]))
  exact e.symm.trans (Fintype.sum_prod_type _)

theorem sum_four (f : Fin 1024 → EReal) : ∑ e, f e = ∑ e : Fin 256, f ⟨e, by omega⟩ + ∑ e : Fin 256, f ⟨256 + e, by omega⟩
    + ∑ e : Fin 256, f ⟨512 + e, by omega⟩ + ∑ e : Fin 256, f ⟨768 + e, by omega⟩ := by
  refine (sum_runs 4 256 f).trans ?_
  rw [Fin.sum_univ_four]
  refine congrArg₂ (· + ·) (congrArg₂ (· + ·) (congrArg₂ (· + ·) ?_ ?_) ?_) ?_ <;>
    exact Finset.sum_congr rfl fun e _ => congrArg f (Fin.ext (by simp))

variable (w : Fin 1024 → Fin 3072 → EReal) (cw : Fin 3 → Fin 1024 → EReal)

/-- The product of the last two thirds of a row's projection. -/
def bx (h : Fin 1024 → EReal) (e : Fin 1024) : EReal := (∑ k, h k * w k ⟨1024 + e, by omega⟩) * ∑ k, h k * w k ⟨2048 + e, by omega⟩

/-- The gated convolution at a row, from the row before's product, the row's own and the row after's. -/
def mixed (h a b : Fin 1024 → EReal) (e : Fin 1024) : EReal :=
  (∑ k, h k * w k ⟨e, by omega⟩) * (a e * cw 0 e + bx w h e * cw 1 e + b e * cw 2 e)

variable (x : Fin 8192 → Fin 1024 → EReal) (mo : Fin 8 → Fin 6 → Fin 1024 → EReal) (g : Fin 1024 → EReal) (wo : Fin 1024 → Fin 1024 → EReal)

/-- A row's products, its number given as a natural number. -/
def near (G : Fin 8) (R : ℕ) (e : Fin 1024) : EReal := if h : R < 8192 then bx w (hrow (x ⟨R, h⟩) g (mo G 0) (mo G 1)) e else 0

/-- The short convolution's layer at a row and a column. -/
def convLayer (R : Fin 8192) (C : Fin 1024) : EReal :=
  x R C + mo (grp R) 2 C * ∑ e : Fin 1024, mixed w cw (hrow (x R) g (mo (grp R) 0) (mo (grp R) 1))
    (fun e => if fst R then 0 else near w x mo g (grp R) (R - 1) e) (fun e => if lst R then 0 else near w x mo g (grp R) (R + 1) e) e * wo e C

/-- A gated unit, and a row's layer from its stream after the mixer. -/
def gate (u v : EReal) : EReal := u * Ideal.div 1 (1 + Ideal.exp (-u)) * v

def ffnRow (wg : Fin 1024 → Fin 5632 → EReal) (wd : Fin 2816 → Fin 1024 → EReal) (z g sh sc gt : Fin 1024 → EReal) (C : Fin 1024) : EReal :=
  z C + gt C * ∑ e : Fin 2816, gate (∑ k, hrow z g sh sc k * wg k ⟨e, by omega⟩) (∑ k, hrow z g sh sc k * wg k ⟨2816 + e, by omega⟩) * wd e C

/-- The stream after the mixer: the mixer's rows projected, gated and added. -/
def ffnMid (a : Fin 8192 → Fin 1024 → EReal) (R : Fin 8192) (C : Fin 1024) : EReal := x R C + mo (grp R) 2 C * ∑ k, a R k * wo k C

def ffnLayer (a : Fin 8192 → Fin 1024 → EReal) (wg : Fin 1024 → Fin 5632 → EReal) (wd : Fin 2816 → Fin 1024 → EReal) (R : Fin 8192) (C : Fin 1024) : EReal :=
  ffnRow wg wd (ffnMid x mo wo a R) g (mo (grp R) 3) (mo (grp R) 4) (mo (grp R) 5) C

theorem sum_fin_eleven (F : Fin 11 → EReal) : ∑ j, F j = F 0 + F 1 + F 2 + F 3 + F 4 + F 5 + F 6 + F 7 + F 8 + F 9 + F 10 := by
  rw [Fin.sum_univ_castSucc, Fin.sum_univ_castSucc, Fin.sum_univ_castSucc, Fin.sum_univ_eight]
  rfl

theorem sum_eleven (f : Fin 2816 → EReal) : ∑ e, f e = ∑ e : Fin 256, f ⟨e, by omega⟩ + ∑ e : Fin 256, f ⟨256 + e, by omega⟩
    + ∑ e : Fin 256, f ⟨512 + e, by omega⟩ + ∑ e : Fin 256, f ⟨768 + e, by omega⟩ + ∑ e : Fin 256, f ⟨1024 + e, by omega⟩
    + ∑ e : Fin 256, f ⟨1280 + e, by omega⟩ + ∑ e : Fin 256, f ⟨1536 + e, by omega⟩ + ∑ e : Fin 256, f ⟨1792 + e, by omega⟩
    + ∑ e : Fin 256, f ⟨2048 + e, by omega⟩ + ∑ e : Fin 256, f ⟨2304 + e, by omega⟩ + ∑ e : Fin 256, f ⟨2560 + e, by omega⟩ := by
  refine (sum_runs 11 256 f).trans ?_
  rw [sum_fin_eleven]
  refine congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_) ?_) ?_ <;>
    exact Finset.sum_congr rfl fun e _ => congrArg f (Fin.ext (by simp))

end Cert.LayerMath

end
-- ==== Proof.FfnRef.lean ====
/- The dense feed-forward layer's plain program, read at an index. -/
module

public import proofs.«01_k».proof.Proof.LayerMath
public import proofs.«01_k».proof.Proof.Gen.Reference2Ideal.Read

@[expose] public section

set_option maxRecDepth 16384

noncomputable section

namespace Cert.Reference2Ideal.Ffn

open Cert.Reference2Ideal Cert.Reference2Ideal.Gen Cert.Reference2Ideal.Read Idealize.ShloMosaic Idealize.ShloMosaic.TcCoe Idealize.SL.Sem
open Cert.LayerMath

variable (x : FVec Ideal S8192x1024 .f32) (ac al : FVec Ideal S4096x1024 .bf16) (wo : FVec Ideal S1x1024x1024 .f32) (mo : FVec Ideal S4x8x6x1024 .f32) (g : FVec Ideal S1024 .f32) (wg : FVec Ideal S2x1024x5632 .f32) (wd : FVec Ideal S2x2816x1024 .f32)

/-- The arrays by their coordinates, the weights at their layer. -/
abbrev xC (R : Fin 8192) (C : Fin 1024) : EReal := x (ix2 R C)
def aC (R : Fin 8192) (C : Fin 1024) : EReal := if h : (R : ℕ) < 4096 then ac (ix2 ⟨R, h⟩ C) else al (ix2 ⟨R - 4096, by omega⟩ C)
abbrev moC (G : Fin 8) (k : Fin 6) (C : Fin 1024) : EReal := mo (ix4 2 G k C)
abbrev gC (C : Fin 1024) : EReal := g (ix1 C)
abbrev wgC (k : Fin 1024) (C : Fin 5632) : EReal := wg (ix3 1 k C)
abbrev wdC (k : Fin 2816) (C : Fin 1024) : EReal := wd (ix3 1 k C)
abbrev woC (k : Fin 1024) (C : Fin 1024) : EReal := wo (ix3 0 k C)

theorem v22_at (b : Fin 16) (t : Fin 256) (C : Fin 1024) : val_main_v22 (F := Ideal) x ac wo mo (ix3 b t C)
    = xC x ⟨b * 256 + t, by omega⟩ C + moC mo 0 2 C * ∑ k, ac (ix2 ⟨b * 256 + t, by omega⟩ k) * woC wo k C := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22]

theorem v27_at (b : Fin 4) (t : Fin 1024) (C : Fin 1024) : val_main_v27 (F := Ideal) x al wo mo (ix3 b t C)
    = xC x ⟨4096 + (b * 1024 + t), by omega⟩ C + moC mo ⟨1 + b, by omega⟩ 2 C * ∑ k, al (ix2 ⟨b * 1024 + t, by omega⟩ k) * woC wo k C := by
  pointwise [val_main_v0, val_main_v1, val_main_v2, val_main_v3, val_main_v4, val_main_v5, val_main_v6, val_main_v7, val_main_v8, val_main_v13, val_main_v14, val_main_v15, val_main_v16, val_main_v23, val_main_v24, val_main_v25, val_main_v26, val_main_v27]

theorem v52_at (b : Fin 16) (t : Fin 256) (C : Fin 1024) : val_main_v52 (F := Ideal) x ac wo mo g (ix3 b t C)
    = hrow (fun k => val_main_v22 (F := Ideal) x ac wo mo (ix3 b t k)) (gC g) (moC mo 0 3) (moC mo 0 4) C := by
  unfold hrow val_main_v52 val_main_v49 val_main_v44 val_main_v41 val_main_v40 val_main_v39 val_main_v38 val_main_v36 val_main_v34 val_main_v33 val_main_v32
  generalize val_main_v22 (F := Ideal) x ac wo mo = y
  pointwise [val_main_v4, val_main_v5, val_main_v28, val_main_v29, val_main_v30, val_main_v31, val_main_v35, val_main_v37, val_main_v42, val_main_v43, val_main_v45, val_main_v46, val_main_v47, val_main_v48, val_main_v50, val_main_v51, val_main_cst, val_main_cst_0, val_main_cst_1, val_main_cst_2]

theorem v75_at (b : Fin 4) (t : Fin 1024) (C : Fin 1024) : val_main_v75 (F := Ideal) x al wo mo g (ix3 b t C)
    = hrow (fun k => val_main_v27 (F := Ideal) x al wo mo (ix3 b t k)) (gC g) (moC mo ⟨1 + b, by omega⟩ 3) (moC mo ⟨1 + b, by omega⟩ 4) C := by
  unfold hrow val_main_v75 val_main_v73 val_main_v69 val_main_v66 val_main_v65 val_main_v64 val_main_v63 val_main_v61 val_main_v59 val_main_v58 val_main_v57
  generalize val_main_v27 (F := Ideal) x al wo mo = y
  pointwise [val_main_v6, val_main_v7, val_main_v8, val_main_v53, val_main_v54, val_main_v55, val_main_v56, val_main_v60, val_main_v62, val_main_v67, val_main_v68, val_main_v70, val_main_v71, val_main_v72, val_main_v74, val_main_cst_3, val_main_cst_4, val_main_cst_5, val_main_cst_6]

theorem v86_at (b : Fin 16) (t : Fin 256) (e : Fin 2816) : val_main_v86 (F := Ideal) x ac wo mo g wg (ix3 b t e)
    = gate (∑ k, val_main_v52 (F := Ideal) x ac wo mo g (ix3 b t k) * wgC wg k ⟨e, by omega⟩) (∑ k, val_main_v52 (F := Ideal) x ac wo mo g (ix3 b t k) * wgC wg k ⟨2816 + e, by omega⟩) := by
  unfold gate val_main_v86 val_main_v85 val_main_v84 val_main_call0_v5 val_main_call0_v3 val_main_call0_v1 val_main_call0_v0 val_main_v83 val_main_v82
  generalize val_main_v52 (F := Ideal) x ac wo mo g = y
  pointwise [val_main_v78, val_main_v79, val_main_call0_v2, val_main_call0_v4, val_main_call0_cst, val_main_call0_cst_0]

theorem v102_at (b : Fin 4) (t : Fin 1024) (e : Fin 2816) : val_main_v102 (F := Ideal) x al wo mo g wg (ix3 b t e)
    = gate (∑ k, val_main_v75 (F := Ideal) x al wo mo g (ix3 b t k) * wgC wg k ⟨e, by omega⟩) (∑ k, val_main_v75 (F := Ideal) x al wo mo g (ix3 b t k) * wgC wg k ⟨2816 + e, by omega⟩) := by
  unfold gate val_main_v102 val_main_v101 val_main_v100 val_main_call1_v5 val_main_call1_v3 val_main_call1_v1 val_main_call1_v0 val_main_v99 val_main_v98
  generalize val_main_v75 (F := Ideal) x al wo mo g = y
  pointwise [val_main_v94, val_main_v95, val_main_call1_v2, val_main_call1_v4, val_main_call1_cst, val_main_call1_cst_0]

theorem v91_at (b : Fin 16) (t : Fin 256) (C : Fin 1024) : val_main_v91 (F := Ideal) x ac wo mo g wg wd (ix3 b t C)
    = val_main_v22 (F := Ideal) x ac wo mo (ix3 b t C) + moC mo 0 5 C * ∑ e, val_main_v86 (F := Ideal) x ac wo mo g wg (ix3 b t e) * wdC wd e C := by
  unfold val_main_v91 val_main_v90 val_main_v87
  generalize val_main_v22 (F := Ideal) x ac wo mo = y
  generalize val_main_v86 (F := Ideal) x ac wo mo g wg = z
  pointwise [val_main_v4, val_main_v5, val_main_v76, val_main_v77, val_main_v80, val_main_v81, val_main_v88, val_main_v89]

theorem v106_at (b : Fin 4) (t : Fin 1024) (C : Fin 1024) : val_main_v106 (F := Ideal) x al wo mo g wg wd (ix3 b t C)
    = val_main_v27 (F := Ideal) x al wo mo (ix3 b t C) + moC mo ⟨1 + b, by omega⟩ 5 C * ∑ e, val_main_v102 (F := Ideal) x al wo mo g wg (ix3 b t e) * wdC wd e C := by
  unfold val_main_v106 val_main_v105 val_main_v103
  generalize val_main_v27 (F := Ideal) x al wo mo = y
  generalize val_main_v102 (F := Ideal) x al wo mo g wg = z
  pointwise [val_main_v6, val_main_v7, val_main_v8, val_main_v92, val_main_v93, val_main_v96, val_main_v97, val_main_v104]

theorem mid_ctx (b : Fin 16) (t : Fin 256) : (fun k => val_main_v22 (F := Ideal) x ac wo mo (ix3 b t k)) = ffnMid (xC x) (moC mo) (woC wo) (aC ac al) ⟨b * 256 + t, by omega⟩ := by
  funext C
  have hb : (b : ℕ) * 256 + t < 4096 := by omega
  rw [v22_at]
  unfold ffnMid aC
  rw [grp_ctx _ _ hb]
  simp only [dif_pos hb]

theorem mid_lat (b : Fin 4) (t : Fin 1024) : (fun k => val_main_v27 (F := Ideal) x al wo mo (ix3 b t k)) = ffnMid (xC x) (moC mo) (woC wo) (aC ac al) ⟨4096 + (b * 1024 + t), by omega⟩ := by
  funext C
  have hb : ¬ 4096 + ((b : ℕ) * 1024 + t) < 4096 := by omega
  have hg : grp ⟨4096 + (b * 1024 + t), by omega⟩ = ⟨1 + b, by omega⟩ := (grp_lat _ _ hb).trans (Fin.ext (by show (4096 + ((b : ℕ) * 1024 + t) - 4096) / 1024 + 1 = 1 + b; omega))
  rw [v27_at]
  unfold ffnMid aC
  rw [hg]
  simp only [dif_neg hb, Nat.add_sub_cancel_left]

theorem ctx_at (b : Fin 16) (t : Fin 256) (C : Fin 1024) : val_main_v91 (F := Ideal) x ac wo mo g wg wd (ix3 b t C)
    = ffnLayer (xC x) (moC mo) (gC g) (woC wo) (aC ac al) (wgC wg) (wdC wd) ⟨b * 256 + t, by omega⟩ C := by
  have hb : (b : ℕ) * 256 + t < 4096 := by omega
  rw [v91_at]
  simp only [v86_at, v52_at]
  unfold ffnLayer ffnRow
  rw [grp_ctx _ _ hb, ← mid_ctx]

theorem lat_at (b : Fin 4) (t : Fin 1024) (C : Fin 1024) : val_main_v106 (F := Ideal) x al wo mo g wg wd (ix3 b t C)
    = ffnLayer (xC x) (moC mo) (gC g) (woC wo) (aC ac al) (wgC wg) (wdC wd) ⟨4096 + (b * 1024 + t), by omega⟩ C := by
  have hb : ¬ 4096 + ((b : ℕ) * 1024 + t) < 4096 := by omega
  have hg : grp ⟨4096 + (b * 1024 + t), by omega⟩ = ⟨1 + b, by omega⟩ := (grp_lat _ _ hb).trans (Fin.ext (by show (4096 + ((b : ℕ) * 1024 + t) - 4096) / 1024 + 1 = 1 + b; omega))
  rw [v106_at]
  simp only [v102_at, v75_at]
  unfold ffnLayer ffnRow
  rw [hg, ← mid_lat]

theorem result_at (R : Fin 8192) (C : Fin 1024) : val_main_v109 (F := Ideal) x ac al wo mo g wg wd (ix2 R C)
    = ffnLayer (xC x) (moC mo) (gC g) (woC wo) (aC ac al) (wgC wg) (wdC wd) R C := by
  have e : val_main_v109 (F := Ideal) x ac al wo mo g wg wd (ix2 R C)
      = if h : (R : ℕ) < 4096 then val_main_v91 (F := Ideal) x ac wo mo g wg wd (ix3 ⟨R / 256, by omega⟩ ⟨R % 256, by omega⟩ C)
        else val_main_v106 (F := Ideal) x al wo mo g wg wd (ix3 ⟨(R - 4096) / 1024, by omega⟩ ⟨(R - 4096) % 1024, by omega⟩ C) := by
    unfold val_main_v109 val_main_v108 val_main_v107
    generalize val_main_v91 (F := Ideal) x ac wo mo g wg wd = y
    generalize val_main_v106 (F := Ideal) x al wo mo g wg wd = z
    pointwise []
  rw [e]
  by_cases h : (R : ℕ) < 4096
  · rw [dif_pos h, ctx_at x ac al]
    exact congrArg (fun R => ffnLayer _ _ _ _ _ _ _ R C) (Fin.ext (by show (R : ℕ) / 256 * 256 + R % 256 = R; omega))
  · rw [dif_neg h, lat_at x ac al]
    exact congrArg (fun R => ffnLayer _ _ _ _ _ _ _ R C) (Fin.ext (by show 4096 + (((R : ℕ) - 4096) / 1024 * 1024 + (R - 4096) % 1024) = R; omega))

end Cert.Reference2Ideal.Ffn

end
-- ==== Proof.FfnBlocks.lean ====
/- The blocks the dense feed-forward layer writes. -/
module

public import proofs.«01_k».proof.Proof.FfnRef
public import proofs.«01_k».proof.Proof.Gen.Kernel2Ideal.Value
public import Idealize.ShloMosaic.Lib.Pipeline.ReadBack

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.LayerMath

/-- The block's stream after the mixer, of whichever mixer rows the point takes. -/
def mid (n : ℕ) (x0 : Vec Ideal S512x1024 .f32) (x1 x2 : Vec Ideal S512x1024 .bf16) (x4 : Vec Ideal S1x1x6x1024 .f32) (w : Vec Ideal S1024x1024 .bf16) (r : Fin 512) (C : Fin 1024) : EReal :=
  x0 (ix2 r C) + x4 (ix4 0 0 2 C) * ∑ k : Fin 1024, (if n < 8 then x1 (ix2 r k) else x2 (ix2 r k)) * w (ix2 k C)

theorem pick : ∀ n : Fin 16, Scalar.cmpi .slt (BitVec.ofNat 32 n) 8#32 = if (n : ℕ) < 8 then 1#1 else 0#1 := by decide +kernel

theorem picked (i : grid0.Coords) (a b : EReal) :
    Scalar.select (Scalar.cmpi .slt (BitVec.ofNat 32 (i 0).val) 8#32) a b = if (i 0).val < 8 then a else b := by
  refine (congrArg (fun s => Scalar.select s a b) (pick (i 0))).trans ?_
  by_cases h : (i 0).val < 8
  · simp only [if_pos h]
    rfl
  · simp only [if_neg h]
    rfl

theorem mid_at (i : grid0.Coords) (gt : Vec Ideal S1x1x1x1024 .f32) (x : Vec Ideal S512x1024 .f32) (a b : Vec Ideal S512x1024 .bf16) (w : Vec Ideal S1024x1024 .bf16) (r : Fin 512) (C : Fin 1024) :
    k0_pay3 (F := Ideal) i gt x a b w (ix2 r C) = x (ix2 r C) + gt (ix4 0 0 0 C) * ∑ k : Fin 1024, (if (i 0).val < 8 then a (ix2 r k) else b (ix2 r k)) * w (ix2 k C) := by
  simp only [← picked]
  pointwise [k0_pay3]

theorem normed_at (i : grid0.Coords) (gt : Vec Ideal S1x1x1x1024 .f32) (x : Vec Ideal S512x1024 .f32) (a b : Vec Ideal S512x1024 .bf16) (w : Vec Ideal S1024x1024 .bf16)
    (g : Vec Ideal S1x1024 .f32) (sh sc : Vec Ideal S1x1x1x1024 .f32) (r : Fin 512) (C : Fin 1024) :
    k0_pay8 (F := Ideal) (k0_pay3 i gt x a b w) (k0_pay4 g) (k0_pay5 sh) (k0_pay6 sc) (k0_pay7 i gt x a b w) (ix2 r C)
      = hrow (fun k => k0_pay3 (F := Ideal) i gt x a b w (ix2 r k)) (fun k => g (ix2 0 k)) (fun k => sh (ix4 0 0 0 k)) (fun k => sc (ix4 0 0 0 k)) C := by
  unfold hrow k0_pay8 k0_pay7
  generalize k0_pay3 (F := Ideal) i gt x a b w = z
  pointwise [k0_pay4, k0_pay5, k0_pay6]

variable (h : FVec Ideal S512x1024 .bf16) (a b : Vec Ideal S1x1024x256 .bf16) (d : Vec Ideal S1x256x1024 .bf16) (v : FVec Ideal S512x1024 .f32) (r : Fin 512) (e : Fin 256) (C : Fin 1024)

/-- A unit of a run of the hidden layer, and the run's part of the product. -/
def unit (h : FVec Ideal S512x1024 .bf16) (a b : Vec Ideal S1x1024x256 .bf16) (r : Fin 512) (e : Fin 256) : EReal :=
  gate (∑ k : Fin 1024, h (ix2 r k) * a (ix3 0 k e)) (∑ k : Fin 1024, h (ix2 r k) * b (ix3 0 k e))
def run (h : FVec Ideal S512x1024 .bf16) (a b : Vec Ideal S1x1024x256 .bf16) (d : Vec Ideal S1x256x1024 .bf16) (r : Fin 512) (C : Fin 1024) : EReal :=
  ∑ e : Fin 256, unit h a b r e * d (ix3 0 e C)

theorem gate_sub (u v : EReal) : gate u v = u * Ideal.div 1 (1 + Ideal.exp (0 - u)) * v := by
  rw [zero_sub]
  rfl

theorem run9_at (v14 : FVec Ideal S512x1024 .f32) (v16 v18 v20 : FVec Ideal S1x1024 .f32) (v28 : FVec Ideal S512x1 .f32) : k0_pay9 (F := Ideal) v14 v16 v18 v20 v28 a b d (ix2 r C)
    = run (k0_pay8 v14 v16 v18 v20 v28) a b d r C := by
  unfold run unit
  simp only [gate_sub]
  unfold k0_pay9
  generalize k0_pay8 (F := Ideal) v14 v16 v18 v20 v28 = h
  pointwise []

theorem run12_at (v14 : FVec Ideal S512x1024 .f32) (v16 v18 v20 : FVec Ideal S1x1024 .f32) (v28 : FVec Ideal S512x1 .f32) (a' b' : Vec Ideal S1x1024x256 .bf16) (d' : Vec Ideal S1x256x1024 .bf16) :
    k0_pay12 (F := Ideal) (k0_pay8 v14 v16 v18 v20 v28) v (k0_pay10 v14 v16 v18 v20 v28 a) (k0_pay11 v14 v16 v18 v20 v28 a) b d a' b' d' (ix2 r C)
    = v (ix2 r C) + run (k0_pay8 v14 v16 v18 v20 v28) a b d r C + run (k0_pay8 v14 v16 v18 v20 v28) a' b' d' r C := by
  unfold run unit
  simp only [gate_sub]
  unfold k0_pay11 k0_pay10
  generalize k0_pay8 (F := Ideal) v14 v16 v18 v20 v28 = h
  pointwise [k0_pay12]

theorem run13_at : k0_pay13 (F := Ideal) h v a b d (ix2 r C) = v (ix2 r C) + run h a b d r C := by
  unfold run unit
  simp only [gate_sub]
  pointwise [k0_pay13]

theorem run15_at (a' b' : Vec Ideal S1x1024x256 .bf16) (d' : Vec Ideal S1x256x1024 .bf16) : k0_pay15 (F := Ideal) h v (k0_pay14 h a b) d a' b' d' (ix2 r C)
    = v (ix2 r C) + run h a b d r C + run h a' b' d' r C := by
  unfold run unit
  simp only [gate_sub]
  pointwise [k0_pay15, k0_pay14]

theorem run17_at (a' b' : Vec Ideal S1x1024x256 .bf16) (d' : Vec Ideal S1x256x1024 .bf16) : k0_pay17 (F := Ideal) h v (k0_pay16 h a) b d a' b' d' (ix2 r C)
    = v (ix2 r C) + run h a b d r C + run h a' b' d' r C := by
  unfold run unit
  simp only [gate_sub]
  pointwise [k0_pay17, k0_pay16]

theorem run20_at : k0_pay20 (F := Ideal) h v (k0_pay18 h a) k0_pay19 b d (ix2 r C) = v (ix2 r C) + run h a b d r C := by
  unfold run unit
  simp only [gate_sub]
  pointwise [k0_pay20, k0_pay18, k0_pay19]

theorem run21_at : k0_pay21 (F := Ideal) h a b d (ix2 r C) = run h a b d r C := by
  unfold run unit
  simp only [gate_sub]
  pointwise [k0_pay21]

theorem run1_at (z v' : FVec Ideal S512x1024 .f32) (gt : Vec Ideal S1x1x1x1024 .f32) : k0_pay1 (F := Ideal) z h v v' a b d gt (ix2 r C)
    = z (ix2 r C) + gt (ix4 0 0 0 C) * (v (ix2 r C) + v' (ix2 r C) + run h a b d r C) := by
  unfold run unit
  simp only [gate_sub]
  pointwise [k0_pay1]

theorem ix_mod (C : Fin 1024) (o : ℕ) (ho : ∀ a, (![0, 0, o, 0] : Fin 4 → ℕ) a + (![1, 1, 1, 1024] : Fin 4 → ℕ) a ≤ S1x1x6x1024.size a) : (Rect.unit (s := S1x1x6x1024) ![0, 0, o, 0] ![1, 1, 1, 1024] ho).idx (ix4 0 0 0 C) = ix4 0 0 ⟨o, ho 2⟩ C := by
  funext a
  match a with
  | ⟨0, _⟩ => exact Fin.ext ((Rect.idx_unit_val _ _ _ _ _).trans (Nat.zero_add _))
  | ⟨1, _⟩ => exact Fin.ext ((Rect.idx_unit_val _ _ _ _ _).trans (Nat.zero_add _))
  | ⟨2, _⟩ => exact Fin.ext (Rect.idx_unit_val _ _ _ _ _)
  | ⟨3, _⟩ => exact Fin.ext ((Rect.idx_unit_val _ _ _ _ _).trans (Nat.zero_add _))

theorem ix_up (k : Fin 1024) (e : Fin 256) (o : ℕ) (ho : ∀ a, (![0, 0, o] : Fin 3 → ℕ) a + (![1, 1024, 256] : Fin 3 → ℕ) a ≤ S1x1024x2816.size a) : (Rect.unit (s := S1x1024x2816) ![0, 0, o] ![1, 1024, 256] ho).idx (ix3 0 k e) = ix3 0 k ⟨o + e, by have : o + 256 ≤ 2816 := ho 2; omega⟩ := by
  funext a
  match a with
  | ⟨0, _⟩ => exact Fin.ext ((Rect.idx_unit_val _ _ _ _ _).trans (Nat.zero_add _))
  | ⟨1, _⟩ => exact Fin.ext ((Rect.idx_unit_val _ _ _ _ _).trans (Nat.zero_add _))
  | ⟨2, _⟩ => exact Fin.ext (Rect.idx_unit_val _ _ _ _ _)

theorem ix_down (k : Fin 256) (e : Fin 1024) (o : ℕ) (ho : ∀ a, (![0, o, 0] : Fin 3 → ℕ) a + (![1, 256, 1024] : Fin 3 → ℕ) a ≤ S1x2816x1024.size a) : (Rect.unit (s := S1x2816x1024) ![0, o, 0] ![1, 256, 1024] ho).idx (ix3 0 k e) = ix3 0 ⟨o + k, by have : o + 256 ≤ 2816 := ho 1; omega⟩ e := by
  funext a
  match a with
  | ⟨0, _⟩ => exact Fin.ext ((Rect.idx_unit_val _ _ _ _ _).trans (Nat.zero_add _))
  | ⟨1, _⟩ => exact Fin.ext (Rect.idx_unit_val _ _ _ _ _)
  | ⟨2, _⟩ => exact Fin.ext ((Rect.idx_unit_val _ _ _ _ _).trans (Nat.zero_add _))

/-- What a point writes, from its blocks and the projection it holds. -/
def wrote (n : ℕ) (x0 : Vec Ideal S512x1024 .f32) (x1 x2 : Vec Ideal S512x1024 .bf16) (x4 : Vec Ideal S1x1x6x1024 .f32) (x5 : Vec Ideal S1x1024 .f32) (x6 x7 : Vec Ideal S1x1024x2816 .bf16) (x8 : Vec Ideal S1x2816x1024 .bf16)
    (w : Vec Ideal S1024x1024 .bf16) (r : Fin 512) (C : Fin 1024) : EReal :=
  mid n x0 x1 x2 x4 w r C + x4 (ix4 0 0 5 C) * ∑ e : Fin 2816,
    gate (∑ k, hrow (mid n x0 x1 x2 x4 w r) (fun k => x5 (ix2 0 k)) (fun k => x4 (ix4 0 0 3 k)) (fun k => x4 (ix4 0 0 4 k)) k * x6 (ix3 0 k e))
      (∑ k, hrow (mid n x0 x1 x2 x4 w r) (fun k => x5 (ix2 0 k)) (fun k => x4 (ix4 0 0 3 k)) (fun k => x4 (ix4 0 0 4 k)) k * x7 (ix3 0 k e)) * x8 (ix3 0 e C)

variable (m : (ℓ : Loc nD τ sig) → Buf (Elt Ideal) ℓ) (c : Dev nD)

theorem first_at (t : Fin cfg0.N) (h0 : t.val % 16 = 0) (r : Fin 512) (C : Fin 1024) : (outsAt0 m c t.val t.isLt).1 (ix2 r C)
    = wrote ((grid0.coords t) 0).val (iblk m c 0 t) (iblk m c 1 t) (iblk m c 2 t) (iblk m c 4 t) (iblk m c 5 t) (iblk m c 6 t) (iblk m c 7 t) (iblk m c 8 t) (k0_pay2 (iblk m c 3 t)) r C := by
  rw [outsAt0_A m c t h0]
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize k0_pay2 (F := Ideal) x3 = w
  rw [run1_at, run20_at, run17_at, run15_at, run13_at, run12_at, run9_at, run21_at]
  unfold run unit
  simp only [normed_at, mid_at, View.ld, ix_mod, ix_up, ix_down]
  unfold wrote
  rw [sum_eleven]
  simp only [Nat.zero_add]
  rfl

theorem rest_at (t : Fin cfg0.N) (h0 : ¬ t.val % 16 = 0) (r : Fin 512) (C : Fin 1024) : (outsAt0 m c t.val t.isLt).1 (ix2 r C)
    = wrote ((grid0.coords t) 0).val (iblk m c 0 t) (iblk m c 1 t) (iblk m c 2 t) (iblk m c 4 t) (iblk m c 5 t) (iblk m c 6 t) (iblk m c 7 t) (iblk m c 8 t) (outsAt0 m c (t.val - 1) (Nat.lt_of_le_of_lt (Nat.sub_le _ _) t.isLt)).2 r C := by
  rw [outsAt0_B m c t h0]
  frame_out
  simp only [read_unread_whole]
  generalize (outsAt0 m c (t.val - 1) (Nat.lt_of_le_of_lt (Nat.sub_le _ _) t.isLt)).2 = w
  generalize iblk m c 0 t = x0
  generalize iblk m c 1 t = x1
  generalize iblk m c 2 t = x2
  generalize iblk m c 4 t = x4
  generalize iblk m c 5 t = x5
  generalize iblk m c 6 t = x6
  generalize iblk m c 7 t = x7
  generalize iblk m c 8 t = x8
  rw [run1_at, run20_at, run17_at, run15_at, run13_at, run12_at, run9_at, run21_at]
  unfold run unit
  simp only [normed_at, mid_at, View.ld, ix_mod, ix_up, ix_down]
  unfold wrote
  rw [sum_eleven]
  simp only [Nat.zero_add]
  rfl

theorem held_at (n : ℕ) (h : n < cfg0.N) : (outsAt0 m c n h).2 = k0_pay2 (F := Ideal) (iblk m c 3 ⟨0, Nat.zero_lt_of_lt h⟩) := by
  induction n with
  | zero =>
    refine (congrArg Prod.snd (outsAt0_A m c ⟨0, h⟩ rfl)).trans ?_
    frame_out
  | succ n ih =>
    have hn : n + 1 < 16 := h
    refine (congrArg Prod.snd (outsAt0_B m c ⟨n + 1, h⟩ (by show ¬ (n + 1) % 16 = 0; omega))).trans ?_
    exact ih (Nat.lt_of_succ_lt h)

theorem kept_at (x : Vec Ideal S1x1024x1024 .f32) (k C : Fin 1024) : k0_pay2 (F := Ideal) x (ix2 k C) = x (ix3 0 k C) := by
  pointwise [k0_pay2]

end Cert.Kernel2Ideal.Ffn

end
-- ==== Proof.FfnValue.lean ====
/- The dense feed-forward layer's array is the plain program's. -/
module

public import proofs.«01_k».proof.Proof.FfnBlocks

@[expose] public section

set_option maxRecDepth 4096

noncomputable section

namespace Cert.Kernel2Ideal.Ffn

open Cert.Kernel2Ideal Cert.Kernel2Ideal.Gen Idealize.ShloMosaic Idealize.ShloMosaic.TcCoe Idealize.SL.Sem
open Cert.LayerMath

theorem idx : ∀ t : Fin cfg0.N, win0_0.index t = ![t.val, 0] ∧ win0_1.index t = ![(if t.val < 8 then t.val else 7), 0] ∧ win0_2.index t = ![t.val - 8, 0]
    ∧ win0_3.index t = ![0, 0, 0] ∧ win0_4.index t = ![2, (if t.val < 8 then 0 else (t.val - 8) / 2 + 1), 0, 0] ∧ win0_5.index t = ![0, 0]
    ∧ win0_6.index t = ![1, 0, 0] ∧ win0_7.index t = ![1, 0, 1] ∧ win0_8.index t = ![1, 0, 0] ∧ win0_9.index t = ![t.val, 0] ∧ ((grid0.coords t) 0).val = t.val :=
  (by decide +kernel : ∀ t : Fin grid0.N, _)

variable (m : (ℓ : Loc nD τ sig) → Buf (Elt Ideal) ℓ) (c : Dev nD)

abbrev bt (t : Fin cfg0.N) : Fin 16 := ⟨t, t.2⟩
abbrev grpB (t : Fin cfg0.N) : Fin 8 := ⟨if (bt t).val < 8 then 0 else ((bt t).val - 8) / 2 + 1, by have := (bt t).2; split <;> omega⟩

theorem blk0_at (t : Fin cfg0.N) (r : Fin 512) (C : Fin 1024) :
    iblk m c 0 t (ix2 r C) = m ((c : Thread nD τ).loc main_arg0) (ix2 ⟨bt t * 512 + r, by omega⟩ C) := by
  blk_ext [iblk, V, idx t]

theorem blk1_at (t : Fin cfg0.N) (r : Fin 512) (C : Fin 1024) (h : (bt t : ℕ) < 8) :
    iblk m c 1 t (ix2 r C) = m ((c : Thread nD τ).loc main_arg1) (ix2 ⟨bt t * 512 + r, by omega⟩ C) := by
  have h' : t.val < 8 := h
  blk_ext [iblk, V, idx t, if_pos h']

theorem blk2_at (t : Fin cfg0.N) (r : Fin 512) (C : Fin 1024) (h : ¬ (bt t : ℕ) < 8) :
    iblk m c 2 t (ix2 r C) = m ((c : Thread nD τ).loc main_arg2) (ix2 ⟨(bt t - 8) * 512 + r, by omega⟩ C) := by
  blk_ext [iblk, V, idx t]

theorem blk3_at (t : Fin cfg0.N) (k C : Fin 1024) :
    iblk m c 3 t (ix3 0 k C) = m ((c : Thread nD τ).loc main_arg3) (ix3 0 k C) := by
  blk_ext [iblk, V, idx t]

theorem blk4_at (t : Fin cfg0.N) (k : Fin 6) (C : Fin 1024) :
    iblk m c 4 t (ix4 0 0 k C) = m ((c : Thread nD τ).loc main_arg4) (ix4 2 (grpB t) k C) := by
  blk_ext [iblk, V, idx t]

theorem blk5_at (t : Fin cfg0.N) (C : Fin 1024) :
    iblk m c 5 t (ix2 0 C) = m ((c : Thread nD τ).loc main_arg5) (ix1 C) := by
  blk_simp [iblk, idx t]
  entry_read
  pointwise
  blk_ext [idx t]

theorem blk6_at (t : Fin cfg0.N) (k : Fin 1024) (e : Fin 2816) :
    iblk m c 6 t (ix3 0 k e) = m ((c : Thread nD τ).loc main_arg6) (ix3 1 k ⟨e, by omega⟩) := by
  blk_simp [iblk, idx t]
  entry_read
  pointwise
  blk_ext [idx t]

theorem blk7_at (t : Fin cfg0.N) (k : Fin 1024) (e : Fin 2816) :
    iblk m c 7 t (ix3 0 k e) = m ((c : Thread nD τ).loc main_arg6) (ix3 1 k ⟨2816 + e, by omega⟩) := by
  blk_simp [iblk, idx t]
  entry_read
  pointwise
  blk_ext [idx t]

theorem blk8_at (t : Fin cfg0.N) (k : Fin 2816) (C : Fin 1024) :
    iblk m c 8 t (ix3 0 k C) = m ((c : Thread nD τ).loc main_arg7) (ix3 1 k C) := by
  blk_simp [iblk, idx t]
  entry_read
  pointwise
  blk_ext [idx t]

theorem out_at (t : Fin cfg0.N) (r : Fin 512) (C : Fin 1024) : (outsAt0 m c t.val t.isLt).1 (ix2 r C)
    = wrote ((grid0.coords t) 0).val (iblk m c 0 t) (iblk m c 1 t) (iblk m c 2 t) (iblk m c 4 t) (iblk m c 5 t) (iblk m c 6 t) (iblk m c 7 t) (iblk m c 8 t)
      (fun y => m ((c : Thread nD τ).loc main_arg3) (ix3 0 (y 0) (y 1))) r C := by
  have e (u : Fin cfg0.N) : k0_pay2 (F := Ideal) (iblk m c 3 u) = fun y => m ((c : Thread nD τ).loc main_arg3) (ix3 0 (y 0) (y 1)) := by
    funext y
    obtain ⟨k, C, rfl⟩ : ∃ (k C : Fin 1024), y = ix2 k C := ⟨y 0, y 1, by funext a; match a with | ⟨0, _⟩ => rfl | ⟨1, _⟩ => rfl⟩
    exact (kept_at _ _ _).trans (blk3_at m c u k C)
  by_cases h0 : t.val % 16 = 0
  · rw [first_at m c t h0, e]
  · rw [rest_at m c t h0, held_at, e]

theorem grp_row (n : Fin 16) (r : Fin 512) : grp ⟨n * 512 + r, by omega⟩ = ⟨if (n : ℕ) < 8 then 0 else (n - 8) / 2 + 1, by split <;> omega⟩ := by
  by_cases h : (n : ℕ) < 8
  · rw [grp_ctx _ _ (by omega)]
    simp only [if_pos h]
    rfl
  · rw [grp_lat _ _ (by omega)]
    exact Fin.ext (Eq.trans (by show (n * 512 + r - 4096 : ℕ) / 1024 + 1 = (n - 8) / 2 + 1; omega) (if_neg h).symm)

theorem mixer_at (t : Fin cfg0.N) (r : Fin 512) (k : Fin 1024) : (if ((grid0.coords t) 0).val < 8 then iblk m c 1 t (ix2 r k) else iblk m c 2 t (ix2 r k))
    = Cert.Reference2Ideal.Ffn.aC (m ((c : Thread nD τ).loc main_arg1)) (m ((c : Thread nD τ).loc main_arg2)) ⟨bt t * 512 + r, by omega⟩ k := by
  rw [(idx t).2.2.2.2.2.2.2.2.2.2]
  unfold Cert.Reference2Ideal.Ffn.aC
  by_cases h : (bt t : ℕ) < 8
  · rw [if_pos (show t.val < 8 from h), dif_pos (show (bt t * 512 + r : ℕ) < 4096 by omega)]
    exact blk1_at m c t r k h
  · rw [if_neg (show ¬ t.val < 8 from h), dif_neg (show ¬ (bt t * 512 + r : ℕ) < 4096 by omega)]
    refine (blk2_at m c t r k h).trans (congrArg (fun R => m ((c : Thread nD τ).loc main_arg2) (ix2 R k)) (Fin.ext ?_))
    show ((bt t : ℕ) - 8) * 512 + r = bt t * 512 + r - 4096
    omega

theorem mid_row (t : Fin cfg0.N) (r : Fin 512) : mid ((grid0.coords t) 0).val (iblk m c 0 t) (iblk m c 1 t) (iblk m c 2 t) (iblk m c 4 t) (fun y => m ((c : Thread nD τ).loc main_arg3) (ix3 0 (y 0) (y 1))) r
    = ffnMid (Cert.Reference2Ideal.Ffn.xC (m ((c : Thread nD τ).loc main_arg0))) (Cert.Reference2Ideal.Ffn.moC (m ((c : Thread nD τ).loc main_arg4))) (Cert.Reference2Ideal.Ffn.woC (m ((c : Thread nD τ).loc main_arg3)))
      (Cert.Reference2Ideal.Ffn.aC (m ((c : Thread nD τ).loc main_arg1)) (m ((c : Thread nD τ).loc main_arg2))) ⟨bt t * 512 + r, by omega⟩ := by
  funext C
  unfold mid ffnMid
  rw [grp_row]
  exact congrArg₂ (fun a b : EReal => a + b) (blk0_at m c t r C) (congrArg₂ (fun a b : EReal => a * b) (blk4_at m c t 2 C) (Finset.sum_congr rfl fun k _ =>
    congrArg (fun a : EReal => a * m ((c : Thread nD τ).loc main_arg3) (ix3 0 k C)) (mixer_at m c t r k)))

/-- The layer's array. -/
theorem array9 : (dats m 0 c).arrAt 9 cfg0.N
    = Cert.Reference2Ideal.Read.val_main_v109 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  obtain ⟨r, C, rfl⟩ : ∃ (r : Fin 512) (C : Fin 1024), y = ix2 r C := ⟨y 0, y 1, by funext a; match a with | ⟨0, _⟩ => rfl | ⟨1, _⟩ => rfl⟩
  have e : ((cfg0.win 9).blk t).view.emb (ix2 r C) = ix2 (⟨bt t * 512 + r, by omega⟩ : Fin 8192) C := by
    blk_ext [idx t]
  refine Eq.trans ?_ ((congrArg (Cert.Reference2Ideal.Read.val_main_v109 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7))) e).trans
      (Cert.Reference2Ideal.Ffn.result_at _ _ _ _ _ _ _ _ _ _)).symm
  rw [out_at]
  unfold wrote ffnLayer ffnRow
  rw [mid_row, grp_row]
  simp only [blk4_at, blk5_at, blk6_at, blk7_at, blk8_at]

end Cert.Kernel2Ideal.Ffn

end
-- ==== Proof.ConvRef.lean ====
/- The short convolution's plain program, read at an index. -/
module

public import proofs.«01_k».proof.Proof.LayerMath
public import proofs.«01_k».proof.Proof.Gen.Reference3Ideal.Read

@[expose] public section

set_option maxRecDepth 16384

noncomputable section

namespace Cert.Reference3Ideal.Conv

open Cert.Reference3Ideal Cert.Reference3Ideal.Gen Cert.Reference3Ideal.Read Idealize.ShloMosaic Idealize.ShloMosaic.TcCoe Idealize.SL.Sem
open Cert.LayerMath

variable (x : FVec Ideal S8192x1024 .f32) (mo : FVec Ideal S4x8x6x1024 .f32) (g : FVec Ideal S1024 .f32) (wi : FVec Ideal S1x1024x3072 .f32) (cw : FVec Ideal S1x3x1024 .f32) (wo : FVec Ideal S1x1024x1024 .f32)

/-- The arrays by their coordinates, the modulation's at its layer. -/
abbrev xC (R : Fin 8192) (C : Fin 1024) : EReal := x (ix2 R C)
abbrev moC (l : Fin 4) (G : Fin 8) (k : Fin 6) (C : Fin 1024) : EReal := mo (ix4 l G k C)
abbrev gC (C : Fin 1024) : EReal := g (ix1 C)
abbrev wiC (k : Fin 1024) (C : Fin 3072) : EReal := wi (ix3 0 k C)
abbrev cwC (k : Fin 3) (C : Fin 1024) : EReal := cw (ix3 0 k C)
abbrev woC (k : Fin 1024) (C : Fin 1024) : EReal := wo (ix3 0 k C)

theorem v33_at (b : Fin 16) (t : Fin 256) (C : Fin 1024) : val_main_v33 (F := Ideal) x mo g (ix3 b t C)
    = hrow (xC x ⟨b * 256 + t, by omega⟩) (gC g) (moC mo 1 0 0) (moC mo 1 0 1) C := by
  unfold hrow
  pointwise [val_main_v0, val_main_v1, val_main_v4, val_main_v5, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst, val_main_cst_0, val_main_cst_1, val_main_cst_2]

theorem v56_at (b : Fin 4) (t : Fin 1024) (C : Fin 1024) : val_main_v56 (F := Ideal) x mo g (ix3 b t C)
    = hrow (xC x ⟨4096 + (b * 1024 + t), by omega⟩) (gC g) (moC mo 1 ⟨1 + b, by omega⟩ 0) (moC mo 1 ⟨1 + b, by omega⟩ 1) C := by
  unfold hrow
  pointwise [val_main_v2, val_main_v3, val_main_v6, val_main_v7, val_main_v8, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_cst_3, val_main_cst_4, val_main_cst_5, val_main_cst_6]

theorem v66_at (b : Fin 16) (t : Fin 256) (C : Fin 1024) : val_main_v66 (F := Ideal) x mo g wi (ix3 b t C)
    = bx (wiC wi) (hrow (xC x ⟨b * 256 + t, by omega⟩) (gC g) (moC mo 1 0 0) (moC mo 1 0 1)) C := by
  have e : val_main_v66 (F := Ideal) x mo g wi (ix3 b t C) = bx (wiC wi) (fun k => val_main_v33 (F := Ideal) x mo g (ix3 b t k)) C := by
    unfold bx val_main_v66 val_main_v65 val_main_v64 val_main_v62
    generalize val_main_v33 (F := Ideal) x mo g = y
    pointwise [val_main_v59]
  rw [e]
  simp only [v33_at]

theorem v103_at (b : Fin 4) (t : Fin 1024) (C : Fin 1024) : val_main_v103 (F := Ideal) x mo g wi (ix3 b t C)
    = bx (wiC wi) (hrow (xC x ⟨4096 + (b * 1024 + t), by omega⟩) (gC g) (moC mo 1 ⟨1 + b, by omega⟩ 0) (moC mo 1 ⟨1 + b, by omega⟩ 1)) C := by
  have e : val_main_v103 (F := Ideal) x mo g wi (ix3 b t C) = bx (wiC wi) (fun k => val_main_v56 (F := Ideal) x mo g (ix3 b t k)) C := by
    unfold bx val_main_v103 val_main_v102 val_main_v101 val_main_v99
    generalize val_main_v56 (F := Ideal) x mo g = y
    pointwise [val_main_v96]
  rw [e]
  simp only [v56_at]

theorem v63_at (b : Fin 16) (t : Fin 256) (C : Fin 1024) : val_main_v63 (F := Ideal) x mo g wi (ix3 b t C)
    = ∑ k, hrow (xC x ⟨b * 256 + t, by omega⟩) (gC g) (moC mo 1 0 0) (moC mo 1 0 1) k * wiC wi k ⟨C, by omega⟩ := by
  have e : val_main_v63 (F := Ideal) x mo g wi (ix3 b t C) = ∑ k, val_main_v33 (F := Ideal) x mo g (ix3 b t k) * wiC wi k ⟨C, by omega⟩ := by
    unfold val_main_v63 val_main_v62
    generalize val_main_v33 (F := Ideal) x mo g = y
    pointwise [val_main_v59]
  rw [e]
  simp only [v33_at]

theorem v100_at (b : Fin 4) (t : Fin 1024) (C : Fin 1024) : val_main_v100 (F := Ideal) x mo g wi (ix3 b t C)
    = ∑ k, hrow (xC x ⟨4096 + (b * 1024 + t), by omega⟩) (gC g) (moC mo 1 ⟨1 + b, by omega⟩ 0) (moC mo 1 ⟨1 + b, by omega⟩ 1) k * wiC wi k ⟨C, by omega⟩ := by
  have e : val_main_v100 (F := Ideal) x mo g wi (ix3 b t C) = ∑ k, val_main_v56 (F := Ideal) x mo g (ix3 b t k) * wiC wi k ⟨C, by omega⟩ := by
    unfold val_main_v100 val_main_v99
    generalize val_main_v56 (F := Ideal) x mo g = y
    pointwise [val_main_v96]
  rw [e]
  simp only [v56_at]

theorem zero_word : (FloatOps.sitofp .f32 (val_main_c (F := Ideal) (Shape.Idx.first h_S_)) : Ideal .f32) = 0 := by
  show ((((0#32 : BitVec 32).toInt : ℤ) : ℝ) : EReal) = 0
  simp

theorem zero_word' : (FloatOps.sitofp .f32 (val_main_c_7 (F := Ideal) (Shape.Idx.first h_S_)) : Ideal .f32) = 0 := by
  show ((((0#32 : BitVec 32).toInt : ℤ) : ℝ) : EReal) = 0
  simp

theorem v87_at (b : Fin 16) (t : Fin 256) (C : Fin 1024) : val_main_v87 (F := Ideal) x mo g wi cw (ix3 b t C)
    = (if h : 1 ≤ (t : ℕ) ∧ (t : ℕ) - 1 < 256 then val_main_v66 (F := Ideal) x mo g wi (ix3 b ⟨t - 1, h.2⟩ C) else 0) * cwC cw 0 C
      + val_main_v66 (F := Ideal) x mo g wi (ix3 b t C) * cwC cw 1 C
      + (if h : 1 ≤ 2 + (t : ℕ) ∧ 2 + (t : ℕ) - 1 < 256 then val_main_v66 (F := Ideal) x mo g wi (ix3 b ⟨2 + t - 1, h.2⟩ C) else 0) * cwC cw 2 C := by
  rw [← zero_word]
  unfold val_main_v87 val_main_v86 val_main_v81 val_main_v80 val_main_v79 val_main_v73 val_main_v74 val_main_v68 val_main_v67
  generalize val_main_v66 (F := Ideal) x mo g wi = y
  pointwise [val_main_v60, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_call0_v0]

theorem v124_at (b : Fin 4) (t : Fin 1024) (C : Fin 1024) : val_main_v124 (F := Ideal) x mo g wi cw (ix3 b t C)
    = (if h : 1 ≤ (t : ℕ) ∧ (t : ℕ) - 1 < 1024 then val_main_v103 (F := Ideal) x mo g wi (ix3 b ⟨t - 1, h.2⟩ C) else 0) * cwC cw 0 C
      + val_main_v103 (F := Ideal) x mo g wi (ix3 b t C) * cwC cw 1 C
      + (if h : 1 ≤ 2 + (t : ℕ) ∧ 2 + (t : ℕ) - 1 < 1024 then val_main_v103 (F := Ideal) x mo g wi (ix3 b ⟨2 + t - 1, h.2⟩ C) else 0) * cwC cw 2 C := by
  rw [← zero_word']
  unfold val_main_v124 val_main_v123 val_main_v118 val_main_v117 val_main_v116 val_main_v110 val_main_v111 val_main_v105 val_main_v104
  generalize val_main_v103 (F := Ideal) x mo g wi = y
  pointwise [val_main_v97, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_call1_v0]

theorem v93_at (b : Fin 16) (t : Fin 256) (C : Fin 1024) : val_main_v93 (F := Ideal) x mo g wi cw wo (ix3 b t C)
    = xC x ⟨b * 256 + t, by omega⟩ C + moC mo 1 0 2 C
      * ∑ e, val_main_v63 (F := Ideal) x mo g wi (ix3 b t e) * val_main_v87 (F := Ideal) x mo g wi cw (ix3 b t e) * woC wo e C := by
  unfold val_main_v93 val_main_v92 val_main_v89 val_main_v88
  generalize val_main_v63 (F := Ideal) x mo g wi = y
  generalize val_main_v87 (F := Ideal) x mo g wi cw = z
  pointwise [val_main_v0, val_main_v1, val_main_v4, val_main_v5, val_main_v57, val_main_v58, val_main_v61, val_main_v90, val_main_v91]

theorem v129_at (b : Fin 4) (t : Fin 1024) (C : Fin 1024) : val_main_v129 (F := Ideal) x mo g wi cw wo (ix3 b t C)
    = xC x ⟨4096 + (b * 1024 + t), by omega⟩ C + moC mo 1 ⟨1 + b, by omega⟩ 2 C
      * ∑ e, val_main_v100 (F := Ideal) x mo g wi (ix3 b t e) * val_main_v124 (F := Ideal) x mo g wi cw (ix3 b t e) * woC wo e C := by
  unfold val_main_v129 val_main_v128 val_main_v126 val_main_v125
  generalize val_main_v100 (F := Ideal) x mo g wi = y
  generalize val_main_v124 (F := Ideal) x mo g wi cw = z
  pointwise [val_main_v2, val_main_v3, val_main_v6, val_main_v7, val_main_v8, val_main_v94, val_main_v95, val_main_v98, val_main_v127]

theorem near_eq (G : Fin 8) (R : ℕ) (h : R < 8192) (e : Fin 1024) : near (wiC wi) (xC x) (moC mo 1) (gC g) G R e
    = bx (wiC wi) (hrow (xC x ⟨R, h⟩) (gC g) (moC mo 1 G 0) (moC mo 1 G 1)) e := dif_pos h

theorem ctx_at (b : Fin 16) (t : Fin 256) (C : Fin 1024) : val_main_v93 (F := Ideal) x mo g wi cw wo (ix3 b t C)
    = convLayer (wiC wi) (cwC cw) (xC x) (moC mo 1) (gC g) (woC wo) ⟨b * 256 + t, by omega⟩ C := by
  have hG := grp_ctx (b * 256 + t) (by omega) (by omega)
  rw [v93_at]
  unfold convLayer mixed
  rw [hG]
  refine congrArg (fun s => xC x ⟨b * 256 + t, by omega⟩ C + moC mo 1 0 2 C * s) (Finset.sum_congr rfl fun e _ => ?_)
  rw [v63_at, v87_at]
  simp only [v66_at]
  have lt : ∀ t : Fin 256, fst (b * 256 + t) = decide ((t : ℕ) = 0) ∧ lst (b * 256 + t) = decide ((t : ℕ) = 255) := fun t => by
    unfold fst lst
    rw [if_pos (by omega), if_pos (by omega)]
    constructor <;> rw [Bool.eq_iff_iff] <;> simp <;> omega
  simp only [(lt t).1, (lt t).2, decide_eq_true_eq]
  refine congrArg (fun s => _ * s * woC wo e C) (congrArg₂ (· + ·) (congrArg (· + _) (congrArg (· * _) ?_)) (congrArg (· * _) ?_))
  · by_cases h : (t : ℕ) = 0
    · rw [dif_neg (by omega), if_pos h]
    · rw [dif_pos (by omega), if_neg h, near_eq x mo g wi 0 _ (by omega)]
      exact congrArg (fun R => bx (wiC wi) (hrow (xC x R) _ _ _) e) (Fin.ext (by show b * 256 + (t - 1 : ℕ) = b * 256 + t - 1; omega))
  · by_cases h : (t : ℕ) = 255
    · rw [dif_neg (by omega), if_pos h]
    · rw [dif_pos (by omega), if_neg h, near_eq x mo g wi 0 _ (by omega)]
      exact congrArg (fun R => bx (wiC wi) (hrow (xC x R) _ _ _) e) (Fin.ext (by show b * 256 + (2 + t - 1 : ℕ) = b * 256 + t + 1; omega))

theorem lat_at (b : Fin 4) (t : Fin 1024) (C : Fin 1024) : val_main_v129 (F := Ideal) x mo g wi cw wo (ix3 b t C)
    = convLayer (wiC wi) (cwC cw) (xC x) (moC mo 1) (gC g) (woC wo) ⟨4096 + (b * 1024 + t), by omega⟩ C := by
  have hG : grp ⟨4096 + (b * 1024 + t), by omega⟩ = ⟨1 + b, by omega⟩ := (grp_lat _ (by omega) (by omega)).trans (Fin.ext (by
    show (4096 + (b * 1024 + t) - 4096 : ℕ) / 1024 + 1 = 1 + b; omega))
  rw [v129_at]
  unfold convLayer mixed
  rw [hG]
  refine congrArg (fun s => xC x ⟨4096 + (b * 1024 + t), by omega⟩ C + moC mo 1 ⟨1 + b, by omega⟩ 2 C * s) (Finset.sum_congr rfl fun e _ => ?_)
  rw [v100_at, v124_at]
  simp only [v103_at]
  have lt : ∀ t : Fin 1024, fst (4096 + (b * 1024 + t)) = decide ((t : ℕ) = 0) ∧ lst (4096 + (b * 1024 + t)) = decide ((t : ℕ) = 1023) := fun t => by
    unfold fst lst
    rw [if_neg (by omega), if_neg (by omega)]
    constructor <;> rw [Bool.eq_iff_iff] <;> simp <;> omega
  simp only [(lt t).1, (lt t).2, decide_eq_true_eq]
  refine congrArg (fun s => _ * s * woC wo e C) (congrArg₂ (· + ·) (congrArg (· + _) (congrArg (· * _) ?_)) (congrArg (· * _) ?_))
  · by_cases h : (t : ℕ) = 0
    · rw [dif_neg (by omega), if_pos h]
    · rw [dif_pos (by omega), if_neg h, near_eq x mo g wi _ _ (by omega)]
      exact congrArg (fun R => bx (wiC wi) (hrow (xC x R) _ _ _) e) (Fin.ext (by show 4096 + (b * 1024 + (t - 1 : ℕ)) = 4096 + (b * 1024 + t) - 1; omega))
  · by_cases h : (t : ℕ) = 1023
    · rw [dif_neg (by omega), if_pos h]
    · rw [dif_pos (by omega), if_neg h, near_eq x mo g wi _ _ (by omega)]
      exact congrArg (fun R => bx (wiC wi) (hrow (xC x R) _ _ _) e) (Fin.ext (by show 4096 + (b * 1024 + (2 + t - 1 : ℕ)) = 4096 + (b * 1024 + t) + 1; omega))

/-- The plain program's result. -/
theorem result_at (R : Fin 8192) (C : Fin 1024) : val_main_v132 (F := Ideal) x mo g wi cw wo (ix2 R C)
    = convLayer (wiC wi) (cwC cw) (xC x) (moC mo 1) (gC g) (woC wo) R C := by
  have e : val_main_v132 (F := Ideal) x mo g wi cw wo (ix2 R C)
      = if h : (R : ℕ) < 4096 then val_main_v93 (F := Ideal) x mo g wi cw wo (ix3 ⟨R / 256, by omega⟩ ⟨R % 256, by omega⟩ C)
        else val_main_v129 (F := Ideal) x mo g wi cw wo (ix3 ⟨(R - 4096) / 1024, by omega⟩ ⟨(R - 4096) % 1024, by omega⟩ C) := by
    unfold val_main_v132 val_main_v131 val_main_v130
    generalize val_main_v93 (F := Ideal) x mo g wi cw wo = y
    generalize val_main_v129 (F := Ideal) x mo g wi cw wo = z
    pointwise []
  rw [e]
  by_cases h : (R : ℕ) < 4096
  · rw [dif_pos h, ctx_at]
    exact congrArg (fun R => convLayer _ _ _ _ _ _ R C) (Fin.ext (by show (R : ℕ) / 256 * 256 + R % 256 = R; omega))
  · rw [dif_neg h, lat_at]
    exact congrArg (fun R => convLayer _ _ _ _ _ _ R C) (Fin.ext (by show 4096 + (((R : ℕ) - 4096) / 1024 * 1024 + (R - 4096) % 1024) = R; omega))

end Cert.Reference3Ideal.Conv

end
-- ==== Proof.ConvBlocks.lean ====
/- The blocks the short convolution writes. -/
module

public import proofs.«01_k».proof.Proof.ConvRef
public import proofs.«01_k».proof.Proof.Gen.Kernel3Ideal.Value

@[expose] public section

set_option maxRecDepth 16384

noncomputable section

namespace Cert.Kernel3Ideal.Conv

open Cert.Kernel3Ideal Cert.Kernel3Ideal.Gen Idealize.ShloMosaic Idealize.ShloMosaic.TcCoe Idealize.SL.Sem
open Cert.LayerMath

theorem normed_at (x : Vec Ideal S1024x1024 .f32) (g : Vec Ideal S1x1024 .f32) (sh sc : Vec Ideal S1x1x1x1024 .f32) (r C : Fin 1024) :
    k0_pay2 (F := Ideal) x g sh sc (ix2 r C)
      = hrow (fun k => x (ix2 r k)) (fun k => g (ix2 0 k)) (fun k => sh (ix4 0 0 0 k)) (fun k => sc (ix4 0 0 0 k)) C := by
  unfold hrow
  pointwise [k0_pay2]

/-- The rows around a row, the block's ends joined. -/
abbrev before (r : Fin 1024) : Fin 1024 := ⟨(r + 1024 - 1) % 1024, by omega⟩
abbrev after (r : Fin 1024) : Fin 1024 := ⟨(r + 1024 - 1023) % 1024, by omega⟩

/-- A column run of the gated convolution, over its run of the weights. -/
def chunk (h : Fin 1024 → Fin 1024 → EReal) (p q : Fin 1024 → BitVec 1) (a b c : Fin 1024 → EReal) (w : Fin 3 → EReal) (r : Fin 1024) : EReal :=
  (∑ k, h r k * a k) * (Scalar.select (p r) 0 (((∑ k, h (before r) k * b k) * ∑ k, h (before r) k * c k) * w 0)
    + ((∑ k, h r k * b k) * ∑ k, h r k * c k) * w 1
    + Scalar.select (q r) 0 (((∑ k, h (after r) k * b k) * ∑ k, h (after r) k * c k) * w 2))

variable (h : Vec Ideal S1024x1024 .bf16) (p q : IVec S1024x1 1) (a b c : Vec Ideal S1x1024x256 .bf16) (w : Vec Ideal S1x3x256 .f32) (r : Fin 1024) (e : Fin 256)

abbrev hC (r k : Fin 1024) : EReal := h (ix2 r k)

theorem normed_rows (x : Vec Ideal S1024x1024 .f32) (g : Vec Ideal S1x1024 .f32) (sh sc : Vec Ideal S1x1x1x1024 .f32) :
    hC (k0_pay2 (F := Ideal) x g sh sc) = fun r => hrow (fun k => x (ix2 r k)) (fun k => g (ix2 0 k)) (fun k => sh (ix4 0 0 0 k)) (fun k => sc (ix4 0 0 0 k)) :=
  funext fun r => funext fun C => normed_at x g sh sc r C

theorem run0_at (u : IVec S1024x1 32) (s : BitVec 32) : k0_pay6 (F := Ideal) h u p s a b c w (ix2 r e)
    = chunk (hC h) (fun r => p (ix2 r 0)) (fun r => k0_pay5 u s (ix2 r 0)) (fun k => a (ix3 0 k e)) (fun k => b (ix3 0 k e)) (fun k => c (ix3 0 k e)) (fun j => w (ix3 0 j e)) r := by
  unfold chunk
  pointwise [k0_pay6, k0_pay5]

theorem run1_at : k0_pay8 (F := Ideal) h p q a b c w (ix2 r e)
    = chunk (hC h) (fun r => p (ix2 r 0)) (fun r => q (ix2 r 0)) (fun k => a (ix3 0 k e)) (fun k => b (ix3 0 k e)) (fun k => c (ix3 0 k e)) (fun j => w (ix3 0 j e)) r := by
  unfold chunk
  pointwise [k0_pay8]

theorem run2_at : k0_pay10 (F := Ideal) h p q a b c w (ix2 r e)
    = chunk (hC h) (fun r => p (ix2 r 0)) (fun r => q (ix2 r 0)) (fun k => a (ix3 0 k e)) (fun k => b (ix3 0 k e)) (fun k => c (ix3 0 k e)) (fun j => w (ix3 0 j e)) r := by
  unfold chunk
  pointwise [k0_pay10]

theorem run3_at : k0_pay12 (F := Ideal) h p q a b c w (ix2 r e)
    = chunk (hC h) (fun r => p (ix2 r 0)) (fun r => q (ix2 r 0)) (fun k => a (ix3 0 k e)) (fun k => b (ix3 0 k e)) (fun k => c (ix3 0 k e)) (fun j => w (ix3 0 j e)) r := by
  unfold chunk
  pointwise [k0_pay12]

theorem sum_at (x : Vec Ideal S1024x1024 .f32) (m0 m1 m2 : FVec Ideal S1024x256 .bf16) (m3 : FVec Ideal S1024x256 .f32) (o0 o1 o2 o3 : Vec Ideal S1x256x1024 .bf16)
    (gt : Vec Ideal S1x1x1x1024 .f32) (r C : Fin 1024) :
    k0_pay1 (F := Ideal) x (k0_pay11 (k0_pay9 (k0_pay7 m0 o0) m1 o1) m2 o2) m3 o3 gt (ix2 r C)
      = x (ix2 r C) + gt (ix4 0 0 0 C) * (∑ e, m0 (ix2 r e) * o0 (ix3 0 e C) + ∑ e, m1 (ix2 r e) * o1 (ix3 0 e C)
        + ∑ e, m2 (ix2 r e) * o2 (ix3 0 e C) + ∑ e, m3 (ix2 r e) * o3 (ix3 0 e C)) := by
  pointwise [k0_pay1, k0_pay11, k0_pay9, k0_pay7]

theorem first_mask : ∀ (n : Fin 8) (r : Fin 1024), IntOp.cmpi CmpIPredicate.eq
      (IntOp.andi (BitVec.ofNat 32 r) (Scalar.subi (Scalar.select (Scalar.cmpi CmpIPredicate.slt (Scalar.muli (BitVec.ofNat 32 n) 1024#32) 4096#32) 256#32 1024#32) 1#32)) 0#32
    = if fst (n * 1024 + r) then 1#1 else 0#1 := by decide +kernel

theorem last_mask : ∀ (n : Fin 8) (r : Fin 1024), IntOp.cmpi CmpIPredicate.eq
      (IntOp.andi (BitVec.ofNat 32 r) (Scalar.subi (Scalar.select (Scalar.cmpi CmpIPredicate.slt (Scalar.muli (BitVec.ofNat 32 n) 1024#32) 4096#32) 256#32 1024#32) 1#32))
      (Scalar.subi (Scalar.select (Scalar.cmpi CmpIPredicate.slt (Scalar.muli (BitVec.ofNat 32 n) 1024#32) 4096#32) 256#32 1024#32) 1#32)
    = if lst (n * 1024 + r) then 1#1 else 0#1 := by decide +kernel

theorem first_at (i : grid0.Coords) (r : Fin 1024) : k0_pay4 i (ix2 r 0) = if fst ((i 0 : Fin 8) * 1024 + r) then 1#1 else 0#1 := by
  refine Eq.trans ?_ (first_mask (i 0) r)
  pointwise [k0_pay4, k0_pay3]

theorem last_at (i : grid0.Coords) (r : Fin 1024) :
    k0_pay5 (k0_pay3 i) (Scalar.subi (Scalar.select (Scalar.cmpi .slt (Scalar.muli (BitVec.ofNat 32 (i 0).val) 1024#32) 4096#32) 256#32 1024#32) 1#32) (ix2 r 0)
      = if lst ((i 0 : Fin 8) * 1024 + r) then 1#1 else 0#1 := by
  refine Eq.trans ?_ (last_mask (i 0) r)
  pointwise [k0_pay5, k0_pay3]

theorem select_mask (p : Bool) (x : EReal) : Scalar.select (if p then 1#1 else 0#1) (0 : EReal) x = if p then 0 else x := by
  cases p <;> rfl

theorem ix_x (r C : Fin 1024) : r0_0.idx (ix2 r C) = ix2 r C := by
  funext a
  match a with
  | ⟨0, _⟩ => exact Fin.ext ((Rect.idx_unit_val _ _ _ _ _).trans (Nat.zero_add _))
  | ⟨1, _⟩ => exact Fin.ext ((Rect.idx_unit_val _ _ _ _ _).trans (Nat.zero_add _))

theorem ix_g (C : Fin 1024) : r0_1.idx (ix2 0 C) = ix2 0 C := by
  funext a
  match a with
  | ⟨0, _⟩ => exact Fin.ext ((Rect.idx_unit_val _ _ _ _ _).trans (Nat.zero_add _))
  | ⟨1, _⟩ => exact Fin.ext ((Rect.idx_unit_val _ _ _ _ _).trans (Nat.zero_add _))

theorem ix_mod (C : Fin 1024) (o : ℕ) (ho : ∀ a, (![0, 0, o, 0] : Fin 4 → ℕ) a + S1x1x1x1024.size a ≤ S1x1x6x1024.size a) : (Rect.unit (s := S1x1x6x1024) ![0, 0, o, 0] S1x1x1x1024.size ho).idx (ix4 0 0 0 C) = ix4 0 0 ⟨o, ho 2⟩ C := by
  funext a
  match a with
  | ⟨0, _⟩ => exact Fin.ext ((Rect.idx_unit_val _ _ _ _ _).trans (Nat.zero_add _))
  | ⟨1, _⟩ => exact Fin.ext ((Rect.idx_unit_val _ _ _ _ _).trans (Nat.zero_add _))
  | ⟨2, _⟩ => exact Fin.ext (Rect.idx_unit_val _ _ _ _ _)
  | ⟨3, _⟩ => exact Fin.ext ((Rect.idx_unit_val _ _ _ _ _).trans (Nat.zero_add _))

theorem ix_in (k : Fin 1024) (e : Fin 256) (o : ℕ) (ho : ∀ a, (![0, 0, o] : Fin 3 → ℕ) a + S1x1024x256.size a ≤ S1x1024x3072.size a) : (Rect.unit (s := S1x1024x3072) ![0, 0, o] S1x1024x256.size ho).idx (ix3 0 k e) = ix3 0 k ⟨o + e, by have : o + 256 ≤ 3072 := ho 2; omega⟩ := by
  funext a
  match a with
  | ⟨0, _⟩ => exact Fin.ext ((Rect.idx_unit_val _ _ _ _ _).trans (Nat.zero_add _))
  | ⟨1, _⟩ => exact Fin.ext ((Rect.idx_unit_val _ _ _ _ _).trans (Nat.zero_add _))
  | ⟨2, _⟩ => exact Fin.ext (Rect.idx_unit_val _ _ _ _ _)

theorem ix_conv (k : Fin 3) (e : Fin 256) (o : ℕ) (ho : ∀ a, (![0, 0, o] : Fin 3 → ℕ) a + S1x3x256.size a ≤ S1x3x1024.size a) : (Rect.unit (s := S1x3x1024) ![0, 0, o] S1x3x256.size ho).idx (ix3 0 k e) = ix3 0 k ⟨o + e, by have : o + 256 ≤ 1024 := ho 2; omega⟩ := by
  funext a
  match a with
  | ⟨0, _⟩ => exact Fin.ext ((Rect.idx_unit_val _ _ _ _ _).trans (Nat.zero_add _))
  | ⟨1, _⟩ => exact Fin.ext ((Rect.idx_unit_val _ _ _ _ _).trans (Nat.zero_add _))
  | ⟨2, _⟩ => exact Fin.ext (Rect.idx_unit_val _ _ _ _ _)

theorem ix_out (k : Fin 256) (e : Fin 1024) (o : ℕ) (ho : ∀ a, (![0, o, 0] : Fin 3 → ℕ) a + S1x256x1024.size a ≤ S1x1024x1024.size a) : (Rect.unit (s := S1x1024x1024) ![0, o, 0] S1x256x1024.size ho).idx (ix3 0 k e) = ix3 0 ⟨o + k, by have : o + 256 ≤ 1024 := ho 1; omega⟩ e := by
  funext a
  match a with
  | ⟨0, _⟩ => exact Fin.ext ((Rect.idx_unit_val _ _ _ _ _).trans (Nat.zero_add _))
  | ⟨1, _⟩ => exact Fin.ext (Rect.idx_unit_val _ _ _ _ _)
  | ⟨2, _⟩ => exact Fin.ext ((Rect.idx_unit_val _ _ _ _ _).trans (Nat.zero_add _))

/-- What a block's point writes, over its blocks. -/
theorem out_at (i : grid0.Coords) (x0 : Vec Ideal S1024x1024 .f32) (x1 : Vec Ideal S1x1x6x1024 .f32) (x2 : Vec Ideal S1x1024 .f32) (x3 : Vec Ideal S1x1024x3072 .bf16) (x4 : Vec Ideal S1x3x1024 .f32) (x5 : Vec Ideal S1x1024x1024 .bf16) (r C : Fin 1024) :
    out0_6 (F := Ideal) i x0 x1 x2 x3 x4 x5 (ix2 r C) = x0 (ix2 r C) + x1 (ix4 0 0 2 C) * ∑ e : Fin 1024,
      chunk (fun r => hrow (fun k => x0 (ix2 r k)) (fun k => x2 (ix2 0 k)) (fun k => x1 (ix4 0 0 0 k)) (fun k => x1 (ix4 0 0 1 k)))
        (fun r => if fst ((i 0 : Fin 8) * 1024 + r) then 1#1 else 0#1) (fun r => if lst ((i 0 : Fin 8) * 1024 + r) then 1#1 else 0#1)
        (fun k => x3 (ix3 0 k ⟨e, by omega⟩)) (fun k => x3 (ix3 0 k ⟨1024 + e, by omega⟩)) (fun k => x3 (ix3 0 k ⟨2048 + e, by omega⟩)) (fun j => x4 (ix3 0 j e)) r * x5 (ix3 0 e C) := by
  unfold_out out0_6
  canon_tiles x h
  obtain rfl : x = ix2 r C := by
    funext a
    match a with
    | ⟨0, _⟩ => exact Fin.ext h0.symm
    | ⟨1, _⟩ => exact Fin.ext h1.symm
  rw [sum_at, sum_four]
  simp only [run0_at, run1_at, run2_at, run3_at, first_at, last_at, normed_rows]
  simp only [View.ld, ix_x, ix_g, ix_mod, ix_in, ix_conv, ix_out]
  simp only [← Nat.add_assoc, Nat.reduceAdd, Nat.zero_add]
  rfl

end Cert.Kernel3Ideal.Conv

end
-- ==== Proof.ConvValue.lean ====
/- The short convolution's array after the run is the plain program's. -/
module

public import proofs.«01_k».proof.Proof.ConvBlocks

@[expose] public section

set_option maxRecDepth 4096

noncomputable section

namespace Cert.Kernel3Ideal.Conv

open Cert.Kernel3Ideal Cert.Kernel3Ideal.Gen Idealize.ShloMosaic Idealize.ShloMosaic.TcCoe Idealize.SL.Sem
open Cert.LayerMath

theorem idx : ∀ t : Fin cfg0.N, win0_0.index t = ![t.val, 0] ∧ win0_1.index t = ![1, (if t.val < 4 then 0 else t.val - 3), 0, 0] ∧ win0_2.index t = ![0, 0]
    ∧ win0_3.index t = ![0, 0, 0] ∧ win0_4.index t = ![0, 0, 0] ∧ win0_5.index t = ![0, 0, 0] ∧ win0_6.index t = ![t.val, 0] ∧ ((grid0.coords t) 0).val = t.val :=
  (by decide +kernel : ∀ t : Fin grid0.N, _)

variable (m : (ℓ : Loc nD τ sig) → Buf (Elt Ideal) ℓ) (c : Dev nD)

abbrev bt (t : Fin cfg0.N) : Fin 8 := ⟨t, t.2⟩
abbrev grpB (t : Fin cfg0.N) : Fin 8 := ⟨if (bt t).val < 4 then 0 else (bt t).val - 3, by have := (bt t).2; split <;> omega⟩

theorem blk0_at (t : Fin cfg0.N) (r C : Fin 1024) :
    iblk m c 0 t (ix2 r C) = m ((c : Thread nD τ).loc main_arg0) (ix2 ⟨bt t * 1024 + r, by omega⟩ C) := by
  blk_ext [iblk, V, idx t]

theorem blk1_at (t : Fin cfg0.N) (k : Fin 6) (C : Fin 1024) :
    iblk m c 1 t (ix4 0 0 k C) = m ((c : Thread nD τ).loc main_arg1) (ix4 1 (grpB t) k C) := by
  blk_ext [iblk, V, idx t]

theorem blk2_at (t : Fin cfg0.N) (C : Fin 1024) :
    iblk m c 2 t (ix2 0 C) = m ((c : Thread nD τ).loc main_arg2) (ix1 C) := by
  blk_simp [iblk, idx t]
  entry_read
  pointwise
  blk_ext [idx t]

theorem blk3_at (t : Fin cfg0.N) (k : Fin 1024) (C : Fin 3072) :
    iblk m c 3 t (ix3 0 k C) = m ((c : Thread nD τ).loc main_arg3) (ix3 0 k C) := by
  blk_simp [iblk, idx t]
  entry_read
  pointwise
  blk_ext [idx t]

theorem blk4_at (t : Fin cfg0.N) (k : Fin 3) (C : Fin 1024) :
    iblk m c 4 t (ix3 0 k C) = m ((c : Thread nD τ).loc main_arg4) (ix3 0 k C) := by
  blk_ext [iblk, V, idx t]

theorem blk5_at (t : Fin cfg0.N) (k C : Fin 1024) :
    iblk m c 5 t (ix3 0 k C) = m ((c : Thread nD τ).loc main_arg5) (ix3 0 k C) := by
  blk_simp [iblk, idx t]
  entry_read
  pointwise
  blk_ext [idx t]

theorem near_at (w : Fin 1024 → Fin 3072 → EReal) (x : Fin 8192 → Fin 1024 → EReal) (mo : Fin 8 → Fin 6 → Fin 1024 → EReal) (g : Fin 1024 → EReal) (G : Fin 8) (R : ℕ) (Q : Fin 8192) (h : (Q : ℕ) = R) (e : Fin 1024) :
    near w x mo g G R e = bx w (hrow (x Q) g (mo G 0) (mo G 1)) e := by
  subst h
  exact dif_pos Q.2

/-- A run of columns over its block's arrays is the layer's gated convolution. -/
theorem chunk_eq (n : Fin 8) (w : Fin 1024 → Fin 3072 → EReal) (cw : Fin 3 → Fin 1024 → EReal) (x : Fin 8192 → Fin 1024 → EReal) (mo : Fin 8 → Fin 6 → Fin 1024 → EReal) (g : Fin 1024 → EReal)
    (r e : Fin 1024) (G : Fin 8) :
    chunk (fun r => hrow (x ⟨n * 1024 + r, by omega⟩) g (mo G 0) (mo G 1)) (fun r => if fst (n * 1024 + r) then 1#1 else 0#1) (fun r => if lst (n * 1024 + r) then 1#1 else 0#1)
        (fun k => w k ⟨e, by omega⟩) (fun k => w k ⟨1024 + e, by omega⟩) (fun k => w k ⟨2048 + e, by omega⟩) (fun j => cw j e) r
      = mixed w cw (hrow (x ⟨n * 1024 + r, by omega⟩) g (mo G 0) (mo G 1))
        (fun e => if fst (n * 1024 + r) then 0 else near w x mo g G (n * 1024 + r - 1) e) (fun e => if lst (n * 1024 + r) then 0 else near w x mo g G (n * 1024 + r + 1) e) e := by
  unfold chunk mixed
  simp only [select_mask]
  refine congrArg (_ * ·) (congrArg₂ (· + ·) (congrArg (· + _) ?_) ?_)
  · by_cases h : fst (n * 1024 + r)
    · rw [if_pos h, if_pos h, zero_mul]
    · have h0 : (r : ℕ) ≠ 0 := fun h0 => h (fst_of_mod _ (by omega))
      rw [if_neg h, if_neg h]
      exact congrArg (· * _) (near_at w x mo g G _ ⟨n * 1024 + before r, by omega⟩ (by show n * 1024 + (r + 1024 - 1 : ℕ) % 1024 = n * 1024 + r - 1; omega) e).symm
  · by_cases h : lst (n * 1024 + r)
    · rw [if_pos h, if_pos h, zero_mul]
    · have h0 : (r : ℕ) ≠ 1023 := fun h0 => h (lst_of_mod _ (by omega))
      rw [if_neg h, if_neg h]
      exact congrArg (· * _) (near_at w x mo g G _ ⟨n * 1024 + after r, by omega⟩ (by show n * 1024 + (r + 1024 - 1023 : ℕ) % 1024 = n * 1024 + r + 1; omega) e).symm

theorem grp_row (n : Fin 8) (r : Fin 1024) : grp ⟨n * 1024 + r, by omega⟩ = ⟨if (n : ℕ) < 4 then 0 else n - 3, by split <;> omega⟩ := by
  by_cases h : (n : ℕ) < 4
  · rw [grp_ctx _ _ (by omega)]
    simp only [if_pos h]
    rfl
  · rw [grp_lat _ _ (by omega)]
    exact Fin.ext (Eq.trans (by show (n * 1024 + r - 4096 : ℕ) / 1024 + 1 = n - 3; omega) (if_neg h).symm)

/-- The layer's array. -/
theorem final6 : (dats m 0 c).arrAt 6 cfg0.N
    = Cert.Reference3Ideal.Read.val_main_v132 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  obtain ⟨r, C, rfl⟩ : ∃ (r : Fin 1024) (C : Fin 1024), y = ix2 r C := ⟨y 0, y 1, by funext a; match a with | ⟨0, _⟩ => rfl | ⟨1, _⟩ => rfl⟩
  have e : ((cfg0.win 6).blk t).view.emb (ix2 r C) = ix2 (⟨bt t * 1024 + r, by omega⟩ : Fin 8192) C := by
    blk_ext [idx t]
  refine Eq.trans ?_ ((congrArg (Cert.Reference3Ideal.Read.val_main_v132 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) e).trans (Cert.Reference3Ideal.Conv.result_at _ _ _ _ _ _ _ _)).symm
  rw [out_at, convLayer, grp_row]
  simp only [blk0_at, blk1_at, blk2_at, blk3_at, blk4_at, blk5_at, (idx t).2.2.2.2.2.2.2]
  refine congrArg (fun s : EReal => (_ : EReal) + (_ : EReal) * s) (Finset.sum_congr rfl fun e _ => congrArg (· * _) ?_)
  exact chunk_eq (bt t) (Cert.Reference3Ideal.Conv.wiC (m ((c : Thread nD τ).loc main_arg3))) (Cert.Reference3Ideal.Conv.cwC (m ((c : Thread nD τ).loc main_arg4)))
    (Cert.Reference3Ideal.Conv.xC (m ((c : Thread nD τ).loc main_arg0))) (Cert.Reference3Ideal.Conv.moC (m ((c : Thread nD τ).loc main_arg1)) 1) (Cert.Reference3Ideal.Conv.gC (m ((c : Thread nD τ).loc main_arg2))) r e (grpB t)

end Cert.Kernel3Ideal.Conv

end
-- ==== Proof.ExpertWords.lean ====
/- Hand-written, untrusted: WHAT THE BODY OF THE EXPERTS KERNEL ASSUMES OF THE WORDS IT READS (`k0_chk1`) FOLLOWS from three
   bounds: the expert's number is below 8, the tile's first run is below 32, its last run is below 32 as a signed word. A window's
   start is the smaller of the first run's first token and the last start the window fits at; the walk goes from the first run
   to the last, one run a trip. -/
module

public import proofs.«01_k».proof.Kernel4Ideal
public import proofs.«01_k».proof.Kernel4
public import Idealize.ShloMosaic.Lib.Scf

@[expose] public section

namespace Cert.Proof.Expert

open Idealize.ShloMosaic

/-- The start of a window: the smaller of the first run's first token and the last start at which the window fits. -/
theorem minsi_start (lo : BitVec 32) (h : lo.toNat < 32) (cap : BitVec 32) (hc : cap.toNat < 8192) :
    (Scalar.minsi (Scalar.muli lo 256#32) cap).toNat = min (lo.toNat * 256) cap.toNat := by
  have hm : (lo * 256#32).toNat = lo.toNat * 256 := by rw [BitVec.toNat_mul]; simp; omega
  have i1 : (lo * 256#32).toInt = (lo.toNat * 256 : Nat) := by rw [BitVec.toInt_eq_toNat_cond, hm]; simp; omega
  have i2 : cap.toInt = (cap.toNat : Nat) := by rw [BitVec.toInt_eq_toNat_cond]; simp; omega
  simp only [Scalar.minsi, Scalar.muli, IntOp.minsi, IntOp.muli, BitVec.slt, i1, i2]
  by_cases hlt : lo.toNat * 256 < cap.toNat
  · rw [if_pos (by simpa using by exact_mod_cast hlt), hm]; omega
  · rw [if_neg (by simpa using by exact_mod_cast Nat.le_of_not_lt hlt)]; omega

theorem dvd_start (lo : BitVec 32) (h : lo.toNat < 32) (cap : BitVec 32) (hc : cap.toNat < 8192) (hd : 256 ∣ cap.toNat) :
    256 ∣ (Scalar.minsi (Scalar.muli lo 256#32) cap).toNat := by
  rw [minsi_start lo h cap hc]
  rcases le_total (lo.toNat * 256) cap.toNat with h' | h'
  · rw [min_eq_left h']; exact Dvd.intro_left _ rfl
  · rw [min_eq_right h']; exact hd

theorem divsi_one (x : BitVec 32) : Scalar.divsi x 1#32 = x := by
  have h : ¬ IntOp.SDivCorner x 1#32 := by simp [IntOp.SDivCorner]
  simp [Scalar.divsi, IntOp.divsi, h, BitVec.sdiv_one]

theorem add_sub_run (lo v : BitVec 32) : lo + (v - lo) = v := by
  rw [BitVec.add_comm, BitVec.sub_add_cancel]

/-- The walk's loop: from the first run to the last, one run a trip. -/
theorem loop1 (lo hi : BitVec 32) : Cert.Kernel4Ideal.k0_t1_loop lo hi = ⟨lo, hi + 1#32, 1#32⟩ := by
  simp only [Cert.Kernel4Ideal.k0_t1_loop, divsi_one, Scalar.addi, Scalar.subi, Scalar.muli, IntOp.addi, IntOp.subi, IntOp.muli,
    BitVec.mul_one]
  rw [add_sub_run]

/-- What is left after the walk is nothing. -/
theorem loop2 (lo hi : BitVec 32) : Cert.Kernel4Ideal.k0_t2_loop lo hi = ⟨hi + 1#32, hi + 1#32, 1#32⟩ := by
  simp only [Cert.Kernel4Ideal.k0_t2_loop, divsi_one, Scalar.addi, Scalar.subi, Scalar.muli, IntOp.addi, IntOp.subi, IntOp.muli,
    BitVec.mul_one]
  rw [add_sub_run]

theorem toInt_lo (lo : BitVec 32) (h : lo.toNat < 32) : lo.toInt = (lo.toNat : Nat) := by
  rw [BitVec.toInt_eq_toNat_cond]; simp; omega

theorem toInt_succ (hi : BitVec 32) (h : hi.toInt < 32) : (hi + 1#32).toInt = hi.toInt + 1 := by
  rw [BitVec.toInt_add]
  have := BitVec.le_toInt hi
  simp [Int.bmod]; omega

/-- The walk makes as many trips as there are runs from the first to the last. -/
theorem trips1 (lo hi : BitVec 32) (hl : lo.toNat < 32) (hh : hi.toInt < 32) :
    (Cert.Kernel4Ideal.k0_t1_loop lo hi).trips = (hi.toInt + 1 - lo.toNat).toNat := by
  rw [loop1]
  show (((hi + 1#32).toInt - lo.toInt + (1#32).toInt - 1) / (1#32).toInt).toNat = _
  rw [toInt_succ hi hh, toInt_lo lo hl]
  simp

theorem trips2 (lo hi : BitVec 32) : (Cert.Kernel4Ideal.k0_t2_loop lo hi).trips = 0 := by
  rw [loop2]
  show (((hi + 1#32).toInt - (hi + 1#32).toInt + (1#32).toInt - 1) / (1#32).toInt).toNat = _
  simp

/-- The run of trip `k`. -/
theorem run_at (lo hi : BitVec 32) (hl : lo.toNat < 32) (hh : hi.toInt < 32) (k : Fin (Cert.Kernel4Ideal.k0_t1_loop lo hi).trips) :
    (Scalar.muli (Scf.iv lo 1#32 k) 256#32).toNat = (lo.toNat + k) * 256 ∧ lo.toNat + k < 32 := by
  have hk : (k : Nat) < (hi.toInt + 1 - lo.toNat).toNat := by rw [← trips1 lo hi hl hh]; exact k.2
  have hk' : lo.toNat + (k : Nat) < 32 := by omega
  refine ⟨?_, hk'⟩
  simp only [Scalar.muli, IntOp.muli, Scf.iv, BitVec.toNat_mul, BitVec.toNat_add, BitVec.toNat_ofNat]
  simp; omega

/-- Every fact the body assumes of the words follows from the three bounds. -/
theorem chk_of (tv te lo hi : BitVec 32) (ht : te.toNat < 8) (hl : lo.toNat < 32) (hh : hi.toInt < 32) :
    Cert.Kernel4Ideal.k0_chk1 tv te lo hi := by
  have row : ∀ (cap : BitVec 32) (n : Nat), cap.toNat < 8192 → cap.toNat + n ≤ 8192 → ∀ a : Fin 2,
      (![te.toNat, (Scalar.minsi (Scalar.muli lo 256#32) cap).toNat] : Fin 2 → Nat) a + (![1, n] : Fin 2 → Nat) a
        ≤ (![8, 8192] : Fin 2 → Nat) a := fun cap n hc hn a => by
    rw [minsi_start lo hl cap hc]; fin_cases a <;> simp <;> omega
  have blk : ∀ (cap : BitVec 32) (n : Nat), cap.toNat < 8192 → cap.toNat + n ≤ 8192 → ∀ a : Fin 2,
      (![(Scalar.minsi (Scalar.muli lo 256#32) cap).toNat, 0] : Fin 2 → Nat) a + (![n, 1024] : Fin 2 → Nat) a
        ≤ (![8192, 1024] : Fin 2 → Nat) a := fun cap n hc hn a => by
    rw [minsi_start lo hl cap hc]; fin_cases a <;> simp <;> omega
  have no2 : Fin (Cert.Kernel4Ideal.k0_t2_loop lo hi).trips → False := fun k => by
    exact absurd (trips2 lo hi ▸ k.2 : (k : Nat) < 0) (Nat.not_lt_zero _)
  refine ⟨fun _ _ => dvd_start lo hl 7168#32 (by decide) (by decide), fun _ _ => row 7168#32 1024 (by decide) (by decide),
    fun _ _ => blk 7168#32 1024 (by decide) (by decide),
    fun _ _ _ => dvd_start lo hl 6912#32 (by decide) (by decide), fun _ _ _ => row 6912#32 1280 (by decide) (by decide),
    fun _ _ _ => blk 6912#32 1280 (by decide) (by decide),
    fun _ _ _ _ => dvd_start lo hl 6656#32 (by decide) (by decide), fun _ _ _ _ => row 6656#32 1536 (by decide) (by decide),
    fun _ _ _ _ => blk 6656#32 1536 (by decide) (by decide),
    fun _ _ _ _ _ => dvd_start lo hl 6400#32 (by decide) (by decide), fun _ _ _ _ _ => row 6400#32 1792 (by decide) (by decide),
    fun _ _ _ _ _ => blk 6400#32 1792 (by decide) (by decide),
    fun _ _ _ _ _ _ => dvd_start lo hl 6144#32 (by decide) (by decide), fun _ _ _ _ _ _ => row 6144#32 2048 (by decide) (by decide),
    fun _ _ _ _ _ _ => blk 6144#32 2048 (by decide) (by decide),
    fun _ _ _ _ _ _ _ => dvd_start lo hl 5632#32 (by decide) (by decide), fun _ _ _ _ _ _ _ => row 5632#32 2560 (by decide) (by decide),
    fun _ _ _ _ _ _ _ => blk 5632#32 2560 (by decide) (by decide),
    fun _ _ _ _ _ _ _ _ => dvd_start lo hl 5120#32 (by decide) (by decide),
    fun _ _ _ _ _ _ _ _ => row 5120#32 3072 (by decide) (by decide),
    fun _ _ _ _ _ _ _ _ => blk 5120#32 3072 (by decide) (by decide),
    fun _ _ _ _ _ _ _ _ => ?_, fun k _ _ _ _ _ _ _ _ => ?_, fun k _ _ _ _ _ _ _ _ => ?_, fun k _ _ _ _ _ _ _ _ => ?_,
    fun _ _ _ _ _ _ _ _ => ?_, fun k => (no2 k).elim, fun k => (no2 k).elim, fun k => (no2 k).elim⟩
  · refine ⟨by rw [loop1]; exact (by decide : (0:Int) < (1#32).toInt), ?_⟩
    have h1 : (Cert.Kernel4Ideal.k0_t1_loop lo hi).lb.toInt = (lo.toNat : Nat) := by rw [loop1]; exact toInt_lo lo hl
    have h2 : (Cert.Kernel4Ideal.k0_t1_loop lo hi).st.toInt = 1 := by rw [loop1]; exact (by decide : (1#32).toInt = 1)
    have h3 := trips1 lo hi hl hh
    show (Cert.Kernel4Ideal.k0_t1_loop lo hi).lb.toInt + ((Cert.Kernel4Ideal.k0_t1_loop lo hi).trips : Int) * (Cert.Kernel4Ideal.k0_t1_loop lo hi).st.toInt < _
    rw [h1, h2, h3]; simp; omega
  · show 256 ∣ (Scalar.muli (Scf.iv lo 1#32 k) 256#32).toNat
    rw [(run_at lo hi hl hh k).1]; exact Dvd.intro_left _ rfl
  · intro a
    have h := run_at lo hi hl hh k
    show (![te.toNat, (Scalar.muli (Scf.iv lo 1#32 k) 256#32).toNat] : Fin 2 → Nat) a + (![1, 256] : Fin 2 → Nat) a ≤ (![8, 8192] : Fin 2 → Nat) a
    rw [h.1]; fin_cases a <;> simp <;> omega
  · intro a
    have h := run_at lo hi hl hh k
    show (![(Scalar.muli (Scf.iv lo 1#32 k) 256#32).toNat, 0] : Fin 2 → Nat) a + (![256, 1024] : Fin 2 → Nat) a ≤ (![8192, 1024] : Fin 2 → Nat) a
    rw [h.1]; fin_cases a <;> simp <;> omega
  · have h3 := trips2 lo hi
    refine ⟨by rw [loop2]; exact (by decide : (0:Int) < (1#32).toInt), ?_⟩
    show (Cert.Kernel4Ideal.k0_t2_loop lo hi).lb.toInt + ((Cert.Kernel4Ideal.k0_t2_loop lo hi).trips : Int) * (Cert.Kernel4Ideal.k0_t2_loop lo hi).st.toInt < _
    have h1 : (Cert.Kernel4Ideal.k0_t2_loop lo hi).lb.toInt = hi.toInt + 1 := by rw [loop2]; exact toInt_succ hi hh
    rw [h1, h3]; simp; omega

/-- The same of the program before idealization, whose body assumes the same. -/
theorem chk_of' (tv te lo hi : BitVec 32) (ht : te.toNat < 8) (hl : lo.toNat < 32) (hh : hi.toInt < 32) :
    Cert.Kernel4.k0_chk1 tv te lo hi := chk_of tv te lo hi ht hl hh

end Cert.Proof.Expert
-- ==== Proof.ExpertPure.lean ====
module
public import proofs.«01_k».proof.Proof.LayerMath
public import Idealize.ShloMosaic.Lib.Pointwise
public import Idealize.ShloMosaic.PureOps.Ideal

/-! The routed experts' arithmetic by itself: which ranks of a tile a token answers, the rows gathered for a
rank, and the gated product of one rank under its expert's weights.  A sum over a window of tokens that holds
every token answering is the sum over all tokens; so is a sum over runs of 256 tokens. -/

@[expose] public section

noncomputable section

namespace Cert.ExpertMath

open Idealize.ShloMosaic Idealize.SL.Sem
open Cert.LayerMath

/-- A token whose running count is `c` and whose selection is `s` answers the rank `r` of the tile starting at `w`. -/
abbrev hit (w c s : EReal) (r : Nat) : BitVec 1 :=
  IntOp.andi (BitVec.ofBool (decide (c = w + FloatOps.sitofp (F := Ideal) .f32 (BitVec.ofNat 32 r))))
    (BitVec.ofBool (decide ((0 : EReal) < s)))

/-- What a token gives to a rank. -/
abbrev pick (w c s : EReal) (r : Nat) (v : EReal) : EReal := Scalar.select (hit w c s r) v 0

/-- One rank's row of the tile from its gathered row, its weight and the expert's two matrices. -/
def expertOut (X : Fin 1024 → EReal) (W : EReal) (wg : Fin 1024 → Fin 2816 → EReal) (wd : Fin 1408 → EReal) : EReal :=
  ∑ f : Fin 1408, (gate (∑ x, X x * wg x ⟨f.1, by omega⟩) (∑ x, X x * wg x ⟨1408 + f.1, by omega⟩) * W) * wd f

theorem bit_cases (b : BitVec 1) : b = 0#1 ∨ b = 1#1 := by
  revert b; decide

theorem uitofp_mul (b : BitVec 1) (v : EReal) : (FloatOps.uitofp (F := Ideal) .f32 b : EReal) * v = Scalar.select b v 0 := by
  rcases bit_cases b with rfl | rfl
  · show ((((0#1 : BitVec 1).toNat : ℝ)) : EReal) * v = 0
    simp
  · show ((((1#1 : BitVec 1).toNat : ℝ)) : EReal) * v = v
    simp

theorem select_of_not {α : Type} (b : BitVec 1) (h : b ≠ 1#1) (v w : α) : Scalar.select b v w = w := by
  rcases bit_cases b with rfl | rfl
  · rfl
  · exact absurd rfl h

/-- A rank below 256 as an extended real. -/
theorem rank_eq (r : Nat) (h : r < 256) : (FloatOps.sitofp (F := Ideal) .f32 (BitVec.ofNat 32 r) : EReal) = ((r : ℝ) : EReal) := by
  show ((((BitVec.ofNat 32 r).toInt : ℝ)) : EReal) = _
  congr 1
  have : (BitVec.ofNat 32 r).toInt = (r : Int) := by
    rw [BitVec.toInt_eq_toNat_of_lt (by simp; omega)]
    simp; omega
  rw [this]; simp

theorem tile_width : (Ideal.ofBits .f32 1132462080#32 : EReal) = ((256 : ℝ) : EReal) := by
  rw [show (1132462080#32 : BitVec 32) = 0x43800000#32 by decide]
  simp [Ideal.ofBits, Ideal.ieee, -EReal.coe_mul]
  norm_num

/-- A token answering a rank of the tile is selected and counted among the tile's ranks. -/
theorem among_of_hit (w : BitVec 32) (c s : EReal) (r : Nat) (hr : r < 256)
    (h : hit (FloatOps.sitofp (F := Ideal) .f32 w) c s r = 1#1) :
    0 < s ∧ (FloatOps.sitofp (F := Ideal) .f32 w : EReal) ≤ c
      ∧ c < (FloatOps.sitofp (F := Ideal) .f32 w : EReal) + Ideal.ofBits .f32 1132462080#32 := by
  have hc : c = FloatOps.sitofp (F := Ideal) .f32 w + FloatOps.sitofp (F := Ideal) .f32 (BitVec.ofNat 32 r) ∧ (0 : EReal) < s := by
    revert h
    show IntOp.andi (BitVec.ofBool _) (BitVec.ofBool _) = 1#1 → _
    intro hh
    have key : ∀ a b : Bool, IntOp.andi (BitVec.ofBool a) (BitVec.ofBool b) = 1#1 → a = true ∧ b = true := by decide
    exact ⟨of_decide_eq_true (key _ _ hh).1, of_decide_eq_true (key _ _ hh).2⟩
  obtain ⟨hc, hs⟩ := hc
  rw [rank_eq r hr] at hc
  have hw : (FloatOps.sitofp (F := Ideal) .f32 w : EReal) = (((w.toInt : ℝ)) : EReal) := rfl
  rw [tile_width]
  rw [hw] at hc ⊢
  rw [← EReal.coe_add] at hc ⊢
  subst hc
  refine ⟨hs, EReal.coe_le_coe_iff.2 ?_, EReal.coe_lt_coe_iff.2 ?_⟩
  · have : (0 : ℝ) ≤ r := Nat.cast_nonneg r
    linarith
  · have : (r : ℝ) < 256 := by exact_mod_cast hr
    linarith

/-- A sum over a window outside of which every term is zero is the whole sum. -/
theorem sum_window {n : Nat} (off : Nat) (ho : off + n ≤ 8192) (f : Fin 8192 → EReal)
    (hz : ∀ m : Fin 8192, ¬ (off ≤ m.1 ∧ m.1 < off + n) → f m = 0) :
    ∑ j : Fin n, f ⟨off + j.1, by omega⟩ = ∑ m, f m := by
  refine Fintype.sum_of_injective (fun j : Fin n => (⟨off + j.1, by omega⟩ : Fin 8192)) ?_ _ _ ?_ (fun _ => rfl)
  · intro a b hab
    have : off + a.1 = off + b.1 := congrArg Fin.val hab
    exact Fin.ext (by omega)
  · intro m hm
    refine hz m fun hh => hm ⟨⟨m.1 - off, by omega⟩, Fin.ext ?_⟩
    show off + (m.1 - off) = m.1
    omega

end Cert.ExpertMath
-- ==== Proof.ExpertHypsIdeal.lean ====
/- The words the experts call's tables hold at a grid point, the block each point's weights come from, and the side
   conditions of the call from bounds on those words. -/
module

public import proofs.«01_k».proof.Proof.ExpertWords
public import proofs.«01_k».proof.Proof.Gen.Kernel4Ideal.Frame
public import Idealize.ShloMosaic.Lib.Pointwise

@[expose] public section

set_option maxRecDepth 16384

noncomputable section

namespace Cert.Kernel4Ideal.Exp

open Cert.Kernel4Ideal Cert.Kernel4Ideal.Gen Idealize.ShloMosaic Idealize.ShloMosaic.TcCoe Idealize.SL.Sem

variable {F : FTy → Type} [FloatOps F] (m : (ℓ : Loc nD τ sig) → Buf (Elt F) ℓ)

/-- The plan: each tile's expert, and the rows saying whether it is used, where its ranks start, and its runs. -/
abbrev teA : IVec S72 32 := m (((0 : Dev nD).tc : Thread nD τ).loc main_arg0)
abbrev tileA : IVec S4x72 32 := m (((0 : Dev nD).tc : Thread nD τ).loc main_arg1)

/-- A grid point as a tile. -/
abbrev pt (t : Fin grid0.N) : Fin 72 := ⟨t.1, t.2⟩

theorem word0 (t : Fin grid0.N) : (BitVec.ofNat 32 ((grid0.coords t) 0).val).toNat = t.1 := by
  revert t; decide +kernel

variable (t : Fin grid0.N)

/-- The words a point loads. -/
abbrev tvW : BitVec 32 := tbM0_1.view.readAt (Elt F) (Rect.unit (s := S4x72) (k0_off2 (grid0.coords t)) S1x1.size (k0_off2_inb (grid0.coords t))).toLoadRect (tbl m 1) (Shape.Idx.first (numel1_S1x1.symm ▸ Nat.one_pos))
abbrev teW : BitVec 32 := tbM0_0.view.readAt (Elt F) (Rect.unit (s := S72) (k0_off3 (grid0.coords t)) S1.size (k0_off3_inb (grid0.coords t))).toLoadRect (tbl m 0) (Shape.Idx.first (numel1_S1.symm ▸ Nat.one_pos))
abbrev loW : BitVec 32 := tbM0_1.view.readAt (Elt F) (Rect.unit (s := S4x72) (k0_off4 (grid0.coords t)) S1x1.size (k0_off4_inb (grid0.coords t))).toLoadRect (tbl m 1) (Shape.Idx.first (numel1_S1x1.symm ▸ Nat.one_pos))
abbrev hiW : BitVec 32 := tbM0_1.view.readAt (Elt F) (Rect.unit (s := S4x72) (k0_off5 (grid0.coords t)) S1x1.size (k0_off5_inb (grid0.coords t))).toLoadRect (tbl m 1) (Shape.Idx.first (numel1_S1x1.symm ▸ Nat.one_pos))
abbrev r0W : BitVec 32 := tbM0_1.view.readAt (Elt F) (Rect.unit (s := S4x72) (k0_off6 (grid0.coords t)) S1x1.size (k0_off6_inb (grid0.coords t))).toLoadRect (tbl m 1) (Shape.Idx.first (numel1_S1x1.symm ▸ Nat.one_pos))

theorem tile_word (off : Fin 2 → Nat) (h : ∀ a, off a + S1x1.size a ≤ S4x72.size a) (k : Fin 4) (h0 : off 0 = k.1) (h1 : off 1 = t.1) :
    tbM0_1.view.readAt (Elt F) (Rect.unit (s := S4x72) off S1x1.size h).toLoadRect (tbl m 1) (Shape.Idx.first (numel1_S1x1.symm ▸ Nat.one_pos)) = tileA m (ix2 k (pt t)) := by
  show m (((0 : Dev nD) : Thread nD τ).loc main_arg1) ?w = _
  refine congrArg _ ?_
  funext a
  refine Fin.ext ?_
  fin_cases a
  · show off 0 + 1 * 0 = k.1
    omega
  · show off 1 + 1 * 0 = t.1
    omega

theorem te_word (off : Fin 1 → Nat) (h : ∀ a, off a + S1.size a ≤ S72.size a) (h0 : off 0 = t.1) :
    tbM0_0.view.readAt (Elt F) (Rect.unit (s := S72) off S1.size h).toLoadRect (tbl m 0) (Shape.Idx.first (numel1_S1.symm ▸ Nat.one_pos)) = teA m (ix1 (pt t)) := by
  show m (((0 : Dev nD) : Thread nD τ).loc main_arg0) ?w = _
  refine congrArg _ ?_
  funext a
  refine Fin.ext ?_
  fin_cases a
  show off 0 + 1 * 0 = t.1
  omega

theorem tv_eq : tvW m t = tileA m (ix2 0 (pt t)) := tile_word m t _ _ 0 rfl (word0 t)
theorem te_eq : teW m t = teA m (ix1 (pt t)) := te_word m t _ _ (word0 t)
theorem lo_eq : loW m t = tileA m (ix2 2 (pt t)) := tile_word m t _ _ 2 rfl (word0 t)
theorem hi_eq : hiW m t = tileA m (ix2 3 (pt t)) := tile_word m t _ _ 3 rfl (word0 t)
theorem r0_eq : r0W m t = tileA m (ix2 1 (pt t)) := tile_word m t _ _ 1 rfl (word0 t)

/-- The bounds the plan's words obey. -/
def Words : Prop := ∀ t : Fin 72, (teA m (ix1 t)).toNat < 8
  ∧ (¬ tileA m (ix2 0 t) = 0#32 → (tileA m (ix2 2 t)).toNat < 32 ∧ (tileA m (ix2 3 t)).toInt < 32)

variable {m}

theorem used {t : Fin grid0.N} (h : cond0_0 (grid0.coords t) (tvW m t)) : ¬ tileA m (ix2 0 (pt t)) = 0#32 := by
  rw [← tv_eq]
  intro e
  have h' : k0_cond1 (tvW m t) = 1#1 := h
  rw [e] at h'
  exact absurd h' (by decide)

theorem hyps (h : Words m) (hO : Ok m) : Hyps m hO := Hyps.of fun c t hv => by
  have hw := (h (pt t)).2 (used hv)
  refine Cert.Proof.Expert.chk_of _ _ _ _ ?_ ?_ ?_
  · show (teW m t).toNat < 8
    rw [te_eq]; exact (h (pt t)).1
  · show (loW m t).toNat < 32
    rw [lo_eq]; exact hw.1
  · show (hiW m t).toInt < 32
    rw [hi_eq]; exact hw.2

theorem at4 (i : grid0.Coords) : cc0_transform_4 k0_off1_inb numel1_S1 (tbl m) i = ![0, (teA m (ix1 ⟨(i 0).val, (i 0).isLt⟩)).toNat, 0, 0] := by
  have e : (BitVec.ofNat 32 (i 0).val).toNat = (i 0).val := by
    have : (i 0).val < 72 := (i 0).isLt
    simp only [BitVec.toNat_ofNat]; omega
  have w : (tbl m).at 0 (Rect.unit (s := S72) (k0_off1 i) S1.size (k0_off1_inb i)) numel1_S1 = teA m (ix1 ⟨(i 0).val, (i 0).isLt⟩) := by
    show m (((0 : Dev nD) : Thread nD τ).loc main_arg0) ?w = _
    refine congrArg _ ?_
    funext a
    refine Fin.ext ?_
    fin_cases a
    exact e
  show ![0, ((tbl m).at 0 (Rect.unit (s := S72) (k0_off1 i) S1.size (k0_off1_inb i)) numel1_S1).toNat, 0, 0] = _
  rw [w]

theorem at5 (i : grid0.Coords) : cc0_transform_5 k0_off1_inb numel1_S1 (tbl m) i = ![0, (teA m (ix1 ⟨(i 0).val, (i 0).isLt⟩)).toNat, 0, 0] := at4 i

theorem ok (h : Words m) : Ok m := by
  refine ⟨fun i => ⟨?_, .inr (Affine.block_words_dvd (of_decide_eq_true rfl) (by decide))⟩, fun i => ⟨?_, .inr (Affine.block_words_dvd (of_decide_eq_true rfl) (by decide))⟩⟩
  · rw [at4]
    have := (h ⟨(i 0).val, (i 0).isLt⟩).1
    intro a
    fin_cases a
    · exact (by decide : (0 + 1) * 1 ≤ 2)
    · show ((teA m (ix1 ⟨(i 0).val, (i 0).isLt⟩)).toNat + 1) * 1 ≤ 8
      omega
    · exact (by decide : (0 + 1) * 1024 ≤ 1024)
    · exact (by decide : (0 + 1) * 2816 ≤ 2816)
  · rw [at5]
    have := (h ⟨(i 0).val, (i 0).isLt⟩).1
    intro a
    fin_cases a
    · exact (by decide : (0 + 1) * 1 ≤ 2)
    · show ((teA m (ix1 ⟨(i 0).val, (i 0).isLt⟩)).toNat + 1) * 1 ≤ 8
      omega
    · exact (by decide : (0 + 1) * 1408 ≤ 1408)
    · exact (by decide : (0 + 1) * 1024 ≤ 1024)

end Cert.Kernel4Ideal.Exp
-- ==== Proof.ExpertBlocks.lean ====
/- The rows the experts call gathers and the tile it writes, payload by payload, and the blocks it reads. -/
module

public import proofs.«01_k».proof.Proof.ExpertPure
public import proofs.«01_k».proof.Proof.ExpertHypsIdeal
public import Idealize.ShloMosaic.Lib.Pipeline.ReadBack
public import Idealize.ShloMosaic.Lib.Pipeline.ValueKit

@[expose] public section

set_option maxRecDepth 16384

noncomputable section

namespace Cert.Kernel4Ideal.Exp

open Cert.Kernel4Ideal Cert.Kernel4Ideal.Gen Idealize.ShloMosaic Idealize.ShloMosaic.TcCoe Idealize.SL.Sem
open Cert.LayerMath Cert.ExpertMath

theorem gate_sub (u v : EReal) : gate u v = u * Ideal.div 1 (1 + Ideal.exp (0 - u)) * v := by
  rw [zero_sub]
  rfl

/-- A rank's row of the tile. -/
theorem tail_at (X : FVec Ideal S256x1024 .f32) (W : FVec Ideal S256x1 .f32) (wg : FVec Ideal S1x1x1024x2816 .bf16) (wd : FVec Ideal S1x1x1408x1024 .bf16) (r : Fin 256) (d : Fin 1024) :
    k0_pay2 (F := Ideal) (k0_pay35 X wg W) (k0_pay36 wd) (ix2 r d)
      = expertOut (fun x => X (ix2 r x)) (W (ix2 r 0)) (fun x f => wg (ix4 0 0 x f)) (fun f => wd (ix4 0 0 f d)) := by
  unfold expertOut
  simp only [gate_sub]
  pointwise [k0_pay2, k0_pay35, k0_pay36]

theorem rowA_at (w : BitVec 32) (c s : FVec Ideal S1x1024 .f32) (h : FVec Ideal S1024x1024 .bf16) (r : Fin 256) (d : Fin 1024) :
    k0_pay11 (F := Ideal) w c s h (ix2 r d) = ∑ j : Fin 1024, pick (FloatOps.sitofp (F := Ideal) .f32 w) (c (ix2 0 j)) (s (ix2 0 j)) r (h (ix2 j d)) := by
  pointwise [k0_pay9, k0_pay10, k0_pay11]
  rfl

theorem weightA_at (w : BitVec 32) (c s b : FVec Ideal S1x1024 .f32) (r : Fin 256) :
    k0_pay12 (F := Ideal) w c s b (ix2 r 0) = ∑ j : Fin 1024, pick (FloatOps.sitofp (F := Ideal) .f32 w) (c (ix2 0 j)) (s (ix2 0 j)) r (b (ix2 0 j)) := by
  pointwise [k0_pay9, k0_pay10, k0_pay12]
  rfl

theorem rowB_at (w : BitVec 32) (c s : FVec Ideal S1x1280 .f32) (h : FVec Ideal S1280x1024 .bf16) (r : Fin 256) (d : Fin 1024) :
    k0_pay14 (F := Ideal) w c s h (ix2 r d) = ∑ j : Fin 1280, pick (FloatOps.sitofp (F := Ideal) .f32 w) (c (ix2 0 j)) (s (ix2 0 j)) r (h (ix2 j d)) := by
  pointwise [k0_pay9, k0_pay13, k0_pay14]
  rfl

theorem weightB_at (w : BitVec 32) (c s b : FVec Ideal S1x1280 .f32) (r : Fin 256) :
    k0_pay15 (F := Ideal) w c s b (ix2 r 0) = ∑ j : Fin 1280, pick (FloatOps.sitofp (F := Ideal) .f32 w) (c (ix2 0 j)) (s (ix2 0 j)) r (b (ix2 0 j)) := by
  pointwise [k0_pay9, k0_pay13, k0_pay15]
  rfl

theorem rowC_at (w : BitVec 32) (c s : FVec Ideal S1x1536 .f32) (h : FVec Ideal S1536x1024 .bf16) (r : Fin 256) (d : Fin 1024) :
    k0_pay17 (F := Ideal) w c s h (ix2 r d) = ∑ j : Fin 1536, pick (FloatOps.sitofp (F := Ideal) .f32 w) (c (ix2 0 j)) (s (ix2 0 j)) r (h (ix2 j d)) := by
  pointwise [k0_pay9, k0_pay16, k0_pay17]
  rfl

theorem weightC_at (w : BitVec 32) (c s b : FVec Ideal S1x1536 .f32) (r : Fin 256) :
    k0_pay18 (F := Ideal) w c s b (ix2 r 0) = ∑ j : Fin 1536, pick (FloatOps.sitofp (F := Ideal) .f32 w) (c (ix2 0 j)) (s (ix2 0 j)) r (b (ix2 0 j)) := by
  pointwise [k0_pay9, k0_pay16, k0_pay18]
  rfl

theorem rowD_at (w : BitVec 32) (c s : FVec Ideal S1x1792 .f32) (h : FVec Ideal S1792x1024 .bf16) (r : Fin 256) (d : Fin 1024) :
    k0_pay20 (F := Ideal) w c s h (ix2 r d) = ∑ j : Fin 1792, pick (FloatOps.sitofp (F := Ideal) .f32 w) (c (ix2 0 j)) (s (ix2 0 j)) r (h (ix2 j d)) := by
  pointwise [k0_pay9, k0_pay19, k0_pay20]
  rfl

theorem weightD_at (w : BitVec 32) (c s b : FVec Ideal S1x1792 .f32) (r : Fin 256) :
    k0_pay21 (F := Ideal) w c s b (ix2 r 0) = ∑ j : Fin 1792, pick (FloatOps.sitofp (F := Ideal) .f32 w) (c (ix2 0 j)) (s (ix2 0 j)) r (b (ix2 0 j)) := by
  pointwise [k0_pay9, k0_pay19, k0_pay21]
  rfl

theorem rowE_at (w : BitVec 32) (c s : FVec Ideal S1x2048 .f32) (h : FVec Ideal S2048x1024 .bf16) (r : Fin 256) (d : Fin 1024) :
    k0_pay23 (F := Ideal) w c s h (ix2 r d) = ∑ j : Fin 2048, pick (FloatOps.sitofp (F := Ideal) .f32 w) (c (ix2 0 j)) (s (ix2 0 j)) r (h (ix2 j d)) := by
  pointwise [k0_pay9, k0_pay22, k0_pay23]
  rfl

theorem weightE_at (w : BitVec 32) (c s b : FVec Ideal S1x2048 .f32) (r : Fin 256) :
    k0_pay24 (F := Ideal) w c s b (ix2 r 0) = ∑ j : Fin 2048, pick (FloatOps.sitofp (F := Ideal) .f32 w) (c (ix2 0 j)) (s (ix2 0 j)) r (b (ix2 0 j)) := by
  pointwise [k0_pay9, k0_pay22, k0_pay24]
  rfl

theorem rowF_at (w : BitVec 32) (c s : FVec Ideal S1x2560 .f32) (h : FVec Ideal S2560x1024 .bf16) (r : Fin 256) (d : Fin 1024) :
    k0_pay26 (F := Ideal) w c s h (ix2 r d) = ∑ j : Fin 2560, pick (FloatOps.sitofp (F := Ideal) .f32 w) (c (ix2 0 j)) (s (ix2 0 j)) r (h (ix2 j d)) := by
  pointwise [k0_pay9, k0_pay25, k0_pay26]
  rfl

theorem weightF_at (w : BitVec 32) (c s b : FVec Ideal S1x2560 .f32) (r : Fin 256) :
    k0_pay27 (F := Ideal) w c s b (ix2 r 0) = ∑ j : Fin 2560, pick (FloatOps.sitofp (F := Ideal) .f32 w) (c (ix2 0 j)) (s (ix2 0 j)) r (b (ix2 0 j)) := by
  pointwise [k0_pay9, k0_pay25, k0_pay27]
  rfl

theorem rowG_at (w : BitVec 32) (c s : FVec Ideal S1x3072 .f32) (h : FVec Ideal S3072x1024 .bf16) (r : Fin 256) (d : Fin 1024) :
    k0_pay29 (F := Ideal) w c s h (ix2 r d) = ∑ j : Fin 3072, pick (FloatOps.sitofp (F := Ideal) .f32 w) (c (ix2 0 j)) (s (ix2 0 j)) r (h (ix2 j d)) := by
  pointwise [k0_pay9, k0_pay28, k0_pay29]
  rfl

theorem weightG_at (w : BitVec 32) (c s b : FVec Ideal S1x3072 .f32) (r : Fin 256) :
    k0_pay30 (F := Ideal) w c s b (ix2 r 0) = ∑ j : Fin 3072, pick (FloatOps.sitofp (F := Ideal) .f32 w) (c (ix2 0 j)) (s (ix2 0 j)) r (b (ix2 0 j)) := by
  pointwise [k0_pay9, k0_pay28, k0_pay30]
  rfl

theorem rowH_at (w : EReal) (c s : FVec Ideal S1x256 .f32) (h : FVec Ideal S256x1024 .bf16) (x : FVec Ideal S256x1024 .f32) (r : Fin 256) (d : Fin 1024) :
    k0_pay4 (F := Ideal) w c s h x (ix2 r d) = x (ix2 r d) + ∑ j : Fin 256, pick w (c (ix2 0 j)) (s (ix2 0 j)) r (h (ix2 j d)) := by
  pointwise [k0_pay3, k0_pay4]

theorem weightH_at (w : EReal) (c s b : FVec Ideal S1x256 .f32) (x : FVec Ideal S256x1 .f32) (r : Fin 256) :
    k0_pay5 (F := Ideal) w c s b x (ix2 r 0) = x (ix2 r 0) + ∑ j : Fin 256, pick w (c (ix2 0 j)) (s (ix2 0 j)) r (b (ix2 0 j)) := by
  pointwise [k0_pay3, k0_pay5]

theorem zero_row (r : Fin 256) (d : Fin 1024) : k0_pay31 (F := Ideal) (ix2 r d) = 0 := by pointwise [k0_pay31]
theorem zero_weight (r : Fin 256) : k0_pay32 (F := Ideal) (ix2 r 0) = 0 := by pointwise [k0_pay32]
theorem zero_out (r : Fin 256) (d : Fin 1024) : k0_pay1 (F := Ideal) (ix2 r d) = 0 := by pointwise [k0_pay1]
theorem start_at (w : BitVec 32) : k0_pay9 (F := Ideal) w = FloatOps.sitofp (F := Ideal) .f32 w := rfl
theorem weight_id (v : FVec Ideal S256x1 .f32) (r : Fin 256) : k0_pay33 (F := Ideal) v (ix2 r 0) = v (ix2 r 0) := by pointwise [k0_pay33]

/-- A load of one expert's tokens, and of the tokens' rows. -/
theorem ld_row {n : Nat} (X : FVec Ideal S8x8192 .f32) (off : Fin 2 → Nat) (h : ∀ a, off a + (![1, n] : Fin 2 → Nat) a ≤ S8x8192.size a) (e : Fin 8) (o : Nat) (ho : off = ![e.1, o]) (hn : o + n ≤ 8192) (j : Fin n) :
    View.ld (Val := Elt Ideal) (e' := .f32) X (Rect.unit (s := S8x8192) off ![1, n] h) (ix2 0 j) = X (ix2 e ⟨o + j.1, by omega⟩) := by
  subst ho
  refine congrArg X (funext fun a => Fin.ext ?_)
  fin_cases a
  · show e.1 + 1 * 0 = e.1
    omega
  · show o + 1 * j.1 = o + j.1
    omega

theorem ld_tok {n : Nat} (X : FVec Ideal S8192x1024 .bf16) (off : Fin 2 → Nat) (h : ∀ a, off a + (![n, 1024] : Fin 2 → Nat) a ≤ S8192x1024.size a) (o : Nat) (ho : off = ![o, 0]) (hn : o + n ≤ 8192) (j : Fin n) (d : Fin 1024) :
    View.ld (Val := Elt Ideal) (e' := .bf16) X (Rect.unit (s := S8192x1024) off ![n, 1024] h) (ix2 j d) = X (ix2 ⟨o + j.1, by omega⟩ d) := by
  subst ho
  refine congrArg X (funext fun a => Fin.ext ?_)
  fin_cases a
  · show o + 1 * j.1 = o + j.1
    omega
  · show 0 + 1 * d.1 = d.1
    omega

variable (m : (ℓ : Loc nD τ sig) → Buf (Elt Ideal) ℓ) (hO : Ok m) (c : Dev nD) (t : Fin (cfgM m hO).N)

/-- The call's arrays. -/
abbrev hA : FVec Ideal S8192x1024 .bf16 := m ((c.tc : Thread nD τ).loc main_arg2)
abbrev cumA : FVec Ideal S8x8192 .f32 := m ((c.tc : Thread nD τ).loc main_arg3)
abbrev selA : FVec Ideal S8x8192 .f32 := m ((c.tc : Thread nD τ).loc main_arg4)
abbrev combA : FVec Ideal S8x8192 .f32 := m ((c.tc : Thread nD τ).loc main_arg5)
abbrev wgA : FVec Ideal S2x8x1024x2816 .f32 := m ((c.tc : Thread nD τ).loc main_arg6)
abbrev wdA : FVec Ideal S2x8x1408x1024 .f32 := m ((c.tc : Thread nD τ).loc main_arg7)

theorem idx0 : ∀ t : Fin grid0.N, cc0_transform_0 (grid0.coords t) = ![0, 0] ∧ cc0_transform_6 (grid0.coords t) = ![t.1, 0] := by decide +kernel

theorem blk0 (j : Fin 8192) (d : Fin 1024) : iblk m hO c 0 t (ix2 j d) = hA m c (ix2 j d) := by
  refine congrArg (m ((c.tc : Thread nD τ).loc main_arg2)) (funext fun a => Fin.ext ?_)
  fin_cases a
  · show 0 * 8192 + 1 * j.1 = j.1
    omega
  · show 0 * 1024 + 1 * d.1 = d.1
    omega
theorem blk1 (e : Fin 8) (j : Fin 8192) : iblk m hO c 1 t (ix2 e j) = cumA m c (ix2 e j) := by
  refine congrArg (m ((c.tc : Thread nD τ).loc main_arg3)) (funext fun a => Fin.ext ?_)
  fin_cases a
  · show 0 * 8 + 1 * e.1 = e.1
    omega
  · show 0 * 8192 + 1 * j.1 = j.1
    omega
theorem blk2 (e : Fin 8) (j : Fin 8192) : iblk m hO c 2 t (ix2 e j) = selA m c (ix2 e j) := by
  refine congrArg (m ((c.tc : Thread nD τ).loc main_arg4)) (funext fun a => Fin.ext ?_)
  fin_cases a
  · show 0 * 8 + 1 * e.1 = e.1
    omega
  · show 0 * 8192 + 1 * j.1 = j.1
    omega
theorem blk3 (e : Fin 8) (j : Fin 8192) : iblk m hO c 3 t (ix2 e j) = combA m c (ix2 e j) := by
  refine congrArg (m ((c.tc : Thread nD τ).loc main_arg5)) (funext fun a => Fin.ext ?_)
  fin_cases a
  · show 0 * 8 + 1 * e.1 = e.1
    omega
  · show 0 * 8192 + 1 * j.1 = j.1
    omega

theorem coords_pt (t : Fin grid0.N) : (⟨((grid0.coords t) 0).val, ((grid0.coords t) 0).isLt⟩ : Fin 72) = pt t := by
  revert t; decide +kernel
theorem entry4 (y : S2x8x1024x2816.Idx) : V m c main_v0 y = wgA m c y := by
  blk_simp [V]
  entry_read
  pointwise
theorem blk4 (e : Fin 8) (he : (teW m t).toNat = e.1) (x : Fin 1024) (f : Fin 2816) : iblk m hO c 4 t (ix4 0 0 x f) = wgA m c (ix4 0 e x f) := by
  have k := at4 (m := m) (grid0.coords t)
  rw [coords_pt t, ← te_eq] at k
  refine (entry4 m c _).trans (congrArg (wgA m c) (funext fun a => Fin.ext ?_))
  fin_cases a
  · show cc0_transform_4 k0_off1_inb numel1_S1 (tbl m) (grid0.coords t) 0 * 1 + 1 * 0 = 0
    rw [k]; rfl
  · show cc0_transform_4 k0_off1_inb numel1_S1 (tbl m) (grid0.coords t) 1 * 1 + 1 * 0 = e.1
    rw [k]; show (teW m t).toNat * 1 + 1 * 0 = e.1; omega
  · show cc0_transform_4 k0_off1_inb numel1_S1 (tbl m) (grid0.coords t) 2 * 1024 + 1 * x.1 = x.1
    rw [k]; show 0 * 1024 + 1 * x.1 = x.1; omega
  · show cc0_transform_4 k0_off1_inb numel1_S1 (tbl m) (grid0.coords t) 3 * 2816 + 1 * f.1 = f.1
    rw [k]; show 0 * 2816 + 1 * f.1 = f.1; omega

theorem entry5 (y : S2x8x1408x1024.Idx) : V m c main_v1 y = wdA m c y := by
  blk_simp [V]
  entry_read
  pointwise
theorem blk5 (e : Fin 8) (he : (teW m t).toNat = e.1) (x : Fin 1408) (f : Fin 1024) : iblk m hO c 5 t (ix4 0 0 x f) = wdA m c (ix4 0 e x f) := by
  have k := at5 (m := m) (grid0.coords t)
  rw [coords_pt t, ← te_eq] at k
  refine (entry5 m c _).trans (congrArg (wdA m c) (funext fun a => Fin.ext ?_))
  fin_cases a
  · show cc0_transform_5 k0_off1_inb numel1_S1 (tbl m) (grid0.coords t) 0 * 1 + 1 * 0 = 0
    rw [k]; rfl
  · show cc0_transform_5 k0_off1_inb numel1_S1 (tbl m) (grid0.coords t) 1 * 1 + 1 * 0 = e.1
    rw [k]; show (teW m t).toNat * 1 + 1 * 0 = e.1; omega
  · show cc0_transform_5 k0_off1_inb numel1_S1 (tbl m) (grid0.coords t) 2 * 1408 + 1 * x.1 = x.1
    rw [k]; show 0 * 1408 + 1 * x.1 = x.1; omega
  · show cc0_transform_5 k0_off1_inb numel1_S1 (tbl m) (grid0.coords t) 3 * 1024 + 1 * f.1 = f.1
    rw [k]; show 0 * 1024 + 1 * f.1 = f.1; omega

end Cert.Kernel4Ideal.Exp
-- ==== Proof.ExpertWindow.lean ====
/- A window of tokens that holds every run of a tile gathers what all the tokens give. -/
module

public import proofs.«01_k».proof.Proof.ExpertPure
public import proofs.«01_k».proof.Proof.ExpertWords

@[expose] public section

noncomputable section

namespace Cert.ExpertMath

open Idealize.ShloMosaic Idealize.SL.Sem Cert.Proof.Expert

/-- The test of a window's width says the runs fit it. -/
theorem width_of (lo hi q : BitVec 32)
    (hc : Scalar.cmpi .ne (Scalar.extui (Scalar.cmpi .sle (Scalar.addi (Scalar.subi hi lo) 1#32) q) : BitVec 32) 0#32 = 1#1) :
    (hi - lo + 1#32).toInt ≤ q.toInt := by
  have key : ∀ b : Bool, Scalar.cmpi .ne (Scalar.extui (BitVec.ofBool b) : BitVec 32) 0#32 = 1#1 → b = true := by decide
  have h : (hi - lo + 1#32).sle q = true := key _ hc
  simpa [BitVec.sle] using h

/-- As many runs as there are from the first to the last. -/
theorem runs_eq (lo hi : BitVec 32) (hl : lo.toNat < 32) (hh : hi.toInt < 32) (hle : lo.toInt ≤ hi.toInt) :
    (hi - lo + 1#32).toInt = hi.toInt - lo.toInt + 1 := by
  have h0 := toInt_lo lo hl
  rw [BitVec.toInt_add, BitVec.toInt_sub]
  simp [Int.bmod]
  omega

/-- The sum over a window is the sum over all tokens, when whatever is not zero lies in the tile's runs. -/
theorem gather {n : Nat} (lo hi cap q : BitVec 32) (hl : lo.toNat < 32) (hh : hi.toInt < 32) (hq : (hi - lo + 1#32).toInt ≤ q.toInt)
    (hqn : q.toInt * 256 = n) (hcap : cap.toNat + n = 8192) (f : Fin 8192 → EReal)
    (hz : ∀ j : Fin 8192, f j ≠ 0 → lo.toInt ≤ (j.1 / 256 : Nat) ∧ ((j.1 / 256 : Nat) : Int) ≤ hi.toInt) :
    ∑ j : Fin n, f ⟨min (lo.toNat * 256) cap.toNat + j.1, by omega⟩ = ∑ j, f j := by
  refine sum_window (min (lo.toNat * 256) cap.toNat) (by omega) f fun j hj => ?_
  by_contra hne
  have h1 := hz j hne
  have h0 := toInt_lo lo hl
  have h2 := runs_eq lo hi hl hh (by omega)
  omega

/-- One run more. -/
theorem runs_succ (f : Fin 8192 → EReal) (a k : Nat) (h : (a + k) * 256 + 256 ≤ 8192) :
    (∑ j : Fin 8192, if a * 256 ≤ j.1 ∧ j.1 < (a + k) * 256 then f j else 0) + ∑ j : Fin 256, f ⟨(a + k) * 256 + j.1, by omega⟩
      = ∑ j : Fin 8192, if a * 256 ≤ j.1 ∧ j.1 < (a + (k + 1)) * 256 then f j else 0 := by
  have hw := sum_window (n := 256) ((a + k) * 256) h (fun j => if (a + k) * 256 ≤ j.1 ∧ j.1 < (a + k) * 256 + 256 then f j else 0)
    fun j hj => if_neg hj
  have hf : ∑ j : Fin 256, f ⟨(a + k) * 256 + j.1, by omega⟩
      = ∑ j : Fin 8192, if (a + k) * 256 ≤ j.1 ∧ j.1 < (a + k) * 256 + 256 then f j else 0 := by
    refine Eq.trans (Finset.sum_congr rfl fun j _ => ?_) hw
    exact (if_pos ⟨Nat.le_add_right _ _, Nat.add_lt_add_left j.2 _⟩).symm
  rw [hf, ← Finset.sum_add_distrib]
  refine Finset.sum_congr rfl fun j _ => ?_
  by_cases h1 : a * 256 ≤ j.1 ∧ j.1 < (a + k) * 256
  · rw [if_pos h1, if_neg (by omega), if_pos (by omega), add_zero]
  · by_cases h2 : (a + k) * 256 ≤ j.1 ∧ j.1 < (a + k) * 256 + 256
    · rw [if_neg h1, if_pos h2, if_pos (by omega), zero_add]
    · rw [if_neg h1, if_neg h2, if_neg (by omega), add_zero]

/-- The runs from the first to the last are all that is not zero. -/
theorem runs_all (lo hi : BitVec 32) (hl : lo.toNat < 32) (f : Fin 8192 → EReal)
    (hz : ∀ j : Fin 8192, f j ≠ 0 → lo.toInt ≤ (j.1 / 256 : Nat) ∧ ((j.1 / 256 : Nat) : Int) ≤ hi.toInt) :
    (∑ j : Fin 8192, if lo.toNat * 256 ≤ j.1 ∧ j.1 < (lo.toNat + (hi.toInt + 1 - lo.toNat).toNat) * 256 then f j else 0) = ∑ j, f j := by
  refine Finset.sum_congr rfl fun j _ => ?_
  by_cases hne : f j = 0
  · rw [hne, ite_self]
  · have h1 := hz j hne
    have h0 := toInt_lo lo hl
    exact if_pos (by omega)

theorem expertOut_congr {X X' : Fin 1024 → EReal} {W W' : EReal} {wg wg' : Fin 1024 → Fin 2816 → EReal} {wd wd' : Fin 1408 → EReal}
    (hX : ∀ x, X x = X' x) (hW : W = W') (hg : ∀ x f, wg x f = wg' x f) (hd : ∀ f, wd f = wd' f) :
    expertOut X W wg wd = expertOut X' W' wg' wd' := by
  rw [funext hX, hW, funext fun x => funext (hg x), funext hd]

theorem pick_congr {w w' c c' s s' v v' : EReal} (r : Nat) (hw : w = w') (hc : c = c') (hs : s = s') (hv : v = v') :
    pick w c s r v = pick w' c' s' r v' := by
  rw [hw, hc, hs, hv]

/-- What is picked is zero where the token does not answer the rank. -/
theorem hit_of_pick {w c s v : EReal} {r : Nat} (h : pick w c s r v ≠ 0) : hit w c s r = 1#1 := by
  by_contra hne
  exact h (select_of_not _ hne _ _)

end Cert.ExpertMath
-- ==== Proof.ExpertValue.lean ====
/- The tile the experts call writes at a grid point, case by case. -/
module

public import proofs.«01_k».proof.Proof.ExpertBlocks
public import proofs.«01_k».proof.Proof.ExpertWindow

@[expose] public section

set_option maxRecDepth 16384

noncomputable section

namespace Cert.Kernel4Ideal.Exp

open Cert.Kernel4Ideal Cert.Kernel4Ideal.Gen Idealize.ShloMosaic Idealize.ShloMosaic.TcCoe Idealize.SL.Sem
open Cert.LayerMath Cert.ExpertMath Cert.Proof.Expert

variable (m : (ℓ : Loc nD τ sig) → Buf (Elt Ideal) ℓ)

/-- The row an expert gathers for a rank of a point's tile, and the weight it gathers. -/
abbrev rowAt (c : Dev nD) (t : Fin grid0.N) (e : Fin 8) (r : Fin 256) (d : Fin 1024) : EReal :=
  ∑ j : Fin 8192, pick (FloatOps.sitofp (F := Ideal) .f32 (r0W m t)) (cumA m c (ix2 e j)) (selA m c (ix2 e j)) r (hA m c (ix2 j d))
abbrev weightAt (c : Dev nD) (t : Fin grid0.N) (e : Fin 8) (r : Fin 256) : EReal :=
  ∑ j : Fin 8192, pick (FloatOps.sitofp (F := Ideal) .f32 (r0W m t)) (cumA m c (ix2 e j)) (selA m c (ix2 e j)) r (combA m c (ix2 e j))
abbrev outAt (c : Dev nD) (t : Fin grid0.N) (e : Fin 8) (r : Fin 256) (d : Fin 1024) : EReal :=
  expertOut (rowAt m c t e r) (weightAt m c t e r) (fun x f => wgA m c (ix4 0 e x f)) (fun f => wdA m c (ix4 0 e f d))

/-- The same of any arrays, and the fact that the tokens answering lie in the runs. -/
abbrev rowOf (w : BitVec 32) (B0 : FVec Ideal S8192x1024 .bf16) (B1 B2 : FVec Ideal S8x8192 .f32) (e : Fin 8) (r : Fin 256) (d : Fin 1024) : EReal :=
  ∑ j : Fin 8192, pick (FloatOps.sitofp (F := Ideal) .f32 w) (B1 (ix2 e j)) (B2 (ix2 e j)) r (B0 (ix2 j d))
abbrev weightOf (w : BitVec 32) (B1 B2 B3 : FVec Ideal S8x8192 .f32) (e : Fin 8) (r : Fin 256) : EReal :=
  ∑ j : Fin 8192, pick (FloatOps.sitofp (F := Ideal) .f32 w) (B1 (ix2 e j)) (B2 (ix2 e j)) r (B3 (ix2 e j))
abbrev Runs (lo hi w : BitVec 32) (B1 B2 : FVec Ideal S8x8192 .f32) (e : Fin 8) (r : Fin 256) : Prop :=
  ∀ j : Fin 8192, hit (FloatOps.sitofp (F := Ideal) .f32 w) (B1 (ix2 e j)) (B2 (ix2 e j)) r = 1#1 →
    lo.toInt ≤ (j.1 / 256 : Nat) ∧ ((j.1 / 256 : Nat) : Int) ≤ hi.toInt

/-- What a used point's words give: its expert, the bounds of its runs, and that the tokens answering lie in them. -/
structure Point (c : Dev nD) (t : Fin grid0.N) (e : Fin 8) : Prop where
  te : (teW m t).toNat = e.1
  lo : (loW m t).toNat < 32
  hi : (hiW m t).toInt < 32
  runs : ∀ (r : Fin 256) (j : Fin 8192), hit (FloatOps.sitofp (F := Ideal) .f32 (r0W m t)) (cumA m c (ix2 e j)) (selA m c (ix2 e j)) r = 1#1 →
    (loW m t).toInt ≤ (j.1 / 256 : Nat) ∧ ((j.1 / 256 : Nat) : Int) ≤ (hiW m t).toInt

variable {m} (hO : Ok m) (hH : Hyps m hO) (c : Dev nD) (t : Fin (cfgM m hO).N) {e : Fin 8}

theorem offs (te lo : BitVec 32) (hl : lo.toNat < 32) (he : te.toNat = e.1) (cap : BitVec 32) (hc : cap.toNat < 8192) :
    (![te.toNat, (Scalar.minsi (Scalar.muli lo 256#32) cap).toNat] : Fin 2 → Nat) = ![e.1, min (lo.toNat * 256) cap.toNat] := by
  rw [he, minsi_start lo hl cap hc]
theorem offs' (lo : BitVec 32) (hl : lo.toNat < 32) (cap : BitVec 32) (hc : cap.toNat < 8192) :
    (![(Scalar.minsi (Scalar.muli lo 256#32) cap).toNat, 0] : Fin 2 → Nat) = ![min (lo.toNat * 256) cap.toNat, 0] := by
  rw [minsi_start lo hl cap hc]
theorem fits (lo cap : BitVec 32) (n : Nat) (h : cap.toNat + n = 8192) : min (lo.toNat * 256) cap.toNat + n ≤ 8192 := by omega

theorem all0 : (iblk m hO c 0 t : FVec Ideal S8192x1024 .bf16) = hA m c := by
  refine funext fun (i : S8192x1024.Idx) => congrArg (m ((c.tc : Thread nD τ).loc main_arg2)) (funext fun a => Fin.ext ?_)
  fin_cases a
  · show 0 * 8192 + 1 * (i 0).1 = (i 0).1
    omega
  · show 0 * 1024 + 1 * (i 1).1 = (i 1).1
    omega
theorem all1 : (iblk m hO c 1 t : FVec Ideal S8x8192 .f32) = cumA m c := by
  refine funext fun (i : S8x8192.Idx) => congrArg (m ((c.tc : Thread nD τ).loc main_arg3)) (funext fun a => Fin.ext ?_)
  fin_cases a
  · show 0 * 8 + 1 * (i 0).1 = (i 0).1
    omega
  · show 0 * 8192 + 1 * (i 1).1 = (i 1).1
    omega
theorem all2 : (iblk m hO c 2 t : FVec Ideal S8x8192 .f32) = selA m c := by
  refine funext fun (i : S8x8192.Idx) => congrArg (m ((c.tc : Thread nD τ).loc main_arg4)) (funext fun a => Fin.ext ?_)
  fin_cases a
  · show 0 * 8 + 1 * (i 0).1 = (i 0).1
    omega
  · show 0 * 8192 + 1 * (i 1).1 = (i 1).1
    omega
theorem all3 : (iblk m hO c 3 t : FVec Ideal S8x8192 .f32) = combA m c := by
  refine funext fun (i : S8x8192.Idx) => congrArg (m ((c.tc : Thread nD τ).loc main_arg5)) (funext fun a => Fin.ext ?_)
  fin_cases a
  · show 0 * 8 + 1 * (i 0).1 = (i 0).1
    omega
  · show 0 * 8192 + 1 * (i 1).1 = (i 1).1
    omega

theorem row_A (te lo hi w : BitVec 32) {B0 C0 : FVec Ideal S8192x1024 .bf16} {B1 B2 C1 C2 : FVec Ideal S8x8192 .f32} (e0 : B0 = C0) (e1 : B1 = C1) (e2 : B2 = C2) (h1) (h2) (h3) (r : Fin 256) (x : Fin 1024)
    (he : te.toNat = e.1) (hl : lo.toNat < 32) (hh : hi.toInt < 32) (hq : (hi - lo + 1#32).toInt ≤ (4#32 : BitVec 32).toInt) (hr : Runs lo hi w C1 C2 e r) :
    k0_pay11 (F := Ideal) w (View.ld (Val := Elt Ideal) B1 (Rect.unit (s := S8x8192) (k0_off7 te lo) ![1, 1024] h1)) (View.ld (Val := Elt Ideal) B2 (Rect.unit (s := S8x8192) (k0_off7 te lo) ![1, 1024] h2)) (View.ld (Val := Elt Ideal) B0 (Rect.unit (s := S8192x1024) (k0_off8 lo) ![1024, 1024] h3)) (ix2 r x) = rowOf w C0 C1 C2 e r x := by
  subst e0 e1 e2
  refine (rowA_at _ _ _ _ r x).trans ((Finset.sum_congr rfl fun j _ => ?_).trans (gather lo hi 7168#32 4#32 hl hh hq (by decide) (by decide) _ fun j h => hr j (hit_of_pick h)))
  exact pick_congr r rfl (ld_row B1 _ _ e _ (offs te lo hl he 7168#32 (by decide)) (fits lo _ _ (by decide)) j) (ld_row B2 _ _ e _ (offs te lo hl he 7168#32 (by decide)) (fits lo _ _ (by decide)) j) (ld_tok B0 _ _ _ (offs' lo hl 7168#32 (by decide)) (fits lo _ _ (by decide)) j x)

theorem weight_A (te lo hi w : BitVec 32) {B1 B2 B3 C1 C2 C3 : FVec Ideal S8x8192 .f32} (e1 : B1 = C1) (e2 : B2 = C2) (e3 : B3 = C3) (h1) (h2) (h3) (r : Fin 256)
    (he : te.toNat = e.1) (hl : lo.toNat < 32) (hh : hi.toInt < 32) (hq : (hi - lo + 1#32).toInt ≤ (4#32 : BitVec 32).toInt) (hr : Runs lo hi w C1 C2 e r) :
    k0_pay12 (F := Ideal) w (View.ld (Val := Elt Ideal) B1 (Rect.unit (s := S8x8192) (k0_off7 te lo) ![1, 1024] h1)) (View.ld (Val := Elt Ideal) B2 (Rect.unit (s := S8x8192) (k0_off7 te lo) ![1, 1024] h2)) (View.ld (Val := Elt Ideal) B3 (Rect.unit (s := S8x8192) (k0_off7 te lo) ![1, 1024] h3)) (ix2 r 0) = weightOf w C1 C2 C3 e r := by
  subst e1 e2 e3
  refine (weightA_at _ _ _ _ r).trans ((Finset.sum_congr rfl fun j _ => ?_).trans (gather lo hi 7168#32 4#32 hl hh hq (by decide) (by decide) _ fun j h => hr j (hit_of_pick h)))
  exact pick_congr r rfl (ld_row B1 _ _ e _ (offs te lo hl he 7168#32 (by decide)) (fits lo _ _ (by decide)) j) (ld_row B2 _ _ e _ (offs te lo hl he 7168#32 (by decide)) (fits lo _ _ (by decide)) j) (ld_row B3 _ _ e _ (offs te lo hl he 7168#32 (by decide)) (fits lo _ _ (by decide)) j)

theorem out_A (p : Point m c t e) (h0 : cond0_0 (grid0.coords t) (tvW m t)) (h1 : cond0_1 (grid0.coords t) (loW m t) (hiW m t)) (r : Fin 256) (d : Fin 1024) :
    outsAt0 m hO hH c t (ix2 r d) = outAt m c t e r d := by
  have hq := width_of (loW m t) (hiW m t) 4#32 h1
  rw [outsAt0_A m hO hH c t h0 h1]
  frame_out
  refine (tail_at _ _ _ _ r d).trans (expertOut_congr
    (fun x => row_A (teW m t) (loW m t) (hiW m t) (r0W m t) ((Memref.IsWhole.read_unread _ _).trans (all0 hO c t)) ((Memref.IsWhole.read_unread _ _).trans (all1 hO c t)) ((Memref.IsWhole.read_unread _ _).trans (all2 hO c t)) _ _ _ r x p.te p.lo p.hi hq (p.runs r))
    (weight_A (teW m t) (loW m t) (hiW m t) (r0W m t) ((Memref.IsWhole.read_unread _ _).trans (all1 hO c t)) ((Memref.IsWhole.read_unread _ _).trans (all2 hO c t)) ((Memref.IsWhole.read_unread _ _).trans (all3 hO c t)) _ _ _ r p.te p.lo p.hi hq (p.runs r))
    (fun x f => (congrFun (Memref.IsWhole.read_unread _ _) _).trans (blk4 m hO c t e p.te x f)) (fun f => (congrFun (Memref.IsWhole.read_unread _ _) _).trans (blk5 m hO c t e p.te f d)))

theorem row_B (te lo hi w : BitVec 32) {B0 C0 : FVec Ideal S8192x1024 .bf16} {B1 B2 C1 C2 : FVec Ideal S8x8192 .f32} (e0 : B0 = C0) (e1 : B1 = C1) (e2 : B2 = C2) (h1) (h2) (h3) (r : Fin 256) (x : Fin 1024)
    (he : te.toNat = e.1) (hl : lo.toNat < 32) (hh : hi.toInt < 32) (hq : (hi - lo + 1#32).toInt ≤ (5#32 : BitVec 32).toInt) (hr : Runs lo hi w C1 C2 e r) :
    k0_pay14 (F := Ideal) w (View.ld (Val := Elt Ideal) B1 (Rect.unit (s := S8x8192) (k0_off9 te lo) ![1, 1280] h1)) (View.ld (Val := Elt Ideal) B2 (Rect.unit (s := S8x8192) (k0_off9 te lo) ![1, 1280] h2)) (View.ld (Val := Elt Ideal) B0 (Rect.unit (s := S8192x1024) (k0_off10 lo) ![1280, 1024] h3)) (ix2 r x) = rowOf w C0 C1 C2 e r x := by
  subst e0 e1 e2
  refine (rowB_at _ _ _ _ r x).trans ((Finset.sum_congr rfl fun j _ => ?_).trans (gather lo hi 6912#32 5#32 hl hh hq (by decide) (by decide) _ fun j h => hr j (hit_of_pick h)))
  exact pick_congr r rfl (ld_row B1 _ _ e _ (offs te lo hl he 6912#32 (by decide)) (fits lo _ _ (by decide)) j) (ld_row B2 _ _ e _ (offs te lo hl he 6912#32 (by decide)) (fits lo _ _ (by decide)) j) (ld_tok B0 _ _ _ (offs' lo hl 6912#32 (by decide)) (fits lo _ _ (by decide)) j x)

theorem weight_B (te lo hi w : BitVec 32) {B1 B2 B3 C1 C2 C3 : FVec Ideal S8x8192 .f32} (e1 : B1 = C1) (e2 : B2 = C2) (e3 : B3 = C3) (h1) (h2) (h3) (r : Fin 256)
    (he : te.toNat = e.1) (hl : lo.toNat < 32) (hh : hi.toInt < 32) (hq : (hi - lo + 1#32).toInt ≤ (5#32 : BitVec 32).toInt) (hr : Runs lo hi w C1 C2 e r) :
    k0_pay15 (F := Ideal) w (View.ld (Val := Elt Ideal) B1 (Rect.unit (s := S8x8192) (k0_off9 te lo) ![1, 1280] h1)) (View.ld (Val := Elt Ideal) B2 (Rect.unit (s := S8x8192) (k0_off9 te lo) ![1, 1280] h2)) (View.ld (Val := Elt Ideal) B3 (Rect.unit (s := S8x8192) (k0_off9 te lo) ![1, 1280] h3)) (ix2 r 0) = weightOf w C1 C2 C3 e r := by
  subst e1 e2 e3
  refine (weightB_at _ _ _ _ r).trans ((Finset.sum_congr rfl fun j _ => ?_).trans (gather lo hi 6912#32 5#32 hl hh hq (by decide) (by decide) _ fun j h => hr j (hit_of_pick h)))
  exact pick_congr r rfl (ld_row B1 _ _ e _ (offs te lo hl he 6912#32 (by decide)) (fits lo _ _ (by decide)) j) (ld_row B2 _ _ e _ (offs te lo hl he 6912#32 (by decide)) (fits lo _ _ (by decide)) j) (ld_row B3 _ _ e _ (offs te lo hl he 6912#32 (by decide)) (fits lo _ _ (by decide)) j)

theorem out_B (p : Point m c t e) (h0 : cond0_0 (grid0.coords t) (tvW m t)) (h1 : ¬cond0_1 (grid0.coords t) (loW m t) (hiW m t)) (h2 : cond0_2 (grid0.coords t) (loW m t) (hiW m t)) (r : Fin 256) (d : Fin 1024) :
    outsAt0 m hO hH c t (ix2 r d) = outAt m c t e r d := by
  have hq := width_of (loW m t) (hiW m t) 5#32 h2
  rw [outsAt0_B m hO hH c t h0 h1 h2]
  frame_out
  refine (tail_at _ _ _ _ r d).trans (expertOut_congr
    (fun x => row_B (teW m t) (loW m t) (hiW m t) (r0W m t) ((Memref.IsWhole.read_unread _ _).trans (all0 hO c t)) ((Memref.IsWhole.read_unread _ _).trans (all1 hO c t)) ((Memref.IsWhole.read_unread _ _).trans (all2 hO c t)) _ _ _ r x p.te p.lo p.hi hq (p.runs r))
    (weight_B (teW m t) (loW m t) (hiW m t) (r0W m t) ((Memref.IsWhole.read_unread _ _).trans (all1 hO c t)) ((Memref.IsWhole.read_unread _ _).trans (all2 hO c t)) ((Memref.IsWhole.read_unread _ _).trans (all3 hO c t)) _ _ _ r p.te p.lo p.hi hq (p.runs r))
    (fun x f => (congrFun (Memref.IsWhole.read_unread _ _) _).trans (blk4 m hO c t e p.te x f)) (fun f => (congrFun (Memref.IsWhole.read_unread _ _) _).trans (blk5 m hO c t e p.te f d)))

theorem row_C (te lo hi w : BitVec 32) {B0 C0 : FVec Ideal S8192x1024 .bf16} {B1 B2 C1 C2 : FVec Ideal S8x8192 .f32} (e0 : B0 = C0) (e1 : B1 = C1) (e2 : B2 = C2) (h1) (h2) (h3) (r : Fin 256) (x : Fin 1024)
    (he : te.toNat = e.1) (hl : lo.toNat < 32) (hh : hi.toInt < 32) (hq : (hi - lo + 1#32).toInt ≤ (6#32 : BitVec 32).toInt) (hr : Runs lo hi w C1 C2 e r) :
    k0_pay17 (F := Ideal) w (View.ld (Val := Elt Ideal) B1 (Rect.unit (s := S8x8192) (k0_off11 te lo) ![1, 1536] h1)) (View.ld (Val := Elt Ideal) B2 (Rect.unit (s := S8x8192) (k0_off11 te lo) ![1, 1536] h2)) (View.ld (Val := Elt Ideal) B0 (Rect.unit (s := S8192x1024) (k0_off12 lo) ![1536, 1024] h3)) (ix2 r x) = rowOf w C0 C1 C2 e r x := by
  subst e0 e1 e2
  refine (rowC_at _ _ _ _ r x).trans ((Finset.sum_congr rfl fun j _ => ?_).trans (gather lo hi 6656#32 6#32 hl hh hq (by decide) (by decide) _ fun j h => hr j (hit_of_pick h)))
  exact pick_congr r rfl (ld_row B1 _ _ e _ (offs te lo hl he 6656#32 (by decide)) (fits lo _ _ (by decide)) j) (ld_row B2 _ _ e _ (offs te lo hl he 6656#32 (by decide)) (fits lo _ _ (by decide)) j) (ld_tok B0 _ _ _ (offs' lo hl 6656#32 (by decide)) (fits lo _ _ (by decide)) j x)

theorem weight_C (te lo hi w : BitVec 32) {B1 B2 B3 C1 C2 C3 : FVec Ideal S8x8192 .f32} (e1 : B1 = C1) (e2 : B2 = C2) (e3 : B3 = C3) (h1) (h2) (h3) (r : Fin 256)
    (he : te.toNat = e.1) (hl : lo.toNat < 32) (hh : hi.toInt < 32) (hq : (hi - lo + 1#32).toInt ≤ (6#32 : BitVec 32).toInt) (hr : Runs lo hi w C1 C2 e r) :
    k0_pay18 (F := Ideal) w (View.ld (Val := Elt Ideal) B1 (Rect.unit (s := S8x8192) (k0_off11 te lo) ![1, 1536] h1)) (View.ld (Val := Elt Ideal) B2 (Rect.unit (s := S8x8192) (k0_off11 te lo) ![1, 1536] h2)) (View.ld (Val := Elt Ideal) B3 (Rect.unit (s := S8x8192) (k0_off11 te lo) ![1, 1536] h3)) (ix2 r 0) = weightOf w C1 C2 C3 e r := by
  subst e1 e2 e3
  refine (weightC_at _ _ _ _ r).trans ((Finset.sum_congr rfl fun j _ => ?_).trans (gather lo hi 6656#32 6#32 hl hh hq (by decide) (by decide) _ fun j h => hr j (hit_of_pick h)))
  exact pick_congr r rfl (ld_row B1 _ _ e _ (offs te lo hl he 6656#32 (by decide)) (fits lo _ _ (by decide)) j) (ld_row B2 _ _ e _ (offs te lo hl he 6656#32 (by decide)) (fits lo _ _ (by decide)) j) (ld_row B3 _ _ e _ (offs te lo hl he 6656#32 (by decide)) (fits lo _ _ (by decide)) j)

theorem out_C (p : Point m c t e) (h0 : cond0_0 (grid0.coords t) (tvW m t)) (h1 : ¬cond0_1 (grid0.coords t) (loW m t) (hiW m t)) (h2 : ¬cond0_2 (grid0.coords t) (loW m t) (hiW m t)) (h3 : cond0_3 (grid0.coords t) (loW m t) (hiW m t)) (r : Fin 256) (d : Fin 1024) :
    outsAt0 m hO hH c t (ix2 r d) = outAt m c t e r d := by
  have hq := width_of (loW m t) (hiW m t) 6#32 h3
  rw [outsAt0_C m hO hH c t h0 h1 h2 h3]
  frame_out
  refine (tail_at _ _ _ _ r d).trans (expertOut_congr
    (fun x => row_C (teW m t) (loW m t) (hiW m t) (r0W m t) ((Memref.IsWhole.read_unread _ _).trans (all0 hO c t)) ((Memref.IsWhole.read_unread _ _).trans (all1 hO c t)) ((Memref.IsWhole.read_unread _ _).trans (all2 hO c t)) _ _ _ r x p.te p.lo p.hi hq (p.runs r))
    (weight_C (teW m t) (loW m t) (hiW m t) (r0W m t) ((Memref.IsWhole.read_unread _ _).trans (all1 hO c t)) ((Memref.IsWhole.read_unread _ _).trans (all2 hO c t)) ((Memref.IsWhole.read_unread _ _).trans (all3 hO c t)) _ _ _ r p.te p.lo p.hi hq (p.runs r))
    (fun x f => (congrFun (Memref.IsWhole.read_unread _ _) _).trans (blk4 m hO c t e p.te x f)) (fun f => (congrFun (Memref.IsWhole.read_unread _ _) _).trans (blk5 m hO c t e p.te f d)))

theorem row_D (te lo hi w : BitVec 32) {B0 C0 : FVec Ideal S8192x1024 .bf16} {B1 B2 C1 C2 : FVec Ideal S8x8192 .f32} (e0 : B0 = C0) (e1 : B1 = C1) (e2 : B2 = C2) (h1) (h2) (h3) (r : Fin 256) (x : Fin 1024)
    (he : te.toNat = e.1) (hl : lo.toNat < 32) (hh : hi.toInt < 32) (hq : (hi - lo + 1#32).toInt ≤ (7#32 : BitVec 32).toInt) (hr : Runs lo hi w C1 C2 e r) :
    k0_pay20 (F := Ideal) w (View.ld (Val := Elt Ideal) B1 (Rect.unit (s := S8x8192) (k0_off13 te lo) ![1, 1792] h1)) (View.ld (Val := Elt Ideal) B2 (Rect.unit (s := S8x8192) (k0_off13 te lo) ![1, 1792] h2)) (View.ld (Val := Elt Ideal) B0 (Rect.unit (s := S8192x1024) (k0_off14 lo) ![1792, 1024] h3)) (ix2 r x) = rowOf w C0 C1 C2 e r x := by
  subst e0 e1 e2
  refine (rowD_at _ _ _ _ r x).trans ((Finset.sum_congr rfl fun j _ => ?_).trans (gather lo hi 6400#32 7#32 hl hh hq (by decide) (by decide) _ fun j h => hr j (hit_of_pick h)))
  exact pick_congr r rfl (ld_row B1 _ _ e _ (offs te lo hl he 6400#32 (by decide)) (fits lo _ _ (by decide)) j) (ld_row B2 _ _ e _ (offs te lo hl he 6400#32 (by decide)) (fits lo _ _ (by decide)) j) (ld_tok B0 _ _ _ (offs' lo hl 6400#32 (by decide)) (fits lo _ _ (by decide)) j x)

theorem weight_D (te lo hi w : BitVec 32) {B1 B2 B3 C1 C2 C3 : FVec Ideal S8x8192 .f32} (e1 : B1 = C1) (e2 : B2 = C2) (e3 : B3 = C3) (h1) (h2) (h3) (r : Fin 256)
    (he : te.toNat = e.1) (hl : lo.toNat < 32) (hh : hi.toInt < 32) (hq : (hi - lo + 1#32).toInt ≤ (7#32 : BitVec 32).toInt) (hr : Runs lo hi w C1 C2 e r) :
    k0_pay21 (F := Ideal) w (View.ld (Val := Elt Ideal) B1 (Rect.unit (s := S8x8192) (k0_off13 te lo) ![1, 1792] h1)) (View.ld (Val := Elt Ideal) B2 (Rect.unit (s := S8x8192) (k0_off13 te lo) ![1, 1792] h2)) (View.ld (Val := Elt Ideal) B3 (Rect.unit (s := S8x8192) (k0_off13 te lo) ![1, 1792] h3)) (ix2 r 0) = weightOf w C1 C2 C3 e r := by
  subst e1 e2 e3
  refine (weightD_at _ _ _ _ r).trans ((Finset.sum_congr rfl fun j _ => ?_).trans (gather lo hi 6400#32 7#32 hl hh hq (by decide) (by decide) _ fun j h => hr j (hit_of_pick h)))
  exact pick_congr r rfl (ld_row B1 _ _ e _ (offs te lo hl he 6400#32 (by decide)) (fits lo _ _ (by decide)) j) (ld_row B2 _ _ e _ (offs te lo hl he 6400#32 (by decide)) (fits lo _ _ (by decide)) j) (ld_row B3 _ _ e _ (offs te lo hl he 6400#32 (by decide)) (fits lo _ _ (by decide)) j)

theorem out_D (p : Point m c t e) (h0 : cond0_0 (grid0.coords t) (tvW m t)) (h1 : ¬cond0_1 (grid0.coords t) (loW m t) (hiW m t)) (h2 : ¬cond0_2 (grid0.coords t) (loW m t) (hiW m t)) (h3 : ¬cond0_3 (grid0.coords t) (loW m t) (hiW m t)) (h4 : cond0_4 (grid0.coords t) (loW m t) (hiW m t)) (r : Fin 256) (d : Fin 1024) :
    outsAt0 m hO hH c t (ix2 r d) = outAt m c t e r d := by
  have hq := width_of (loW m t) (hiW m t) 7#32 h4
  rw [outsAt0_D m hO hH c t h0 h1 h2 h3 h4]
  frame_out
  refine (tail_at _ _ _ _ r d).trans (expertOut_congr
    (fun x => row_D (teW m t) (loW m t) (hiW m t) (r0W m t) ((Memref.IsWhole.read_unread _ _).trans (all0 hO c t)) ((Memref.IsWhole.read_unread _ _).trans (all1 hO c t)) ((Memref.IsWhole.read_unread _ _).trans (all2 hO c t)) _ _ _ r x p.te p.lo p.hi hq (p.runs r))
    (weight_D (teW m t) (loW m t) (hiW m t) (r0W m t) ((Memref.IsWhole.read_unread _ _).trans (all1 hO c t)) ((Memref.IsWhole.read_unread _ _).trans (all2 hO c t)) ((Memref.IsWhole.read_unread _ _).trans (all3 hO c t)) _ _ _ r p.te p.lo p.hi hq (p.runs r))
    (fun x f => (congrFun (Memref.IsWhole.read_unread _ _) _).trans (blk4 m hO c t e p.te x f)) (fun f => (congrFun (Memref.IsWhole.read_unread _ _) _).trans (blk5 m hO c t e p.te f d)))

theorem row_E (te lo hi w : BitVec 32) {B0 C0 : FVec Ideal S8192x1024 .bf16} {B1 B2 C1 C2 : FVec Ideal S8x8192 .f32} (e0 : B0 = C0) (e1 : B1 = C1) (e2 : B2 = C2) (h1) (h2) (h3) (r : Fin 256) (x : Fin 1024)
    (he : te.toNat = e.1) (hl : lo.toNat < 32) (hh : hi.toInt < 32) (hq : (hi - lo + 1#32).toInt ≤ (8#32 : BitVec 32).toInt) (hr : Runs lo hi w C1 C2 e r) :
    k0_pay23 (F := Ideal) w (View.ld (Val := Elt Ideal) B1 (Rect.unit (s := S8x8192) (k0_off15 te lo) ![1, 2048] h1)) (View.ld (Val := Elt Ideal) B2 (Rect.unit (s := S8x8192) (k0_off15 te lo) ![1, 2048] h2)) (View.ld (Val := Elt Ideal) B0 (Rect.unit (s := S8192x1024) (k0_off16 lo) ![2048, 1024] h3)) (ix2 r x) = rowOf w C0 C1 C2 e r x := by
  subst e0 e1 e2
  refine (rowE_at _ _ _ _ r x).trans ((Finset.sum_congr rfl fun j _ => ?_).trans (gather lo hi 6144#32 8#32 hl hh hq (by decide) (by decide) _ fun j h => hr j (hit_of_pick h)))
  exact pick_congr r rfl (ld_row B1 _ _ e _ (offs te lo hl he 6144#32 (by decide)) (fits lo _ _ (by decide)) j) (ld_row B2 _ _ e _ (offs te lo hl he 6144#32 (by decide)) (fits lo _ _ (by decide)) j) (ld_tok B0 _ _ _ (offs' lo hl 6144#32 (by decide)) (fits lo _ _ (by decide)) j x)

theorem weight_E (te lo hi w : BitVec 32) {B1 B2 B3 C1 C2 C3 : FVec Ideal S8x8192 .f32} (e1 : B1 = C1) (e2 : B2 = C2) (e3 : B3 = C3) (h1) (h2) (h3) (r : Fin 256)
    (he : te.toNat = e.1) (hl : lo.toNat < 32) (hh : hi.toInt < 32) (hq : (hi - lo + 1#32).toInt ≤ (8#32 : BitVec 32).toInt) (hr : Runs lo hi w C1 C2 e r) :
    k0_pay24 (F := Ideal) w (View.ld (Val := Elt Ideal) B1 (Rect.unit (s := S8x8192) (k0_off15 te lo) ![1, 2048] h1)) (View.ld (Val := Elt Ideal) B2 (Rect.unit (s := S8x8192) (k0_off15 te lo) ![1, 2048] h2)) (View.ld (Val := Elt Ideal) B3 (Rect.unit (s := S8x8192) (k0_off15 te lo) ![1, 2048] h3)) (ix2 r 0) = weightOf w C1 C2 C3 e r := by
  subst e1 e2 e3
  refine (weightE_at _ _ _ _ r).trans ((Finset.sum_congr rfl fun j _ => ?_).trans (gather lo hi 6144#32 8#32 hl hh hq (by decide) (by decide) _ fun j h => hr j (hit_of_pick h)))
  exact pick_congr r rfl (ld_row B1 _ _ e _ (offs te lo hl he 6144#32 (by decide)) (fits lo _ _ (by decide)) j) (ld_row B2 _ _ e _ (offs te lo hl he 6144#32 (by decide)) (fits lo _ _ (by decide)) j) (ld_row B3 _ _ e _ (offs te lo hl he 6144#32 (by decide)) (fits lo _ _ (by decide)) j)

theorem out_E (p : Point m c t e) (h0 : cond0_0 (grid0.coords t) (tvW m t)) (h1 : ¬cond0_1 (grid0.coords t) (loW m t) (hiW m t)) (h2 : ¬cond0_2 (grid0.coords t) (loW m t) (hiW m t)) (h3 : ¬cond0_3 (grid0.coords t) (loW m t) (hiW m t)) (h4 : ¬cond0_4 (grid0.coords t) (loW m t) (hiW m t)) (h5 : cond0_5 (grid0.coords t) (loW m t) (hiW m t)) (r : Fin 256) (d : Fin 1024) :
    outsAt0 m hO hH c t (ix2 r d) = outAt m c t e r d := by
  have hq := width_of (loW m t) (hiW m t) 8#32 h5
  rw [outsAt0_E m hO hH c t h0 h1 h2 h3 h4 h5]
  frame_out
  refine (tail_at _ _ _ _ r d).trans (expertOut_congr
    (fun x => row_E (teW m t) (loW m t) (hiW m t) (r0W m t) ((Memref.IsWhole.read_unread _ _).trans (all0 hO c t)) ((Memref.IsWhole.read_unread _ _).trans (all1 hO c t)) ((Memref.IsWhole.read_unread _ _).trans (all2 hO c t)) _ _ _ r x p.te p.lo p.hi hq (p.runs r))
    (weight_E (teW m t) (loW m t) (hiW m t) (r0W m t) ((Memref.IsWhole.read_unread _ _).trans (all1 hO c t)) ((Memref.IsWhole.read_unread _ _).trans (all2 hO c t)) ((Memref.IsWhole.read_unread _ _).trans (all3 hO c t)) _ _ _ r p.te p.lo p.hi hq (p.runs r))
    (fun x f => (congrFun (Memref.IsWhole.read_unread _ _) _).trans (blk4 m hO c t e p.te x f)) (fun f => (congrFun (Memref.IsWhole.read_unread _ _) _).trans (blk5 m hO c t e p.te f d)))

theorem row_F (te lo hi w : BitVec 32) {B0 C0 : FVec Ideal S8192x1024 .bf16} {B1 B2 C1 C2 : FVec Ideal S8x8192 .f32} (e0 : B0 = C0) (e1 : B1 = C1) (e2 : B2 = C2) (h1) (h2) (h3) (r : Fin 256) (x : Fin 1024)
    (he : te.toNat = e.1) (hl : lo.toNat < 32) (hh : hi.toInt < 32) (hq : (hi - lo + 1#32).toInt ≤ (10#32 : BitVec 32).toInt) (hr : Runs lo hi w C1 C2 e r) :
    k0_pay26 (F := Ideal) w (View.ld (Val := Elt Ideal) B1 (Rect.unit (s := S8x8192) (k0_off17 te lo) ![1, 2560] h1)) (View.ld (Val := Elt Ideal) B2 (Rect.unit (s := S8x8192) (k0_off17 te lo) ![1, 2560] h2)) (View.ld (Val := Elt Ideal) B0 (Rect.unit (s := S8192x1024) (k0_off18 lo) ![2560, 1024] h3)) (ix2 r x) = rowOf w C0 C1 C2 e r x := by
  subst e0 e1 e2
  refine (rowF_at _ _ _ _ r x).trans ((Finset.sum_congr rfl fun j _ => ?_).trans (gather lo hi 5632#32 10#32 hl hh hq (by decide) (by decide) _ fun j h => hr j (hit_of_pick h)))
  exact pick_congr r rfl (ld_row B1 _ _ e _ (offs te lo hl he 5632#32 (by decide)) (fits lo _ _ (by decide)) j) (ld_row B2 _ _ e _ (offs te lo hl he 5632#32 (by decide)) (fits lo _ _ (by decide)) j) (ld_tok B0 _ _ _ (offs' lo hl 5632#32 (by decide)) (fits lo _ _ (by decide)) j x)

theorem weight_F (te lo hi w : BitVec 32) {B1 B2 B3 C1 C2 C3 : FVec Ideal S8x8192 .f32} (e1 : B1 = C1) (e2 : B2 = C2) (e3 : B3 = C3) (h1) (h2) (h3) (r : Fin 256)
    (he : te.toNat = e.1) (hl : lo.toNat < 32) (hh : hi.toInt < 32) (hq : (hi - lo + 1#32).toInt ≤ (10#32 : BitVec 32).toInt) (hr : Runs lo hi w C1 C2 e r) :
    k0_pay27 (F := Ideal) w (View.ld (Val := Elt Ideal) B1 (Rect.unit (s := S8x8192) (k0_off17 te lo) ![1, 2560] h1)) (View.ld (Val := Elt Ideal) B2 (Rect.unit (s := S8x8192) (k0_off17 te lo) ![1, 2560] h2)) (View.ld (Val := Elt Ideal) B3 (Rect.unit (s := S8x8192) (k0_off17 te lo) ![1, 2560] h3)) (ix2 r 0) = weightOf w C1 C2 C3 e r := by
  subst e1 e2 e3
  refine (weightF_at _ _ _ _ r).trans ((Finset.sum_congr rfl fun j _ => ?_).trans (gather lo hi 5632#32 10#32 hl hh hq (by decide) (by decide) _ fun j h => hr j (hit_of_pick h)))
  exact pick_congr r rfl (ld_row B1 _ _ e _ (offs te lo hl he 5632#32 (by decide)) (fits lo _ _ (by decide)) j) (ld_row B2 _ _ e _ (offs te lo hl he 5632#32 (by decide)) (fits lo _ _ (by decide)) j) (ld_row B3 _ _ e _ (offs te lo hl he 5632#32 (by decide)) (fits lo _ _ (by decide)) j)

theorem out_F (p : Point m c t e) (h0 : cond0_0 (grid0.coords t) (tvW m t)) (h1 : ¬cond0_1 (grid0.coords t) (loW m t) (hiW m t)) (h2 : ¬cond0_2 (grid0.coords t) (loW m t) (hiW m t)) (h3 : ¬cond0_3 (grid0.coords t) (loW m t) (hiW m t)) (h4 : ¬cond0_4 (grid0.coords t) (loW m t) (hiW m t)) (h5 : ¬cond0_5 (grid0.coords t) (loW m t) (hiW m t)) (h6 : cond0_6 (grid0.coords t) (loW m t) (hiW m t)) (r : Fin 256) (d : Fin 1024) :
    outsAt0 m hO hH c t (ix2 r d) = outAt m c t e r d := by
  have hq := width_of (loW m t) (hiW m t) 10#32 h6
  rw [outsAt0_F m hO hH c t h0 h1 h2 h3 h4 h5 h6]
  frame_out
  refine (tail_at _ _ _ _ r d).trans (expertOut_congr
    (fun x => row_F (teW m t) (loW m t) (hiW m t) (r0W m t) ((Memref.IsWhole.read_unread _ _).trans (all0 hO c t)) ((Memref.IsWhole.read_unread _ _).trans (all1 hO c t)) ((Memref.IsWhole.read_unread _ _).trans (all2 hO c t)) _ _ _ r x p.te p.lo p.hi hq (p.runs r))
    (weight_F (teW m t) (loW m t) (hiW m t) (r0W m t) ((Memref.IsWhole.read_unread _ _).trans (all1 hO c t)) ((Memref.IsWhole.read_unread _ _).trans (all2 hO c t)) ((Memref.IsWhole.read_unread _ _).trans (all3 hO c t)) _ _ _ r p.te p.lo p.hi hq (p.runs r))
    (fun x f => (congrFun (Memref.IsWhole.read_unread _ _) _).trans (blk4 m hO c t e p.te x f)) (fun f => (congrFun (Memref.IsWhole.read_unread _ _) _).trans (blk5 m hO c t e p.te f d)))

theorem row_G (te lo hi w : BitVec 32) {B0 C0 : FVec Ideal S8192x1024 .bf16} {B1 B2 C1 C2 : FVec Ideal S8x8192 .f32} (e0 : B0 = C0) (e1 : B1 = C1) (e2 : B2 = C2) (h1) (h2) (h3) (r : Fin 256) (x : Fin 1024)
    (he : te.toNat = e.1) (hl : lo.toNat < 32) (hh : hi.toInt < 32) (hq : (hi - lo + 1#32).toInt ≤ (12#32 : BitVec 32).toInt) (hr : Runs lo hi w C1 C2 e r) :
    k0_pay29 (F := Ideal) w (View.ld (Val := Elt Ideal) B1 (Rect.unit (s := S8x8192) (k0_off19 te lo) ![1, 3072] h1)) (View.ld (Val := Elt Ideal) B2 (Rect.unit (s := S8x8192) (k0_off19 te lo) ![1, 3072] h2)) (View.ld (Val := Elt Ideal) B0 (Rect.unit (s := S8192x1024) (k0_off20 lo) ![3072, 1024] h3)) (ix2 r x) = rowOf w C0 C1 C2 e r x := by
  subst e0 e1 e2
  refine (rowG_at _ _ _ _ r x).trans ((Finset.sum_congr rfl fun j _ => ?_).trans (gather lo hi 5120#32 12#32 hl hh hq (by decide) (by decide) _ fun j h => hr j (hit_of_pick h)))
  exact pick_congr r rfl (ld_row B1 _ _ e _ (offs te lo hl he 5120#32 (by decide)) (fits lo _ _ (by decide)) j) (ld_row B2 _ _ e _ (offs te lo hl he 5120#32 (by decide)) (fits lo _ _ (by decide)) j) (ld_tok B0 _ _ _ (offs' lo hl 5120#32 (by decide)) (fits lo _ _ (by decide)) j x)

theorem weight_G (te lo hi w : BitVec 32) {B1 B2 B3 C1 C2 C3 : FVec Ideal S8x8192 .f32} (e1 : B1 = C1) (e2 : B2 = C2) (e3 : B3 = C3) (h1) (h2) (h3) (r : Fin 256)
    (he : te.toNat = e.1) (hl : lo.toNat < 32) (hh : hi.toInt < 32) (hq : (hi - lo + 1#32).toInt ≤ (12#32 : BitVec 32).toInt) (hr : Runs lo hi w C1 C2 e r) :
    k0_pay30 (F := Ideal) w (View.ld (Val := Elt Ideal) B1 (Rect.unit (s := S8x8192) (k0_off19 te lo) ![1, 3072] h1)) (View.ld (Val := Elt Ideal) B2 (Rect.unit (s := S8x8192) (k0_off19 te lo) ![1, 3072] h2)) (View.ld (Val := Elt Ideal) B3 (Rect.unit (s := S8x8192) (k0_off19 te lo) ![1, 3072] h3)) (ix2 r 0) = weightOf w C1 C2 C3 e r := by
  subst e1 e2 e3
  refine (weightG_at _ _ _ _ r).trans ((Finset.sum_congr rfl fun j _ => ?_).trans (gather lo hi 5120#32 12#32 hl hh hq (by decide) (by decide) _ fun j h => hr j (hit_of_pick h)))
  exact pick_congr r rfl (ld_row B1 _ _ e _ (offs te lo hl he 5120#32 (by decide)) (fits lo _ _ (by decide)) j) (ld_row B2 _ _ e _ (offs te lo hl he 5120#32 (by decide)) (fits lo _ _ (by decide)) j) (ld_row B3 _ _ e _ (offs te lo hl he 5120#32 (by decide)) (fits lo _ _ (by decide)) j)

theorem out_G (p : Point m c t e) (h0 : cond0_0 (grid0.coords t) (tvW m t)) (h1 : ¬cond0_1 (grid0.coords t) (loW m t) (hiW m t)) (h2 : ¬cond0_2 (grid0.coords t) (loW m t) (hiW m t)) (h3 : ¬cond0_3 (grid0.coords t) (loW m t) (hiW m t)) (h4 : ¬cond0_4 (grid0.coords t) (loW m t) (hiW m t)) (h5 : ¬cond0_5 (grid0.coords t) (loW m t) (hiW m t)) (h6 : ¬cond0_6 (grid0.coords t) (loW m t) (hiW m t)) (h7 : cond0_7 (grid0.coords t) (loW m t) (hiW m t)) (r : Fin 256) (d : Fin 1024) :
    outsAt0 m hO hH c t (ix2 r d) = outAt m c t e r d := by
  have hq := width_of (loW m t) (hiW m t) 12#32 h7
  rw [outsAt0_G m hO hH c t h0 h1 h2 h3 h4 h5 h6 h7]
  frame_out
  refine (tail_at _ _ _ _ r d).trans (expertOut_congr
    (fun x => row_G (teW m t) (loW m t) (hiW m t) (r0W m t) ((Memref.IsWhole.read_unread _ _).trans (all0 hO c t)) ((Memref.IsWhole.read_unread _ _).trans (all1 hO c t)) ((Memref.IsWhole.read_unread _ _).trans (all2 hO c t)) _ _ _ r x p.te p.lo p.hi hq (p.runs r))
    (weight_G (teW m t) (loW m t) (hiW m t) (r0W m t) ((Memref.IsWhole.read_unread _ _).trans (all1 hO c t)) ((Memref.IsWhole.read_unread _ _).trans (all2 hO c t)) ((Memref.IsWhole.read_unread _ _).trans (all3 hO c t)) _ _ _ r p.te p.lo p.hi hq (p.runs r))
    (fun x f => (congrFun (Memref.IsWhole.read_unread _ _) _).trans (blk4 m hO c t e p.te x f)) (fun f => (congrFun (Memref.IsWhole.read_unread _ _) _).trans (blk5 m hO c t e p.te f d)))

end Cert.Kernel4Ideal.Exp
-- ==== Proof.ExpertWalk.lean ====
/- The walk over a tile's runs, one run of 256 tokens a trip: what its trips leave gathered. -/
module

public import proofs.«01_k».proof.Proof.ExpertValue
public import Idealize.ShloMosaic.Lib.VecWindow

@[expose] public section

set_option maxRecDepth 16384

noncomputable section

namespace Cert.Kernel4Ideal.Exp

open Cert.Kernel4Ideal Cert.Kernel4Ideal.Gen Idealize.ShloMosaic Idealize.ShloMosaic.TcCoe Idealize.SL.Sem
open Cert.LayerMath Cert.ExpertMath Cert.Proof.Expert

variable {e : Fin 8}

theorem off21_eq (te lo hi : BitVec 32) (k : Fin (k0_t1_loop lo hi).trips) (he : te.toNat = e.1) (hl : lo.toNat < 32) (hh : hi.toInt < 32) :
    k0_off21 te lo hi k = ![e.1, (lo.toNat + k.1) * 256] := by
  show ![te.toNat, (Scalar.muli (Scf.iv lo 1#32 k) 256#32).toNat] = _
  rw [he, (run_at lo hi hl hh k).1]
theorem off22_eq (lo hi : BitVec 32) (k : Fin (k0_t1_loop lo hi).trips) (hl : lo.toNat < 32) (hh : hi.toInt < 32) :
    k0_off22 lo hi k = ![(lo.toNat + k.1) * 256, 0] := by
  show ![(Scalar.muli (Scf.iv lo 1#32 k) 256#32).toNat, 0] = _
  rw [(run_at lo hi hl hh k).1]

/-- One trip, on the rows. -/
theorem trip_row (𝒱 : Variants) (c : Dev nD) (bd : Option 𝒱.V) (i : grid0.Coords) (arg1 : Memref sig .tc .smem S72 .i32) (harg1 : arg1.IsWhole) (arg2 : Memref sig .tc .smem S4x72 .i32) (harg2 : arg2.IsWhole) (arg3 : Memref sig .tc .vmem S8192x1024 .bf16) (harg3 : arg3.IsWhole) (arg4 : Memref sig .tc .vmem S8x8192 .f32) (harg4 : arg4.IsWhole) (arg5 : Memref sig .tc .vmem S8x8192 .f32) (harg5 : arg5.IsWhole) (arg6 : Memref sig .tc .vmem S8x8192 .f32) (harg6 : arg6.IsWhole) (arg7 : Memref sig .tc .vmem S1x1x1024x2816 .bf16) (harg7 : arg7.IsWhole) (arg8 : Memref sig .tc .vmem S1x1x1408x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1 .f32) (harg11 : arg11.IsWhole) (arg0 : BitVec 32) (v3 : BitVec 32) (k0_h1 : k0_cond1 v3 = 1#1) (v8 : BitVec 32) (v10 : BitVec 32) (v12 : BitVec 32) (k0_hw1 : k0_chk1 v3 v8 v10 v12) (v14 : BitVec 32) (k0_h2 : ¬k0_cond2 v10 v12 = 1#1) (k0_h3 : ¬k0_cond3 v10 v12 = 1#1) (k0_h4 : ¬k0_cond4 v10 v12 = 1#1) (k0_h5 : ¬k0_cond5 v10 v12 = 1#1) (k0_h6 : ¬k0_cond6 v10 v12 = 1#1) (k0_h7 : ¬k0_cond7 v10 v12 = 1#1) (k0_h8 : ¬k0_cond8 v10 v12 = 1#1) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin (k0_t1_loop v10 v12).trips) (f10 : BufTy.Contents (Elt Ideal) arg10.view.ty) (f11 : BufTy.Contents (Elt Ideal) arg11.view.ty) {C0 : FVec Ideal S8192x1024 .bf16} (e0 : View.read (Elt Ideal) arg3.view X_arg3 = C0) {C1 : FVec Ideal S8x8192 .f32} (e1 : View.read (Elt Ideal) arg4.view X_arg4 = C1) {C2 : FVec Ideal S8x8192 .f32} (e2 : View.read (Elt Ideal) arg5.view X_arg5 = C2)
    (he : v8.toNat = e.1) (hl : BitVec.toNat v10 < 32) (hh : BitVec.toInt v12 < 32) (hk : (BitVec.toNat v10 + k.1) * 256 + 256 ≤ 8192) (r : Fin 256) (x : Fin 1024) :
    View.read (Elt Ideal) arg10.view (arg10.view.writes (Elt Ideal) f10 (tripL_k0_t1 (F := Ideal) 𝒱 c bd i arg1 harg1 arg2 harg2 arg3 harg3 arg4 harg4 arg5 harg5 arg6 harg6 arg7 harg7 arg8 harg8 arg9 harg9 arg10 harg10 arg11 harg11 arg0 v3 k0_h1 v8 v10 v12 k0_hw1 v14 k0_h2 k0_h3 k0_h4 k0_h5 k0_h6 k0_h7 k0_h8 X_arg3 X_arg4 X_arg5 X_arg6 k f10 f11).1) (ix2 r x)
      = View.read (Elt Ideal) arg10.view f10 (ix2 r x) + ∑ j : Fin 256, pick (FloatOps.sitofp (F := Ideal) .f32 v14) (C1 (ix2 e ⟨(BitVec.toNat v10 + k.1) * 256 + j.1, by omega⟩)) (C2 (ix2 e ⟨(BitVec.toNat v10 + k.1) * 256 + j.1, by omega⟩)) r (C0 (ix2 ⟨(BitVec.toNat v10 + k.1) * 256 + j.1, by omega⟩ x)) := by
  subst e0 e1 e2
  unfold tripL_k0_t1 trip_k0_t1
  dsimp only
  refine (congrFun (View.read_writes_full arg10.view f10 inb_S256x1024_S256x1024_0_0 _ []) (ix2 r x)).trans ?_
  refine (rowH_at _ _ _ _ _ r x).trans (congrArg₂ (fun a b : EReal => a + b) ?_ (Finset.sum_congr rfl fun j _ => pick_congr r rfl ?_ ?_ ?_))
  · exact congrFun (View.readAt_full arg10.view f10 inb_S256x1024_S256x1024_0_0) (ix2 r x)
  · exact ld_row _ _ _ e _ (off21_eq v8 v10 v12 k he hl hh) hk j
  · exact ld_row _ _ _ e _ (off21_eq v8 v10 v12 k he hl hh) hk j
  · exact ld_tok _ _ _ _ (off22_eq v10 v12 k hl hh) hk j x

/-- One trip, on the weights. -/
theorem trip_weight (𝒱 : Variants) (c : Dev nD) (bd : Option 𝒱.V) (i : grid0.Coords) (arg1 : Memref sig .tc .smem S72 .i32) (harg1 : arg1.IsWhole) (arg2 : Memref sig .tc .smem S4x72 .i32) (harg2 : arg2.IsWhole) (arg3 : Memref sig .tc .vmem S8192x1024 .bf16) (harg3 : arg3.IsWhole) (arg4 : Memref sig .tc .vmem S8x8192 .f32) (harg4 : arg4.IsWhole) (arg5 : Memref sig .tc .vmem S8x8192 .f32) (harg5 : arg5.IsWhole) (arg6 : Memref sig .tc .vmem S8x8192 .f32) (harg6 : arg6.IsWhole) (arg7 : Memref sig .tc .vmem S1x1x1024x2816 .bf16) (harg7 : arg7.IsWhole) (arg8 : Memref sig .tc .vmem S1x1x1408x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1 .f32) (harg11 : arg11.IsWhole) (arg0 : BitVec 32) (v3 : BitVec 32) (k0_h1 : k0_cond1 v3 = 1#1) (v8 : BitVec 32) (v10 : BitVec 32) (v12 : BitVec 32) (k0_hw1 : k0_chk1 v3 v8 v10 v12) (v14 : BitVec 32) (k0_h2 : ¬k0_cond2 v10 v12 = 1#1) (k0_h3 : ¬k0_cond3 v10 v12 = 1#1) (k0_h4 : ¬k0_cond4 v10 v12 = 1#1) (k0_h5 : ¬k0_cond5 v10 v12 = 1#1) (k0_h6 : ¬k0_cond6 v10 v12 = 1#1) (k0_h7 : ¬k0_cond7 v10 v12 = 1#1) (k0_h8 : ¬k0_cond8 v10 v12 = 1#1) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin (k0_t1_loop v10 v12).trips) (f10 : BufTy.Contents (Elt Ideal) arg10.view.ty) (f11 : BufTy.Contents (Elt Ideal) arg11.view.ty) {C1 : FVec Ideal S8x8192 .f32} (e1 : View.read (Elt Ideal) arg4.view X_arg4 = C1) {C2 : FVec Ideal S8x8192 .f32} (e2 : View.read (Elt Ideal) arg5.view X_arg5 = C2) {C3 : FVec Ideal S8x8192 .f32} (e3 : View.read (Elt Ideal) arg6.view X_arg6 = C3)
    (he : v8.toNat = e.1) (hl : BitVec.toNat v10 < 32) (hh : BitVec.toInt v12 < 32) (hk : (BitVec.toNat v10 + k.1) * 256 + 256 ≤ 8192) (r : Fin 256) :
    View.read (Elt Ideal) arg11.view (arg11.view.writes (Elt Ideal) f11 (tripL_k0_t1 (F := Ideal) 𝒱 c bd i arg1 harg1 arg2 harg2 arg3 harg3 arg4 harg4 arg5 harg5 arg6 harg6 arg7 harg7 arg8 harg8 arg9 harg9 arg10 harg10 arg11 harg11 arg0 v3 k0_h1 v8 v10 v12 k0_hw1 v14 k0_h2 k0_h3 k0_h4 k0_h5 k0_h6 k0_h7 k0_h8 X_arg3 X_arg4 X_arg5 X_arg6 k f10 f11).2) (ix2 r 0)
      = View.read (Elt Ideal) arg11.view f11 (ix2 r 0) + ∑ j : Fin 256, pick (FloatOps.sitofp (F := Ideal) .f32 v14) (C1 (ix2 e ⟨(BitVec.toNat v10 + k.1) * 256 + j.1, by omega⟩)) (C2 (ix2 e ⟨(BitVec.toNat v10 + k.1) * 256 + j.1, by omega⟩)) r (C3 (ix2 e ⟨(BitVec.toNat v10 + k.1) * 256 + j.1, by omega⟩)) := by
  subst e1 e2 e3
  unfold tripL_k0_t1 trip_k0_t1
  dsimp only
  refine (congrFun (View.read_writes_full arg11.view f11 inb_S256x1_S256x1_0_0 _ []) (ix2 r 0)).trans ?_
  refine (weight_id _ r).trans ?_
  refine (weightH_at _ _ _ _ _ r).trans (congrArg₂ (fun a b : EReal => a + b) ?_ (Finset.sum_congr rfl fun j _ => pick_congr r rfl ?_ ?_ ?_))
  · exact congrFun (View.readAt_full arg11.view f11 inb_S256x1_S256x1_0_0) (ix2 r 0)
  · exact ld_row _ _ _ e _ (off21_eq v8 v10 v12 k he hl hh) hk j
  · exact ld_row _ _ _ e _ (off21_eq v8 v10 v12 k he hl hh) hk j
  · exact ld_row _ _ _ e _ (off21_eq v8 v10 v12 k he hl hh) hk j

/-- The trips before `k`, on the rows. -/
theorem walk_row (𝒱 : Variants) (c : Dev nD) (bd : Option 𝒱.V) (i : grid0.Coords) (arg1 : Memref sig .tc .smem S72 .i32) (harg1 : arg1.IsWhole) (arg2 : Memref sig .tc .smem S4x72 .i32) (harg2 : arg2.IsWhole) (arg3 : Memref sig .tc .vmem S8192x1024 .bf16) (harg3 : arg3.IsWhole) (arg4 : Memref sig .tc .vmem S8x8192 .f32) (harg4 : arg4.IsWhole) (arg5 : Memref sig .tc .vmem S8x8192 .f32) (harg5 : arg5.IsWhole) (arg6 : Memref sig .tc .vmem S8x8192 .f32) (harg6 : arg6.IsWhole) (arg7 : Memref sig .tc .vmem S1x1x1024x2816 .bf16) (harg7 : arg7.IsWhole) (arg8 : Memref sig .tc .vmem S1x1x1408x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1 .f32) (harg11 : arg11.IsWhole) (arg0 : BitVec 32) (v3 : BitVec 32) (k0_h1 : k0_cond1 v3 = 1#1) (v8 : BitVec 32) (v10 : BitVec 32) (v12 : BitVec 32) (k0_hw1 : k0_chk1 v3 v8 v10 v12) (v14 : BitVec 32) (k0_h2 : ¬k0_cond2 v10 v12 = 1#1) (k0_h3 : ¬k0_cond3 v10 v12 = 1#1) (k0_h4 : ¬k0_cond4 v10 v12 = 1#1) (k0_h5 : ¬k0_cond5 v10 v12 = 1#1) (k0_h6 : ¬k0_cond6 v10 v12 = 1#1) (k0_h7 : ¬k0_cond7 v10 v12 = 1#1) (k0_h8 : ¬k0_cond8 v10 v12 = 1#1) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (G10 : BufTy.Contents (Elt Ideal) arg10.view.ty) (G11 : BufTy.Contents (Elt Ideal) arg11.view.ty) {C0 : FVec Ideal S8192x1024 .bf16} (e0 : View.read (Elt Ideal) arg3.view X_arg3 = C0) {C1 : FVec Ideal S8x8192 .f32} (e1 : View.read (Elt Ideal) arg4.view X_arg4 = C1) {C2 : FVec Ideal S8x8192 .f32} (e2 : View.read (Elt Ideal) arg5.view X_arg5 = C2)
    (he : v8.toNat = e.1) (hl : BitVec.toNat v10 < 32) (hh : BitVec.toInt v12 < 32) (r : Fin 256) (x : Fin 1024) (k : Nat) (hk : k ≤ (k0_t1_loop v10 v12).trips) :
    View.read (Elt Ideal) arg10.view (arg10.view.writes (Elt Ideal) G10 (pb_k0_t1 (F := Ideal) 𝒱 c bd i arg1 harg1 arg2 harg2 arg3 harg3 arg4 harg4 arg5 harg5 arg6 harg6 arg7 harg7 arg8 harg8 arg9 harg9 arg10 harg10 arg11 harg11 arg0 v3 k0_h1 v8 v10 v12 k0_hw1 v14 k0_h2 k0_h3 k0_h4 k0_h5 k0_h6 k0_h7 k0_h8 X_arg3 X_arg4 X_arg5 X_arg6 G10 G11 k).1) (ix2 r x)
      = View.read (Elt Ideal) arg10.view G10 (ix2 r x) + ∑ j : Fin 8192, if BitVec.toNat v10 * 256 ≤ j.1 ∧ j.1 < (BitVec.toNat v10 + k) * 256 then pick (FloatOps.sitofp (F := Ideal) .f32 v14) (C1 (ix2 e j)) (C2 (ix2 e j)) r (C0 (ix2 j x)) else 0 := by
  induction k with
  | zero =>
    rw [Finset.sum_eq_zero fun j _ => if_neg (by omega), add_zero]
    rfl
  | succ k ih =>
    have hr := (run_at v10 v12 hl hh ⟨k, hk⟩).2
    have h := ih (Nat.le_of_succ_le hk)
    rw [pb_k0_t1_succ (F := Ideal) 𝒱 c bd i arg1 harg1 arg2 harg2 arg3 harg3 arg4 harg4 arg5 harg5 arg6 harg6 arg7 harg7 arg8 harg8 arg9 harg9 arg10 harg10 arg11 harg11 arg0 v3 k0_h1 v8 v10 v12 k0_hw1 v14 k0_h2 k0_h3 k0_h4 k0_h5 k0_h6 k0_h7 k0_h8 X_arg3 X_arg4 X_arg5 X_arg6 G10 G11 ⟨k, hk⟩, View.writes_append,
      trip_row 𝒱 c bd i arg1 harg1 arg2 harg2 arg3 harg3 arg4 harg4 arg5 harg5 arg6 harg6 arg7 harg7 arg8 harg8 arg9 harg9 arg10 harg10 arg11 harg11 arg0 v3 k0_h1 v8 v10 v12 k0_hw1 v14 k0_h2 k0_h3 k0_h4 k0_h5 k0_h6 k0_h7 k0_h8 X_arg3 X_arg4 X_arg5 X_arg6 ⟨k, hk⟩ _ _ e0 e1 e2 he hl hh (by show (BitVec.toNat v10 + k) * 256 + 256 ≤ 8192; change BitVec.toNat v10 + k < 32 at hr; omega), h, add_assoc]
    refine congrArg _ (runs_succ (fun j => pick (FloatOps.sitofp (F := Ideal) .f32 v14) (C1 (ix2 e j)) (C2 (ix2 e j)) r (C0 (ix2 j x))) _ k ?_)
    change BitVec.toNat v10 + k < 32 at hr; omega

/-- The trips before `k`, on the weights. -/
theorem walk_weight (𝒱 : Variants) (c : Dev nD) (bd : Option 𝒱.V) (i : grid0.Coords) (arg1 : Memref sig .tc .smem S72 .i32) (harg1 : arg1.IsWhole) (arg2 : Memref sig .tc .smem S4x72 .i32) (harg2 : arg2.IsWhole) (arg3 : Memref sig .tc .vmem S8192x1024 .bf16) (harg3 : arg3.IsWhole) (arg4 : Memref sig .tc .vmem S8x8192 .f32) (harg4 : arg4.IsWhole) (arg5 : Memref sig .tc .vmem S8x8192 .f32) (harg5 : arg5.IsWhole) (arg6 : Memref sig .tc .vmem S8x8192 .f32) (harg6 : arg6.IsWhole) (arg7 : Memref sig .tc .vmem S1x1x1024x2816 .bf16) (harg7 : arg7.IsWhole) (arg8 : Memref sig .tc .vmem S1x1x1408x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1 .f32) (harg11 : arg11.IsWhole) (arg0 : BitVec 32) (v3 : BitVec 32) (k0_h1 : k0_cond1 v3 = 1#1) (v8 : BitVec 32) (v10 : BitVec 32) (v12 : BitVec 32) (k0_hw1 : k0_chk1 v3 v8 v10 v12) (v14 : BitVec 32) (k0_h2 : ¬k0_cond2 v10 v12 = 1#1) (k0_h3 : ¬k0_cond3 v10 v12 = 1#1) (k0_h4 : ¬k0_cond4 v10 v12 = 1#1) (k0_h5 : ¬k0_cond5 v10 v12 = 1#1) (k0_h6 : ¬k0_cond6 v10 v12 = 1#1) (k0_h7 : ¬k0_cond7 v10 v12 = 1#1) (k0_h8 : ¬k0_cond8 v10 v12 = 1#1) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (G10 : BufTy.Contents (Elt Ideal) arg10.view.ty) (G11 : BufTy.Contents (Elt Ideal) arg11.view.ty) {C1 : FVec Ideal S8x8192 .f32} (e1 : View.read (Elt Ideal) arg4.view X_arg4 = C1) {C2 : FVec Ideal S8x8192 .f32} (e2 : View.read (Elt Ideal) arg5.view X_arg5 = C2) {C3 : FVec Ideal S8x8192 .f32} (e3 : View.read (Elt Ideal) arg6.view X_arg6 = C3)
    (he : v8.toNat = e.1) (hl : BitVec.toNat v10 < 32) (hh : BitVec.toInt v12 < 32) (r : Fin 256) (k : Nat) (hk : k ≤ (k0_t1_loop v10 v12).trips) :
    View.read (Elt Ideal) arg11.view (arg11.view.writes (Elt Ideal) G11 (pb_k0_t1 (F := Ideal) 𝒱 c bd i arg1 harg1 arg2 harg2 arg3 harg3 arg4 harg4 arg5 harg5 arg6 harg6 arg7 harg7 arg8 harg8 arg9 harg9 arg10 harg10 arg11 harg11 arg0 v3 k0_h1 v8 v10 v12 k0_hw1 v14 k0_h2 k0_h3 k0_h4 k0_h5 k0_h6 k0_h7 k0_h8 X_arg3 X_arg4 X_arg5 X_arg6 G10 G11 k).2) (ix2 r 0)
      = View.read (Elt Ideal) arg11.view G11 (ix2 r 0) + ∑ j : Fin 8192, if BitVec.toNat v10 * 256 ≤ j.1 ∧ j.1 < (BitVec.toNat v10 + k) * 256 then pick (FloatOps.sitofp (F := Ideal) .f32 v14) (C1 (ix2 e j)) (C2 (ix2 e j)) r (C3 (ix2 e j)) else 0 := by
  induction k with
  | zero =>
    rw [Finset.sum_eq_zero fun j _ => if_neg (by omega), add_zero]
    rfl
  | succ k ih =>
    have hr := (run_at v10 v12 hl hh ⟨k, hk⟩).2
    have h := ih (Nat.le_of_succ_le hk)
    rw [pb_k0_t1_succ (F := Ideal) 𝒱 c bd i arg1 harg1 arg2 harg2 arg3 harg3 arg4 harg4 arg5 harg5 arg6 harg6 arg7 harg7 arg8 harg8 arg9 harg9 arg10 harg10 arg11 harg11 arg0 v3 k0_h1 v8 v10 v12 k0_hw1 v14 k0_h2 k0_h3 k0_h4 k0_h5 k0_h6 k0_h7 k0_h8 X_arg3 X_arg4 X_arg5 X_arg6 G10 G11 ⟨k, hk⟩, View.writes_append,
      trip_weight 𝒱 c bd i arg1 harg1 arg2 harg2 arg3 harg3 arg4 harg4 arg5 harg5 arg6 harg6 arg7 harg7 arg8 harg8 arg9 harg9 arg10 harg10 arg11 harg11 arg0 v3 k0_h1 v8 v10 v12 k0_hw1 v14 k0_h2 k0_h3 k0_h4 k0_h5 k0_h6 k0_h7 k0_h8 X_arg3 X_arg4 X_arg5 X_arg6 ⟨k, hk⟩ _ _ e1 e2 e3 he hl hh (by show (BitVec.toNat v10 + k) * 256 + 256 ≤ 8192; change BitVec.toNat v10 + k < 32 at hr; omega), h, add_assoc]
    refine congrArg _ (runs_succ (fun j => pick (FloatOps.sitofp (F := Ideal) .f32 v14) (C1 (ix2 e j)) (C2 (ix2 e j)) r (C3 (ix2 e j))) _ k ?_)
    change BitVec.toNat v10 + k < 32 at hr; omega

/-- What is left after the walk is nothing. -/
theorem start_row {κ : Kind} {sp : Space} (v : View sig κ sp S256x1024 .f32) (r : Fin 256) (x : Fin 1024) :
    (View.read (Elt Ideal) v (v.writes (Elt Ideal) v.junk [⟨Rect.unit (s := S256x1024) ![0, 0] ![256, 1024] inb_S256x1024_S256x1024_0_0, k0_pay31 (F := Ideal)⟩]) (ix2 r x) : EReal) = 0 := by
  refine (congrFun (View.read_writes_full (Val := Elt Ideal) v v.junk inb_S256x1024_S256x1024_0_0 _ []) (ix2 r x)).trans ?_
  exact zero_row r x
theorem start_weight {κ : Kind} {sp : Space} (v : View sig κ sp S256x1 .f32) (r : Fin 256) :
    (View.read (Elt Ideal) v (v.writes (Elt Ideal) v.junk [⟨Rect.unit (s := S256x1) ![0, 0] ![256, 1] inb_S256x1_S256x1_0_0, k0_pay32 (F := Ideal)⟩]) (ix2 r 0) : EReal) = 0 := by
  refine (congrFun (View.read_writes_full (Val := Elt Ideal) v v.junk inb_S256x1_S256x1_0_0 _ []) (ix2 r 0)).trans ?_
  exact zero_weight r

theorem rest_nil (𝒱 : Variants) (c : Dev nD) (bd : Option 𝒱.V) (i : grid0.Coords) (arg1 : Memref sig .tc .smem S72 .i32) (harg1 : arg1.IsWhole) (arg2 : Memref sig .tc .smem S4x72 .i32) (harg2 : arg2.IsWhole) (arg3 : Memref sig .tc .vmem S8192x1024 .bf16) (harg3 : arg3.IsWhole) (arg4 : Memref sig .tc .vmem S8x8192 .f32) (harg4 : arg4.IsWhole) (arg5 : Memref sig .tc .vmem S8x8192 .f32) (harg5 : arg5.IsWhole) (arg6 : Memref sig .tc .vmem S8x8192 .f32) (harg6 : arg6.IsWhole) (arg7 : Memref sig .tc .vmem S1x1x1024x2816 .bf16) (harg7 : arg7.IsWhole) (arg8 : Memref sig .tc .vmem S1x1x1408x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1 .f32) (harg11 : arg11.IsWhole) (arg0 : BitVec 32) (v3 : BitVec 32) (k0_h1 : k0_cond1 v3 = 1#1) (v8 : BitVec 32) (v10 : BitVec 32) (v12 : BitVec 32) (k0_hw1 : k0_chk1 v3 v8 v10 v12) (v14 : BitVec 32) (k0_h2 : ¬k0_cond2 v10 v12 = 1#1) (k0_h3 : ¬k0_cond3 v10 v12 = 1#1) (k0_h4 : ¬k0_cond4 v10 v12 = 1#1) (k0_h5 : ¬k0_cond5 v10 v12 = 1#1) (k0_h6 : ¬k0_cond6 v10 v12 = 1#1) (k0_h7 : ¬k0_cond7 v10 v12 = 1#1) (k0_h8 : ¬k0_cond8 v10 v12 = 1#1) (v77 : BitVec 32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (G_arg10 : BufTy.Contents (Elt Ideal) arg10.view.ty) (G_arg11 : BufTy.Contents (Elt Ideal) arg11.view.ty) (n : Nat) (h : n = 0) :
    pb_k0_t2 (F := Ideal) 𝒱 c bd i arg1 harg1 arg2 harg2 arg3 harg3 arg4 harg4 arg5 harg5 arg6 harg6 arg7 harg7 arg8 harg8 arg9 harg9 arg10 harg10 arg11 harg11 arg0 v3 k0_h1 v8 v10 v12 k0_hw1 v14 k0_h2 k0_h3 k0_h4 k0_h5 k0_h6 k0_h7 k0_h8 v77 X_arg3 X_arg4 X_arg5 X_arg6 G_arg10 G_arg11 n = ([], []) := by
  subst h
  rfl

theorem gathered_row (𝒱 : Variants) (c : Dev nD) (bd : Option 𝒱.V) (i : grid0.Coords) (arg1 : Memref sig .tc .smem S72 .i32) (harg1 : arg1.IsWhole) (arg2 : Memref sig .tc .smem S4x72 .i32) (harg2 : arg2.IsWhole) (arg3 : Memref sig .tc .vmem S8192x1024 .bf16) (harg3 : arg3.IsWhole) (arg4 : Memref sig .tc .vmem S8x8192 .f32) (harg4 : arg4.IsWhole) (arg5 : Memref sig .tc .vmem S8x8192 .f32) (harg5 : arg5.IsWhole) (arg6 : Memref sig .tc .vmem S8x8192 .f32) (harg6 : arg6.IsWhole) (arg7 : Memref sig .tc .vmem S1x1x1024x2816 .bf16) (harg7 : arg7.IsWhole) (arg8 : Memref sig .tc .vmem S1x1x1408x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1 .f32) (harg11 : arg11.IsWhole) (arg0 : BitVec 32) (v3 : BitVec 32) (k0_h1 : k0_cond1 v3 = 1#1) (v8 : BitVec 32) (v10 : BitVec 32) (v12 : BitVec 32) (k0_hw1 : k0_chk1 v3 v8 v10 v12) (v14 : BitVec 32) (k0_h2 : ¬k0_cond2 v10 v12 = 1#1) (k0_h3 : ¬k0_cond3 v10 v12 = 1#1) (k0_h4 : ¬k0_cond4 v10 v12 = 1#1) (k0_h5 : ¬k0_cond5 v10 v12 = 1#1) (k0_h6 : ¬k0_cond6 v10 v12 = 1#1) (k0_h7 : ¬k0_cond7 v10 v12 = 1#1) (k0_h8 : ¬k0_cond8 v10 v12 = 1#1) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (G11 : BufTy.Contents (Elt Ideal) arg11.view.ty) {C0 : FVec Ideal S8192x1024 .bf16} (e0 : View.read (Elt Ideal) arg3.view X_arg3 = C0) {C1 : FVec Ideal S8x8192 .f32} (e1 : View.read (Elt Ideal) arg4.view X_arg4 = C1) {C2 : FVec Ideal S8x8192 .f32} (e2 : View.read (Elt Ideal) arg5.view X_arg5 = C2)
    (he : v8.toNat = e.1) (hl : BitVec.toNat v10 < 32) (hh : BitVec.toInt v12 < 32) (r : Fin 256) (x : Fin 1024) (hr : Runs v10 v12 v14 C1 C2 e r) {L2 : List (View.Piece (Elt Ideal) S256x1024 .f32)} (hL : L2 = []) {n1 : Nat} (hn : n1 = (k0_t1_loop v10 v12).trips) :
    (arg10.view.readCov (L2 ++ ((pb_k0_t1 (F := Ideal) 𝒱 c bd i arg1 harg1 arg2 harg2 arg3 harg3 arg4 harg4 arg5 harg5 arg6 harg6 arg7 harg7 arg8 harg8 arg9 harg9 arg10 harg10 arg11 harg11 arg0 v3 k0_h1 v8 v10 v12 k0_hw1 v14 k0_h2 k0_h3 k0_h4 k0_h5 k0_h6 k0_h7 k0_h8 X_arg3 X_arg4 X_arg5 X_arg6 (arg10.view.writes (Elt Ideal) arg10.view.junk [⟨Rect.unit (s := S256x1024) ![0, 0] ![256, 1024] inb_S256x1024_S256x1024_0_0, k0_pay31 (F := Ideal)⟩]) G11 n1).1 ++ [⟨Rect.unit (s := S256x1024) ![0, 0] ![256, 1024] inb_S256x1024_S256x1024_0_0, k0_pay31 (F := Ideal)⟩])) (Rect.unit (s := S256x1024) ![0, 0] ![256, 1024] inb_S256x1024_S256x1024_0_0).toLoadRect : FVec Ideal S256x1024 .f32) (ix2 r x) = rowOf v14 C0 C1 C2 e r x := by
  subst hL hn
  rw [List.nil_append]
  refine (congrFun (View.readAt_full arg10.view _ inb_S256x1024_S256x1024_0_0) (ix2 r x)).trans ?_
  rw [View.writes_append, walk_row 𝒱 c bd i arg1 harg1 arg2 harg2 arg3 harg3 arg4 harg4 arg5 harg5 arg6 harg6 arg7 harg7 arg8 harg8 arg9 harg9 arg10 harg10 arg11 harg11 arg0 v3 k0_h1 v8 v10 v12 k0_hw1 v14 k0_h2 k0_h3 k0_h4 k0_h5 k0_h6 k0_h7 k0_h8 X_arg3 X_arg4 X_arg5 X_arg6 (arg10.view.writes (Elt Ideal) arg10.view.junk [⟨Rect.unit (s := S256x1024) ![0, 0] ![256, 1024] inb_S256x1024_S256x1024_0_0, k0_pay31 (F := Ideal)⟩]) G11 e0 e1 e2 he hl hh r x _ le_rfl, trips1 v10 v12 hl hh]
  refine (congrArg₂ (fun a b : EReal => a + b) (start_row arg10.view r x) rfl).trans ((zero_add _).trans ?_)
  exact runs_all v10 v12 hl _ fun j h => hr j (hit_of_pick h)

theorem gathered_weight (𝒱 : Variants) (c : Dev nD) (bd : Option 𝒱.V) (i : grid0.Coords) (arg1 : Memref sig .tc .smem S72 .i32) (harg1 : arg1.IsWhole) (arg2 : Memref sig .tc .smem S4x72 .i32) (harg2 : arg2.IsWhole) (arg3 : Memref sig .tc .vmem S8192x1024 .bf16) (harg3 : arg3.IsWhole) (arg4 : Memref sig .tc .vmem S8x8192 .f32) (harg4 : arg4.IsWhole) (arg5 : Memref sig .tc .vmem S8x8192 .f32) (harg5 : arg5.IsWhole) (arg6 : Memref sig .tc .vmem S8x8192 .f32) (harg6 : arg6.IsWhole) (arg7 : Memref sig .tc .vmem S1x1x1024x2816 .bf16) (harg7 : arg7.IsWhole) (arg8 : Memref sig .tc .vmem S1x1x1408x1024 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1 .f32) (harg11 : arg11.IsWhole) (arg0 : BitVec 32) (v3 : BitVec 32) (k0_h1 : k0_cond1 v3 = 1#1) (v8 : BitVec 32) (v10 : BitVec 32) (v12 : BitVec 32) (k0_hw1 : k0_chk1 v3 v8 v10 v12) (v14 : BitVec 32) (k0_h2 : ¬k0_cond2 v10 v12 = 1#1) (k0_h3 : ¬k0_cond3 v10 v12 = 1#1) (k0_h4 : ¬k0_cond4 v10 v12 = 1#1) (k0_h5 : ¬k0_cond5 v10 v12 = 1#1) (k0_h6 : ¬k0_cond6 v10 v12 = 1#1) (k0_h7 : ¬k0_cond7 v10 v12 = 1#1) (k0_h8 : ¬k0_cond8 v10 v12 = 1#1) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (G10 : BufTy.Contents (Elt Ideal) arg10.view.ty) {C1 : FVec Ideal S8x8192 .f32} (e1 : View.read (Elt Ideal) arg4.view X_arg4 = C1) {C2 : FVec Ideal S8x8192 .f32} (e2 : View.read (Elt Ideal) arg5.view X_arg5 = C2) {C3 : FVec Ideal S8x8192 .f32} (e3 : View.read (Elt Ideal) arg6.view X_arg6 = C3)
    (he : v8.toNat = e.1) (hl : BitVec.toNat v10 < 32) (hh : BitVec.toInt v12 < 32) (r : Fin 256) (hr : Runs v10 v12 v14 C1 C2 e r) {L2 : List (View.Piece (Elt Ideal) S256x1 .f32)} (hL : L2 = []) {n1 : Nat} (hn : n1 = (k0_t1_loop v10 v12).trips) :
    (arg11.view.readCov (L2 ++ ((pb_k0_t1 (F := Ideal) 𝒱 c bd i arg1 harg1 arg2 harg2 arg3 harg3 arg4 harg4 arg5 harg5 arg6 harg6 arg7 harg7 arg8 harg8 arg9 harg9 arg10 harg10 arg11 harg11 arg0 v3 k0_h1 v8 v10 v12 k0_hw1 v14 k0_h2 k0_h3 k0_h4 k0_h5 k0_h6 k0_h7 k0_h8 X_arg3 X_arg4 X_arg5 X_arg6 G10 (arg11.view.writes (Elt Ideal) arg11.view.junk [⟨Rect.unit (s := S256x1) ![0, 0] ![256, 1] inb_S256x1_S256x1_0_0, k0_pay32 (F := Ideal)⟩]) n1).2 ++ [⟨Rect.unit (s := S256x1) ![0, 0] ![256, 1] inb_S256x1_S256x1_0_0, k0_pay32 (F := Ideal)⟩])) (Rect.unit (s := S256x1) ![0, 0] ![256, 1] inb_S256x1_S256x1_0_0).toLoadRect : FVec Ideal S256x1 .f32) (ix2 r 0) = weightOf v14 C1 C2 C3 e r := by
  subst hL hn
  rw [List.nil_append]
  refine (congrFun (View.readAt_full arg11.view _ inb_S256x1_S256x1_0_0) (ix2 r 0)).trans ?_
  rw [View.writes_append, walk_weight 𝒱 c bd i arg1 harg1 arg2 harg2 arg3 harg3 arg4 harg4 arg5 harg5 arg6 harg6 arg7 harg7 arg8 harg8 arg9 harg9 arg10 harg10 arg11 harg11 arg0 v3 k0_h1 v8 v10 v12 k0_hw1 v14 k0_h2 k0_h3 k0_h4 k0_h5 k0_h6 k0_h7 k0_h8 X_arg3 X_arg4 X_arg5 X_arg6 G10 (arg11.view.writes (Elt Ideal) arg11.view.junk [⟨Rect.unit (s := S256x1) ![0, 0] ![256, 1] inb_S256x1_S256x1_0_0, k0_pay32 (F := Ideal)⟩]) e1 e2 e3 he hl hh r _ le_rfl, trips1 v10 v12 hl hh]
  refine (congrArg₂ (fun a b : EReal => a + b) (start_weight arg11.view r) rfl).trans ((zero_add _).trans ?_)
  exact runs_all v10 v12 hl _ fun j h => hr j (hit_of_pick h)

variable {m : (ℓ : Loc nD τ sig) → Buf (Elt Ideal) ℓ} (hO : Ok m) (hH : Hyps m hO) (c : Dev nD) (t : Fin (cfgM m hO).N)

set_option maxHeartbeats 2000000 in
theorem out_H (p : Point m c t e) (h0 : cond0_0 (grid0.coords t) (tvW m t)) (h1 : ¬cond0_1 (grid0.coords t) (loW m t) (hiW m t)) (h2 : ¬cond0_2 (grid0.coords t) (loW m t) (hiW m t)) (h3 : ¬cond0_3 (grid0.coords t) (loW m t) (hiW m t)) (h4 : ¬cond0_4 (grid0.coords t) (loW m t) (hiW m t)) (h5 : ¬cond0_5 (grid0.coords t) (loW m t) (hiW m t)) (h6 : ¬cond0_6 (grid0.coords t) (loW m t) (hiW m t)) (h7 : ¬cond0_7 (grid0.coords t) (loW m t) (hiW m t)) (r : Fin 256) (d : Fin 1024) :
    outsAt0 m hO hH c t (ix2 r d) = outAt m c t e r d := by
  rw [outsAt0_H m hO hH c t h0 h1 h2 h3 h4 h5 h6 h7]
  frame_out
  have h2t := trips2 (loW m t) (hiW m t)
  refine (tail_at _ _ _ _ r d).trans (expertOut_congr
    (fun x => gathered_row Variants.none c none (grid0.coords t) tbM0_0 htbM0_0 tbM0_1 htbM0_1 (ms0_0 m hO t) _ (ms0_1 m hO t) _ (ms0_2 m hO t) _ (ms0_3 m hO t) _ (ms0_4 m hO t) _ (ms0_5 m hO t) _ (ms0_6 m hO t) _ scM0_0 _ scM0_1 _ _ (tvW m t) h0 (teW m t) (loW m t) (hiW m t) _ (r0W m t) h1 h2 h3 h4 h5 h6 h7 _ _ _ _ _ ((Memref.IsWhole.read_unread _ _).trans (all0 hO c t)) ((Memref.IsWhole.read_unread _ _).trans (all1 hO c t)) ((Memref.IsWhole.read_unread _ _).trans (all2 hO c t)) p.te p.lo p.hi r x (p.runs r) (congrArg Prod.fst (rest_nil Variants.none c none (grid0.coords t) tbM0_0 htbM0_0 tbM0_1 htbM0_1 (ms0_0 m hO t) _ (ms0_1 m hO t) _ (ms0_2 m hO t) _ (ms0_3 m hO t) _ (ms0_4 m hO t) _ (ms0_5 m hO t) _ (ms0_6 m hO t) _ scM0_0 _ scM0_1 _ _ (tvW m t) h0 (teW m t) (loW m t) (hiW m t) _ (r0W m t) h1 h2 h3 h4 h5 h6 h7 _ _ _ _ _ _ _ _ h2t)) rfl)
    (gathered_weight Variants.none c none (grid0.coords t) tbM0_0 htbM0_0 tbM0_1 htbM0_1 (ms0_0 m hO t) _ (ms0_1 m hO t) _ (ms0_2 m hO t) _ (ms0_3 m hO t) _ (ms0_4 m hO t) _ (ms0_5 m hO t) _ (ms0_6 m hO t) _ scM0_0 _ scM0_1 _ _ (tvW m t) h0 (teW m t) (loW m t) (hiW m t) _ (r0W m t) h1 h2 h3 h4 h5 h6 h7 _ _ _ _ _ ((Memref.IsWhole.read_unread _ _).trans (all1 hO c t)) ((Memref.IsWhole.read_unread _ _).trans (all2 hO c t)) ((Memref.IsWhole.read_unread _ _).trans (all3 hO c t)) p.te p.lo p.hi r (p.runs r) (congrArg Prod.snd (rest_nil Variants.none c none (grid0.coords t) tbM0_0 htbM0_0 tbM0_1 htbM0_1 (ms0_0 m hO t) _ (ms0_1 m hO t) _ (ms0_2 m hO t) _ (ms0_3 m hO t) _ (ms0_4 m hO t) _ (ms0_5 m hO t) _ (ms0_6 m hO t) _ scM0_0 _ scM0_1 _ _ (tvW m t) h0 (teW m t) (loW m t) (hiW m t) _ (r0W m t) h1 h2 h3 h4 h5 h6 h7 _ _ _ _ _ _ _ _ h2t)) rfl)
    (fun x f => (congrFun (Memref.IsWhole.read_unread _ _) _).trans (blk4 m hO c t e p.te x f)) (fun f => (congrFun (Memref.IsWhole.read_unread _ _) _).trans (blk5 m hO c t e p.te f d)))

theorem out_I (h0 : ¬cond0_0 (grid0.coords t) (tvW m t)) (r : Fin 256) (d : Fin 1024) :
    (outsAt0 m hO hH c t (ix2 r d) : EReal) = 0 := by
  rw [outsAt0_I m hO hH c t h0]
  frame_out
  exact zero_out r d

end Cert.Kernel4Ideal.Exp
-- ==== Proof.ExpertRef.lean ====
/- The routed experts' plain program, read at an index. -/
module

public import proofs.«01_k».proof.Proof.ExpertPure
public import proofs.«01_k».proof.Proof.Gen.Reference4Ideal.Read

@[expose] public section

set_option maxRecDepth 16384

noncomputable section

namespace Cert.Reference4Ideal.Exp

open Cert.Reference4Ideal Cert.Reference4Ideal.Gen Cert.Reference4Ideal.Read Idealize.ShloMosaic Idealize.ShloMosaic.TcCoe Idealize.SL.Sem
open Cert.LayerMath Cert.ExpertMath

variable (te : IVec S72 32) (tile : IVec S4x72 32) (h : FVec Ideal S8192x1024 .bf16) (cum sel comb : FVec Ideal S8x8192 .f32) (wg : FVec Ideal S2x8x1024x2816 .f32) (wd : FVec Ideal S2x8x1408x1024 .f32)

/-- The rank at which a tile starts. -/
abbrev startAt (t : Fin 72) : EReal := FloatOps.sitofp (F := Ideal) .f32 (tile (ix2 1 t))

/-- The row an expert gathers for a rank of a tile, and the weight it gathers. -/
abbrev rowAt (e : Fin 8) (t : Fin 72) (r : Fin 256) (d : Fin 1024) : EReal :=
  ∑ j : Fin 8192, pick (startAt tile t) (cum (ix2 e j)) (sel (ix2 e j)) r (h (ix2 j d))
abbrev weightAt (e : Fin 8) (t : Fin 72) (r : Fin 256) : EReal :=
  ∑ j : Fin 8192, pick (startAt tile t) (cum (ix2 e j)) (sel (ix2 e j)) r (comb (ix2 e j))

theorem v21_at (e : Fin 8) (t : Fin 72) (r : Fin 256) (j : Fin 8192) : val_main_v21 (F := Ideal) tile cum sel (ix4 e t r j)
    = hit (startAt tile t) (cum (ix2 e j)) (sel (ix2 e j)) r := by
  pointwise [val_main_v2, val_main_v3, val_main_v4, val_main_v5, val_main_v6, val_main_v7, val_main_v8, val_main_v9, val_main_v10, val_main_v11, val_main_v12, val_main_v13, val_main_v14, val_main_v15, val_main_v16, val_main_v17, val_main_cst, val_main_v18, val_main_v19, val_main_v20, val_main_v21]

theorem v24_at (e : Fin 8) (t : Fin 72) (r : Fin 256) (d : Fin 1024) : val_main_v24 (F := Ideal) tile h cum sel (ix4 e t r d)
    = rowAt tile h cum sel e t r d := by
  have hy (j : Fin 8192) : val_main_v22 (F := Ideal) tile cum sel (ix4 e t r j)
      = (FloatOps.uitofp (F := Ideal) .f32 (val_main_v21 (F := Ideal) tile cum sel (ix4 e t r j)) : EReal) := by
    unfold val_main_v22
    generalize val_main_v21 (F := Ideal) tile cum sel = y
    pointwise []
  have : val_main_v24 (F := Ideal) tile h cum sel (ix4 e t r d)
      = ∑ x, val_main_v22 (F := Ideal) tile cum sel (ix4 e t r x) * h (ix2 x d) := by
    unfold val_main_v24
    generalize val_main_v22 (F := Ideal) tile cum sel = y
    pointwise [val_main_v23]
  rw [this]
  refine Finset.sum_congr rfl fun j _ => ?_
  rw [hy, v21_at]
  exact uitofp_mul _ _

theorem v27_at (e : Fin 8) (t : Fin 72) (r : Fin 256) : val_main_v27 (F := Ideal) tile cum sel comb (ix3 e t r)
    = weightAt tile cum sel comb e t r := by
  have : val_main_v27 (F := Ideal) tile cum sel comb (ix3 e t r)
      = ∑ x, Scalar.select (val_main_v21 (F := Ideal) tile cum sel (ix4 e t r x)) (comb (ix2 e x)) (id (constant (F := Ideal) S_ .f32 0#32) ix0) := by
    unfold val_main_v27 val_main_v26
    generalize val_main_v21 (F := Ideal) tile cum sel = y
    pointwise [val_main_v25, val_main_cst_0, val_main_call0_v0, val_main_call0_v1, val_main_call0_v2, val_main_cst_1]
  rw [this]
  refine Finset.sum_congr rfl fun j _ => ?_
  rw [v21_at]
  exact congrArg (Scalar.select _ _) Ideal.ofBits_zero_f32

theorem v37_at (e : Fin 8) (t : Fin 72) (r : Fin 256) (f : Fin 1408) : val_main_v37 (F := Ideal) tile h cum sel comb wg (ix4 e t r f)
    = gate (∑ x, rowAt tile h cum sel e t r x * wg (ix4 0 e x ⟨f.1, by omega⟩)) (∑ x, rowAt tile h cum sel e t r x * wg (ix4 0 e x ⟨1408 + f.1, by omega⟩))
      * weightAt tile cum sel comb e t r := by
  simp only [← v24_at, ← v27_at]
  unfold gate val_main_v37 val_main_v36 val_main_v35 val_main_v34 val_main_v33 val_main_call1_v5 val_main_call1_v3 val_main_call1_v1 val_main_call1_v0 val_main_v32 val_main_v31 val_main_v30
  generalize val_main_v24 (F := Ideal) tile h cum sel = y
  generalize val_main_v27 (F := Ideal) tile cum sel comb = z
  pointwise [val_main_v28, val_main_v29, val_main_call1_v2, val_main_call1_v4, val_main_call1_cst, val_main_call1_cst_0]

theorem v40_at (e : Fin 8) (t : Fin 72) (r : Fin 256) (d : Fin 1024) : val_main_v40 (F := Ideal) tile h cum sel comb wg wd (ix4 e t r d)
    = expertOut (rowAt tile h cum sel e t r) (weightAt tile cum sel comb e t r) (fun x f => wg (ix4 0 e x f)) (fun f => wd (ix4 0 e f d)) := by
  unfold expertOut
  simp only [← v37_at]
  unfold val_main_v40
  generalize val_main_v37 (F := Ideal) tile h cum sel comb wg = y
  pointwise [val_main_v38, val_main_v39]

theorem v56_at (R : Fin 18432) (d : Fin 1024) : val_main_v56 (F := Ideal) te tile h cum sel comb wg wd (ix2 R d)
    = ∑ e : Fin 8, Scalar.select (IntOp.andi (IntOp.cmpi .eq (te (ix1 ⟨R.1 / 256, by omega⟩)) (BitVec.ofNat 32 e.1)) (IntOp.cmpi .ne (tile (ix2 0 ⟨R.1 / 256, by omega⟩)) 0#32))
        (val_main_v40 (F := Ideal) tile h cum sel comb wg wd (ix4 e ⟨R.1 / 256, by omega⟩ ⟨R.1 % 256, by omega⟩ d)) 0 := by
  have : val_main_v56 (F := Ideal) te tile h cum sel comb wg wd (ix2 R d)
    = ∑ e : Fin 8, Scalar.select (IntOp.andi (IntOp.cmpi .eq (te (ix1 ⟨R.1 / 256, by omega⟩)) (BitVec.ofNat 32 e.1)) (IntOp.cmpi .ne (tile (ix2 0 ⟨R.1 / 256, by omega⟩)) 0#32))
        (val_main_v40 (F := Ideal) tile h cum sel comb wg wd (ix4 e ⟨R.1 / 256, by omega⟩ ⟨R.1 % 256, by omega⟩ d)) (id (constant (F := Ideal) S_ .f32 0#32) ix0) := by
    unfold val_main_v56 val_main_v55 val_main_v54 val_main_v53
    generalize val_main_v40 (F := Ideal) tile h cum sel comb wg wd = y
    pointwise [val_main_v0, val_main_v1, val_main_v41, val_main_v42, val_main_v43, val_main_v44, val_main_v45, val_main_v46, val_main_v47, val_main_c, val_main_v48, val_main_v49, val_main_v50, val_main_v51, val_main_v52, val_main_cst_2, val_main_call2_v0, val_main_call2_v1, val_main_call2_v2, val_main_cst_3]
  rw [this]
  refine Finset.sum_congr rfl fun e _ => ?_
  exact congrArg (Scalar.select _ _) Ideal.ofBits_zero_f32

/-- A row of a used tile is its expert's row, and a row of an unused tile is zero. -/
theorem ref_used (t : Fin 72) (r : Fin 256) (d : Fin 1024) (e : Fin 8) (he : te (ix1 t) = BitVec.ofNat 32 e.1) (hv : tile (ix2 0 t) ≠ 0#32) :
    val_main_v56 (F := Ideal) te tile h cum sel comb wg wd (ix2 ⟨t.1 * 256 + r.1, by omega⟩ d)
      = expertOut (rowAt tile h cum sel e t r) (weightAt tile cum sel comb e t r) (fun x f => wg (ix4 0 e x f)) (fun f => wd (ix4 0 e f d)) := by
  have ht : (⟨(t.1 * 256 + r.1) / 256, by omega⟩ : Fin 72) = t := Fin.ext (by show (t.1 * 256 + r.1) / 256 = t.1; omega)
  have hr : (⟨(t.1 * 256 + r.1) % 256, by omega⟩ : Fin 256) = r := Fin.ext (by show (t.1 * 256 + r.1) % 256 = r.1; omega)
  rw [v56_at]
  simp only [ht, hr]
  have hv' : IntOp.cmpi .ne (tile (ix2 0 t)) 0#32 = 1#1 := by
    show BitVec.ofBool (tile (ix2 0 t) != 0#32) = 1#1
    rw [bne_iff_ne.2 hv]
    rfl
  rw [Finset.sum_eq_single e, he, hv', v40_at]
  · simp [IntOp.cmpi, IntOp.andi, Scalar.select]
  · intro b _ hb
    refine select_of_not _ (fun hh => hb ?_) _ _
    rw [he] at hh
    have h1 : BitVec.ofNat 32 e.1 = BitVec.ofNat 32 b.1 := by
      by_contra hne
      have : (BitVec.ofNat 32 e.1 == BitVec.ofNat 32 b.1) = false := beq_eq_false_iff_ne.2 hne
      simp [IntOp.cmpi, IntOp.andi, this] at hh
    have h2 := congrArg BitVec.toNat h1
    simp only [BitVec.toNat_ofNat] at h2
    exact Fin.ext (by omega)
  · exact fun hh => absurd (Finset.mem_univ _) hh

theorem ref_unused (t : Fin 72) (r : Fin 256) (d : Fin 1024) (hv : tile (ix2 0 t) = 0#32) :
    val_main_v56 (F := Ideal) te tile h cum sel comb wg wd (ix2 ⟨t.1 * 256 + r.1, by omega⟩ d) = 0 := by
  have ht : (⟨(t.1 * 256 + r.1) / 256, by omega⟩ : Fin 72) = t := Fin.ext (by show (t.1 * 256 + r.1) / 256 = t.1; omega)
  rw [v56_at]
  simp only [ht]
  refine Finset.sum_eq_zero fun e _ => select_of_not _ (fun hh => ?_) _ _
  rw [hv] at hh
  simp [IntOp.cmpi, IntOp.andi] at hh

end Cert.Reference4Ideal.Exp
-- ==== Proof.ExpertPlan.lean ====
/- Hand-written, untrusted: THE PRECONDITION OF THE EXPERTS CALL, DECODED: the bounds of the words each tile's row of the plan
   holds, and that every token of the tile's expert whose rank is one of the tile's 256 lies between its first and last run. -/
module

public import proofs.«01_k».proof.Proof.Gen.Pre_planned
public import Idealize.ShloMosaic.PureOps.Ideal
public import Idealize.ShloMosaic.Lib.Pointwise

@[expose] public section

set_option maxRecDepth 16384

noncomputable section

namespace Cert.Proof.Expert

open Idealize.ShloMosaic Cert.Pre_planned

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide
theorem not_one (a : BitVec 1) : ~~~a = 1#1 ↔ ¬ a = 1#1 := by revert a; decide
theorem ofBool_one (p : Bool) : BitVec.ofBool p = 1#1 ↔ p = true := by cases p <;> decide

/-- A word at least zero and below a small bound, both as signed words, is below it as a natural number. -/
theorem toNat_lt (w b : BitVec 32) (hb : b.toNat < 2 ^ 31) (h0 : IntOp.cmpi .sge w 0#32 = 1#1) (h1 : IntOp.cmpi .slt w b = 1#1) :
    w.toNat < b.toNat := by
  simp only [IntOp.cmpi, ofBool_one, BitVec.sle, BitVec.slt, decide_eq_true_eq, BitVec.toInt_eq_toNat_cond] at h0 h1
  have := w.isLt
  simp at h0 h1
  split at h1 <;> split at h1 <;> split at h0 <;> omega

theorem toInt_lt (w : BitVec 32) (h1 : IntOp.cmpi .slt w 32#32 = 1#1) : w.toInt < 32 := by
  simp only [IntOp.cmpi, ofBool_one, BitVec.slt, decide_eq_true_eq] at h1
  exact h1

variable {F : FTy → Type} [FloatOps F]

/-- The bounds the precondition gives of each tile's words. -/
theorem words_of (te : IVec S72 32) (tile : IVec S4x72 32) (h : FVec F S8192x1024 .bf16) (cum sel comb : FVec F S8x8192 .f32)
    (wgu : FVec F S2x8x1024x2816 .f32) (wd : FVec F S2x8x1408x1024 .f32)
    (h0 : (fn te tile h cum sel comb wgu wd).1 = fun _ => 1#1) (h1 : (fn te tile h cum sel comb wgu wd).2.1 = fun _ => 1#1)
    (h2 : (fn te tile h cum sel comb wgu wd).2.2.1 = fun _ => 1#1) (t : Fin 72) :
    (te (ix1 t)).toNat < 8 ∧ (¬ tile (ix2 0 t) = 0#32 → (tile (ix2 2 t)).toNat < 32 ∧ (tile (ix2 3 t)).toInt < 32) := by
  have a0 := congrFun h0 (ix1 t)
  have a1 := congrFun h1 (ix1 t)
  have a2 := congrFun h2 (ix1 t)
  pointwise [fn, fn_part1, fn_part2, fn_part3] at a0
  pointwise [fn, fn_part1, fn_part2, fn_part3] at a1
  pointwise [fn, fn_part1, fn_part2, fn_part3] at a2
  refine ⟨toNat_lt _ 8#32 (by decide) a0 a1, fun hv => ?_⟩
  rcases (ori_one _ _).1 a2 with h | h
  · exact absurd (by simpa [IntOp.cmpi, ofBool_one] using h) hv
  · obtain ⟨h, h3⟩ := (andi_one _ _).1 h
    obtain ⟨h4, h5⟩ := (andi_one _ _).1 h
    exact ⟨toNat_lt _ 32#32 (by decide) h4 h5, toInt_lt _ h3⟩

/-- Every token of the tile's expert whose rank is one of the tile's 256 lies in a run from the first to the last. -/
theorem among_of (te : IVec S72 32) (tile : IVec S4x72 32) (h : FVec Ideal S8192x1024 .bf16) (cum sel comb : FVec Ideal S8x8192 .f32)
    (wgu : FVec Ideal S2x8x1024x2816 .f32) (wd : FVec Ideal S2x8x1408x1024 .f32)
    (hp : (fn te tile h cum sel comb wgu wd).2.2.2 = fun _ => 1#1) (t : Fin 72) (e : Fin 8) (j : Fin 8192)
    (he : te (ix1 t) = BitVec.ofNat 32 e) (hv : ¬ tile (ix2 0 t) = 0#32) (hs : 0 < sel (ix2 e j))
    (hl : FloatOps.sitofp (F := Ideal) .f32 (tile (ix2 1 t)) ≤ cum (ix2 e j))
    (hu : cum (ix2 e j) < FloatOps.sitofp (F := Ideal) .f32 (tile (ix2 1 t)) + Ideal.ofBits .f32 1132462080#32) :
    (tile (ix2 2 t)).toInt ≤ (j.val / 256 : Nat) ∧ ((j.val / 256 : Nat) : Int) ≤ (tile (ix2 3 t)).toInt := by
  have h4 := congrFun hp (ix3 t e j)
  pointwise [fn, fn_part1, fn_part2, fn_part3] at h4
  have hj : (IntOp.shrsi ArithUnit.host (BitVec.ofNat 32 j) 8#32).toInt = (j.val / 256 : Nat) := by
    have := j.isLt
    have h1 : IntOp.shrsi ArithUnit.host (BitVec.ofNat 32 j) 8#32 = (BitVec.ofNat 32 j).sshiftRight' 8#32 := if_pos (by decide)
    have h2 : (BitVec.ofNat 32 j.val).toInt = (j.val : Nat) := by
      rw [BitVec.toInt_eq_toNat_cond, BitVec.toNat_ofNat]; simp; omega
    rw [h1, BitVec.sshiftRight', BitVec.toInt_sshiftRight, h2, Int.shiftRight_eq_div_pow]
    simp
  rcases (ori_one _ _).1 h4 with h | h
  · refine absurd ?_ ((not_one _).1 h)
    simp only [andi_one, ofBool_one, decide_eq_true_eq]
    exact ⟨⟨⟨⟨by simp [IntOp.cmpi, ofBool_one, he], by simp [IntOp.cmpi, ofBool_one, hv]⟩, hs⟩, hl⟩, hu⟩
  · obtain ⟨h5, h6⟩ := (andi_one _ _).1 h
    simp only [IntOp.cmpi, ofBool_one, BitVec.sle, decide_eq_true_eq, hj] at h5 h6
    exact ⟨h5, h6⟩

end Cert.Proof.Expert
-- ==== Proof.ExpertFinal.lean ====
/- The experts call's array: at every tile, used or not, what the plain program computes of the same arguments. -/
module

public import proofs.«01_k».proof.Proof.ExpertWalk
public import proofs.«01_k».proof.Proof.ExpertRef
public import proofs.«01_k».proof.Proof.ExpertPlan

@[expose] public section

set_option maxRecDepth 16384

noncomputable section

namespace Cert.Kernel4Ideal.Exp

open Cert.Kernel4Ideal Cert.Kernel4Ideal.Gen Idealize.ShloMosaic Idealize.ShloMosaic.TcCoe Idealize.SL.Sem
open Cert.LayerMath Cert.ExpertMath Cert.Proof.Expert

variable (m : (ℓ : Loc nD τ sig) → Buf (Elt Ideal) ℓ)

/-- The tokens among a used tile's ranks lie in the tile's runs. -/
def Among (c : Dev nD) : Prop := ∀ (t : Fin 72) (e : Fin 8) (j : Fin 8192), teA m (ix1 t) = BitVec.ofNat 32 e.1 →
  ¬ tileA m (ix2 0 t) = 0#32 → (0 : EReal) < selA m c (ix2 e j) →
  (FloatOps.sitofp (F := Ideal) .f32 (tileA m (ix2 1 t)) : EReal) ≤ cumA m c (ix2 e j) →
  (cumA m c (ix2 e j) : EReal) < (FloatOps.sitofp (F := Ideal) .f32 (tileA m (ix2 1 t)) : EReal) + Ideal.ofBits .f32 1132462080#32 →
  (tileA m (ix2 2 t)).toInt ≤ (j.1 / 256 : Nat) ∧ ((j.1 / 256 : Nat) : Int) ≤ (tileA m (ix2 3 t)).toInt

variable {m} (hO : Ok m) (hH : Hyps m hO) (c : Dev nD)

theorem nonzero_bit (w : BitVec 32) (hv : ¬ w = 0#32) : k0_cond1 w = 1#1 := by
  have e : Scalar.cmpi .ne w 0#32 = 1#1 := by
    show BitVec.ofBool (w != 0#32) = 1#1
    rw [bne_iff_ne.2 hv]
    rfl
  show Scalar.cmpi .ne (Scalar.extui (Scalar.cmpi .ne w 0#32) : BitVec 32) 0#32 = 1#1
  rw [e]
  decide

theorem unused {t : Fin grid0.N} (h : ¬ cond0_0 (grid0.coords t) (tvW m t)) : tileA m (ix2 0 (pt t)) = 0#32 := by
  by_contra hv
  rw [← tv_eq] at hv
  exact h (nonzero_bit _ hv)

theorem point (W : Words m) (A : Among m c) (t : Fin grid0.N) (hv : ¬ tileA m (ix2 0 (pt t)) = 0#32) (e : Fin 8)
    (he : teA m (ix1 (pt t)) = BitVec.ofNat 32 e.1) : Point m c t e where
  te := by
    rw [te_eq, he, BitVec.toNat_ofNat]
    omega
  lo := by rw [lo_eq]; exact ((W (pt t)).2 hv).1
  hi := by rw [hi_eq]; exact ((W (pt t)).2 hv).2
  runs := fun r j h => by
    obtain ⟨hs, hl, hu⟩ := among_of_hit _ _ _ r.1 r.2 h
    rw [r0_eq] at hl hu
    rw [lo_eq, hi_eq]
    exact A (pt t) e j he hv hs hl hu

theorem tile_used (W : Words m) (A : Among m c) (t : Fin grid0.N) (h0 : cond0_0 (grid0.coords t) (tvW m t)) (e : Fin 8)
    (he : teA m (ix1 (pt t)) = BitVec.ofNat 32 e.1) (r : Fin 256) (d : Fin 1024) :
    (outsAt0 m hO hH c t (ix2 r d) : EReal) = outAt m c t e r d := by
  have p := point c W A t (used h0) e he
  by_cases h1 : cond0_1 (grid0.coords t) (loW m t) (hiW m t)
  · exact out_A hO hH c t p h0 h1 r d
  by_cases h2 : cond0_2 (grid0.coords t) (loW m t) (hiW m t)
  · exact out_B hO hH c t p h0 h1 h2 r d
  by_cases h3 : cond0_3 (grid0.coords t) (loW m t) (hiW m t)
  · exact out_C hO hH c t p h0 h1 h2 h3 r d
  by_cases h4 : cond0_4 (grid0.coords t) (loW m t) (hiW m t)
  · exact out_D hO hH c t p h0 h1 h2 h3 h4 r d
  by_cases h5 : cond0_5 (grid0.coords t) (loW m t) (hiW m t)
  · exact out_E hO hH c t p h0 h1 h2 h3 h4 h5 r d
  by_cases h6 : cond0_6 (grid0.coords t) (loW m t) (hiW m t)
  · exact out_F hO hH c t p h0 h1 h2 h3 h4 h5 h6 r d
  by_cases h7 : cond0_7 (grid0.coords t) (loW m t) (hiW m t)
  · exact out_G hO hH c t p h0 h1 h2 h3 h4 h5 h6 h7 r d
  · exact out_H hO hH c t p h0 h1 h2 h3 h4 h5 h6 h7 r d

/-- The plain program's array of this program's arguments. -/
abbrev plain : FVec Ideal S18432x1024 .bf16 :=
  Cert.Reference4Ideal.Read.val_main_v56 (F := Ideal) (teA m) (tileA m) (hA m c) (cumA m c) (selA m c) (combA m c) (wgA m c) (wdA m c)

theorem tile_out (W : Words m) (A : Among m c) (t : Fin grid0.N) (r : Fin 256) (d : Fin 1024) :
    (outsAt0 m hO hH c t (ix2 r d) : EReal) = plain (m := m) c (ix2 ⟨(pt t).1 * 256 + r.1, by have := (pt t).2; omega⟩ d) := by
  by_cases h0 : cond0_0 (grid0.coords t) (tvW m t)
  · have he : teA m (ix1 (pt t)) = BitVec.ofNat 32 (⟨(teA m (ix1 (pt t))).toNat, (W (pt t)).1⟩ : Fin 8).1 := by
      show _ = BitVec.ofNat 32 (teA m (ix1 (pt t))).toNat
      rw [BitVec.ofNat_toNat, BitVec.setWidth_eq]
    refine (tile_used hO hH c W A t h0 _ he r d).trans ?_
    refine Eq.trans ?_ (Cert.Reference4Ideal.Exp.ref_used (teA m) (tileA m) (hA m c) (cumA m c) (selA m c) (combA m c) (wgA m c) (wdA m c) (pt t) r d _ he (used h0)).symm
    unfold outAt rowAt weightAt
    rw [r0_eq]
  · exact (out_I hO hH c t h0 r d).trans (Cert.Reference4Ideal.Exp.ref_unused (teA m) (tileA m) (hA m c) (cumA m c) (selA m c) (combA m c) (wgA m c) (wdA m c) (pt t) r d (unused h0)).symm

theorem cover : ((cfgM m hO).win 6).Covers := by
  refine ⟨fun a => ?_, fun β => ?_⟩
  · change Fin 2 at a
    fin_cases a
    · exact (by decide : 0 < 256)
    · exact (by decide : 0 < 1024)
  have hb : (β (⟨0, Nat.zero_lt_two⟩ : Fin 2)).1 < 72 := Nat.lt_of_lt_of_le (β (⟨0, Nat.zero_lt_two⟩ : Fin 2)).isLt (by show (18432 + 256 - 1) / 256 ≤ 72; decide)
  have h1 : (β (⟨1, Nat.one_lt_two⟩ : Fin 2)).1 < 1 := Nat.lt_of_lt_of_le (β (⟨1, Nat.one_lt_two⟩ : Fin 2)).isLt (by show (1024 + 1024 - 1) / 1024 ≤ 1; decide)
  refine ⟨⟨(β (⟨0, Nat.zero_lt_two⟩ : Fin 2)).1, hb⟩, flush0_6 _ _, fun a => ⟨?_, Or.inl ?_⟩⟩
  · change Fin 2 at a
    refine (congrFun (idx0 ⟨(β (⟨0, Nat.zero_lt_two⟩ : Fin 2)).1, hb⟩).2 a).trans ?_
    fin_cases a
    · rfl
    · show 0 = (β (⟨1, Nat.one_lt_two⟩ : Fin 2)).1
      omega
  · change Fin 2 at a
    fin_cases a
    · rfl
    · rfl

theorem array6 (W : Words m) (A : Among m c) : (dats m hO hH 0 c).arrAt 6 (cfgM m hO).N = plain (m := m) c := by
  refine (dats m hO hH 0 c).arrAt_eq_of_covers 6 _ (cover hO) fun t hf y => ?_
  obtain ⟨r, d, rfl⟩ : ∃ (r : Fin 256) (d : Fin 1024), y = ix2 r d := ⟨y (⟨0, Nat.zero_lt_two⟩ : Fin 2), y (⟨1, Nat.one_lt_two⟩ : Fin 2), by
    funext a
    change Fin 2 at a
    fin_cases a
    · rfl
    · rfl⟩
  have e : (((cfgM m hO).win 6).blk t).view.emb (ix2 r d) = ix2 ⟨(pt t).1 * 256 + r.1, by have := (pt t).2; omega⟩ d := by
    funext a
    change Fin 2 at a
    refine Fin.ext ?_
    have hi := congrFun (idx0 t).2 a
    fin_cases a
    · show cc0_transform_6 (grid0.coords t) 0 * 256 + 1 * r.1 = t.1 * 256 + r.1
      rw [show cc0_transform_6 (grid0.coords t) 0 = t.1 from hi]
      omega
    · show cc0_transform_6 (grid0.coords t) 1 * 1024 + 1 * d.1 = d.1
      rw [show cc0_transform_6 (grid0.coords t) 1 = 0 from hi]
      omega
  have ha : (dats m hO hH 0 c).after 6 t = outsAt0 m hO hH c t := after0_6 m hO hH c t
  refine Eq.trans ?_ (congrArg (plain (m := m) c) e).symm
  refine Eq.trans ?_ (tile_out hO hH c W A t r d)
  exact congrFun ha (ix2 r d)

theorem run (ρ : Dev nD → PrngReg) (W : Words m) (A : ∀ c, Among m c) :
    θ_run (defs (F := Ideal)) (onTc (τ := τ) (main (F := Ideal))) ⟨m, fun _ => 0, ρ⟩ (fun r => ∀ c : Dev nD,
      r.2.mem ((c.tc : Thread nD τ).loc main_v2) = plain (m := m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 6).trans (array6 (ok W) (hyps W (ok W)) c W (A c)), h.2 c⟩)
    (θ_run_and (run_main m ρ (ok W) (hyps W (ok W))) (unchanged m ρ (ok W) (hyps W (ok W))))

end Cert.Kernel4Ideal.Exp
-- ==== Proof.LinearRun.lean ====
/- What the projection's body does at a point, with the contents of its two scratch buffers named. -/
module

public import proofs.«01_k».proof.Proof.Gen.Kernel5Ideal.Frame
public import proofs.«01_k».proof.Proof.Gen.Kernel5Ideal.Skeleton
public import Idealize.ShloMosaic.Lib.VecWindow
public import Idealize.ShloMosaic.Lib.Claim

@[expose] public section

set_option maxRecDepth 16384

noncomputable section

namespace Cert.Kernel5Ideal.Lin

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first column of weights is being taken: the rows are normed now. -/
abbrev first (i : grid0.Coords) : Prop := k0_cond1 i = 1#1
/-- The first tile of rows: the weights are copied now. -/
abbrev top (i : grid0.Coords) : Prop := (Scalar.cmpi .ne (Scalar.extui (Scalar.cmpi .eq (BitVec.ofNat 32 (i 1).val) 0#32)) 0#32) = 1#1

/-- The rows of a tile after the norm and the modulation. -/
def normed (i : grid0.Coords) (h : first i) (x0 : Vec F S1024x1024 .f32) (x1 : Vec F S1x8x6x1024 .f32) (x2 : Vec F S1x1024 .f32) : Vec F S1024x1024 .bf16 :=
  k0_pay1 (k0_pay5 x2) (k0_pay6 (VecWindow.window x1 (k0_off1 i) S1x1x6x1024.size (k0_off1_inb i h))) (k0_pay7 (VecWindow.window x1 (k0_off1 i) S1x1x6x1024.size (k0_off1_inb i h))) (k0_pay8 x0)

/-- The scratch of all rows with a tile's put in. -/
def placed (i : grid0.Coords) (h : first i) (x0 : Vec F S1024x1024 .f32) (x1 : Vec F S1x8x6x1024 .f32) (x2 : Vec F S1x1024 .f32) (xs : Vec F S8192x1024 .bf16) : Vec F S8192x1024 .bf16 :=
  VecWindow.put xs (k0_off2 i) S1024x1024.size (normed i h x0 x1 x2)

/-- A tile's rows of the scratch. -/
def rowsOf (i : grid0.Coords) (xs : Vec F S8192x1024 .bf16) : Vec F S1024x1024 .bf16 :=
  VecWindow.window xs (k0_off3 i) S1024x1024.size (k0_off3_inb i)

set_option maxHeartbeats 1000000 in
theorem runA (c : Dev nD) (i : grid0.Coords) (arg2 : Memref sig .tc .vmem S1024x1024 .f32) (harg2 : arg2.IsWhole) (arg3 : Memref sig .tc .vmem S1x8x6x1024 .f32) (harg3 : arg3.IsWhole) (arg4 : Memref sig .tc .vmem S1x1024 .f32) (harg4 : arg4.IsWhole) (arg5 : Memref sig .tc .vmem S1x1024x1024 .f32) (harg5 : arg5.IsWhole) (arg6 : Memref sig .tc .vmem S1024x1024 .bf16) (harg6 : arg6.IsWhole) (arg7 : Memref sig .tc .vmem S8192x1024 .bf16) (harg7 : arg7.IsWhole) (arg8 : Memref sig .tc .vmem S1024x1024 .bf16) (harg8 : arg8.IsWhole) (h0 : first i) (h1 : top i)
    (x0 : Vec F S1024x1024 .f32) (x1 : Vec F S1x8x6x1024 .f32) (x2 : Vec F S1x1024 .f32) (x3 : Vec F S1x1024x1024 .f32) (s0 : Vec F S8192x1024 .bf16) (s1 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (rowsOf i (placed i h0 x0 x1 x2 s0)) (k0_pay2 x3)) ∗ owns (c : Thread nD τ) arg7 fullShare (placed i h0 x0 x1 x2 s0) ∗ owns (c : Thread nD τ) arg8 fullShare (k0_pay2 x3)) -∗ K ⟨⟩))
      ⊢ wp frame (wpE (defs₀ (F := F)) Variants.none c none) E (cc0_modulate_linear i arg2 harg2 arg3 harg3 arg4 harg4 arg5 harg5 arg6 harg6 arg7 harg7 arg8 harg8) K := by
    simp only [cc0_modulate_linear_eq_skeleton]; unfold cc0_modulate_linear_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%g0, %hg0, G0⟩, ⟨%g1, %hg1, G1⟩, Hk⟩
    obtain rfl := harg2.eq_unread hf0; obtain rfl := harg3.eq_unread hf1; obtain rfl := harg4.eq_unread hf2; obtain rfl := harg5.eq_unread hf3; obtain rfl := harg7.eq_unread hg0; obtain rfl := harg8.eq_unread hg1
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact (View.read_writes_full _ _ _ _ _).trans (congrArg₂ k0_pay3 (by
        unfold runA.sl.v9 runA.sl.G0_1
        refine (View.readAt_unit _ _ _ (show k0_off3 i = k0_off2 i from rfl) (k0_off2_inb i h0)).trans ?_
        rw [View.read_writes_cons_put _ _ _ _ _ rfl]
        refine (VecWindow.window_put_same _ _ _ _ _).trans (Eq.trans ?_ (VecWindow.window_put_same s0 (k0_off2 i) S1024x1024.size (k0_off2_inb i h0) _).symm)
        unfold normed
        unfold runA.sl.r runA.sl.r_1 runA.sl.r_2 runA.sl.r_3
        exact congr (congr (congr (congrArg k0_pay1 (congrArg k0_pay5 ((View.readAt_full _ _ _).trans (harg4.read_unread x2)))) (congrArg k0_pay6 ((View.readAt_unit arg3.view (harg3.unread x1) (k0_off1_inb i h0) rfl (k0_off1_inb i h0)).trans (congrArg (fun z : Vec F S1x8x6x1024 .f32 => VecWindow.window z (k0_off1 i) S1x1x6x1024.size (k0_off1_inb i h0)) (harg3.read_unread x1))))) (congrArg k0_pay7 ((View.readAt_unit arg3.view (harg3.unread x1) (k0_off1_inb i h0) rfl (k0_off1_inb i h0)).trans (congrArg (fun z : Vec F S1x8x6x1024 .f32 => VecWindow.window z (k0_off1 i) S1x1x6x1024.size (k0_off1_inb i h0)) (harg3.read_unread x1))))) (congrArg k0_pay8 ((View.readAt_full _ _ _).trans (harg2.read_unread x0)))) (by
        unfold runA.sl.v10 runA.sl.G1_1
        exact (View.readCov_full _ _ _ _ _).trans (congrArg k0_pay2 ((View.readAt_full _ _ _).trans (harg5.read_unread _)))))
    isplitl [G0]
    · iexists _; isplitr; swap; · iexact G0
      ipureintro
      unfold runA.sl.G0_1
      rw [View.read_writes_cons_put _ _ _ _ _ rfl, View.writes_nil, harg7.read_unread]
      unfold placed normed
      refine congrArg (VecWindow.put s0 (k0_off2 i) S1024x1024.size) ?_
      unfold runA.sl.r runA.sl.r_1 runA.sl.r_2 runA.sl.r_3
      exact congr (congr (congr (congrArg k0_pay1 (congrArg k0_pay5 ((View.readAt_full _ _ _).trans (harg4.read_unread x2)))) (congrArg k0_pay6 ((View.readAt_unit arg3.view (harg3.unread x1) (k0_off1_inb i h0) rfl (k0_off1_inb i h0)).trans (congrArg (fun z : Vec F S1x8x6x1024 .f32 => VecWindow.window z (k0_off1 i) S1x1x6x1024.size (k0_off1_inb i h0)) (harg3.read_unread x1))))) (congrArg k0_pay7 ((View.readAt_unit arg3.view (harg3.unread x1) (k0_off1_inb i h0) rfl (k0_off1_inb i h0)).trans (congrArg (fun z : Vec F S1x8x6x1024 .f32 => VecWindow.window z (k0_off1 i) S1x1x6x1024.size (k0_off1_inb i h0)) (harg3.read_unread x1))))) (congrArg k0_pay8 ((View.readAt_full _ _ _).trans (harg2.read_unread x0)))
    · iexists _; isplitr; swap; · iexact G1
      ipureintro
      unfold runA.sl.G1_1
      exact (View.read_writes_full _ _ _ _ _).trans (congrArg k0_pay2 ((View.readAt_full _ _ _).trans (harg5.read_unread _)))

set_option maxHeartbeats 1000000 in
theorem runB (c : Dev nD) (i : grid0.Coords) (arg2 : Memref sig .tc .vmem S1024x1024 .f32) (harg2 : arg2.IsWhole) (arg3 : Memref sig .tc .vmem S1x8x6x1024 .f32) (harg3 : arg3.IsWhole) (arg4 : Memref sig .tc .vmem S1x1024 .f32) (harg4 : arg4.IsWhole) (arg5 : Memref sig .tc .vmem S1x1024x1024 .f32) (harg5 : arg5.IsWhole) (arg6 : Memref sig .tc .vmem S1024x1024 .bf16) (harg6 : arg6.IsWhole) (arg7 : Memref sig .tc .vmem S8192x1024 .bf16) (harg7 : arg7.IsWhole) (arg8 : Memref sig .tc .vmem S1024x1024 .bf16) (harg8 : arg8.IsWhole) (h0 : first i) (h1 : ¬ top i)
    (x0 : Vec F S1024x1024 .f32) (x1 : Vec F S1x8x6x1024 .f32) (x2 : Vec F S1x1024 .f32) (x3 : Vec F S1x1024x1024 .f32) (s0 : Vec F S8192x1024 .bf16) (s1 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (rowsOf i (placed i h0 x0 x1 x2 s0)) s1) ∗ owns (c : Thread nD τ) arg7 fullShare (placed i h0 x0 x1 x2 s0) ∗ owns (c : Thread nD τ) arg8 fullShare s1) -∗ K ⟨⟩))
      ⊢ wp frame (wpE (defs₀ (F := F)) Variants.none c none) E (cc0_modulate_linear i arg2 harg2 arg3 harg3 arg4 harg4 arg5 harg5 arg6 harg6 arg7 harg7 arg8 harg8) K := by
    simp only [cc0_modulate_linear_eq_skeleton]; unfold cc0_modulate_linear_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%g0, %hg0, G0⟩, ⟨%g1, %hg1, G1⟩, Hk⟩
    obtain rfl := harg2.eq_unread hf0; obtain rfl := harg3.eq_unread hf1; obtain rfl := harg4.eq_unread hf2; obtain rfl := harg5.eq_unread hf3; obtain rfl := harg7.eq_unread hg0; obtain rfl := harg8.eq_unread hg1
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact (View.read_writes_full _ _ _ _ _).trans (congrArg₂ k0_pay3 (by
        unfold runB.sl.v9 runB.sl.G0_1
        refine (View.readAt_unit _ _ _ (show k0_off3 i = k0_off2 i from rfl) (k0_off2_inb i h0)).trans ?_
        rw [View.read_writes_cons_put _ _ _ _ _ rfl]
        refine (VecWindow.window_put_same _ _ _ _ _).trans (Eq.trans ?_ (VecWindow.window_put_same s0 (k0_off2 i) S1024x1024.size (k0_off2_inb i h0) _).symm)
        unfold normed
        unfold runB.sl.r runB.sl.r_1 runB.sl.r_2 runB.sl.r_3
        exact congr (congr (congr (congrArg k0_pay1 (congrArg k0_pay5 ((View.readAt_full _ _ _).trans (harg4.read_unread x2)))) (congrArg k0_pay6 ((View.readAt_unit arg3.view (harg3.unread x1) (k0_off1_inb i h0) rfl (k0_off1_inb i h0)).trans (congrArg (fun z : Vec F S1x8x6x1024 .f32 => VecWindow.window z (k0_off1 i) S1x1x6x1024.size (k0_off1_inb i h0)) (harg3.read_unread x1))))) (congrArg k0_pay7 ((View.readAt_unit arg3.view (harg3.unread x1) (k0_off1_inb i h0) rfl (k0_off1_inb i h0)).trans (congrArg (fun z : Vec F S1x8x6x1024 .f32 => VecWindow.window z (k0_off1 i) S1x1x6x1024.size (k0_off1_inb i h0)) (harg3.read_unread x1))))) (congrArg k0_pay8 ((View.readAt_full _ _ _).trans (harg2.read_unread x0)))) ((View.readAt_full _ _ _).trans (harg8.read_unread _)))
    isplitl [G0]
    · iexists _; isplitr; swap; · iexact G0
      ipureintro
      unfold runB.sl.G0_1
      rw [View.read_writes_cons_put _ _ _ _ _ rfl, View.writes_nil, harg7.read_unread]
      unfold placed normed
      refine congrArg (VecWindow.put s0 (k0_off2 i) S1024x1024.size) ?_
      unfold runB.sl.r runB.sl.r_1 runB.sl.r_2 runB.sl.r_3
      exact congr (congr (congr (congrArg k0_pay1 (congrArg k0_pay5 ((View.readAt_full _ _ _).trans (harg4.read_unread x2)))) (congrArg k0_pay6 ((View.readAt_unit arg3.view (harg3.unread x1) (k0_off1_inb i h0) rfl (k0_off1_inb i h0)).trans (congrArg (fun z : Vec F S1x8x6x1024 .f32 => VecWindow.window z (k0_off1 i) S1x1x6x1024.size (k0_off1_inb i h0)) (harg3.read_unread x1))))) (congrArg k0_pay7 ((View.readAt_unit arg3.view (harg3.unread x1) (k0_off1_inb i h0) rfl (k0_off1_inb i h0)).trans (congrArg (fun z : Vec F S1x8x6x1024 .f32 => VecWindow.window z (k0_off1 i) S1x1x6x1024.size (k0_off1_inb i h0)) (harg3.read_unread x1))))) (congrArg k0_pay8 ((View.readAt_full _ _ _).trans (harg2.read_unread x0)))
    · iexists _; isplitr; swap; · iexact G1
      ipureintro
      exact harg8.read_unread _

set_option maxHeartbeats 1000000 in
theorem runC (c : Dev nD) (i : grid0.Coords) (arg2 : Memref sig .tc .vmem S1024x1024 .f32) (harg2 : arg2.IsWhole) (arg3 : Memref sig .tc .vmem S1x8x6x1024 .f32) (harg3 : arg3.IsWhole) (arg4 : Memref sig .tc .vmem S1x1024 .f32) (harg4 : arg4.IsWhole) (arg5 : Memref sig .tc .vmem S1x1024x1024 .f32) (harg5 : arg5.IsWhole) (arg6 : Memref sig .tc .vmem S1024x1024 .bf16) (harg6 : arg6.IsWhole) (arg7 : Memref sig .tc .vmem S8192x1024 .bf16) (harg7 : arg7.IsWhole) (arg8 : Memref sig .tc .vmem S1024x1024 .bf16) (harg8 : arg8.IsWhole) (h0 : ¬ first i) (h1 : top i)
    (x0 : Vec F S1024x1024 .f32) (x1 : Vec F S1x8x6x1024 .f32) (x2 : Vec F S1x1024 .f32) (x3 : Vec F S1x1024x1024 .f32) (s0 : Vec F S8192x1024 .bf16) (s1 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (rowsOf i s0) (k0_pay2 x3)) ∗ owns (c : Thread nD τ) arg7 fullShare s0 ∗ owns (c : Thread nD τ) arg8 fullShare (k0_pay2 x3)) -∗ K ⟨⟩))
      ⊢ wp frame (wpE (defs₀ (F := F)) Variants.none c none) E (cc0_modulate_linear i arg2 harg2 arg3 harg3 arg4 harg4 arg5 harg5 arg6 harg6 arg7 harg7 arg8 harg8) K := by
    simp only [cc0_modulate_linear_eq_skeleton]; unfold cc0_modulate_linear_skel
    unfold owns
    iintro ⟨⟨%f0, %hf0, H0⟩, ⟨%f1, %hf1, H1⟩, ⟨%f2, %hf2, H2⟩, ⟨%f3, %hf3, H3⟩, ⟨%d4, %f4, -, H4⟩, ⟨%g0, %hg0, G0⟩, ⟨%g1, %hg1, G1⟩, Hk⟩
    obtain rfl := harg2.eq_unread hf0; obtain rfl := harg3.eq_unread hf1; obtain rfl := harg4.eq_unread hf2; obtain rfl := harg5.eq_unread hf3; obtain rfl := harg7.eq_unread hg0; obtain rfl := harg8.eq_unread hg1
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact (View.read_writes_full _ _ _ _ _).trans (congrArg₂ k0_pay3 ((View.readAt_unit _ _ _ rfl (k0_off3_inb i)).trans (congrArg (rowsOf i) (harg7.read_unread s0))) (by
        unfold runC.sl.v10 runC.sl.G1_1
        exact (View.readCov_full _ _ _ _ _).trans (congrArg k0_pay2 ((View.readAt_full _ _ _).trans (harg5.read_unread _)))))
    isplitl [G0]
    · iexists _; isplitr; swap; · iexact G0
      ipureintro
      exact harg7.read_unread _
    · iexists _; isplitr; swap; · iexact G1
      ipureintro
      unfold runC.sl.G1_1
      exact (View.read_writes_full _ _ _ _ _).trans (congrArg k0_pay2 ((View.readAt_full _ _ _).trans (harg5.read_unread _)))

set_option maxHeartbeats 1000000 in
theorem runD (c : Dev nD) (i : grid0.Coords) (arg2 : Memref sig .tc .vmem S1024x1024 .f32) (harg2 : arg2.IsWhole) (arg3 : Memref sig .tc .vmem S1x8x6x1024 .f32) (harg3 : arg3.IsWhole) (arg4 : Memref sig .tc .vmem S1x1024 .f32) (harg4 : arg4.IsWhole) (arg5 : Memref sig .tc .vmem S1x1024x1024 .f32) (harg5 : arg5.IsWhole) (arg6 : Memref sig .tc .vmem S1024x1024 .bf16) (harg6 : arg6.IsWhole) (arg7 : Memref sig .tc .vmem S8192x1024 .bf16) (harg7 : arg7.IsWhole) (arg8 : Memref sig .tc .vmem S1024x1024 .bf16) (harg8 : arg8.IsWhole) (h0 : ¬ first i) (h1 : ¬ top i)
    (x0 : Vec F S1024x1024 .f32) (x1 : Vec F S1x8x6x1024 .f32) (x2 : Vec F S1x1024 .f32) (x3 : Vec F S1x1024x1024 .f32) (s0 : Vec F S8192x1024 .bf16) (s1 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (rowsOf i s0) s1) ∗ owns (c : Thread nD τ) arg7 fullShare s0 ∗ owns (c : Thread nD τ) arg8 fullShare s1) -∗ K ⟨⟩))
      ⊢ wp frame (wpE (defs₀ (F := F)) Variants.none c none) E (cc0_modulate_linear i arg2 harg2 arg3 harg3 arg4 harg4 arg5 harg5 arg6 harg6 arg7 harg7 arg8 harg8) K := by
    simp only [cc0_modulate_linear_eq_skeleton]; unfold cc0_modulate_linear_skel
    unfold owns
    iintro ⟨⟨%f0, %hf0, H0⟩, ⟨%f1, %hf1, H1⟩, ⟨%f2, %hf2, H2⟩, ⟨%f3, %hf3, H3⟩, ⟨%d4, %f4, -, H4⟩, ⟨%g0, %hg0, G0⟩, ⟨%g1, %hg1, G1⟩, Hk⟩
    obtain rfl := harg2.eq_unread hf0; obtain rfl := harg3.eq_unread hf1; obtain rfl := harg4.eq_unread hf2; obtain rfl := harg5.eq_unread hf3; obtain rfl := harg7.eq_unread hg0; obtain rfl := harg8.eq_unread hg1
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact (View.read_writes_full _ _ _ _ _).trans (congrArg₂ k0_pay3 ((View.readAt_unit _ _ _ rfl (k0_off3_inb i)).trans (congrArg (rowsOf i) (harg7.read_unread s0))) ((View.readAt_full _ _ _).trans (harg8.read_unread _)))
    isplitl [G0]
    · iexists _; isplitr; swap; · iexact G0
      ipureintro
      exact harg7.read_unread _
    · iexists _; isplitr; swap; · iexact G1
      ipureintro
      exact harg8.read_unread _

end Cert.Kernel5Ideal.Lin

end
-- ==== Proof.LinearFrame.lean ====
/- The projection's launch: what its two scratch buffers hold from point to point, and what it leaves in its array. -/
module

public import proofs.«01_k».proof.Proof.LinearRun

@[expose] public section

set_option maxRecDepth 16384

noncomputable section

namespace Cert.Kernel5Ideal.Lin

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_iff : ∀ t : Fin cfg0.N, first (grid0.coords t) ↔ t.val < 8 := (by decide +kernel : ∀ t : Fin grid0.N, first (grid0.coords t) ↔ t.val < 8)
theorem top_iff : ∀ t : Fin cfg0.N, top (grid0.coords t) ↔ t.val % 8 = 0 := (by decide +kernel : ∀ t : Fin grid0.N, top (grid0.coords t) ↔ t.val % 8 = 0)
theorem off2_eq : ∀ t : Fin cfg0.N, k0_off2 (grid0.coords t) = ![t.val % 8 * 1024, 0] := (by decide +kernel : ∀ t : Fin grid0.N, k0_off2 (grid0.coords t) = ![t.val % 8 * 1024, 0])
theorem off3_eq : ∀ t : Fin cfg0.N, k0_off3 (grid0.coords t) = ![t.val % 8 * 1024, 0] := (by decide +kernel : ∀ t : Fin grid0.N, k0_off3 (grid0.coords t) = ![t.val % 8 * 1024, 0])

/-- The point at which tile `b` of the rows is normed. -/
abbrev at8 (b : Fin 8) : Fin cfg0.N := ⟨b.val, by have : cfg0.N = 24 := N_0; omega⟩
/-- The first point of a point's column. -/
abbrev colStart (t : Fin cfg0.N) : Fin cfg0.N := ⟨t.val / 8 * 8, by have := t.isLt; omega⟩

/-- Tile `b` of the rows, normed. -/
def tileRows (c : Dev nD) (b : Fin 8) : Vec F S1024x1024 .bf16 :=
  normed (grid0.coords (at8 b)) ((first_iff _).mpr b.isLt) (iblk m c 0 (at8 b)) (iblk m c 1 (at8 b)) (iblk m c 2 (at8 b))
/-- The weights of a point's column. -/
def weights (c : Dev nD) (t : Fin cfg0.N) : Vec F S1024x1024 .bf16 := k0_pay2 (iblk m c 3 (colStart t))

theorem weights_eq (c : Dev nD) (t t' : Fin cfg0.N) (h : t.val / 8 * 8 = t'.val / 8 * 8) : weights m c t = weights m c t' :=
  congrArg (fun u => k0_pay2 (iblk m c 3 u)) (Fin.ext h)

/-- Before point `n` the rows' scratch holds the tiles normed so far; -/
def RowsAt (c : Dev nD) (n : ℕ) (s : Vec F S8192x1024 .bf16) : Prop := ∀ b : Fin 8, b.val < n → rowsOf (grid0.coords (at8 b)) s = tileRows m c b
/-- and the weights' scratch the column's weights, unless a column begins. -/
def ColAt (c : Dev nD) (n : ℕ) (s : Vec F S1024x1024 .bf16) : Prop := ∀ h : n < cfg0.N, n % 8 ≠ 0 → s = weights m c ⟨n, h⟩

theorem rowsOf_congr (t t' : Fin cfg0.N) (h : t.val % 8 = t'.val % 8) (s : Vec F S8192x1024 .bf16) : rowsOf (grid0.coords t) s = rowsOf (grid0.coords t') s := by
  have e : k0_off3 (grid0.coords t) = k0_off3 (grid0.coords t') := by rw [off3_eq, off3_eq, h]
  funext y
  exact congrArg s (funext fun a => Fin.ext (congrArg (fun o : Fin 2 → ℕ => o a + 1 * (y a).val) e))

theorem rows_next (c : Dev nD) (t : Fin cfg0.N) (h0 : first (grid0.coords t)) (s : Vec F S8192x1024 .bf16) (h : RowsAt m c t.val s) :
    RowsAt m c (t.val + 1) (placed (grid0.coords t) h0 (iblk m c 0 t) (iblk m c 1 t) (iblk m c 2 t) s) := by
  have ht : t.val < 8 := (first_iff t).mp h0
  intro b hb
  rcases Nat.lt_succ_iff_lt_or_eq.mp hb with hlt | heq
  · rw [← h b hlt]
    unfold rowsOf placed
    refine VecWindow.window_put_of_disjoint s _ _ _ _ _ _ (0 : Fin 2) (Or.inl ?_)
    rw [off2_eq, off3_eq]
    show b.val % 8 * 1024 + 1024 ≤ t.val % 8 * 1024
    omega
  · obtain rfl : t = at8 b := Fin.ext heq.symm
    exact VecWindow.window_put_same s (k0_off2 (grid0.coords (at8 b))) S1024x1024.size (k0_off2_inb _ h0) _

theorem rows_keep (c : Dev nD) (t : Fin cfg0.N) (h0 : ¬ first (grid0.coords t)) (s : Vec F S8192x1024 .bf16) (h : RowsAt m c t.val s) : RowsAt m c (t.val + 1) s := by
  have ht : ¬ t.val < 8 := fun k => h0 ((first_iff t).mpr k)
  exact fun b _ => h b (by omega)

theorem col_next (c : Dev nD) (t : Fin cfg0.N) (h1 : top (grid0.coords t)) : ColAt m c (t.val + 1) (k0_pay2 (iblk m c 3 t)) := by
  have ht := (top_iff t).mp h1
  intro h hn
  exact congrArg (fun u => k0_pay2 (iblk m c 3 u)) (Fin.ext (by show t.val = (t.val + 1) / 8 * 8; omega))

theorem col_keep (c : Dev nD) (t : Fin cfg0.N) (h1 : ¬ top (grid0.coords t)) (s : Vec F S1024x1024 .bf16) (h : ColAt m c t.val s) : ColAt m c (t.val + 1) s := by
  have ht : ¬ t.val % 8 = 0 := fun k => h1 ((top_iff t).mpr k)
  intro h' hn
  rw [h t.isLt ht]
  exact weights_eq m c _ _ (by show t.val / 8 * 8 = (t.val + 1) / 8 * 8; omega)

/-- What a point leaves in the array's block. -/
def blockOut (c : Dev nD) (t : Fin cfg0.N) : Vec F S1024x1024 .bf16 := k0_pay3 (tileRows m c ⟨t.val % 8, Nat.mod_lt _ (by decide)⟩) (weights m c t)

theorem out_eq (c : Dev nD) (t : Fin cfg0.N) (s : Vec F S8192x1024 .bf16) (w : Vec F S1024x1024 .bf16) (h : RowsAt m c (t.val + 1) s) (hw : w = weights m c t) :
    k0_pay3 (rowsOf (grid0.coords t) s) w = blockOut m c t := by
  unfold blockOut
  rw [hw, rowsOf_congr t (at8 ⟨t.val % 8, Nat.mod_lt _ (by decide)⟩) (by show t.val % 8 = t.val % 8 % 8; omega) s,
    h ⟨t.val % 8, Nat.mod_lt _ (by decide)⟩ (by show t.val % 8 < t.val + 1; omega)]

theorem top_weights (c : Dev nD) (t : Fin cfg0.N) (h1 : top (grid0.coords t)) : k0_pay2 (iblk m c 3 t) = weights m c t := by
  have ht := (top_iff t).mp h1
  exact congrArg (fun u => k0_pay2 (iblk m c 3 u)) (Fin.ext (by show t.val = t.val / 8 * 8; omega))

abbrev rowsM : Memref sig .tc .vmem S8192x1024 .bf16 := Memref.whole cc0_scratch0
abbrev colM : Memref sig .tc .vmem S1024x1024 .bf16 := Memref.whole cc0_scratch1

/-- The invariant before point `n`. -/
def Inv (c : Dev nD) (n : ℕ) : sProp 𝕄 :=
  iprop(((∃ s, ⌜RowsAt m c n s⌝ ∗ owns (c : Thread nD τ) rowsM fullShare s) ∗ (∃ s, ⌜ColAt m c n s⌝ ∗ owns (c : Thread nD τ) colM fullShare s)) ∗ (∃ r, prngReg c r))

theorem rest_eq (c : Dev nD) : (Pipeline.ΦA spec0 c : sProp 𝕄)
    = iprop(((∃ d, owns (c : Thread nD τ) rowsM fullShare d) ∗ (∃ d, owns (c : Thread nD τ) colM fullShare d)) ∗ (∃ r, prngReg c r)) := by
  unfold Pipeline.ΦA; rw [scopedRest0_eq]; simp only [rowsM, colM, owns_whole]; try rfl

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut m c t
  Φ t := Inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = blockOut m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
/-- The body at any point. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).owesAt () t.succ = (dats m 0 c).owesAt () t.castSucc from rfl, after_0, after_1, after_2, after_3, after_4,
    show (dats m 0 c).Φ t.castSucc = Inv m c t.val from rfl, show (dats m 0 c).Φ t.succ = Inv m c (t.val + 1) from rfl]
  unfold Inv
  by_cases h0 : first (grid0.coords t)
  · by_cases h1 : top (grid0.coords t)
    · iintro ⟨⟨⟨⟨%s, %hs, HS⟩, ⟨%w, %hw, HW⟩⟩, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ _ _ h0 h1 (iblk m c 0 t) (iblk m c 1 t) (iblk m c 2 t) (iblk m c 3 t) s w Set.univ _)
      isplitl [H0]; · iexact H0
      isplitl [H1]; · iexact H1
      isplitl [H2]; · iexact H2
      isplitl [H3]; · iexact H3
      isplitl [H4]; · iexists _; iexact H4
      isplitl [HS]; · iexact HS
      isplitl [HW]; · iexact HW
      rw [out_eq m c t _ _ (rows_next m c t h0 s hs) (top_weights m c t h1)]
      iintro ⟨H0, H1, H2, H3, H4, HS, HW⟩
      isplitl [HS HW Hg]
      · isplitl [HS HW]
        · isplitl [HS]
          · iexists _; isplitr; · ipureintro; exact (rows_next m c t h0 s hs)
            iexact HS
          · iexists _; isplitr; · ipureintro; exact (col_next m c t h1)
            iexact HW
        iexact Hg
      isplitl [Ho]; · iexact Ho
      isplitl [H0]; · iexact H0
      isplitl [H1]; · iexact H1
      isplitl [H2]; · iexact H2
      isplitl [H3]; · iexact H3
      iexact H4
    · iintro ⟨⟨⟨⟨%s, %hs, HS⟩, ⟨%w, %hw, HW⟩⟩, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ _ _ h0 h1 (iblk m c 0 t) (iblk m c 1 t) (iblk m c 2 t) (iblk m c 3 t) s w Set.univ _)
      isplitl [H0]; · iexact H0
      isplitl [H1]; · iexact H1
      isplitl [H2]; · iexact H2
      isplitl [H3]; · iexact H3
      isplitl [H4]; · iexists _; iexact H4
      isplitl [HS]; · iexact HS
      isplitl [HW]; · iexact HW
      rw [out_eq m c t _ _ (rows_next m c t h0 s hs) (hw t.isLt (fun k => h1 ((top_iff t).mpr k)))]
      iintro ⟨H0, H1, H2, H3, H4, HS, HW⟩
      isplitl [HS HW Hg]
      · isplitl [HS HW]
        · isplitl [HS]
          · iexists _; isplitr; · ipureintro; exact (rows_next m c t h0 s hs)
            iexact HS
          · iexists _; isplitr; · ipureintro; exact (col_keep m c t h1 w hw)
            iexact HW
        iexact Hg
      isplitl [Ho]; · iexact Ho
      isplitl [H0]; · iexact H0
      isplitl [H1]; · iexact H1
      isplitl [H2]; · iexact H2
      isplitl [H3]; · iexact H3
      iexact H4
  · by_cases h1 : top (grid0.coords t)
    · iintro ⟨⟨⟨⟨%s, %hs, HS⟩, ⟨%w, %hw, HW⟩⟩, Hg⟩, Ho, ⟨%d0, H0⟩, ⟨%d1, H1⟩, ⟨%d2, H2⟩, ⟨%d3, H3⟩, ⟨%d4, H4⟩⟩
      iapply (runC c (grid0.coords t) _ _ _ _ _ _ _ _ _ _ _ _ _ _ h0 h1 (iblk m c 0 t) (iblk m c 1 t) (iblk m c 2 t) (iblk m c 3 t) s w Set.univ _)
      isplitl [H0]; · iexact H0
      isplitl [H1]; · iexact H1
      isplitl [H2]; · iexact H2
      isplitl [H3]; · iexact H3
      isplitl [H4]; · iexists _; iexact H4
      isplitl [HS]; · iexact HS
      isplitl [HW]; · iexact HW
      rw [out_eq m c t _ _ (rows_keep m c t h0 s hs) (top_weights m c t h1)]
      iintro ⟨H0, H1, H2, H3, H4, HS, HW⟩
      isplitl [HS HW Hg]
      · isplitl [HS HW]
        · isplitl [HS]
          · iexists _; isplitr; · ipureintro; exact (rows_keep m c t h0 s hs)
            iexact HS
          · iexists _; isplitr; · ipureintro; exact (col_next m c t h1)
            iexact HW
        iexact Hg
      isplitl [Ho]; · iexact Ho
      isplitl [H0]; · iexact H0
      isplitl [H1]; · iexact H1
      isplitl [H2]; · iexact H2
      isplitl [H3]; · iexact H3
      iexact H4
    · iintro ⟨⟨⟨⟨%s, %hs, HS⟩, ⟨%w, %hw, HW⟩⟩, Hg⟩, Ho, ⟨%d0, H0⟩, ⟨%d1, H1⟩, ⟨%d2, H2⟩, ⟨%d3, H3⟩, ⟨%d4, H4⟩⟩
      iapply (runD c (grid0.coords t) _ _ _ _ _ _ _ _ _ _ _ _ _ _ h0 h1 (iblk m c 0 t) (iblk m c 1 t) (iblk m c 2 t) (iblk m c 3 t) s w Set.univ _)
      isplitl [H0]; · iexact H0
      isplitl [H1]; · iexact H1
      isplitl [H2]; · iexact H2
      isplitl [H3]; · iexact H3
      isplitl [H4]; · iexists _; iexact H4
      isplitl [HS]; · iexact HS
      isplitl [HW]; · iexact HW
      rw [out_eq m c t _ _ (rows_keep m c t h0 s hs) (hw t.isLt (fun k => h1 ((top_iff t).mpr k)))]
      iintro ⟨H0, H1, H2, H3, H4, HS, HW⟩
      isplitl [HS HW Hg]
      · isplitl [HS HW]
        · isplitl [HS]
          · iexists _; isplitr; · ipureintro; exact (rows_keep m c t h0 s hs)
            iexact HS
          · iexists _; isplitr; · ipureintro; exact (col_keep m c t h1 w hw)
            iexact HW
        iexact Hg
      isplitl [Ho]; · iexact Ho
      isplitl [H0]; · iexact H0
      isplitl [H1]; · iexact H1
      isplitl [H2]; · iexact H2
      isplitl [H3]; · iexact H3
      iexact H4

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

theorem enter (c : Dev nD) : Pipeline.ΦA spec0 c ⊢ (dats m 0 c).Φ 0 := by
  rw [show (dats m 0 c).Φ 0 = Inv m c 0 from rfl, rest_eq]
  unfold Inv
  iintro ⟨⟨⟨%s, H0⟩, ⟨%w, H1⟩⟩, Hg⟩
  isplitl [H0 H1]
  · isplitl [H0]
    · iexists s; isplitr; · ipureintro; exact fun b hb => absurd hb (Nat.not_lt_zero _)
      iexact H0
    · iexists w; isplitr; · ipureintro; exact fun h hn => absurd rfl hn
      iexact H1
  iexact Hg

theorem leave (c : Dev nD) : (dats m 0 c).Φ (Fin.last cfg0.N) ⊢ Pipeline.ΦA spec0 c := by
  rw [show (dats m 0 c).Φ (Fin.last cfg0.N) = Inv m c cfg0.N from rfl, rest_eq]
  unfold Inv
  iintro ⟨⟨⟨%s, -, H0⟩, ⟨%w, -, H1⟩⟩, Hg⟩
  isplitl [H0 H1]
  · isplitl [H0]
    · iexists s; iexact H0
    · iexists w; iexact H1
  iexact Hg

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_post : θ_run defs (onTc (τ := τ) (main (F := F))) (s₀ m ρ) (Pipeline.FramePost cfgs (dats m) 0 (V m)) :=
  (θ_run defs _ _).mono (fun _ h => h.1) (run_quiet m ρ)

/-- The arguments end as they were, and no counter is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_post m ρ)) ((θ_run defs _ _).mono (fun _ h => h.2) (run_quiet m ρ))

end Cert.Kernel5Ideal.Lin

end
-- ==== Proof.LinearRef.lean ====
/- The neighbourhood layer's projection in plain form, read at an index. -/
module

public import proofs.«01_k».proof.Proof.LayerMath
public import proofs.«01_k».proof.Proof.Gen.Reference5Ideal.Read

@[expose] public section

set_option maxRecDepth 16384

noncomputable section

namespace Cert.Reference5Ideal.Lin

open Cert.Reference5Ideal Cert.Reference5Ideal.Gen Cert.Reference5Ideal.Read Idealize.ShloMosaic Idealize.ShloMosaic.TcCoe Idealize.SL.Sem
open Cert.LayerMath

variable (x : FVec Ideal S8192x1024 .f32) (mo : FVec Ideal S4x8x6x1024 .f32) (g : FVec Ideal S1024 .f32) (w : FVec Ideal S1x1024x3072 .f32)

/-- A row of the stream, normed and modulated by its group's vectors of the layer. -/
abbrev rowH (R : Fin 8192) : Fin 1024 → EReal :=
  hrow (fun k => x (ix2 R k)) (fun k => g (ix1 k)) (fun k => mo (ix4 2 (grp R) 0 k)) (fun k => mo (ix4 2 (grp R) 1 k))

theorem ctx_at (b : Fin 16) (t : Fin 256) (C : Fin 1024) : val_main_v33 (F := Ideal) x mo g (ix3 b t C) = rowH x mo g ⟨b * 256 + t, by omega⟩ C := by
  unfold rowH
  rw [grp_ctx _ _ (by omega)]
  unfold hrow
  pointwise [val_main_v0, val_main_v1, val_main_v4, val_main_v5, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst, val_main_cst_0, val_main_cst_1, val_main_cst_2]

theorem lat_at (b : Fin 4) (t : Fin 1024) (C : Fin 1024) : val_main_v56 (F := Ideal) x mo g (ix3 b t C) = rowH x mo g ⟨4096 + (b * 1024 + t), by omega⟩ C := by
  have hG : grp ⟨4096 + (b * 1024 + t), by omega⟩ = ⟨1 + b, by omega⟩ := (grp_lat _ (by omega) (by omega)).trans (Fin.ext (by
    show (4096 + (b * 1024 + t) - 4096 : ℕ) / 1024 + 1 = 1 + b; omega))
  unfold rowH
  rw [hG]
  unfold hrow
  pointwise [val_main_v2, val_main_v3, val_main_v6, val_main_v7, val_main_v8, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_cst_3, val_main_cst_4, val_main_cst_5, val_main_cst_6]

theorem rows_at (R : Fin 8192) (C : Fin 1024) : val_main_v59 (F := Ideal) x mo g (ix2 R C) = rowH x mo g R C := by
  have e : val_main_v59 (F := Ideal) x mo g (ix2 R C)
      = if h : (R : ℕ) < 4096 then val_main_v33 (F := Ideal) x mo g (ix3 ⟨R / 256, by omega⟩ ⟨R % 256, by omega⟩ C)
        else val_main_v56 (F := Ideal) x mo g (ix3 ⟨(R - 4096) / 1024, by omega⟩ ⟨(R - 4096) % 1024, by omega⟩ C) := by
    unfold val_main_v59 val_main_v58 val_main_v57
    generalize val_main_v33 (F := Ideal) x mo g = y
    generalize val_main_v56 (F := Ideal) x mo g = z
    pointwise []
  rw [e]
  by_cases h : (R : ℕ) < 4096
  · rw [dif_pos h, ctx_at]
    exact congrArg (fun R => rowH x mo g R C) (Fin.ext (by show (R : ℕ) / 256 * 256 + R % 256 = R; omega))
  · rw [dif_neg h, lat_at]
    exact congrArg (fun R => rowH x mo g R C) (Fin.ext (by show 4096 + ((R - 4096 : ℕ) / 1024 * 1024 + (R - 4096) % 1024) = R; omega))

/-- The plain program's result. -/
theorem result_at (R : Fin 8192) (C : Fin 3072) : val_main_v62 (F := Ideal) x mo g w (ix2 R C) = ∑ k, rowH x mo g R k * w (ix3 0 k C) := by
  have e : val_main_v62 (F := Ideal) x mo g w (ix2 R C) = ∑ k, val_main_v59 (F := Ideal) x mo g (ix2 R k) * w (ix3 0 k C) := by
    unfold val_main_v62 val_main_v61
    generalize val_main_v59 (F := Ideal) x mo g = y
    pointwise [val_main_v60]
  rw [e]
  simp only [rows_at]

end Cert.Reference5Ideal.Lin

end
-- ==== Proof.LinearValue.lean ====
/- The projection's array after the run is the plain program's. -/
module

public import proofs.«01_k».proof.Proof.LinearFrame
public import proofs.«01_k».proof.Proof.LinearRef
public import Idealize.ShloMosaic.Lib.Pipeline.ValueKit

@[expose] public section

set_option maxRecDepth 16384

noncomputable section

namespace Cert.Kernel5Ideal.Lin

open Cert.Kernel5Ideal Cert.Kernel5Ideal.Gen Idealize.ShloMosaic Idealize.ShloMosaic.TcCoe Idealize.SL.Sem
open Cert.LayerMath

theorem idx_in : ∀ t : Fin cfg0.N, t.val < 8 → win0_0.index t = ![t.val, 0] ∧ win0_1.index t = ![2, 0, 0, 0] ∧ win0_2.index t = ![0, 0]
    ∧ k0_off1 (grid0.coords t) = ![0, (if t.val < 4 then 0 else t.val - 3), 0, 0] :=
  (by decide +kernel : ∀ t : Fin grid0.N, _)
theorem idx_col : ∀ t : Fin cfg0.N, win0_3.index t = ![0, 0, t.val / 8] := (by decide +kernel : ∀ t : Fin grid0.N, _)
theorem idx_out : ∀ t : Fin cfg0.N, win0_4.index t = ![t.val % 8, t.val / 8] := (by decide +kernel : ∀ t : Fin grid0.N, _)

theorem normed_at (x : Vec Ideal S1024x1024 .f32) (mo : Vec Ideal S1x1x6x1024 .f32) (g : Vec Ideal S1x1024 .f32) (r C : Fin 1024) :
    k0_pay1 (F := Ideal) (k0_pay5 g) (k0_pay6 mo) (k0_pay7 mo) (k0_pay8 x) (ix2 r C)
      = hrow (fun k => x (ix2 r k)) (fun k => g (ix2 0 k)) (fun k => mo (ix4 0 0 0 k)) (fun k => mo (ix4 0 0 1 k)) C := by
  unfold hrow
  pointwise [k0_pay1, k0_pay4, k0_pay5, k0_pay6, k0_pay7, k0_pay8]

theorem weight_at (w : Vec Ideal S1x1024x1024 .f32) (k C : Fin 1024) : k0_pay2 (F := Ideal) w (ix2 k C) = w (ix3 0 k C) := by
  pointwise [k0_pay2]

theorem product_at (h w : Vec Ideal S1024x1024 .bf16) (r C : Fin 1024) : k0_pay3 (F := Ideal) h w (ix2 r C) = ∑ k, h (ix2 r k) * w (ix2 k C) := by
  pointwise [k0_pay3]

theorem lt24 (t : Fin cfg0.N) : t.val < 24 := lt_of_lt_of_eq t.isLt N_0

variable (m : (ℓ : Loc nD τ sig) → Buf (Elt Ideal) ℓ) (c : Dev nD)

/-- The modulation group of tile `b`. -/
abbrev grpB (b : Fin 8) : Fin 8 := ⟨if (b : ℕ) < 4 then 0 else b - 3, by split <;> omega⟩

theorem grp_row (n : Fin 8) (r : Fin 1024) : grp ⟨n * 1024 + r, by omega⟩ = grpB n := by
  by_cases h : (n : ℕ) < 4
  · rw [grp_ctx _ _ (by omega)]
    exact Fin.ext (if_pos h).symm
  · rw [grp_lat _ _ (by omega)]
    exact Fin.ext (Eq.trans (by show (n * 1024 + r - 4096 : ℕ) / 1024 + 1 = n - 3; omega) (if_neg h).symm)

theorem blk0_at (b : Fin 8) (r C : Fin 1024) : iblk m c 0 (at8 b) (ix2 r C) = m ((c : Thread nD τ).loc main_arg0) (ix2 ⟨b * 1024 + r, by omega⟩ C) := by
  blk_ext [iblk, V, idx_in (at8 b) b.isLt]

theorem blk1_at (b : Fin 8) (G : Fin 8) (k : Fin 6) (C : Fin 1024) : iblk m c 1 (at8 b) (ix4 0 G k C) = m ((c : Thread nD τ).loc main_arg1) (ix4 2 G k C) := by
  blk_ext [iblk, V, idx_in (at8 b) b.isLt]

theorem blk2_at (b : Fin 8) (C : Fin 1024) : iblk m c 2 (at8 b) (ix2 0 C) = m ((c : Thread nD τ).loc main_arg2) (ix1 C) := by
  blk_simp [iblk, idx_in (at8 b) b.isLt]
  entry_read
  pointwise
  blk_ext [idx_in (at8 b) b.isLt]

theorem blk3_at (t : Fin cfg0.N) (k C : Fin 1024) : iblk m c 3 t (ix3 0 k C)
    = m ((c : Thread nD τ).loc main_arg3) (ix3 0 k ⟨t.val / 8 * 1024 + C, by have := lt24 t; omega⟩) := by
  blk_ext [iblk, V, idx_col t]

theorem group_at (b : Fin 8) (h : first (grid0.coords (at8 b))) (y : Vec Ideal S1x8x6x1024 .f32) (k : Fin 6) (C : Fin 1024) :
    VecWindow.window y (k0_off1 (grid0.coords (at8 b))) S1x1x6x1024.size (k0_off1_inb _ h) (ix4 0 0 k C) = y (ix4 0 (grpB b) k C) := by
  have e := (idx_in (at8 b) b.isLt).2.2.2
  refine congrArg y (funext fun a => Fin.ext ?_)
  match a with
  | ⟨0, _⟩ => exact congrFun e 0
  | ⟨1, _⟩ => exact congrFun e 1
  | ⟨2, _⟩ => exact (congrArg (fun n => n + 1 * k.val) (congrFun e 2)).trans (by show 0 + 1 * k.val = k.val; omega)
  | ⟨3, _⟩ => exact (congrArg (fun n => n + 1 * C.val) (congrFun e 3)).trans (by show 0 + 1 * C.val = C.val; omega)

theorem tile_at (b : Fin 8) (r C : Fin 1024) : tileRows m c b (ix2 r C)
    = Cert.Reference5Ideal.Lin.rowH (m ((c : Thread nD τ).loc main_arg0)) (m ((c : Thread nD τ).loc main_arg1)) (m ((c : Thread nD τ).loc main_arg2)) ⟨b * 1024 + r, by omega⟩ C := by
  unfold tileRows normed Cert.Reference5Ideal.Lin.rowH
  rw [normed_at, grp_row]
  simp only [blk0_at, blk2_at]
  exact congrArg₂ (fun u v => hrow _ _ u v C) (funext fun k => (group_at b ((first_iff _).mpr b.isLt) _ 0 k).trans (blk1_at m c b _ 0 k)) (funext fun k => (group_at b ((first_iff _).mpr b.isLt) _ 1 k).trans (blk1_at m c b _ 1 k))

theorem weights_at (t : Fin cfg0.N) (k C : Fin 1024) : weights m c t (ix2 k C)
    = m ((c : Thread nD τ).loc main_arg3) (ix3 0 k ⟨t.val / 8 * 1024 + C, by have := lt24 t; omega⟩) := by
  unfold weights
  rw [weight_at, blk3_at]
  exact congrArg (fun C => m ((c : Thread nD τ).loc main_arg3) (ix3 0 k C)) (Fin.ext (by show t.val / 8 * 8 / 8 * 1024 + C.val = t.val / 8 * 1024 + C.val; omega))

/-- The array is the plain program's. -/
theorem array4 : (dats m 0 c).arrAt 4 cfg0.N
    = Cert.Reference5Ideal.Read.val_main_v62 (F := Ideal) (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after_4]
  obtain ⟨r, C, rfl⟩ : ∃ (r : Fin 1024) (C : Fin 1024), y = ix2 r C := ⟨y 0, y 1, by funext a; match a with | ⟨0, _⟩ => rfl | ⟨1, _⟩ => rfl⟩
  have e : ((cfg0.win 4).blk t).view.emb (ix2 r C) = ix2 (⟨t.val % 8 * 1024 + r, by omega⟩ : Fin 8192) (⟨t.val / 8 * 1024 + C, by have := lt24 t; omega⟩ : Fin 3072) := by
    blk_ext [idx_out t]
  refine Eq.trans ?_ ((congrArg (Cert.Reference5Ideal.Read.val_main_v62 (F := Ideal) (m ((c : Thread nD τ).loc main_arg0)) (m ((c : Thread nD τ).loc main_arg1)) (m ((c : Thread nD τ).loc main_arg2))
      (m ((c : Thread nD τ).loc main_arg3))) e).trans (Cert.Reference5Ideal.Lin.result_at _ _ _ _ _ _)).symm
  unfold blockOut
  rw [product_at]
  simp only [tile_at, weights_at]

/-- A run ends with the plain program's result and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = Cert.Reference5Ideal.Read.val_main_v62 (F := Ideal) (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (array4 m c), h.2.1 c⟩)
    (θ_run_and (run_post m ρ) (frame m ρ))

end Cert.Kernel5Ideal.Lin

end
-- ==== Proof.GateRun.lean ====
/- What the gated layer's projection does at a point, with the contents of its two scratch buffers named. -/
module

public import proofs.«01_k».proof.Proof.Gen.Kernel6Ideal.Frame
public import proofs.«01_k».proof.Proof.Gen.Kernel6Ideal.Skeleton
public import Idealize.ShloMosaic.Lib.VecWindow
public import Idealize.ShloMosaic.Lib.Claim

@[expose] public section

set_option maxRecDepth 16384

noncomputable section

namespace Cert.Kernel6Ideal.Gate

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first column of weights is being taken: the rows are normed and the gates formed now. -/
abbrev first (i : grid0.Coords) : Prop := k0_cond1 i = 1#1
/-- The first tile of rows: the weights are copied now. -/
abbrev top (i : grid0.Coords) : Prop := (Scalar.cmpi .ne (Scalar.extui (Scalar.cmpi .eq (BitVec.ofNat 32 (i 1).val) 0#32)) 0#32) = 1#1

/-- The modulation vectors of a tile's group. -/
def group (i : grid0.Coords) (h : first i) (x1 : Vec F S1x8x6x1024 .f32) : Vec F S1x1x6x1024 .f32 :=
  VecWindow.window x1 (k0_off1 i) S1x1x6x1024.size (k0_off1_inb i h)

/-- The rows of a tile after the norm and the modulation. -/
def normed (i : grid0.Coords) (h : first i) (x0 : Vec F S1024x1024 .f32) (x1 : Vec F S1x8x6x1024 .f32) (x2 : Vec F S1x1024 .f32) : Vec F S1024x1024 .bf16 :=
  k0_pay2 (k0_pay7 x2) (k0_pay8 (group i h x1)) (k0_pay9 (group i h x1)) (k0_pay10 x0)

/-- The tile's gates. -/
def gates (i : grid0.Coords) (h : first i) (x0 : Vec F S1024x1024 .f32) (x1 : Vec F S1x8x6x1024 .f32) (x2 : Vec F S1x1024 .f32) (x4 : Vec F S64x1024 .bf16) : Vec F S64x1024 .f32 :=
  k0_pay3 (k0_pay7 x2) (k0_pay8 (group i h x1)) (k0_pay9 (group i h x1)) (k0_pay10 x0) x4

/-- The scratch of all rows with a tile's put in. -/
def placed (i : grid0.Coords) (h : first i) (x0 : Vec F S1024x1024 .f32) (x1 : Vec F S1x8x6x1024 .f32) (x2 : Vec F S1x1024 .f32) (xs : Vec F S8192x1024 .bf16) : Vec F S8192x1024 .bf16 :=
  VecWindow.put xs (k0_off2 i) S1024x1024.size (normed i h x0 x1 x2)

/-- A tile's rows of the scratch. -/
def rowsOf (i : grid0.Coords) (xs : Vec F S8192x1024 .bf16) : Vec F S1024x1024 .bf16 :=
  VecWindow.window xs (k0_off3 i) S1024x1024.size (k0_off3_inb i)

set_option maxHeartbeats 1000000 in
theorem runA (c : Dev nD) (i : grid0.Coords) (arg2 : Memref sig .tc .vmem S1024x1024 .f32) (harg2 : arg2.IsWhole) (arg3 : Memref sig .tc .vmem S1x8x6x1024 .f32) (harg3 : arg3.IsWhole) (arg4 : Memref sig .tc .vmem S1x1024 .f32) (harg4 : arg4.IsWhole) (arg5 : Memref sig .tc .vmem S1x1024x1024 .f32) (harg5 : arg5.IsWhole) (arg6 : Memref sig .tc .vmem S64x1024 .bf16) (harg6 : arg6.IsWhole) (arg7 : Memref sig .tc .vmem S1024x1024 .bf16) (harg7 : arg7.IsWhole) (arg8 : Memref sig .tc .vmem S64x1024 .f32) (harg8 : arg8.IsWhole) (arg9 : Memref sig .tc .vmem S8192x1024 .bf16) (harg9 : arg9.IsWhole) (arg10 : Memref sig .tc .vmem S1024x1024 .bf16) (harg10 : arg10.IsWhole) (h0 : first i) (h1 : top i)
    (x0 : Vec F S1024x1024 .f32) (x1 : Vec F S1x8x6x1024 .f32) (x2 : Vec F S1x1024 .f32) (x3 : Vec F S1x1024x1024 .f32) (x4 : Vec F S64x1024 .bf16) (s0 : Vec F S8192x1024 .bf16) (s1 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 (rowsOf i (placed i h0 x0 x1 x2 s0)) (k0_pay4 x3)) ∗ owns (c : Thread nD τ) arg8 fullShare (gates i h0 x0 x1 x2 x4) ∗ owns (c : Thread nD τ) arg9 fullShare (placed i h0 x0 x1 x2 s0) ∗ owns (c : Thread nD τ) arg10 fullShare (k0_pay4 x3)) -∗ K ⟨⟩))
      ⊢ wp frame (wpE (defs₀ (F := F)) Variants.none c none) E (cc0_modulate_linear i arg2 harg2 arg3 harg3 arg4 harg4 arg5 harg5 arg6 harg6 arg7 harg7 arg8 harg8 arg9 harg9 arg10 harg10) K := by
    simp only [cc0_modulate_linear_eq_skeleton]; unfold cc0_modulate_linear_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%g0, %hg0, G0⟩, ⟨%g1, %hg1, G1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hg0; obtain rfl := harg10.eq_unread hg1
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      exact (View.read_writes_full _ _ _ _ _).trans (congrArg₂ k0_pay5 (by
        unfold runA.sl.v9 runA.sl.G0_1
        refine (View.readAt_unit _ _ _ (show k0_off3 i = k0_off2 i from rfl) (k0_off2_inb i h0)).trans ?_
        rw [View.read_writes_cons_put _ _ _ _ _ rfl]
        refine (VecWindow.window_put_same _ _ _ _ _).trans (Eq.trans ?_ (VecWindow.window_put_same s0 (k0_off2 i) S1024x1024.size (k0_off2_inb i h0) _).symm)
        unfold normed
        unfold runA.sl.r runA.sl.r_1 runA.sl.r_2 runA.sl.r_3
        exact congr (congr (congr (congrArg k0_pay2 (congrArg k0_pay7 ((View.readAt_full _ _ _).trans (harg4.read_unread x2)))) (congrArg k0_pay8 ((View.readAt_unit arg3.view (harg3.unread x1) (k0_off1_inb i h0) rfl (k0_off1_inb i h0)).trans (congrArg (group i h0) (harg3.read_unread x1))))) (congrArg k0_pay9 ((View.readAt_unit arg3.view (harg3.unread x1) (k0_off1_inb i h0) rfl (k0_off1_inb i h0)).trans (congrArg (group i h0) (harg3.read_unread x1))))) (congrArg k0_pay10 ((View.readAt_full _ _ _).trans (harg2.read_unread x0)))) (by
        unfold runA.sl.v10 runA.sl.G1_1
        exact (View.readCov_full _ _ _ _ _).trans (congrArg k0_pay4 ((View.readAt_full _ _ _).trans (harg5.read_unread _)))))
    isplitl [H6]
    · iexists _; isplitr; swap; · iexact H6
      ipureintro
      refine (View.read_writes_full _ _ _ _ _).trans ?_
      unfold gates
      unfold runA.sl.r runA.sl.r_1 runA.sl.r_2 runA.sl.r_3
      exact congr (congr (congr (congr (congrArg k0_pay3 (congrArg k0_pay7 ((View.readAt_full _ _ _).trans (harg4.read_unread x2)))) (congrArg k0_pay8 ((View.readAt_unit arg3.view (harg3.unread x1) (k0_off1_inb i h0) rfl (k0_off1_inb i h0)).trans (congrArg (group i h0) (harg3.read_unread x1))))) (congrArg k0_pay9 ((View.readAt_unit arg3.view (harg3.unread x1) (k0_off1_inb i h0) rfl (k0_off1_inb i h0)).trans (congrArg (group i h0) (harg3.read_unread x1))))) (congrArg k0_pay10 ((View.readAt_full _ _ _).trans (harg2.read_unread x0)))) ((View.readAt_full _ _ _).trans (harg6.read_unread x4))
    isplitl [G0]
    · iexists _; isplitr; swap; · iexact G0
      ipureintro
      unfold runA.sl.G0_1
      rw [View.read_writes_cons_put _ _ _ _ _ rfl, View.writes_nil, harg9.read_unread]
      unfold placed normed
      refine congrArg (VecWindow.put s0 (k0_off2 i) S1024x1024.size) ?_
      unfold runA.sl.r runA.sl.r_1 runA.sl.r_2 runA.sl.r_3
      exact congr (congr (congr (congrArg k0_pay2 (congrArg k0_pay7 ((View.readAt_full _ _ _).trans (harg4.read_unread x2)))) (congrArg k0_pay8 ((View.readAt_unit arg3.view (harg3.unread x1) (k0_off1_inb i h0) rfl (k0_off1_inb i h0)).trans (congrArg (group i h0) (harg3.read_unread x1))))) (congrArg k0_pay9 ((View.readAt_unit arg3.view (harg3.unread x1) (k0_off1_inb i h0) rfl (k0_off1_inb i h0)).trans (congrArg (group i h0) (harg3.read_unread x1))))) (congrArg k0_pay10 ((View.readAt_full _ _ _).trans (harg2.read_unread x0)))
    · iexists _; isplitr; swap; · iexact G1
      ipureintro
      unfold runA.sl.G1_1
      exact (View.read_writes_full _ _ _ _ _).trans (congrArg k0_pay4 ((View.readAt_full _ _ _).trans (harg5.read_unread _)))

set_option maxHeartbeats 1000000 in
theorem runB (c : Dev nD) (i : grid0.Coords) (arg2 : Memref sig .tc .vmem S1024x1024 .f32) (harg2 : arg2.IsWhole) (arg3 : Memref sig .tc .vmem S1x8x6x1024 .f32) (harg3 : arg3.IsWhole) (arg4 : Memref sig .tc .vmem S1x1024 .f32) (harg4 : arg4.IsWhole) (arg5 : Memref sig .tc .vmem S1x1024x1024 .f32) (harg5 : arg5.IsWhole) (arg6 : Memref sig .tc .vmem S64x1024 .bf16) (harg6 : arg6.IsWhole) (arg7 : Memref sig .tc .vmem S1024x1024 .bf16) (harg7 : arg7.IsWhole) (arg8 : Memref sig .tc .vmem S64x1024 .f32) (harg8 : arg8.IsWhole) (arg9 : Memref sig .tc .vmem S8192x1024 .bf16) (harg9 : arg9.IsWhole) (arg10 : Memref sig .tc .vmem S1024x1024 .bf16) (harg10 : arg10.IsWhole) (h0 : first i) (h1 : ¬ top i)
    (x0 : Vec F S1024x1024 .f32) (x1 : Vec F S1x8x6x1024 .f32) (x2 : Vec F S1x1024 .f32) (x3 : Vec F S1x1024x1024 .f32) (x4 : Vec F S64x1024 .bf16) (s0 : Vec F S8192x1024 .bf16) (s1 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 (rowsOf i (placed i h0 x0 x1 x2 s0)) s1) ∗ owns (c : Thread nD τ) arg8 fullShare (gates i h0 x0 x1 x2 x4) ∗ owns (c : Thread nD τ) arg9 fullShare (placed i h0 x0 x1 x2 s0) ∗ owns (c : Thread nD τ) arg10 fullShare s1) -∗ K ⟨⟩))
      ⊢ wp frame (wpE (defs₀ (F := F)) Variants.none c none) E (cc0_modulate_linear i arg2 harg2 arg3 harg3 arg4 harg4 arg5 harg5 arg6 harg6 arg7 harg7 arg8 harg8 arg9 harg9 arg10 harg10) K := by
    simp only [cc0_modulate_linear_eq_skeleton]; unfold cc0_modulate_linear_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%g0, %hg0, G0⟩, ⟨%g1, %hg1, G1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hg0; obtain rfl := harg10.eq_unread hg1
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      exact (View.read_writes_full _ _ _ _ _).trans (congrArg₂ k0_pay5 (by
        unfold runB.sl.v9 runB.sl.G0_1
        refine (View.readAt_unit _ _ _ (show k0_off3 i = k0_off2 i from rfl) (k0_off2_inb i h0)).trans ?_
        rw [View.read_writes_cons_put _ _ _ _ _ rfl]
        refine (VecWindow.window_put_same _ _ _ _ _).trans (Eq.trans ?_ (VecWindow.window_put_same s0 (k0_off2 i) S1024x1024.size (k0_off2_inb i h0) _).symm)
        unfold normed
        unfold runB.sl.r runB.sl.r_1 runB.sl.r_2 runB.sl.r_3
        exact congr (congr (congr (congrArg k0_pay2 (congrArg k0_pay7 ((View.readAt_full _ _ _).trans (harg4.read_unread x2)))) (congrArg k0_pay8 ((View.readAt_unit arg3.view (harg3.unread x1) (k0_off1_inb i h0) rfl (k0_off1_inb i h0)).trans (congrArg (group i h0) (harg3.read_unread x1))))) (congrArg k0_pay9 ((View.readAt_unit arg3.view (harg3.unread x1) (k0_off1_inb i h0) rfl (k0_off1_inb i h0)).trans (congrArg (group i h0) (harg3.read_unread x1))))) (congrArg k0_pay10 ((View.readAt_full _ _ _).trans (harg2.read_unread x0)))) ((View.readAt_full _ _ _).trans (harg10.read_unread _)))
    isplitl [H6]
    · iexists _; isplitr; swap; · iexact H6
      ipureintro
      refine (View.read_writes_full _ _ _ _ _).trans ?_
      unfold gates
      unfold runB.sl.r runB.sl.r_1 runB.sl.r_2 runB.sl.r_3
      exact congr (congr (congr (congr (congrArg k0_pay3 (congrArg k0_pay7 ((View.readAt_full _ _ _).trans (harg4.read_unread x2)))) (congrArg k0_pay8 ((View.readAt_unit arg3.view (harg3.unread x1) (k0_off1_inb i h0) rfl (k0_off1_inb i h0)).trans (congrArg (group i h0) (harg3.read_unread x1))))) (congrArg k0_pay9 ((View.readAt_unit arg3.view (harg3.unread x1) (k0_off1_inb i h0) rfl (k0_off1_inb i h0)).trans (congrArg (group i h0) (harg3.read_unread x1))))) (congrArg k0_pay10 ((View.readAt_full _ _ _).trans (harg2.read_unread x0)))) ((View.readAt_full _ _ _).trans (harg6.read_unread x4))
    isplitl [G0]
    · iexists _; isplitr; swap; · iexact G0
      ipureintro
      unfold runB.sl.G0_1
      rw [View.read_writes_cons_put _ _ _ _ _ rfl, View.writes_nil, harg9.read_unread]
      unfold placed normed
      refine congrArg (VecWindow.put s0 (k0_off2 i) S1024x1024.size) ?_
      unfold runB.sl.r runB.sl.r_1 runB.sl.r_2 runB.sl.r_3
      exact congr (congr (congr (congrArg k0_pay2 (congrArg k0_pay7 ((View.readAt_full _ _ _).trans (harg4.read_unread x2)))) (congrArg k0_pay8 ((View.readAt_unit arg3.view (harg3.unread x1) (k0_off1_inb i h0) rfl (k0_off1_inb i h0)).trans (congrArg (group i h0) (harg3.read_unread x1))))) (congrArg k0_pay9 ((View.readAt_unit arg3.view (harg3.unread x1) (k0_off1_inb i h0) rfl (k0_off1_inb i h0)).trans (congrArg (group i h0) (harg3.read_unread x1))))) (congrArg k0_pay10 ((View.readAt_full _ _ _).trans (harg2.read_unread x0)))
    · iexists _; isplitr; swap; · iexact G1
      ipureintro
      exact harg10.read_unread _

set_option maxHeartbeats 1000000 in
theorem runC (c : Dev nD) (i : grid0.Coords) (arg2 : Memref sig .tc .vmem S1024x1024 .f32) (harg2 : arg2.IsWhole) (arg3 : Memref sig .tc .vmem S1x8x6x1024 .f32) (harg3 : arg3.IsWhole) (arg4 : Memref sig .tc .vmem S1x1024 .f32) (harg4 : arg4.IsWhole) (arg5 : Memref sig .tc .vmem S1x1024x1024 .f32) (harg5 : arg5.IsWhole) (arg6 : Memref sig .tc .vmem S64x1024 .bf16) (harg6 : arg6.IsWhole) (arg7 : Memref sig .tc .vmem S1024x1024 .bf16) (harg7 : arg7.IsWhole) (arg8 : Memref sig .tc .vmem S64x1024 .f32) (harg8 : arg8.IsWhole) (arg9 : Memref sig .tc .vmem S8192x1024 .bf16) (harg9 : arg9.IsWhole) (arg10 : Memref sig .tc .vmem S1024x1024 .bf16) (harg10 : arg10.IsWhole) (h0 : ¬ first i) (h1 : top i)
    (x0 : Vec F S1024x1024 .f32) (x1 : Vec F S1x8x6x1024 .f32) (x2 : Vec F S1x1024 .f32) (x3 : Vec F S1x1024x1024 .f32) (x4 : Vec F S64x1024 .bf16) (y : Vec F S64x1024 .f32) (s0 : Vec F S8192x1024 .bf16) (s1 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 (rowsOf i s0) (k0_pay4 x3)) ∗ owns (c : Thread nD τ) arg8 fullShare y ∗ owns (c : Thread nD τ) arg9 fullShare s0 ∗ owns (c : Thread nD τ) arg10 fullShare (k0_pay4 x3)) -∗ K ⟨⟩))
      ⊢ wp frame (wpE (defs₀ (F := F)) Variants.none c none) E (cc0_modulate_linear i arg2 harg2 arg3 harg3 arg4 harg4 arg5 harg5 arg6 harg6 arg7 harg7 arg8 harg8 arg9 harg9 arg10 harg10) K := by
    simp only [cc0_modulate_linear_eq_skeleton]; unfold cc0_modulate_linear_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%g0, %hg0, G0⟩, ⟨%g1, %hg1, G1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hg0; obtain rfl := harg10.eq_unread hg1
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      exact (View.read_writes_full _ _ _ _ _).trans (congrArg₂ k0_pay5 ((View.readAt_unit _ _ _ rfl (k0_off3_inb i)).trans (congrArg (rowsOf i) (harg9.read_unread s0))) (by
        unfold runC.sl.v10 runC.sl.G1_1
        exact (View.readCov_full _ _ _ _ _).trans (congrArg k0_pay4 ((View.readAt_full _ _ _).trans (harg5.read_unread _)))))
    isplitl [H6]
    · iexists _; isplitr; swap; · iexact H6
      ipureintro
      exact harg8.read_unread _
    isplitl [G0]
    · iexists _; isplitr; swap; · iexact G0
      ipureintro
      exact harg9.read_unread _
    · iexists _; isplitr; swap; · iexact G1
      ipureintro
      unfold runC.sl.G1_1
      exact (View.read_writes_full _ _ _ _ _).trans (congrArg k0_pay4 ((View.readAt_full _ _ _).trans (harg5.read_unread _)))

set_option maxHeartbeats 1000000 in
theorem runD (c : Dev nD) (i : grid0.Coords) (arg2 : Memref sig .tc .vmem S1024x1024 .f32) (harg2 : arg2.IsWhole) (arg3 : Memref sig .tc .vmem S1x8x6x1024 .f32) (harg3 : arg3.IsWhole) (arg4 : Memref sig .tc .vmem S1x1024 .f32) (harg4 : arg4.IsWhole) (arg5 : Memref sig .tc .vmem S1x1024x1024 .f32) (harg5 : arg5.IsWhole) (arg6 : Memref sig .tc .vmem S64x1024 .bf16) (harg6 : arg6.IsWhole) (arg7 : Memref sig .tc .vmem S1024x1024 .bf16) (harg7 : arg7.IsWhole) (arg8 : Memref sig .tc .vmem S64x1024 .f32) (harg8 : arg8.IsWhole) (arg9 : Memref sig .tc .vmem S8192x1024 .bf16) (harg9 : arg9.IsWhole) (arg10 : Memref sig .tc .vmem S1024x1024 .bf16) (harg10 : arg10.IsWhole) (h0 : ¬ first i) (h1 : ¬ top i)
    (x0 : Vec F S1024x1024 .f32) (x1 : Vec F S1x8x6x1024 .f32) (x2 : Vec F S1x1024 .f32) (x3 : Vec F S1x1024x1024 .f32) (x4 : Vec F S64x1024 .bf16) (y : Vec F S64x1024 .f32) (s0 : Vec F S8192x1024 .bf16) (s1 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 (rowsOf i s0) s1) ∗ owns (c : Thread nD τ) arg8 fullShare y ∗ owns (c : Thread nD τ) arg9 fullShare s0 ∗ owns (c : Thread nD τ) arg10 fullShare s1) -∗ K ⟨⟩))
      ⊢ wp frame (wpE (defs₀ (F := F)) Variants.none c none) E (cc0_modulate_linear i arg2 harg2 arg3 harg3 arg4 harg4 arg5 harg5 arg6 harg6 arg7 harg7 arg8 harg8 arg9 harg9 arg10 harg10) K := by
    simp only [cc0_modulate_linear_eq_skeleton]; unfold cc0_modulate_linear_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%g0, %hg0, G0⟩, ⟨%g1, %hg1, G1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hg0; obtain rfl := harg10.eq_unread hg1
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      exact (View.read_writes_full _ _ _ _ _).trans (congrArg₂ k0_pay5 ((View.readAt_unit _ _ _ rfl (k0_off3_inb i)).trans (congrArg (rowsOf i) (harg9.read_unread s0))) ((View.readAt_full _ _ _).trans (harg10.read_unread _)))
    isplitl [H6]
    · iexists _; isplitr; swap; · iexact H6
      ipureintro
      exact harg8.read_unread _
    isplitl [G0]
    · iexists _; isplitr; swap; · iexact G0
      ipureintro
      exact harg9.read_unread _
    · iexists _; isplitr; swap; · iexact G1
      ipureintro
      exact harg10.read_unread _

end Cert.Kernel6Ideal.Gate

end
-- ==== Proof.GateFrame.lean ====
/- The gated layer's projection: what its two scratch buffers and its gates' block hold from point to point, and what it leaves in its arrays. -/
module

public import proofs.«01_k».proof.Proof.GateRun
public import Idealize.ShloMosaic.Lib.Pipeline.TableIdle

@[expose] public section

set_option maxRecDepth 16384

noncomputable section

namespace Cert.Kernel6Ideal.Gate

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_iff : ∀ t : Fin cfg0.N, first (grid0.coords t) ↔ t.val < 8 := (by decide +kernel : ∀ t : Fin grid0.N, first (grid0.coords t) ↔ t.val < 8)
theorem top_iff : ∀ t : Fin cfg0.N, top (grid0.coords t) ↔ t.val % 8 = 0 := (by decide +kernel : ∀ t : Fin grid0.N, top (grid0.coords t) ↔ t.val % 8 = 0)
theorem off2_eq : ∀ t : Fin cfg0.N, k0_off2 (grid0.coords t) = ![t.val % 8 * 1024, 0] := (by decide +kernel : ∀ t : Fin grid0.N, k0_off2 (grid0.coords t) = ![t.val % 8 * 1024, 0])
theorem off3_eq : ∀ t : Fin cfg0.N, k0_off3 (grid0.coords t) = ![t.val % 8 * 1024, 0] := (by decide +kernel : ∀ t : Fin grid0.N, k0_off3 (grid0.coords t) = ![t.val % 8 * 1024, 0])

/-- The point at which tile `b` of the rows is normed. -/
abbrev at8 (b : Fin 8) : Fin cfg0.N := ⟨b.val, by have : cfg0.N = 32 := N_0; omega⟩
/-- The first point of a point's column. -/
abbrev colStart (t : Fin cfg0.N) : Fin cfg0.N := ⟨t.val / 8 * 8, by have := t.isLt; omega⟩

/-- Tile `b` of the rows, normed. -/
def tileRows (c : Dev nD) (b : Fin 8) : Vec F S1024x1024 .bf16 :=
  normed (grid0.coords (at8 b)) ((first_iff _).mpr b.isLt) (iblk m c 0 (at8 b)) (iblk m c 1 (at8 b)) (iblk m c 2 (at8 b))
/-- Tile `b`'s gates. -/
def tileGates (c : Dev nD) (b : Fin 8) : Vec F S64x1024 .f32 :=
  gates (grid0.coords (at8 b)) ((first_iff _).mpr b.isLt) (iblk m c 0 (at8 b)) (iblk m c 1 (at8 b)) (iblk m c 2 (at8 b)) (iblk m c 4 (at8 b))
/-- The tile whose gates the block holds after a point: the point's own in the first column, the last one's later on. -/
abbrev held (t : Fin cfg0.N) : Fin 8 := ⟨min t.val 7, by omega⟩
/-- The weights of a point's column. -/
def weights (c : Dev nD) (t : Fin cfg0.N) : Vec F S1024x1024 .bf16 := k0_pay4 (iblk m c 3 (colStart t))

theorem weights_eq (c : Dev nD) (t t' : Fin cfg0.N) (h : t.val / 8 * 8 = t'.val / 8 * 8) : weights m c t = weights m c t' :=
  congrArg (fun u => k0_pay4 (iblk m c 3 u)) (Fin.ext h)

/-- Before point `n` the rows' scratch holds the tiles normed so far; -/
def RowsAt (c : Dev nD) (n : ℕ) (s : Vec F S8192x1024 .bf16) : Prop := ∀ b : Fin 8, b.val < n → rowsOf (grid0.coords (at8 b)) s = tileRows m c b
/-- and the weights' scratch the column's weights, unless a column begins. -/
def ColAt (c : Dev nD) (n : ℕ) (s : Vec F S1024x1024 .bf16) : Prop := ∀ h : n < cfg0.N, n % 8 ≠ 0 → s = weights m c ⟨n, h⟩

theorem rowsOf_congr (t t' : Fin cfg0.N) (h : t.val % 8 = t'.val % 8) (s : Vec F S8192x1024 .bf16) : rowsOf (grid0.coords t) s = rowsOf (grid0.coords t') s := by
  have e : k0_off3 (grid0.coords t) = k0_off3 (grid0.coords t') := by rw [off3_eq, off3_eq, h]
  funext y
  exact congrArg s (funext fun a => Fin.ext (congrArg (fun o : Fin 2 → ℕ => o a + 1 * (y a).val) e))

theorem rows_next (c : Dev nD) (t : Fin cfg0.N) (h0 : first (grid0.coords t)) (s : Vec F S8192x1024 .bf16) (h : RowsAt m c t.val s) :
    RowsAt m c (t.val + 1) (placed (grid0.coords t) h0 (iblk m c 0 t) (iblk m c 1 t) (iblk m c 2 t) s) := by
  have ht : t.val < 8 := (first_iff t).mp h0
  intro b hb
  rcases Nat.lt_succ_iff_lt_or_eq.mp hb with hlt | heq
  · rw [← h b hlt]
    unfold rowsOf placed
    refine VecWindow.window_put_of_disjoint s _ _ _ _ _ _ (0 : Fin 2) (Or.inl ?_)
    rw [off2_eq, off3_eq]
    show b.val % 8 * 1024 + 1024 ≤ t.val % 8 * 1024
    omega
  · obtain rfl : t = at8 b := Fin.ext heq.symm
    exact VecWindow.window_put_same s (k0_off2 (grid0.coords (at8 b))) S1024x1024.size (k0_off2_inb _ h0) _

theorem rows_keep (c : Dev nD) (t : Fin cfg0.N) (h0 : ¬ first (grid0.coords t)) (s : Vec F S8192x1024 .bf16) (h : RowsAt m c t.val s) : RowsAt m c (t.val + 1) s := by
  have ht : ¬ t.val < 8 := fun k => h0 ((first_iff t).mpr k)
  exact fun b _ => h b (by omega)

theorem col_next (c : Dev nD) (t : Fin cfg0.N) (h1 : top (grid0.coords t)) : ColAt m c (t.val + 1) (k0_pay4 (iblk m c 3 t)) := by
  have ht := (top_iff t).mp h1
  intro h hn
  exact congrArg (fun u => k0_pay4 (iblk m c 3 u)) (Fin.ext (by show t.val = (t.val + 1) / 8 * 8; omega))

theorem col_keep (c : Dev nD) (t : Fin cfg0.N) (h1 : ¬ top (grid0.coords t)) (s : Vec F S1024x1024 .bf16) (h : ColAt m c t.val s) : ColAt m c (t.val + 1) s := by
  have ht : ¬ t.val % 8 = 0 := fun k => h1 ((top_iff t).mpr k)
  intro h' hn
  rw [h t.isLt ht]
  exact weights_eq m c _ _ (by show t.val / 8 * 8 = (t.val + 1) / 8 * 8; omega)

/-- What a point leaves in the array's block. -/
def blockOut (c : Dev nD) (t : Fin cfg0.N) : Vec F S1024x1024 .bf16 := k0_pay5 (tileRows m c ⟨t.val % 8, Nat.mod_lt _ (by decide)⟩) (weights m c t)

theorem gates_eq (c : Dev nD) (t : Fin cfg0.N) (h0 : first (grid0.coords t)) :
    gates (grid0.coords t) h0 (iblk m c 0 t) (iblk m c 1 t) (iblk m c 2 t) (iblk m c 4 t) = tileGates m c (held t) := by
  have ht : t.val < 8 := (first_iff t).mp h0
  obtain ⟨b, rfl⟩ : ∃ b : Fin 8, t = at8 b := ⟨⟨t.val, ht⟩, rfl⟩
  unfold tileGates
  have e : held (at8 b) = b := Fin.ext (by show min b.val 7 = b.val; omega)
  rw [e]

theorem out_eq (c : Dev nD) (t : Fin cfg0.N) (s : Vec F S8192x1024 .bf16) (w : Vec F S1024x1024 .bf16) (h : RowsAt m c (t.val + 1) s) (hw : w = weights m c t) :
    k0_pay5 (rowsOf (grid0.coords t) s) w = blockOut m c t := by
  unfold blockOut
  rw [hw, rowsOf_congr t (at8 ⟨t.val % 8, Nat.mod_lt _ (by decide)⟩) (by show t.val % 8 = t.val % 8 % 8; omega) s,
    h ⟨t.val % 8, Nat.mod_lt _ (by decide)⟩ (by show t.val % 8 < t.val + 1; omega)]

theorem top_weights (c : Dev nD) (t : Fin cfg0.N) (h1 : top (grid0.coords t)) : k0_pay4 (iblk m c 3 t) = weights m c t := by
  have ht := (top_iff t).mp h1
  exact congrArg (fun u => k0_pay4 (iblk m c 3 u)) (Fin.ext (by show t.val = t.val / 8 * 8; omega))

abbrev rowsM : Memref sig .tc .vmem S8192x1024 .bf16 := Memref.whole cc0_scratch0
abbrev colM : Memref sig .tc .vmem S1024x1024 .bf16 := Memref.whole cc0_scratch1

/-- The invariant before point `n`. -/
def Inv (c : Dev nD) (n : ℕ) : sProp 𝕄 :=
  iprop(((∃ s, ⌜RowsAt m c n s⌝ ∗ owns (c : Thread nD τ) rowsM fullShare s) ∗ (∃ s, ⌜ColAt m c n s⌝ ∗ owns (c : Thread nD τ) colM fullShare s)) ∗ (∃ r, prngReg c r))

theorem rest_eq (c : Dev nD) : (Pipeline.ΦA spec0 c : sProp 𝕄)
    = iprop(((∃ d, owns (c : Thread nD τ) rowsM fullShare d) ∗ (∃ d, owns (c : Thread nD τ) colM fullShare d)) ∗ (∃ r, prngReg c r)) := by
  unfold Pipeline.ΦA; rw [scopedRest0_eq]; simp only [rowsM, colM, owns_whole]; try rfl

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut m c t
    | ⟨6, _⟩ => tileGates m c (held t)
  Φ t := Inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = blockOut m c t := by dsimp only [dats]
theorem after_6 (c : Dev nD) (t : Fin cfg0.N) : (dats m 0 c).after 6 t = tileGates m c (held t) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

theorem idle_iff : ∀ t : Fin cfg0.N, cfg0.idle 6 (grid0.coords t) = true ↔ 8 ≤ t.val := (by decide +kernel : ∀ t : Fin grid0.N, idle0 6 (grid0.coords t) = true ↔ 8 ≤ t.val)

/-- When the gates' block holds nothing yet. -/
abbrev freshTab (n : ℕ) : Bool := decide (n < 8 ∨ n = 32)
theorem fresh_eq : ∀ n, n ≤ cfg0.N → cfg0.fresh 6 n = freshTab n :=
  Pipeline.Cfg.fresh_tab cfg0 6 freshTab rfl
    (by decide +kernel : ∀ t : Fin grid0.N, freshTab (t.val + 1) = (win0_6.flush t || (idle0 6 (grid0.coords t) && freshTab t.val)))

theorem held_before (t : Fin cfg0.N) (h : 8 ≤ t.val) (h' : t.val - 1 < cfg0.N) : held ⟨t.val - 1, h'⟩ = held t := Fin.ext (by show min (t.val - 1) 7 = min t.val 7; omega)

/-- After the first column the gates' block is found as it is left. -/
theorem before_6 (c : Dev nD) (t : Fin cfg0.N) (h : 8 ≤ t.val) (d) : (dats m 0 c).before 6 t d = tileGates m c (held t) := by
  have hN : t.val < 32 := lt_of_lt_of_eq t.isLt N_0
  rw [(dats m 0 c).before_out_traj 6 rfl (fun _ _ => rfl) (fun t _ hi _ => by
    rw [after_6, after_6, held_before t ((idle_iff t).mp hi)]) t.val t rfl d, fresh_eq t.val t.isLt.le,
    if_neg (by show ¬ decide (t.val < 8 ∨ t.val = 32) = true; rw [decide_eq_true_eq]; omega), after_6, held_before t h]

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at any point. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).owesAt () t.succ = (dats m 0 c).owesAt () t.castSucc from rfl, after_0, after_1, after_2, after_3, after_4, after_5, after_6,
    show (dats m 0 c).Φ t.castSucc = Inv m c t.val from rfl, show (dats m 0 c).Φ t.succ = Inv m c (t.val + 1) from rfl]
  unfold Inv
  by_cases h0 : first (grid0.coords t)
  · by_cases h1 : top (grid0.coords t)
    · iintro ⟨⟨⟨⟨%s, %hs, HS⟩, ⟨%w, %hw, HW⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) _ _ _ _ _ _ _ _ _ _ _ _ _ _ _ _ _ _ h0 h1 (iblk m c 0 t) (iblk m c 1 t) (iblk m c 2 t) (iblk m c 3 t) (iblk m c 4 t) s w Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      isplitl [HW]; · iexact HW
      rw [out_eq m c t _ _ (rows_next m c t h0 s hs) (top_weights m c t h1), gates_eq m c t h0]
      iintro ⟨H0, H1, H2, H3, H4, H5, H6, HS, HW⟩
      isplitl [HS HW Hg]
      · isplitl [HS HW]
        · isplitl [HS]
          · iexists _; isplitr; · ipureintro; exact (rows_next m c t h0 s hs)
            iexact HS
          · iexists _; isplitr; · ipureintro; exact (col_next m c t h1)
            iexact HW
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · iintro ⟨⟨⟨⟨%s, %hs, HS⟩, ⟨%w, %hw, HW⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ _ _ _ _ _ _ _ _ _ _ _ _ _ _ _ _ _ h0 h1 (iblk m c 0 t) (iblk m c 1 t) (iblk m c 2 t) (iblk m c 3 t) (iblk m c 4 t) s w Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      isplitl [HW]; · iexact HW
      rw [out_eq m c t _ _ (rows_next m c t h0 s hs) (hw t.isLt (fun k => h1 ((top_iff t).mpr k))), gates_eq m c t h0]
      iintro ⟨H0, H1, H2, H3, H4, H5, H6, HS, HW⟩
      isplitl [HS HW Hg]
      · isplitl [HS HW]
        · isplitl [HS]
          · iexists _; isplitr; · ipureintro; exact (rows_next m c t h0 s hs)
            iexact HS
          · iexists _; isplitr; · ipureintro; exact (col_keep m c t h1 w hw)
            iexact HW
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases h1 : top (grid0.coords t)
    · iintro ⟨⟨⟨⟨%s, %hs, HS⟩, ⟨%w, %hw, HW⟩⟩, Hg⟩, Ho, ⟨%d0, H0⟩, ⟨%d1, H1⟩, ⟨%d2, H2⟩, ⟨%d3, H3⟩, ⟨%d4, H4⟩, ⟨%d5, H5⟩, ⟨%d6, H6⟩⟩
      rw [before_6 m c t (le_of_not_gt fun k => h0 ((first_iff t).mpr k)) d6]
      iapply (runC c (grid0.coords t) _ _ _ _ _ _ _ _ _ _ _ _ _ _ _ _ _ _ h0 h1 (iblk m c 0 t) (iblk m c 1 t) (iblk m c 2 t) (iblk m c 3 t) (iblk m c 4 t) (tileGates m c (held t)) s w Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      isplitl [HW]; · iexact HW
      rw [out_eq m c t _ _ (rows_keep m c t h0 s hs) (top_weights m c t h1)]
      iintro ⟨H0, H1, H2, H3, H4, H5, H6, HS, HW⟩
      isplitl [HS HW Hg]
      · isplitl [HS HW]
        · isplitl [HS]
          · iexists _; isplitr; · ipureintro; exact (rows_keep m c t h0 s hs)
            iexact HS
          · iexists _; isplitr; · ipureintro; exact (col_next m c t h1)
            iexact HW
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · iintro ⟨⟨⟨⟨%s, %hs, HS⟩, ⟨%w, %hw, HW⟩⟩, Hg⟩, Ho, ⟨%d0, H0⟩, ⟨%d1, H1⟩, ⟨%d2, H2⟩, ⟨%d3, H3⟩, ⟨%d4, H4⟩, ⟨%d5, H5⟩, ⟨%d6, H6⟩⟩
      rw [before_6 m c t (le_of_not_gt fun k => h0 ((first_iff t).mpr k)) d6]
      iapply (runD c (grid0.coords t) _ _ _ _ _ _ _ _ _ _ _ _ _ _ _ _ _ _ h0 h1 (iblk m c 0 t) (iblk m c 1 t) (iblk m c 2 t) (iblk m c 3 t) (iblk m c 4 t) (tileGates m c (held t)) s w Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      isplitl [HW]; · iexact HW
      rw [out_eq m c t _ _ (rows_keep m c t h0 s hs) (hw t.isLt (fun k => h1 ((top_iff t).mpr k)))]
      iintro ⟨H0, H1, H2, H3, H4, H5, H6, HS, HW⟩
      isplitl [HS HW Hg]
      · isplitl [HS HW]
        · isplitl [HS]
          · iexists _; isplitr; · ipureintro; exact (rows_keep m c t h0 s hs)
            iexact HS
          · iexists _; isplitr; · ipureintro; exact (col_keep m c t h1 w hw)
            iexact HW
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem row_eq (t : Fin cfg0.N) : defs₀ (F := F) .tc cfg0.body (cfg0.bodyArgs t (cfg0.slots t)) = bodyAt0 t := by
  unfold defs₀; rw [Defs.onTc_tc]

/-- The gates' block as the launch takes it back. -/
theorem give_6 (c : Dev nD) (t : Fin cfg0.N) : (owns (c : Thread nD τ) (st0_6 t) fullShare ((dats (F := F) m 0 c).after 6 t) : sProp 𝕄)
    ⊢ (match cfg0.idle 6 (grid0.coords t) with
      | true =>
        match (cfg0.win 6).flush t with
        | false => iprop(∃ d, owns (c : Thread nD τ) (st0_6 t) fullShare ((dats (F := F) m 0 c).before 6 t d))
        | true => owns (c : Thread nD τ) (st0_6 t) fullShare ((dats (F := F) m 0 c).after 6 t)
      | false => owns (c : Thread nD τ) (st0_6 t) fullShare ((dats (F := F) m 0 c).after 6 t)) := by
  cases hi : cfg0.idle 6 (grid0.coords t)
  · exact .rfl
  · cases hf : (cfg0.win 6).flush t
    · iintro H
      iexists (tileGates m c (held t))
      rw [before_6 m c t ((idle_iff t).mp hi), after_6]
      iexact H
    · exact .rfl

theorem obligation (c : Dev nD) : BodyObligation (dats (F := F) m 0 c) (defs₀ (F := F)) Variants.none () Set.univ := fun t => by
  rw [bigSep_W0, bigSep_W0, row_eq]
  refine triple_restated (body_at m c t) rfl .rfl fun _ => ?_
  unfold post
  exact sep_mono .rfl (sep_mono .rfl (sep_mono .rfl (sep_mono .rfl (sep_mono .rfl (sep_mono .rfl (sep_mono .rfl (sep_mono .rfl (give_6 m c t))))))))

theorem enter (c : Dev nD) : Pipeline.ΦA spec0 c ⊢ (dats m 0 c).Φ 0 := by
  rw [show (dats m 0 c).Φ 0 = Inv m c 0 from rfl, rest_eq]
  unfold Inv
  iintro ⟨⟨⟨%s, H0⟩, ⟨%w, H1⟩⟩, Hg⟩
  isplitl [H0 H1]
  · isplitl [H0]
    · iexists s; isplitr; · ipureintro; exact fun b hb => absurd hb (Nat.not_lt_zero _)
      iexact H0
    · iexists w; isplitr; · ipureintro; exact fun h hn => absurd rfl hn
      iexact H1
  iexact Hg

theorem leave (c : Dev nD) : (dats m 0 c).Φ (Fin.last cfg0.N) ⊢ Pipeline.ΦA spec0 c := by
  rw [show (dats m 0 c).Φ (Fin.last cfg0.N) = Inv m c cfg0.N from rfl, rest_eq]
  unfold Inv
  iintro ⟨⟨⟨%s, -, H0⟩, ⟨%w, -, H1⟩⟩, Hg⟩
  isplitl [H0 H1]
  · isplitl [H0]
    · iexists s; iexact H0
    · iexists w; iexact H1
  iexact Hg

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_post : θ_run defs (onTc (τ := τ) (main (F := F))) (s₀ m ρ) (Pipeline.FramePost cfgs (dats m) 0 (V m)) :=
  (θ_run defs _ _).mono (fun _ h => h.1) (run_quiet m ρ)

/-- The arguments end as they were, and no counter is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_post m ρ)) ((θ_run defs _ _).mono (fun _ h => h.2) (run_quiet m ρ))

end Cert.Kernel6Ideal.Gate

end
-- ==== Proof.GateRef.lean ====
/- The gated layer's projection and gates in plain form, read at an index. -/
module

public import proofs.«01_k».proof.Proof.LayerMath
public import Idealize.ShloMosaic.Lib.KernelVsHost
public import proofs.«01_k».proof.Proof.Gen.Reference6Ideal.Read

@[expose] public section

set_option maxRecDepth 16384

noncomputable section

namespace Cert.Reference6Ideal.Gate

open Cert.Reference6Ideal Cert.Reference6Ideal.Gen Cert.Reference6Ideal.Read Idealize.ShloMosaic Idealize.ShloMosaic.TcCoe Idealize.SL.Sem
open Cert.LayerMath

variable (x : FVec Ideal S8192x1024 .f32) (mo : FVec Ideal S4x8x6x1024 .f32) (g : FVec Ideal S1024 .f32) (w : FVec Ideal S2x1024x4096 .f32) (wab : FVec Ideal S2x1024x32 .f32)

/-- A row of the stream, normed and modulated by its group's vectors of the layer. -/
abbrev rowH (R : Fin 8192) : Fin 1024 → EReal :=
  hrow (fun k => x (ix2 R k)) (fun k => g (ix1 k)) (fun k => mo (ix4 3 (grp R) 0 k)) (fun k => mo (ix4 3 (grp R) 1 k))

theorem ctx_at (b : Fin 16) (t : Fin 256) (C : Fin 1024) : val_main_v33 (F := Ideal) x mo g (ix3 b t C) = rowH x mo g ⟨b * 256 + t, by omega⟩ C := by
  unfold rowH
  rw [grp_ctx _ _ (by omega)]
  unfold hrow
  pointwise [val_main_v0, val_main_v1, val_main_v4, val_main_v5, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst, val_main_cst_0, val_main_cst_1, val_main_cst_2]

theorem lat_at (b : Fin 4) (t : Fin 1024) (C : Fin 1024) : val_main_v56 (F := Ideal) x mo g (ix3 b t C) = rowH x mo g ⟨4096 + (b * 1024 + t), by omega⟩ C := by
  have hG : grp ⟨4096 + (b * 1024 + t), by omega⟩ = ⟨1 + b, by omega⟩ := (grp_lat _ (by omega) (by omega)).trans (Fin.ext (by
    show (4096 + (b * 1024 + t) - 4096 : ℕ) / 1024 + 1 = 1 + b; omega))
  unfold rowH
  rw [hG]
  unfold hrow
  pointwise [val_main_v2, val_main_v3, val_main_v6, val_main_v7, val_main_v8, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_cst_3, val_main_cst_4, val_main_cst_5, val_main_cst_6]

theorem rows_at (R : Fin 8192) (C : Fin 1024) : val_main_v59 (F := Ideal) x mo g (ix2 R C) = rowH x mo g R C := by
  have e : val_main_v59 (F := Ideal) x mo g (ix2 R C)
      = if h : (R : ℕ) < 4096 then val_main_v33 (F := Ideal) x mo g (ix3 ⟨R / 256, by omega⟩ ⟨R % 256, by omega⟩ C)
        else val_main_v56 (F := Ideal) x mo g (ix3 ⟨(R - 4096) / 1024, by omega⟩ ⟨(R - 4096) % 1024, by omega⟩ C) := by
    unfold val_main_v59 val_main_v58 val_main_v57
    generalize val_main_v33 (F := Ideal) x mo g = y
    generalize val_main_v56 (F := Ideal) x mo g = z
    pointwise []
  rw [e]
  by_cases h : (R : ℕ) < 4096
  · rw [dif_pos h, ctx_at]
    exact congrArg (fun R => rowH x mo g R C) (Fin.ext (by show (R : ℕ) / 256 * 256 + R % 256 = R; omega))
  · rw [dif_neg h, lat_at]
    exact congrArg (fun R => rowH x mo g R C) (Fin.ext (by show 4096 + ((R - 4096 : ℕ) / 1024 * 1024 + (R - 4096) % 1024) = R; omega))

/-- The plain program's projection. -/
theorem result_at (R : Fin 8192) (C : Fin 4096) : val_main_v71 (F := Ideal) x mo g w (ix2 R C) = ∑ k, rowH x mo g R k * w (ix3 1 k C) := by
  have e : val_main_v71 (F := Ideal) x mo g w (ix2 R C) = ∑ k, val_main_v59 (F := Ideal) x mo g (ix2 R k) * w (ix3 1 k C) := by
    unfold val_main_v71 val_main_v70 val_main_v69
    generalize val_main_v59 (F := Ideal) x mo g = y
    pointwise [val_main_v68]
  rw [e]
  simp only [rows_at]

theorem ab_at (h : Fin 8) (s : Fin 4) (R : Fin 8192) : val_main_v66 (F := Ideal) x mo g wab (ix3 h s R) = ∑ k, rowH x mo g R k * wab (ix3 1 k ⟨s * 8 + h, by omega⟩) := by
  have e : val_main_v62 (F := Ideal) x mo g wab (ix2 R ⟨s * 8 + h, by omega⟩) = ∑ k, val_main_v59 (F := Ideal) x mo g (ix2 R k) * wab (ix3 1 k ⟨s * 8 + h, by omega⟩) := by
    unfold val_main_v62 val_main_v61
    generalize val_main_v59 (F := Ideal) x mo g = y
    pointwise [val_main_v60]
  have e' : val_main_v66 (F := Ideal) x mo g wab (ix3 h s R) = val_main_v62 (F := Ideal) x mo g wab (ix2 R ⟨s * 8 + h, by omega⟩) := by
    unfold val_main_v66 val_main_v65 val_main_v64 val_main_v63
    generalize val_main_v62 (F := Ideal) x mo g wab = y
    pointwise []
    exact congrArg (fun C => y (ix2 R C)) (Fin.ext (by show s.val / 2 * 16 + s.val % 2 * 8 + h.val = s.val * 8 + h.val; omega))
  rw [e', e]
  simp only [rows_at]

/-- The plain program's gates: a head's first four rows hold them; -/
theorem gates_at (h : Fin 8) (s : Fin 4) (R : Fin 8192) : val_main_v72 (F := Ideal) x mo g wab (ix2 ⟨h * 8 + s, by omega⟩ R)
    = ∑ k, rowH x mo g R k * wab (ix3 1 k ⟨s * 8 + h, by omega⟩) := by
  have e : val_main_v72 (F := Ideal) x mo g wab (ix2 ⟨h * 8 + s, by omega⟩ R) = val_main_v67 (F := Ideal) x mo g wab (ix3 h ⟨s, by omega⟩ R) := by
    unfold val_main_v72
    generalize val_main_v67 (F := Ideal) x mo g wab = y
    pointwise []
    exact congrArg (fun C => y (ix3 h C R)) (Fin.ext (by show (h.val * 8 + s.val) % 8 = s.val; omega))
  rw [e, ← ab_at]
  unfold val_main_v67
  exact pad_apply_of_inside _ _ _ _ _ _ _ _ (ix3 h s R) (fun a => match a with | ⟨0, _⟩ => by show h.val = 0 + h.val * 1; omega | ⟨1, _⟩ => by show s.val = 0 + s.val * 1; omega | ⟨2, _⟩ => by show R.val = 0 + R.val * 1; omega)

/-- the other four are zero. -/
theorem blank_at (h : Fin 8) (s : Fin 4) (R : Fin 8192) : val_main_v72 (F := Ideal) x mo g wab (ix2 ⟨h * 8 + (s + 4), by omega⟩ R) = 0 := by
  have e : val_main_v72 (F := Ideal) x mo g wab (ix2 ⟨h * 8 + (s + 4), by omega⟩ R) = val_main_v67 (F := Ideal) x mo g wab (ix3 h ⟨s + 4, by omega⟩ R) := by
    unfold val_main_v72
    generalize val_main_v67 (F := Ideal) x mo g wab = y
    pointwise []
    exact congrArg (fun C => y (ix3 h C R)) (Fin.ext (by show (h.val * 8 + (s.val + 4)) % 8 = s.val + 4; omega))
  rw [e]
  unfold val_main_v67
  refine (pad_apply_of_not_inside _ _ _ _ _ _ _ _ 1 ?_).trans ?_
  · show ¬(0 ≤ s.val + 4 ∧ (s.val + 4 - 0) % (0 + 1) = 0 ∧ (s.val + 4 - 0) / (0 + 1) < 4)
    omega
  · pointwise [val_main_call0_v0, val_main_c]
    exact sitofp_zero (φ := .f32)

end Cert.Reference6Ideal.Gate

end
-- ==== Proof.GateValue.lean ====
/- The gated layer's two arrays after the run are the plain program's. -/
module

public import proofs.«01_k».proof.Proof.GateFrame
public import proofs.«01_k».proof.Proof.GateRef
public import Idealize.ShloMosaic.Lib.Pipeline.ValueKit

@[expose] public section

set_option maxRecDepth 16384

noncomputable section

namespace Cert.Kernel6Ideal.Gate

open Cert.Kernel6Ideal Cert.Kernel6Ideal.Gen Idealize.ShloMosaic Idealize.ShloMosaic.TcCoe Idealize.SL.Sem
open Cert.LayerMath

theorem idx_in : ∀ t : Fin cfg0.N, t.val < 8 → win0_0.index t = ![t.val, 0] ∧ win0_1.index t = ![3, 0, 0, 0] ∧ win0_2.index t = ![0, 0] ∧ win0_4.index t = ![0, 0]
    ∧ k0_off1 (grid0.coords t) = ![0, (if t.val < 4 then 0 else t.val - 3), 0, 0] :=
  (by decide +kernel : ∀ t : Fin grid0.N, _)
theorem idx_col : ∀ t : Fin cfg0.N, win0_3.index t = ![1, 0, t.val / 8] := (by decide +kernel : ∀ t : Fin grid0.N, _)
theorem idx_out : ∀ t : Fin cfg0.N, win0_5.index t = ![t.val % 8, t.val / 8] := (by decide +kernel : ∀ t : Fin grid0.N, _)
theorem idx_gates : ∀ t : Fin cfg0.N, win0_6.index t = ![0, min t.val 7] := (by decide +kernel : ∀ t : Fin grid0.N, _)

theorem normed_at (x : Vec Ideal S1024x1024 .f32) (mo : Vec Ideal S1x1x6x1024 .f32) (g : Vec Ideal S1x1024 .f32) (r C : Fin 1024) :
    k0_pay1 (F := Ideal) (k0_pay7 g) (k0_pay8 mo) (k0_pay9 mo) (k0_pay10 x) (ix2 r C)
      = hrow (fun k => x (ix2 r k)) (fun k => g (ix2 0 k)) (fun k => mo (ix4 0 0 0 k)) (fun k => mo (ix4 0 0 1 k)) C := by
  unfold hrow
  pointwise [k0_pay1, k0_pay6, k0_pay7, k0_pay8, k0_pay9, k0_pay10]

theorem stored_at (x : Vec Ideal S1024x1024 .f32) (mo : Vec Ideal S1x1x6x1024 .f32) (g : Vec Ideal S1x1024 .f32) (r C : Fin 1024) :
    k0_pay2 (F := Ideal) (k0_pay7 g) (k0_pay8 mo) (k0_pay9 mo) (k0_pay10 x) (ix2 r C)
      = hrow (fun k => x (ix2 r k)) (fun k => g (ix2 0 k)) (fun k => mo (ix4 0 0 0 k)) (fun k => mo (ix4 0 0 1 k)) C := by
  rw [← normed_at]
  unfold k0_pay2
  generalize k0_pay1 (F := Ideal) (k0_pay7 g) (k0_pay8 mo) (k0_pay9 mo) (k0_pay10 x) = y
  pointwise []

theorem gate_at (x : Vec Ideal S1024x1024 .f32) (mo : Vec Ideal S1x1x6x1024 .f32) (g : Vec Ideal S1x1024 .f32) (ab : Vec Ideal S64x1024 .bf16) (p : Fin 64) (r : Fin 1024) :
    k0_pay3 (F := Ideal) (k0_pay7 g) (k0_pay8 mo) (k0_pay9 mo) (k0_pay10 x) ab (ix2 p r)
      = ∑ k, ab (ix2 p k) * hrow (fun k => x (ix2 r k)) (fun k => g (ix2 0 k)) (fun k => mo (ix4 0 0 0 k)) (fun k => mo (ix4 0 0 1 k)) k := by
  simp only [← normed_at]
  unfold k0_pay3
  generalize k0_pay1 (F := Ideal) (k0_pay7 g) (k0_pay8 mo) (k0_pay9 mo) (k0_pay10 x) = y
  pointwise []

theorem weight_at (w : Vec Ideal S1x1024x1024 .f32) (k C : Fin 1024) : k0_pay4 (F := Ideal) w (ix2 k C) = w (ix3 0 k C) := by
  pointwise [k0_pay4]

theorem product_at (h w : Vec Ideal S1024x1024 .bf16) (r C : Fin 1024) : k0_pay5 (F := Ideal) h w (ix2 r C) = ∑ k, h (ix2 r k) * w (ix2 k C) := by
  pointwise [k0_pay5]

theorem lt32 (t : Fin cfg0.N) : t.val < 32 := lt_of_lt_of_eq t.isLt N_0

variable (m : (ℓ : Loc nD τ sig) → Buf (Elt Ideal) ℓ) (c : Dev nD)

/-- The modulation group of tile `b`. -/
abbrev grpB (b : Fin 8) : Fin 8 := ⟨if (b : ℕ) < 4 then 0 else b - 3, by split <;> omega⟩

theorem grp_row (n : Fin 8) (r : Fin 1024) : grp ⟨n * 1024 + r, by omega⟩ = grpB n := by
  by_cases h : (n : ℕ) < 4
  · rw [grp_ctx _ _ (by omega)]
    exact Fin.ext (if_pos h).symm
  · rw [grp_lat _ _ (by omega)]
    exact Fin.ext (Eq.trans (by show (n * 1024 + r - 4096 : ℕ) / 1024 + 1 = n - 3; omega) (if_neg h).symm)

theorem blk0_at (b : Fin 8) (r C : Fin 1024) : iblk m c 0 (at8 b) (ix2 r C) = m ((c : Thread nD τ).loc main_arg0) (ix2 ⟨b * 1024 + r, by omega⟩ C) := by
  blk_ext [iblk, V, idx_in (at8 b) b.isLt]

theorem blk1_at (b : Fin 8) (G : Fin 8) (k : Fin 6) (C : Fin 1024) : iblk m c 1 (at8 b) (ix4 0 G k C) = m ((c : Thread nD τ).loc main_arg1) (ix4 3 G k C) := by
  blk_ext [iblk, V, idx_in (at8 b) b.isLt]

/-- The gain as the kernel is handed it: a row. -/
theorem entry_gain : V m c main_v9 = shapeCast S1x1024 (m ((c : Thread nD τ).loc main_arg2)) shapeCasts_S1024_S1x1024 := by
  show StableHlo.after _ _ (Proc.devRef .tc main_v9) = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> rfl

/-- The gates' weights by head: a head's four columns, as rows. -/
def byHead (w : FVec Ideal S2x1024x32 .f32) : FVec Ideal S8x4x1024 .f32 :=
  shapeCast S8x4x1024 (transpose S8x2x2x1024 [2, 0, 1, 3] (shapeCast S2x2x8x1024 (transpose S32x1024 [1, 0]
    (shapeCast S1024x32 (extractStridedSlice S1x1024x32 ![1, 0, 0] w slices_S2x1024x32_S1x1024x32_1_0_0) shapeCasts_S1x1024x32_S1024x32)
    transposes_S1024x32_S32x1024_1_0) shapeCasts_S32x1024_S2x2x8x1024) transposes_S2x2x8x1024_S8x2x2x1024_2_0_1_3) shapeCasts_S8x2x2x1024_S8x4x1024

/-- The same with four rows of zeros after each head's four. -/
def padded (w : FVec Ideal S2x1024x32 .f32) : FVec Ideal S8x8x1024 .f32 :=
  pad S8x8x1024 ![0, 0, 0] ![0, 4, 0] ![0, 0, 0] (byHead w) (sitofp (F := Ideal) .f32 (constantI S_ 32 0#32)) pads_S8x4x1024_S8x8x1024_000_040_000 h_S_

/-- The gates' weights as the kernel is handed them. -/
theorem entry_gates : V m c main_v8 = truncf .bf16 (shapeCast S64x1024 (padded (m ((c : Thread nD τ).loc main_arg4))) shapeCasts_S8x8x1024_S64x1024) bitsLt_bf16_f32 := by
  show StableHlo.after _ _ (Proc.devRef .tc main_v8) = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> rfl

theorem byHead_at (w : FVec Ideal S2x1024x32 .f32) (h : Fin 8) (s : Fin 4) (k : Fin 1024) : byHead w (ix3 h s k) = w (ix3 1 k ⟨s * 8 + h, by omega⟩) := by
  unfold byHead
  pointwise []
  exact congrArg (fun C => w (ix3 1 k C)) (Fin.ext (by show s.val / 2 * 16 + s.val % 2 * 8 + h.val = s.val * 8 + h.val; omega))

theorem padded_at (w : FVec Ideal S2x1024x32 .f32) (h : Fin 8) (s : Fin 4) (k : Fin 1024) : padded w (ix3 h ⟨s, by omega⟩ k) = w (ix3 1 k ⟨s * 8 + h, by omega⟩) := by
  refine Eq.trans ?_ (byHead_at w h s k)
  unfold padded
  exact pad_apply_of_inside _ _ _ _ _ _ _ _ (ix3 h s k) (fun a => match a with | ⟨0, _⟩ => by show h.val = 0 + h.val * 1; omega | ⟨1, _⟩ => by show s.val = 0 + s.val * 1; omega | ⟨2, _⟩ => by show k.val = 0 + k.val * 1; omega)

theorem padded_blank (w : FVec Ideal S2x1024x32 .f32) (h : Fin 8) (s : Fin 4) (k : Fin 1024) : padded w (ix3 h ⟨s + 4, by omega⟩ k) = 0 := by
  unfold padded
  refine (pad_apply_of_not_inside _ _ _ _ _ _ _ _ 1 ?_).trans ?_
  · show ¬(0 ≤ s.val + 4 ∧ (s.val + 4 - 0) % (0 + 1) = 0 ∧ (s.val + 4 - 0) / (0 + 1) < 4)
    omega
  · pointwise []
    exact sitofp_zero (φ := .f32)

theorem padded_row (w : FVec Ideal S2x1024x32 .f32) (p : Fin 64) (k : Fin 1024) :
    truncf (F := Ideal) .bf16 (shapeCast S64x1024 (padded w) shapeCasts_S8x8x1024_S64x1024) bitsLt_bf16_f32 (ix2 p k) = padded w (ix3 ⟨p / 8, by omega⟩ ⟨p % 8, by omega⟩ k) := by
  generalize padded w = y
  pointwise []

theorem blk2_at (b : Fin 8) (C : Fin 1024) : iblk m c 2 (at8 b) (ix2 0 C) = m ((c : Thread nD τ).loc main_arg2) (ix1 C) := by
  have e : iblk m c 2 (at8 b) (ix2 0 C) = V m c main_v9 (ix2 0 C) := by
    blk_ext [iblk, idx_in (at8 b) b.isLt]
  rw [e, entry_gain]
  pointwise

theorem blk3_at (t : Fin cfg0.N) (k C : Fin 1024) : iblk m c 3 t (ix3 0 k C)
    = m ((c : Thread nD τ).loc main_arg3) (ix3 1 k ⟨t.val / 8 * 1024 + C, by have := lt32 t; omega⟩) := by
  blk_ext [iblk, V, idx_col t]

theorem blk4_row (b : Fin 8) (p : Fin 64) (k : Fin 1024) : iblk m c 4 (at8 b) (ix2 p k)
    = padded (m ((c : Thread nD τ).loc main_arg4)) (ix3 ⟨p / 8, by omega⟩ ⟨p % 8, by omega⟩ k) := by
  have e : iblk m c 4 (at8 b) (ix2 p k) = V m c main_v8 (ix2 p k) := by
    blk_ext [iblk, idx_in (at8 b) b.isLt]
  rw [e, entry_gates]
  exact padded_row _ p k

theorem lt_own (h : Fin 8) (s : Fin 4) : h.val * 8 + s.val < 64 := by omega
theorem lt_blank (h : Fin 8) (s : Fin 4) : h.val * 8 + (s.val + 4) < 64 := by omega

theorem blk4_at (b : Fin 8) (h : Fin 8) (s : Fin 4) (k : Fin 1024) : iblk m c 4 (at8 b) (ix2 ⟨h * 8 + s, lt_own h s⟩ k)
    = m ((c : Thread nD τ).loc main_arg4) (ix3 1 k ⟨s * 8 + h, by omega⟩) :=
  (blk4_row m c b _ k).trans ((congrArg₂ (fun u v => padded (m ((c : Thread nD τ).loc main_arg4)) (ix3 u v k))
    (Fin.ext (by show (h.val * 8 + s.val) / 8 = h.val; omega)) (Fin.ext (by show (h.val * 8 + s.val) % 8 = s.val; omega))).trans (padded_at _ h s k))

theorem blk4_blank (b : Fin 8) (h : Fin 8) (s : Fin 4) (k : Fin 1024) : iblk m c 4 (at8 b) (ix2 ⟨h * 8 + (s + 4), lt_blank h s⟩ k) = (0 : EReal) :=
  (blk4_row m c b _ k).trans ((congrArg₂ (fun u v => padded (m ((c : Thread nD τ).loc main_arg4)) (ix3 u v k))
    (Fin.ext (by show (h.val * 8 + (s.val + 4)) / 8 = h.val; omega)) (Fin.ext (by show (h.val * 8 + (s.val + 4)) % 8 = s.val + 4; omega))).trans (padded_blank _ h s k))

theorem group_at (b : Fin 8) (h : first (grid0.coords (at8 b))) (y : Vec Ideal S1x8x6x1024 .f32) (k : Fin 6) (C : Fin 1024) :
    group (grid0.coords (at8 b)) h y (ix4 0 0 k C) = y (ix4 0 (grpB b) k C) := by
  have e := (idx_in (at8 b) b.isLt).2.2.2.2
  refine congrArg y (funext fun a => Fin.ext ?_)
  match a with
  | ⟨0, _⟩ => exact congrFun e 0
  | ⟨1, _⟩ => exact congrFun e 1
  | ⟨2, _⟩ => exact (congrArg (fun n => n + 1 * k.val) (congrFun e 2)).trans (by show 0 + 1 * k.val = k.val; omega)
  | ⟨3, _⟩ => exact (congrArg (fun n => n + 1 * C.val) (congrFun e 3)).trans (by show 0 + 1 * C.val = C.val; omega)

/-- A tile's rows of the stream, as a row of the plain program's. -/
theorem hrow_at (b : Fin 8) (r C : Fin 1024) :
    hrow (fun k => iblk m c 0 (at8 b) (ix2 r k)) (fun k => iblk m c 2 (at8 b) (ix2 0 k)) (fun k => group (grid0.coords (at8 b)) ((first_iff _).mpr b.isLt) (iblk m c 1 (at8 b)) (ix4 0 0 0 k))
        (fun k => group (grid0.coords (at8 b)) ((first_iff _).mpr b.isLt) (iblk m c 1 (at8 b)) (ix4 0 0 1 k)) C
      = Cert.Reference6Ideal.Gate.rowH (m ((c : Thread nD τ).loc main_arg0)) (m ((c : Thread nD τ).loc main_arg1)) (m ((c : Thread nD τ).loc main_arg2)) ⟨b * 1024 + r, by omega⟩ C := by
  unfold Cert.Reference6Ideal.Gate.rowH
  rw [grp_row]
  simp only [blk0_at, blk2_at]
  exact congrArg₂ (fun u v => hrow _ _ u v C) (funext fun k => (group_at b ((first_iff _).mpr b.isLt) _ 0 k).trans (blk1_at m c b _ 0 k)) (funext fun k => (group_at b ((first_iff _).mpr b.isLt) _ 1 k).trans (blk1_at m c b _ 1 k))

theorem tile_at (b : Fin 8) (r C : Fin 1024) : tileRows m c b (ix2 r C)
    = Cert.Reference6Ideal.Gate.rowH (m ((c : Thread nD τ).loc main_arg0)) (m ((c : Thread nD τ).loc main_arg1)) (m ((c : Thread nD τ).loc main_arg2)) ⟨b * 1024 + r, by omega⟩ C := by
  unfold tileRows normed
  rw [stored_at, hrow_at]

theorem tileGates_at (b : Fin 8) (p : Fin 64) (r : Fin 1024) : tileGates m c b (ix2 p r)
    = Cert.Reference6Ideal.Read.val_main_v72 (F := Ideal) (m ((c : Thread nD τ).loc main_arg0)) (m ((c : Thread nD τ).loc main_arg1)) (m ((c : Thread nD τ).loc main_arg2))
      (m ((c : Thread nD τ).loc main_arg4)) (ix2 p ⟨b * 1024 + r, by omega⟩) := by
  unfold tileGates gates
  rw [gate_at]
  simp only [hrow_at]
  by_cases hp : (p : ℕ) % 8 < 4
  · obtain ⟨h, s, rfl⟩ : ∃ (h : Fin 8) (s : Fin 4), p = ⟨h * 8 + s, lt_own h s⟩ := ⟨⟨p / 8, by omega⟩, ⟨p % 8, hp⟩, Fin.ext (by show p.val = p.val / 8 * 8 + p.val % 8; omega)⟩
    rw [Cert.Reference6Ideal.Gate.gates_at]
    exact Finset.sum_congr rfl fun k _ => by rw [blk4_at, mul_comm]
  · obtain ⟨h, s, rfl⟩ : ∃ (h : Fin 8) (s : Fin 4), p = ⟨h * 8 + (s + 4), lt_blank h s⟩ := ⟨⟨p / 8, by omega⟩, ⟨p % 8 - 4, by omega⟩, Fin.ext (by show p.val = p.val / 8 * 8 + (p.val % 8 - 4 + 4); omega)⟩
    rw [Cert.Reference6Ideal.Gate.blank_at]
    exact Finset.sum_eq_zero fun k _ => by rw [blk4_blank, zero_mul]

theorem weights_at (t : Fin cfg0.N) (k C : Fin 1024) : weights m c t (ix2 k C)
    = m ((c : Thread nD τ).loc main_arg3) (ix3 1 k ⟨t.val / 8 * 1024 + C, by have := lt32 t; omega⟩) := by
  unfold weights
  rw [weight_at, blk3_at]
  exact congrArg (fun C => m ((c : Thread nD τ).loc main_arg3) (ix3 1 k C)) (Fin.ext (by show t.val / 8 * 8 / 8 * 1024 + C.val = t.val / 8 * 1024 + C.val; omega))

/-- The projection's array is the plain program's. -/
theorem array5 : (dats m 0 c).arrAt 5 cfg0.N
    = Cert.Reference6Ideal.Read.val_main_v71 (F := Ideal) (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t hf y => ?_
  blk_simp
  rw [after_5]
  obtain ⟨r, C, rfl⟩ : ∃ (r : Fin 1024) (C : Fin 1024), y = ix2 r C := ⟨y 0, y 1, by funext a; match a with | ⟨0, _⟩ => rfl | ⟨1, _⟩ => rfl⟩
  have e : ((cfg0.win 5).blk t).view.emb (ix2 r C) = ix2 (⟨t.val % 8 * 1024 + r, by omega⟩ : Fin 8192) (⟨t.val / 8 * 1024 + C, by have := lt32 t; omega⟩ : Fin 4096) := by
    blk_ext [idx_out t]
  refine Eq.trans ?_ ((congrArg (Cert.Reference6Ideal.Read.val_main_v71 (F := Ideal) (m ((c : Thread nD τ).loc main_arg0)) (m ((c : Thread nD τ).loc main_arg1)) (m ((c : Thread nD τ).loc main_arg2))
      (m ((c : Thread nD τ).loc main_arg3))) e).trans (Cert.Reference6Ideal.Gate.result_at _ _ _ _ _ _)).symm
  unfold blockOut
  rw [product_at]
  simp only [tile_at, weights_at]

/-- The gates' array is the plain program's. -/
theorem array6 : (dats m 0 c).arrAt 6 cfg0.N
    = Cert.Reference6Ideal.Read.val_main_v72 (F := Ideal) (m ((c : Thread nD τ).loc main_arg0)) (m ((c : Thread nD τ).loc main_arg1)) (m ((c : Thread nD τ).loc main_arg2))
      (m ((c : Thread nD τ).loc main_arg4)) := by
  refine (dats m 0 c).arrAt_eq_of_covers 6 _ (by decide +kernel) fun t hf y => ?_
  blk_simp
  rw [after_6]
  obtain ⟨p, r, rfl⟩ : ∃ (p : Fin 64) (r : Fin 1024), y = ix2 p r := ⟨y 0, y 1, by funext a; match a with | ⟨0, _⟩ => rfl | ⟨1, _⟩ => rfl⟩
  have e : ((cfg0.win 6).blk t).view.emb (ix2 p r) = ix2 p (⟨(held t : Fin 8) * 1024 + r, by have := (held t).isLt; omega⟩ : Fin 8192) := by
    blk_ext [idx_gates t]
  exact (tileGates_at m c (held t) p r).trans (congrArg (Cert.Reference6Ideal.Read.val_main_v72 (F := Ideal) (m ((c : Thread nD τ).loc main_arg0)) (m ((c : Thread nD τ).loc main_arg1)) (m ((c : Thread nD τ).loc main_arg2))
      (m ((c : Thread nD τ).loc main_arg4))) e).symm

/-- A run ends with the plain program's results and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10_0) = Cert.Reference6Ideal.Read.val_main_v71 (F := Ideal) (m ((c : Thread nD τ).loc main_arg0)) (m ((c : Thread nD τ).loc main_arg1))
        (m ((c : Thread nD τ).loc main_arg2)) (m ((c : Thread nD τ).loc main_arg3))
      ∧ r.2.mem ((c.tc : Thread nD τ).loc main_v10_1) = Cert.Reference6Ideal.Read.val_main_v72 (F := Ideal) (m ((c : Thread nD τ).loc main_arg0)) (m ((c : Thread nD τ).loc main_arg1))
        (m ((c : Thread nD τ).loc main_arg2)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (array5 m c), ((h.1 c).1 6).trans (array6 m c), h.2.1 c⟩)
    (θ_run_and (run_post m ρ) (frame m ρ))

end Cert.Kernel6Ideal.Gate

end
-- ==== Proof.lean ====
/- The certificate of the context attention: the kernel's run leaves in its three arrays what the
   reference computes, on finite arguments, and both run whatever their arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_planned
public import proofs.«01_k».proof.Proof.CtxValue
public import proofs.«01_k».proof.Proof.FfnValue
public import proofs.«01_k».proof.Proof.ConvValue
public import proofs.«01_k».proof.Proof.ExpertHyps
public import proofs.«01_k».proof.Proof.ExpertFinal
public import proofs.«01_k».proof.Proof.LinearBitsFrame
public import proofs.«01_k».proof.Proof.LinearValue
public import proofs.«01_k».proof.Proof.GateBitsFrame
public import proofs.«01_k».proof.Proof.GateValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The precondition's shape relations. -/
theorem finite_facts : Cert.Pre_finite.Facts where
  bcast_S_S8192x3072 := by decide
  bcast_S_S64 := by decide

/-- Below the infinity word in size is a real number. -/
theorem real_of_lt (x : EReal) (h : (max x (-x) : EReal) < ⊤) : x = (x.toReal : EReal) := by
  refine (EReal.coe_toReal (fun e => ?_) fun e => ?_).symm
  · rw [e] at h; simp at h
  · rw [e] at h; simp at h

theorem real_of_finite {S : Shape} {φ : FTy} (x : FVec Ideal S φ) (w : BitVec φ.bits) (hw : Ideal.ofBits φ w = ⊤) (b : (⟨0, ![]⟩ : Shape).BroadcastsInDim S (![] : Fin 0 → Fin S.rank))
    (h : cmpf .olt (Host.absf x) (broadcastInDim S ![] b (constant (F := Ideal) ⟨0, ![]⟩ φ w)) = fun _ => 1#1) (i : S.Idx) : x i = ((x i).toReal : EReal) := by
  refine real_of_lt _ ?_
  have e : FloatOps.cmpf (F := Ideal) (φ := φ) .olt (max (x i) (-(x i))) (Ideal.ofBits φ w) = 1#1 := congrFun h i
  rw [hw] at e
  by_contra hn
  simp [Ideal.cmpf_def, Ideal.cmp, hn] at e

theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run (Cert.ReferenceIdeal.defs (F := Ideal)) _ _).mono (fun r h => ⟨fun c => ⟨(h c).2.2.2.1, (h c).2.2.2.2.1, (h c).2.2.2.2.2⟩, Idealize.ShloMosaic.sem_eq_zero_of_no_sems (by decide) r.2⟩)
    (Cert.ReferenceIdeal.Value.run (F := Ideal) m ρ)

theorem reference2_frame (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0) :=
  (θ_run (Cert.Reference2Ideal.defs (F := Ideal)) _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2⟩, Idealize.ShloMosaic.sem_eq_zero_of_no_sems (by decide) r.2⟩)
    (Cert.Reference2Ideal.Value.run (F := Ideal) m ρ)

theorem reference3_frame (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0) :=
  (θ_run (Cert.Reference3Ideal.defs (F := Ideal)) _ _).mono (fun r h => ⟨fun c => ⟨(h c).2.1, (h c).2.2.1, (h c).2.2.2.1, (h c).2.2.2.2.1, (h c).2.2.2.2.2.1, (h c).2.2.2.2.2.2⟩, Idealize.ShloMosaic.sem_eq_zero_of_no_sems (by decide) r.2⟩)
    (Cert.Reference3Ideal.Value.run (F := Ideal) m ρ)

theorem reference4_frame (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0) :=
  (θ_run (Cert.Reference4Ideal.defs (F := Ideal)) _ _).mono (fun r h => ⟨fun c => (h c).2, Idealize.ShloMosaic.sem_eq_zero_of_no_sems (by decide) r.2⟩)
    (Cert.Reference4Ideal.Value.run (F := Ideal) m ρ)

theorem reference5_frame (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0) :=
  (θ_run (Cert.Reference5Ideal.defs (F := Ideal)) _ _).mono (fun r h => ⟨fun c => (h c).2, Idealize.ShloMosaic.sem_eq_zero_of_no_sems (by decide) r.2⟩)
    (Cert.Reference5Ideal.Value.run (F := Ideal) m ρ)

theorem reference6_frame (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0) :=
  (θ_run (Cert.Reference6Ideal.defs (F := Ideal)) _ _).mono (fun r h => ⟨fun c => (h c).2.2, Idealize.ShloMosaic.sem_eq_zero_of_no_sems (by decide) r.2⟩)
    (Cert.Reference6Ideal.Value.run (F := Ideal) m ρ)

theorem words4 (m : (ℓ : Loc Cert.Kernel4.nD Cert.Kernel4.τ Cert.Kernel4.sig) → Buf (Elt Bits) ℓ)
    (h : Cert.Pre_Kernel4 (hPre_planned := Cert.Pre_planned.Gen.facts) m) : Cert.Kernel4.Exp.Words m := fun t =>
  Cert.Proof.Expert.words_of _ _ _ _ _ _ _ _ (h 0).1 (h 0).2.1 (h 0).2.2.1 t

theorem words4_ideal (m : (ℓ : Loc Cert.Kernel4Ideal.nD Cert.Kernel4Ideal.τ Cert.Kernel4Ideal.sig) → Buf (Elt Ideal) ℓ)
    (h : Cert.Pre_Kernel4Ideal (hPre_planned := Cert.Pre_planned.Gen.facts) m) : Cert.Kernel4Ideal.Exp.Words m := fun t =>
  Cert.Proof.Expert.words_of _ _ _ _ _ _ _ _ (h 0).1 (h 0).2.1 (h 0).2.2.1 t

theorem among4 (m : (ℓ : Loc Cert.Kernel4Ideal.nD Cert.Kernel4Ideal.τ Cert.Kernel4Ideal.sig) → Buf (Elt Ideal) ℓ)
    (h : Cert.Pre_Kernel4Ideal (hPre_planned := Cert.Pre_planned.Gen.facts) m) (c : Dev Cert.Kernel4Ideal.nD) : Cert.Kernel4Ideal.Exp.Among m c := by
  obtain rfl : c = 0 := Subsingleton.elim c 0
  intro t e j he hv hs hl hu
  exact Cert.Proof.Expert.among_of _ _ _ _ _ _ _ _ (h 0).2.2.2 t e j he hv hs hl hu

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, finite_facts, Cert.Pre_planned.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.Kernel2.Gen.frame m ρ, fun m ρ _ => Cert.Kernel2Ideal.Gen.frame m ρ, fun m ρ _ => reference2_frame m ρ,
  fun m ρ _ => Cert.Kernel3.Gen.frame m ρ, fun m ρ _ => Cert.Kernel3Ideal.Gen.frame m ρ, fun m ρ _ => reference3_frame m ρ,
  fun m ρ h => Cert.Kernel4.Gen.frame m ρ (Cert.Kernel4.Exp.ok (words4 m h)) (Cert.Kernel4.Exp.hyps (words4 m h) _),
  fun m ρ h => Cert.Kernel4Ideal.Gen.frame m ρ (Cert.Kernel4Ideal.Exp.ok (words4_ideal m h)) (Cert.Kernel4Ideal.Exp.hyps (words4_ideal m h) _),
  fun m ρ _ => reference4_frame m ρ, fun m ρ _ => reference4_frame m ρ,
  fun m ρ _ => Cert.Kernel5.Lin.frame m ρ, fun m ρ _ => Cert.Kernel5Ideal.Lin.frame m ρ, fun m ρ _ => reference5_frame m ρ,
  fun m ρ _ => Cert.Kernel6.Gate.frame m ρ, fun m ρ _ => Cert.Kernel6Ideal.Gate.frame m ρ, fun m ρ _ => reference6_frame m ρ, trivial, fun m g m' g' hpre hargs => by
  have rx : ∀ (c : Dev Cert.KernelIdeal.nD) i, m ((c.tc : Thread Cert.KernelIdeal.nD Cert.KernelIdeal.τ).loc Cert.KernelIdeal.main_arg0) i = _ := fun c i => real_of_finite _ _ (by simp [Ideal.ofBits, Ideal.ieee]) _ (hpre c).1 i
  have rq : ∀ (c : Dev Cert.KernelIdeal.nD) i, m ((c.tc : Thread Cert.KernelIdeal.nD Cert.KernelIdeal.τ).loc Cert.KernelIdeal.main_arg1) i = _ := fun c i => real_of_finite _ _ (by simp [Ideal.ofBits, Ideal.ieee]) _ (hpre c).2.1 i
  have rk : ∀ (c : Dev Cert.KernelIdeal.nD) i, m ((c.tc : Thread Cert.KernelIdeal.nD Cert.KernelIdeal.τ).loc Cert.KernelIdeal.main_arg2) i = _ := fun c i => real_of_finite _ _ (by simp [Ideal.ofBits, Ideal.ieee]) _ (hpre c).2.2 i
  refine ⟨_, _, _, (θ_run (Cert.KernelIdeal.defs (F := Ideal)) _ _).mono (fun r h c => ⟨(h c).1.trans (Cert.KernelIdeal.Ctx.final5 m c (rx c) (rq c) (rk c)),
    (h c).2.1.trans (Cert.KernelIdeal.Ctx.final6 m c (rx c) (rk c)), (h c).2.2.1.trans (Cert.KernelIdeal.Ctx.final7 m c (rx c)), (h c).2.2.2⟩) (Cert.KernelIdeal.Value.run_blocks m g),
    (θ_run (Cert.ReferenceIdeal.defs (F := Ideal)) _ _).mono (fun r h c => ?_) (Cert.ReferenceIdeal.Value.run (F := Ideal) m' g')⟩
  obtain ⟨a0, a1, a2⟩ := hargs c
  refine ⟨(h c).1.trans ?_, (h c).2.1.trans ?_, (h c).2.2.1.trans ?_, (h c).2.2.2⟩
  · rw [Cert.ReferenceIdeal.Read.val_main_v55_eq, a0, a1, a2]
  · rw [Cert.ReferenceIdeal.Read.val_main_v56_eq, a0, a2]
  · rw [Cert.ReferenceIdeal.Read.val_main_v57_eq, a0],
  trivial, fun m g m' g' hpre hargs => by
  refine ⟨_, (θ_run (Cert.Kernel2Ideal.defs (F := Ideal)) _ _).mono (fun r h c => ⟨(h c).1.trans (Cert.Kernel2Ideal.Ffn.array9 m c), (h c).2⟩) (Cert.Kernel2Ideal.Value.run_blocks m g),
    (θ_run (Cert.Reference2Ideal.defs (F := Ideal)) _ _).mono (fun r h c => ⟨(h c).1.trans ?_, (h c).2⟩) (Cert.Reference2Ideal.Value.run (F := Ideal) m' g')⟩
  obtain ⟨a0, a1, a2, a3, a4, a5, a6, a7⟩ := hargs c
  rw [Cert.Reference2Ideal.Read.val_main_v109_eq, a0, a1, a2, a3, a4, a5, a6, a7],
  trivial, fun m g m' g' hpre hargs => by
  refine ⟨_, (θ_run (Cert.Kernel3Ideal.defs (F := Ideal)) _ _).mono (fun r h c => ⟨(h c).1.trans (Cert.Kernel3Ideal.Conv.final6 m c), (h c).2⟩) (Cert.Kernel3Ideal.Value.run_blocks m g),
    (θ_run (Cert.Reference3Ideal.defs (F := Ideal)) _ _).mono (fun r h c => ⟨(h c).1.trans ?_, (h c).2⟩) (Cert.Reference3Ideal.Value.run (F := Ideal) m' g')⟩
  obtain ⟨a0, a1, a2, a3, a4, a5⟩ := hargs c
  rw [Cert.Reference3Ideal.Read.val_main_v132_eq, a0, a1, a2, a3, a4, a5],
  trivial, fun m g m' g' hpre hargs => by
  refine ⟨_, Cert.Kernel4Ideal.Exp.run g (words4_ideal m hpre) (among4 m hpre),
    (θ_run (Cert.Reference4Ideal.defs (F := Ideal)) _ _).mono (fun r h c => ⟨(h c).1.trans ?_, (h c).2⟩) (Cert.Reference4Ideal.Value.run (F := Ideal) m' g')⟩
  obtain ⟨a0, a1, a2, a3, a4, a5, a6, a7⟩ := hargs c
  obtain rfl : c = 0 := Subsingleton.elim c 0
  rw [Cert.Reference4Ideal.Read.val_main_v56_eq, a0, a1, a2, a3, a4, a5, a6, a7],
  trivial, fun m g m' g' hpre hargs => by
  refine ⟨_, Cert.Kernel5Ideal.Lin.run m g,
    (θ_run (Cert.Reference5Ideal.defs (F := Ideal)) _ _).mono (fun r h c => ⟨(h c).1.trans ?_, (h c).2⟩) (Cert.Reference5Ideal.Value.run (F := Ideal) m' g')⟩
  obtain ⟨a0, a1, a2, a3⟩ := hargs c
  rw [Cert.Reference5Ideal.Read.val_main_v62_eq, a0, a1, a2, a3],
  trivial, fun m g m' g' hpre hargs => by
  refine ⟨_, _, Cert.Kernel6Ideal.Gate.run m g,
    (θ_run (Cert.Reference6Ideal.defs (F := Ideal)) _ _).mono (fun r h c => ⟨(h c).1.trans ?_, (h c).2.1.trans ?_, (h c).2.2⟩) (Cert.Reference6Ideal.Value.run (F := Ideal) m' g')⟩
  · obtain ⟨a0, a1, a2, a3, a4⟩ := hargs c
    rw [Cert.Reference6Ideal.Read.val_main_v71_eq, a0, a1, a2, a3]
  · obtain ⟨a0, a1, a2, a3, a4⟩ := hargs c
    rw [Cert.Reference6Ideal.Read.val_main_v72_eq, a0, a1, a2, a4]⟩

end Cert.Proof

end
